-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v50) = v0 c
          ∧ r.2.mem ((c.tc : Thread Cert.InProjRefIdeal.nD Cert.InProjRefIdeal.τ).loc Cert.InProjRefIdeal.main_v51) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7))

def preserves_Attn_AttnIdeal : Prop :=
  IdealRules.named_const.Statement Cert.AttnIdeal.κ "log2_e" .f32 0x3FB8AA3B#32 (((Real.log 2)⁻¹ : ℝ) : EReal)
  ∧ IdealRules.named_const.Statement Cert.AttnIdeal.κ "exp2_zero" .f32 0xC3160000#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v38_0)) (v1 : (c : Dev Cert.AttnIdeal.nD) → Buf (Elt Ideal) ((c.tc : Thread Cert.AttnIdeal.nD Cert.AttnIdeal.τ).loc Cert.AttnIdeal.main_v38_1)) (v2 : (c : Dev Cert.AttnIdeal.nD) → Buf (Elt Ideal) ((c.tc : Thread Cert.AttnIdeal.nD Cert.AttnIdeal.τ).loc Cert.AttnIdeal.main_v38_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v38_0) = v0 c
          ∧ r.2.mem ((c.tc : Thread Cert.AttnIdeal.nD Cert.AttnIdeal.τ).loc Cert.AttnIdeal.main_v38_1) = v1 c
          ∧ r.2.mem ((c.tc : Thread Cert.AttnIdeal.nD Cert.AttnIdeal.τ).loc Cert.AttnIdeal.main_v38_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v56) = v0 c
          ∧ r.2.mem ((c.tc : Thread Cert.AttnRefIdeal.nD Cert.AttnRefIdeal.τ).loc Cert.AttnRefIdeal.main_v57) = v1 c
          ∧ r.2.mem ((c.tc : Thread Cert.AttnRefIdeal.nD Cert.AttnRefIdeal.τ).loc Cert.AttnRefIdeal.main_v58) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)) →
    ∃ (v0 : (c : Dev Cert.MlpIdeal.nD) → Buf (Elt Ideal) ((c.tc : Thread Cert.MlpIdeal.nD Cert.MlpIdeal.τ).loc Cert.MlpIdeal.main_v10_0)) (v1 : (c : Dev Cert.MlpIdeal.nD) → Buf (Elt Ideal) ((c.tc : Thread Cert.MlpIdeal.nD Cert.MlpIdeal.τ).loc Cert.MlpIdeal.main_v10_1)) (v2 : (c : Dev Cert.MlpIdeal.nD) → Buf (Elt Ideal) ((c.tc : Thread Cert.MlpIdeal.nD Cert.MlpIdeal.τ).loc Cert.MlpIdeal.main_v10_2)) (v3 : (c : Dev Cert.MlpIdeal.nD) → Buf (Elt Ideal) ((c.tc : Thread Cert.MlpIdeal.nD Cert.MlpIdeal.τ).loc Cert.MlpIdeal.main_v10_3)) (v4 : (c : Dev Cert.MlpIdeal.nD) → Buf (Elt Ideal) ((c.tc : Thread Cert.MlpIdeal.nD Cert.MlpIdeal.τ).loc Cert.MlpIdeal.main_v10_4)) (v5 : (c : Dev Cert.MlpIdeal.nD) → Buf (Elt Ideal) ((c.tc : Thread Cert.MlpIdeal.nD Cert.MlpIdeal.τ).loc Cert.MlpIdeal.main_v10_5)) (v6 : (c : Dev Cert.MlpIdeal.nD) → Buf (Elt Ideal) ((c.tc : Thread Cert.MlpIdeal.nD Cert.MlpIdeal.τ).loc Cert.MlpIdeal.main_v10_6)) (v7 : (c : Dev Cert.MlpIdeal.nD) → Buf (Elt Ideal) ((c.tc : Thread Cert.MlpIdeal.nD Cert.MlpIdeal.τ).loc Cert.MlpIdeal.main_v10_7)) (v8 : (c : Dev Cert.MlpIdeal.nD) → Buf (Elt Ideal) ((c.tc : Thread Cert.MlpIdeal.nD Cert.MlpIdeal.τ).loc Cert.MlpIdeal.main_v10_8)) (v9 : (c : Dev Cert.MlpIdeal.nD) → Buf (Elt Ideal) ((c.tc : Thread Cert.MlpIdeal.nD Cert.MlpIdeal.τ).loc Cert.MlpIdeal.main_v10_9)) (v10 : (c : Dev Cert.MlpIdeal.nD) → Buf (Elt Ideal) ((c.tc : Thread Cert.MlpIdeal.nD Cert.MlpIdeal.τ).loc Cert.MlpIdeal.main_v10_10)) (v11 : (c : Dev Cert.MlpIdeal.nD) → Buf (Elt Ideal) ((c.tc : Thread Cert.MlpIdeal.nD Cert.MlpIdeal.τ).loc Cert.MlpIdeal.main_v10_11)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v10_0) = v0 c
          ∧ r.2.mem ((c.tc : Thread Cert.MlpIdeal.nD Cert.MlpIdeal.τ).loc Cert.MlpIdeal.main_v10_1) = v1 c
          ∧ r.2.mem ((c.tc : Thread Cert.MlpIdeal.nD Cert.MlpIdeal.τ).loc Cert.MlpIdeal.main_v10_2) = v2 c
          ∧ r.2.mem ((c.tc : Thread Cert.MlpIdeal.nD Cert.MlpIdeal.τ).loc Cert.MlpIdeal.main_v10_3) = v3 c
          ∧ r.2.mem ((c.tc : Thread Cert.MlpIdeal.nD Cert.MlpIdeal.τ).loc Cert.MlpIdeal.main_v10_4) = v4 c
          ∧ r.2.mem ((c.tc : Thread Cert.MlpIdeal.nD Cert.MlpIdeal.τ).loc Cert.MlpIdeal.main_v10_5) = v5 c
          ∧ r.2.mem ((c.tc : Thread Cert.MlpIdeal.nD Cert.MlpIdeal.τ).loc Cert.MlpIdeal.main_v10_6) = v6 c
          ∧ r.2.mem ((c.tc : Thread Cert.MlpIdeal.nD Cert.MlpIdeal.τ).loc Cert.MlpIdeal.main_v10_7) = v7 c
          ∧ r.2.mem ((c.tc : Thread Cert.MlpIdeal.nD Cert.MlpIdeal.τ).loc Cert.MlpIdeal.main_v10_8) = v8 c
          ∧ r.2.mem ((c.tc : Thread Cert.MlpIdeal.nD Cert.MlpIdeal.τ).loc Cert.MlpIdeal.main_v10_9) = v9 c
          ∧ r.2.mem ((c.tc : Thread Cert.MlpIdeal.nD Cert.MlpIdeal.τ).loc Cert.MlpIdeal.main_v10_10) = v10 c
          ∧ r.2.mem ((c.tc : Thread Cert.MlpIdeal.nD Cert.MlpIdeal.τ).loc Cert.MlpIdeal.main_v10_11) = v11 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v173) = v0 c
          ∧ r.2.mem ((c.tc : Thread Cert.MlpRefIdeal.nD Cert.MlpRefIdeal.τ).loc Cert.MlpRefIdeal.main_v175) = v1 c
          ∧ r.2.mem ((c.tc : Thread Cert.MlpRefIdeal.nD Cert.MlpRefIdeal.τ).loc Cert.MlpRefIdeal.main_v176) = v2 c
          ∧ r.2.mem ((c.tc : Thread Cert.MlpRefIdeal.nD Cert.MlpRefIdeal.τ).loc Cert.MlpRefIdeal.main_v177) = v3 c
          ∧ r.2.mem ((c.tc : Thread Cert.MlpRefIdeal.nD Cert.MlpRefIdeal.τ).loc Cert.MlpRefIdeal.main_v178) = v4 c
          ∧ r.2.mem ((c.tc : Thread Cert.MlpRefIdeal.nD Cert.MlpRefIdeal.τ).loc Cert.MlpRefIdeal.main_v179) = v5 c
          ∧ r.2.mem ((c.tc : Thread Cert.MlpRefIdeal.nD Cert.MlpRefIdeal.τ).loc Cert.MlpRefIdeal.main_v180) = v6 c
          ∧ r.2.mem ((c.tc : Thread Cert.MlpRefIdeal.nD Cert.MlpRefIdeal.τ).loc Cert.MlpRefIdeal.main_v181) = v7 c
          ∧ r.2.mem ((c.tc : Thread Cert.MlpRefIdeal.nD Cert.MlpRefIdeal.τ).loc Cert.MlpRefIdeal.main_v182) = v8 c
          ∧ r.2.mem ((c.tc : Thread Cert.MlpRefIdeal.nD Cert.MlpRefIdeal.τ).loc Cert.MlpRefIdeal.main_v174) = v9 c
          ∧ r.2.mem ((c.tc : Thread Cert.MlpRefIdeal.nD Cert.MlpRefIdeal.τ).loc Cert.MlpRefIdeal.main_v147) = v10 c
          ∧ r.2.mem ((c.tc : Thread Cert.MlpRefIdeal.nD Cert.MlpRefIdeal.τ).loc Cert.MlpRefIdeal.main_v126) = v11 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v73_0)) (v1 : (c : Dev Cert.MixIdeal.nD) → Buf (Elt Ideal) ((c.tc : Thread Cert.MixIdeal.nD Cert.MixIdeal.τ).loc Cert.MixIdeal.main_v73_1)) (v2 : (c : Dev Cert.MixIdeal.nD) → Buf (Elt Ideal) ((c.tc : Thread Cert.MixIdeal.nD Cert.MixIdeal.τ).loc Cert.MixIdeal.main_v73_2)) (v3 : (c : Dev Cert.MixIdeal.nD) → Buf (Elt Ideal) ((c.tc : Thread Cert.MixIdeal.nD Cert.MixIdeal.τ).loc Cert.MixIdeal.main_v73_3)) (v4 : (c : Dev Cert.MixIdeal.nD) → Buf (Elt Ideal) ((c.tc : Thread Cert.MixIdeal.nD Cert.MixIdeal.τ).loc Cert.MixIdeal.main_v73_4)) (v5 : (c : Dev Cert.MixIdeal.nD) → Buf (Elt Ideal) ((c.tc : Thread Cert.MixIdeal.nD Cert.MixIdeal.τ).loc Cert.MixIdeal.main_v73_5)) (v6 : (c : Dev Cert.MixIdeal.nD) → Buf (Elt Ideal) ((c.tc : Thread Cert.MixIdeal.nD Cert.MixIdeal.τ).loc Cert.MixIdeal.main_v73_6)) (v7 : (c : Dev Cert.MixIdeal.nD) → Buf (Elt Ideal) ((c.tc : Thread Cert.MixIdeal.nD Cert.MixIdeal.τ).loc Cert.MixIdeal.main_v73_7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v73_0) = v0 c
          ∧ r.2.mem ((c.tc : Thread Cert.MixIdeal.nD Cert.MixIdeal.τ).loc Cert.MixIdeal.main_v73_1) = v1 c
          ∧ r.2.mem ((c.tc : Thread Cert.MixIdeal.nD Cert.MixIdeal.τ).loc Cert.MixIdeal.main_v73_2) = v2 c
          ∧ r.2.mem ((c.tc : Thread Cert.MixIdeal.nD Cert.MixIdeal.τ).loc Cert.MixIdeal.main_v73_3) = v3 c
          ∧ r.2.mem ((c.tc : Thread Cert.MixIdeal.nD Cert.MixIdeal.τ).loc Cert.MixIdeal.main_v73_4) = v4 c
          ∧ r.2.mem ((c.tc : Thread Cert.MixIdeal.nD Cert.MixIdeal.τ).loc Cert.MixIdeal.main_v73_5) = v5 c
          ∧ r.2.mem ((c.tc : Thread Cert.MixIdeal.nD Cert.MixIdeal.τ).loc Cert.MixIdeal.main_v73_6) = v6 c
          ∧ r.2.mem ((c.tc : Thread Cert.MixIdeal.nD Cert.MixIdeal.τ).loc Cert.MixIdeal.main_v73_7) = v7 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v145) = v0 c
          ∧ r.2.mem ((c.tc : Thread Cert.MixRefIdeal.nD Cert.MixRefIdeal.τ).loc Cert.MixRefIdeal.main_v146) = v1 c
          ∧ r.2.mem ((c.tc : Thread Cert.MixRefIdeal.nD Cert.MixRefIdeal.τ).loc Cert.MixRefIdeal.main_v147) = v2 c
          ∧ r.2.mem ((c.tc : Thread Cert.MixRefIdeal.nD Cert.MixRefIdeal.τ).loc Cert.MixRefIdeal.main_v148) = v3 c
          ∧ r.2.mem ((c.tc : Thread Cert.MixRefIdeal.nD Cert.MixRefIdeal.τ).loc Cert.MixRefIdeal.main_v149) = v4 c
          ∧ r.2.mem ((c.tc : Thread Cert.MixRefIdeal.nD Cert.MixRefIdeal.τ).loc Cert.MixRefIdeal.main_v150) = v5 c
          ∧ r.2.mem ((c.tc : Thread Cert.MixRefIdeal.nD Cert.MixRefIdeal.τ).loc Cert.MixRefIdeal.main_v151) = v6 c
          ∧ r.2.mem ((c.tc : Thread Cert.MixRefIdeal.nD Cert.MixRefIdeal.τ).loc Cert.MixRefIdeal.main_v135) = v7 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def Claim : Prop :=
  ∃ (hInProj : Cert.InProj.Facts) (hInProjIdeal : Cert.InProjIdeal.Facts) (hInProjRefIdeal : Cert.InProjRefIdeal.Facts) (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hMix : Cert.Mix.Facts) (hMixIdeal : Cert.MixIdeal.Facts) (hMixRefIdeal : Cert.MixRefIdeal.Facts) (hPre_attn_finite : Cert.Pre_attn_finite.Facts),
    quiescent_InProj (hInProj := hInProj)
    ∧ quiescent_InProjIdeal (hInProjIdeal := hInProjIdeal)
    ∧ quiescent_InProjRefIdeal (hInProjRefIdeal := hInProjRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Mlp (hMlp := hMlp)
    ∧ quiescent_MlpIdeal (hMlpIdeal := hMlpIdeal)
    ∧ quiescent_MlpRefIdeal (hMlpRefIdeal := hMlpRefIdeal)
    ∧ quiescent_Mix (hMix := hMix)
    ∧ quiescent_MixIdeal (hMixIdeal := hMixIdeal)
    ∧ quiescent_MixRefIdeal (hMixRefIdeal := hMixRefIdeal)
    ∧ preserves_InProj_InProjIdeal
    ∧ algebraic_InProjIdeal_InProjRefIdeal (hInProjIdeal := hInProjIdeal) (hInProjRefIdeal := hInProjRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Mlp_MlpIdeal
    ∧ algebraic_MlpIdeal_MlpRefIdeal (hMlpIdeal := hMlpIdeal) (hMlpRefIdeal := hMlpRefIdeal)
    ∧ preserves_Mix_MixIdeal
    ∧ algebraic_MixIdeal_MixRefIdeal (hMixIdeal := hMixIdeal) (hMixRefIdeal := hMixRefIdeal)
-- ==== Pre_attn_finite.lean ====
abbrev S8192x1536 : Shape := ⟨2, ![8192, 1536]⟩
abbrev S8192x512 : Shape := ⟨2, ![8192, 512]⟩
abbrev S8192x2048 : Shape := ⟨2, ![8192, 2048]⟩
abbrev S_ : Shape := ⟨0, ![]⟩

class Facts : Prop where
  concatenates_S8192x1536_S8192x512_S8192x2048_d1 : Shape.Concatenates [S8192x1536, S8192x512] S8192x2048 1
  bitsLt_bf16_f32 : FTy.bits .bf16 < FTy.bits .f32
  bcast_S_S8192x2048 : S_.BroadcastsInDim S8192x2048 (![] : Fin 0 → Fin S8192x2048.rank)

variable [Facts]

def fn {F : FTy → Type} [FloatOps F] (main_arg0 : FVec F S8192x1536 .bf16) (main_arg1 : FVec F S8192x512 .bf16) : IVec S8192x2048 1 :=
  let main_v0 : FVec F S8192x2048 .bf16 := (fun a b => concatenate S8192x2048 1 [⟨S8192x1536, a⟩, ⟨S8192x512, b⟩] concatenates_S8192x1536_S8192x512_S8192x2048_d1) main_arg0 main_arg1
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  main_v4
-- ==== InProj.lean ====
abbrev S1x8192x1024 : Shape := ⟨3, ![1, 8192, 1024]⟩
abbrev S8192x1024 : Shape := ⟨2, ![8192, 1024]⟩
abbrev S8192x512 : Shape := ⟨2, ![8192, 512]⟩
abbrev S8192x3584 : Shape := ⟨2, ![8192, 3584]⟩
abbrev S1x1024 : Shape := ⟨2, ![1, 1024]⟩
abbrev S1x1024x5120 : Shape := ⟨3, ![1, 1024, 5120]⟩
abbrev S1024x5120 : Shape := ⟨2, ![1024, 5120]⟩
abbrev S512x1024 : Shape := ⟨2, ![512, 1024]⟩
abbrev S512x512 : Shape := ⟨2, ![512, 512]⟩
abbrev S512x3584 : Shape := ⟨2, ![512, 3584]⟩
abbrev S1 : Shape := ⟨1, ![1]⟩
abbrev S_ : Shape := ⟨0, ![]⟩
abbrev S1024x512 : Shape := ⟨2, ![1024, 512]⟩
abbrev S1024x3584 : Shape := ⟨2, ![1024, 3584]⟩
abbrev S512 : Shape := ⟨1, ![512]⟩
abbrev S512x1 : Shape := ⟨2, ![512, 1]⟩
abbrev S1024 : Shape := ⟨1, ![1024]⟩

abbrev nBuf : Space → Nat
  | .hbm => 13
  | .vmem => 17
  | .smem => 0
  | _ => 0

abbrev bufTy : (tb : Table) → Fin (tcTables nBuf tb) → BufTy
  | .hbm, ⟨0, _⟩ => ⟨S1x8192x1024, .f32⟩
  | .hbm, ⟨1, _⟩ => ⟨S8192x1024, .f32⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x3584, .bf16⟩
  | .hbm, ⟨6, _⟩ => ⟨S1x1024, .f32⟩
  | .hbm, ⟨7, _⟩ => ⟨S1x1024x5120, .f32⟩
  | .hbm, ⟨8, _⟩ => ⟨S8192x1024, .f32⟩
  | .hbm, ⟨9, _⟩ => ⟨S1024x5120, .f32⟩
  | .hbm, ⟨10, _⟩ => ⟨S1024x5120, .bf16⟩
  | .hbm, ⟨11, _⟩ => ⟨S8192x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x3584, .bf16⟩
  | .local _ .vmem, ⟨11, _⟩ => ⟨S512x3584, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1024x5120, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InProjRefIdeal.lean ====
abbrev S1x8192x1024 : Shape := ⟨3, ![1, 8192, 1024]⟩
abbrev S8192x1024 : Shape := ⟨2, ![8192, 1024]⟩
abbrev S8192x512 : Shape := ⟨2, ![8192, 512]⟩
abbrev S8192x3584 : Shape := ⟨2, ![8192, 3584]⟩
abbrev S1x1024 : Shape := ⟨2, ![1, 1024]⟩
abbrev S1x1024x5120 : Shape := ⟨3, ![1, 1024, 5120]⟩
abbrev S1024x5120 : Shape := ⟨2, ![1024, 5120]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5120 : Shape := ⟨2, ![8192, 5120]⟩

abbrev nBuf : Space → Nat
  | .hbm => 69
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S8192x1024, .f32⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x3584, .bf16⟩
  | .hbm, ⟨6, _⟩ => ⟨S1x1024, .f32⟩
  | .hbm, ⟨7, _⟩ => ⟨S1x1024x5120, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x3584, .f32⟩
  | .hbm, ⟨12, _⟩ => ⟨S8192x1024, .f32⟩
  | .hbm, ⟨13, _⟩ => ⟨S1024x5120, .f32⟩
  | .hbm, ⟨14, _⟩ => ⟨S1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x5120, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x3584, .f32⟩
  | .hbm, ⟨40, _⟩ => ⟨S8192x5120, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Attn.lean ====
abbrev S8192x1536 : Shape := ⟨2, ![8192, 1536]⟩
abbrev S8192x512 : Shape := ⟨2, ![8192, 512]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S256x256 : Shape := ⟨2, ![256, 256]⟩
abbrev S256x128 : Shape := ⟨2, ![256, 128]⟩
abbrev S8192x128 : Shape := ⟨2, ![8192, 128]⟩
abbrev S128x256 : Shape := ⟨2, ![128, 256]⟩
abbrev S1x128 : Shape := ⟨2, ![1, 128]⟩
abbrev S128x128 : Shape := ⟨2, ![128, 128]⟩
abbrev S512x128 : Shape := ⟨2, ![512, 128]⟩
abbrev S128 : Shape := ⟨1, ![128]⟩
abbrev S128x1 : Shape := ⟨2, ![128, 1]⟩
abbrev S512x256 : Shape := ⟨2, ![512, 256]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 69
  | .vmem => 21
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x1536, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x8x64, .f32⟩
  | .hbm, ⟨7, _⟩ => ⟨S8x8192x64, .f32⟩
  | .hbm, ⟨8, _⟩ => ⟨S8192x8x64, .f32⟩
  | .hbm, ⟨9, _⟩ => ⟨S8x8192x64, .f32⟩
  | .hbm, ⟨10, _⟩ => ⟨S8192x8x64, .f32⟩
  | .hbm, ⟨11, _⟩ => ⟨S8x8192x64, .f32⟩
  | .hbm, ⟨12, _⟩ => ⟨S8x8192x8192, .f32⟩
  | .hbm, ⟨13, _⟩ => ⟨S_, .f32⟩
  | .hbm, ⟨14, _⟩ => ⟨S8x8192x8192, .f32⟩
  | .hbm, ⟨15, _⟩ => ⟨S8x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8x8192x8192, .f32⟩
  | .hbm, ⟨23, _⟩ => ⟨S_, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .i1⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S_, .f32⟩
  | .hbm, ⟨41, _⟩ => ⟨S8x8192x8192, .i1⟩
  | .hbm, ⟨42, _⟩ => ⟨S8x8192x8192, .f32⟩
  | .hbm, ⟨43, _⟩ => ⟨S8x8192x8192, .f32⟩
  | .hbm, ⟨44, _⟩ => ⟨S_, .f32⟩
  | .hbm, ⟨45, _⟩ => ⟨S_, .f32⟩
  | .hbm, ⟨46, _⟩ => ⟨S8x8192x8192, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S_, .f32⟩
  | .hbm, ⟨52, _⟩ => ⟨S8x8192x8192, .i1⟩
  | .hbm, ⟨53, _⟩ => ⟨S8x8192x8192, .f32⟩
  | .hbm, ⟨54, _⟩ => ⟨S8x8192x8192, .f32⟩
  | .hbm, ⟨55, _⟩ => ⟨S8x8192x64, .f32⟩
  | .hbm, ⟨56, _⟩ => ⟨S8192x8x64, .f32⟩
  | .hbm, ⟨57, _⟩ => ⟨S8192x512, .f32⟩
  | .hbm, ⟨58, _⟩ => ⟨S256x256, .i32⟩
  | .hbm, ⟨59, _⟩ => ⟨S256x256, .i32⟩
  | .hbm, ⟨60, _⟩ => ⟨S256x256, .i1⟩
  | .hbm, ⟨61, _⟩ => ⟨S256x256, .f32⟩
  | .hbm, ⟨62, _⟩ => ⟨S256x256, .i1⟩
  | .hbm, ⟨63, _⟩ => ⟨S256x256, .bf16⟩
  | .hbm, ⟨64, _⟩ => ⟨S256x256, .i1⟩
  | .hbm, ⟨65, _⟩ => ⟨S256x256, .bf16⟩
  | .hbm, ⟨66, _⟩ => ⟨S8192x512, .bf16⟩
  | .hbm, ⟨67, _⟩ => ⟨S8192x512, .bf16⟩
  | .hbm, ⟨68, _⟩ => ⟨S8192x512, .bf16⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | .local _ .vmem, ⟨10, _⟩ => ⟨S256x256, .f32⟩
  | .local _ .vmem, ⟨11, _⟩ => ⟨S256x256, .bf16⟩
  | .local _ .vmem, ⟨12, _⟩ => ⟨S256x256, .bf16⟩
  | .local _ .vmem, ⟨13, _⟩ => ⟨S256x128, .bf16⟩
  | .local _ .vmem, ⟨14, _⟩ => ⟨S256x128, .bf16⟩
  | .local _ .vmem, ⟨15, _⟩ => ⟨S8192x128, .bf16⟩
  | .local _ .vmem, ⟨16, _⟩ => ⟨S8192x128, .bf16⟩
  | .local _ .vmem, ⟨17, _⟩ => ⟨S8192x128, .bf16⟩
  | .local _ .vmem, ⟨18, _⟩ => ⟨S8192x128, .bf16⟩
  | .local _ .vmem, ⟨19, _⟩ => ⟨S8192x128, .f32⟩
  | .local _ .vmem, ⟨20, _⟩ => ⟨S8192x128, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_v20 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_call2_cst : Ref sig .tc := ⟨.hbm, 44, rfl⟩
abbrev main_call2_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_1 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38_0 : Ref sig .tc := ⟨.hbm, 66, rfl⟩
abbrev main_v38_1 : Ref sig .tc := ⟨.hbm, 67, rfl⟩
abbrev main_v38_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c256_i32 : BitVec 32 := 256#32
  let v165 : BitVec 32 := Scalar.muli arg1 c256_i32
  v165
def k0_off1 (i : grid0.Coords) : Fin 2 → Nat :=
  let arg1 : BitVec 32 := BitVec.ofNat 32 (i 1).val
  let c256_i32 : BitVec 32 := 256#32
  let v165 : BitVec 32 := Scalar.muli arg1 c256_i32
  let v166 : BitVec 32 := v165
  let v167 : Index := Scalar.indexCast v166
  let c0_53 : Index := 0#32
  ![v167.toNat, 0]
def k0_mult2 (i : grid0.Coords) (arg15 : BitVec 32) : BitVec 32 :=
  let arg1 : BitVec 32 := BitVec.ofNat 32 (i 1).val
  let c1_i32_136 : BitVec 32 := 1#32
  let v483 : BitVec 32 := Scalar.subi arg1 c1_i32_136
  let v484 : BitVec 32 := Scalar.subi v483 arg15
  let c256_i32_137 : BitVec 32 := 256#32
  let v485 : BitVec 32 := Scalar.muli v484 c256_i32_137
  v485

def k0_off2 (i : grid0.Coords) (arg15 : BitVec 32) : Fin 2 → Nat :=
  let arg1 : BitVec 32 := BitVec.ofNat 32 (i 1).val
  let c1_i32_136 : BitVec 32 := 1#32
  let v483 : BitVec 32 := Scalar.subi arg1 c1_i32_136
  let v484 : BitVec 32 := Scalar.subi v483 arg15
  let c256_i32_137 : BitVec 32 := 256#32
  let v485 : BitVec 32 := Scalar.muli v484 c256_i32_137
  let v486 : BitVec 32 := v485
  let v487 : Index := Scalar.indexCast v486
  let c0_138 : Index := 0#32
  ![v487.toNat, 0]

def k0_chk1 (i : grid0.Coords) (arg15 : BitVec 32) : Prop :=
  (256 ∣ (k0_mult2 i arg15).toNat) ∧
  (∀ a, (k0_off2 i arg15) a + S256x128.size a ≤ S8192x128.size a)
theorem k0_mult2_dvd : ∀ (i : grid0.Coords) (arg15 : BitVec 32) (k0_hw1 : k0_chk1 i arg15), 256 ∣ (k0_mult2 i arg15).toNat := fun i arg15 k0_hw1 => k0_hw1.1
theorem k0_off2_inb : ∀ (i : grid0.Coords) (arg15 : BitVec 32) (k0_hw1 : k0_chk1 i arg15), ∀ a, (k0_off2 i arg15) a + S256x128.size a ≤ S8192x128.size a := fun i arg15 k0_hw1 => k0_hw1.2

def k0_cond2 (i : grid0.Coords) : BitVec 1 :=
  let arg1 : BitVec 32 := BitVec.ofNat 32 (i 1).val
  let c31_i32 : BitVec 32 := 31#32
  let v479 : BitVec 1 := Scalar.cmpi .eq arg1 c31_i32
  let v480 : BitVec 32 := Scalar.extui v479
  let c0_i32_135 : BitVec 32 := 0#32
  let v481 : BitVec 1 := Scalar.cmpi .ne v480 c0_i32_135
  v481

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8192x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== AttnIdeal.lean ====
variable {F : FTy → Type} [FloatOps F] [Named F]
def κ : String → Option EReal := fun
  | "exp2_zero" => some ⊥
  | "log2_e" => some (((Real.log 2)⁻¹ : ℝ) : EReal)
  | _ => none
-- ==== AttnRefIdeal.lean ====
abbrev S8192x1536 : Shape := ⟨2, ![8192, 1536]⟩
abbrev S8192x512 : Shape := ⟨2, ![8192, 512]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩

abbrev nBuf : Space → Nat
  | .hbm => 132
  | .vmem => 0
  | .smem => 0
  | _ => 0

abbrev hbmTy0_0 (i : Nat) : BufTy := match i % 128 with
  | 0 => ⟨S8192x1536, .bf16⟩
  | 1 => ⟨S8192x512, .bf16⟩
  | 2 => ⟨S8192x1536, .f32⟩
  | 3 => ⟨S8192x512, .f32⟩
  | 4 => ⟨S8192x512, .f32⟩
  | 5 => ⟨S8192x512, .f32⟩
  | 6 => ⟨S8192x8x64, .f32⟩
  | 7 => ⟨S8x8192x64, .f32⟩
  | 8 => ⟨S8192x8x64, .f32⟩
  | 9 => ⟨S8x8192x64, .f32⟩
  | 10 => ⟨S8192x8x64, .f32⟩
  | 11 => ⟨S8x8192x64, .f32⟩
  | 12 => ⟨S8x8192x8192, .f32⟩
  | 13 => ⟨S_, .f32⟩
  | 14 => ⟨S8x8192x8192, .f32⟩
  | 15 => ⟨S8x8192x8192, .f32⟩
  | 16 => ⟨S8192, .i32⟩
  | 17 => ⟨S1x8192, .i32⟩
  | 18 => ⟨S8192x1, .i32⟩
  | 19 => ⟨S8192x8192, .i32⟩
  | 20 => ⟨S8192x8192, .i32⟩
  | 21 => ⟨S8192x8192, .i1⟩
  | 22 => ⟨S8x8192x8192, .f32⟩
  | 23 => ⟨S_, .f32⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .i1⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S_, .f32⟩
  | 38 => ⟨S8x8192x8192, .f32⟩
  | 39 => ⟨S8x8192x8192, .i1⟩
  | 40 => ⟨S_, .f32⟩
  | 41 => ⟨S8x8192x8192, .f32⟩
  | 42 => ⟨S8x8192x8192, .f32⟩
  | 43 => ⟨S_, .f32⟩
  | 44 => ⟨S8x8192x8192, .f32⟩
  | 45 => ⟨S8x8192x8192, .i1⟩
  | 46 => ⟨S_, .f32⟩
  | 47 => ⟨S8x8192x8192, .f32⟩
  | 48 => ⟨S8x8192x8192, .f32⟩
  | 49 => ⟨S8x8192x8192, .f32⟩
  | 50 => ⟨S8x8192x8192, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S8x8192x8192, .f32⟩
  | 59 => ⟨S8x8192x8192, .i1⟩
  | 60 => ⟨S_, .f32⟩
  | 61 => ⟨S8x8192x8192, .f32⟩
  | 62 => ⟨S8x8192x8192, .f32⟩
  | 63 => ⟨S8x8192x8192, .f32⟩
  | 64 => ⟨S8x8192x8192, .f32⟩
  | 65 => ⟨S8x8192x8192, .f32⟩
  | 66 => ⟨S_, .f32⟩
  | 67 => ⟨S8x8192x8192, .f32⟩
  | 68 => ⟨S8x8192x8192, .f32⟩
  | 69 => ⟨S8x8192x8192, .f32⟩
  | 70 => ⟨S8x8192x8192, .f32⟩
  | 71 => ⟨S_, .f32⟩
  | 72 => ⟨S_, .f32⟩
  | 73 => ⟨S8x8192x8192, .i1⟩
  | 74 => ⟨S8x8192x8192, .f32⟩
  | 75 => ⟨S8x8192x8192, .f32⟩
  | 76 => ⟨S_, .f32⟩
  | 77 => ⟨S8x8192x8192, .f32⟩
  | 78 => ⟨S_, .f32⟩
  | 79 => ⟨S_, .f32⟩
  | 80 => ⟨S8x8192x8192, .f32⟩
  | 81 => ⟨S8x8192x8192, .f32⟩
  | 82 => ⟨S8x8192x8192, .f32⟩
  | 83 => ⟨S8x8192x8192, .f32⟩
  | 84 => ⟨S_, .f32⟩
  | 85 => ⟨S_, .f32⟩
  | 86 => ⟨S8x8192x8192, .i1⟩
  | 87 => ⟨S8x8192x8192, .f32⟩
  | 88 => ⟨S8x8192x8192, .f32⟩
  | 89 => ⟨S_, .f32⟩
  | 90 => ⟨S8x8192x8192, .f32⟩
  | 91 => ⟨S8x8192x64, .f32⟩
  | 92 => ⟨S8192x8x64, .f32⟩
  | 93 => ⟨S8192x512, .f32⟩
  | 94 => ⟨S8192x512, .f32⟩
  | 95 => ⟨S8192x8x64, .f32⟩
  | 96 => ⟨S8x8192x64, .f32⟩
  | 97 => ⟨S8x64x8192, .f32⟩
  | 98 => ⟨S8x8192x64, .f32⟩
  | 99 => ⟨S8x8192x8192, .f32⟩
  | 100 => ⟨S_, .f32⟩
  | 101 => ⟨S8x8192x8192, .f32⟩
  | 102 => ⟨S8x8192x8192, .f32⟩
  | 103 => ⟨S8x8192x8192, .f32⟩
  | 104 => ⟨S8x8192x8192, .f32⟩
  | 105 => ⟨S_, .f32⟩
  | 106 => ⟨S_, .f32⟩
  | 107 => ⟨S8x8192x8192, .f32⟩
  | 108 => ⟨S8x8192x8192, .f32⟩
  | 109 => ⟨S_, .f32⟩
  | 110 => ⟨S8x8192x8192, .f32⟩
  | 111 => ⟨S8x8192x8192, .f32⟩
  | 112 => ⟨S8x8192x8192, .f32⟩
  | 113 => ⟨S8x8192x8192, .f32⟩
  | 114 => ⟨S8x8192x8192, .f32⟩
  | 115 => ⟨S8x8192x8192, .f32⟩
  | 116 => ⟨S8x8192x8192, .f32⟩
  | 117 => ⟨S8x8192x8192, .f32⟩
  | 118 => ⟨S_, .f32⟩
  | 119 => ⟨S8x8192x8192, .f32⟩
  | 120 => ⟨S8x8192x8192, .f32⟩
  | 121 => ⟨S8x8192x64, .f32⟩
  | 122 => ⟨S8x8192x64, .f32⟩
  | 123 => ⟨S8192x8x64, .f32⟩
  | 124 => ⟨S8192x512, .f32⟩
  | 125 => ⟨S8192x8x64, .f32⟩
  | 126 => ⟨S8192x512, .f32⟩
  | 127 => ⟨S8192x8x64, .f32⟩
  | _ => ⟨S8192x1536, .bf16⟩

abbrev hbmTy0_1 (i : Nat) : BufTy := match i % 128 with
  | 0 => ⟨S8192x512, .f32⟩
  | 1 => ⟨S8192x512, .bf16⟩
  | 2 => ⟨S8192x512, .bf16⟩
  | 3 => ⟨S8192x512, .bf16⟩
  | _ => ⟨S8192x1536, .bf16⟩

abbrev hbmTy (i : Nat) : BufTy := match i / 128 with
  | 0 => hbmTy0_0 i
  | 1 => hbmTy0_1 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_v20 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_cst_1 : Ref sig .tc := ⟨.hbm, 84, rfl⟩
abbrev main_call3_v0 : Ref sig .tc := ⟨.hbm, 85, rfl⟩
abbrev main_v26_1 : Ref sig .tc := ⟨.hbm, 86, rfl⟩
abbrev main_call3_v2 : Ref sig .tc := ⟨.hbm, 87, rfl⟩
abbrev main_v26_0 : Ref sig .tc := ⟨.hbm, 88, rfl⟩
abbrev main_call3_cst : Ref sig .tc := ⟨.hbm, 89, rfl⟩
abbrev main_v26_2 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_call4_cst : Ref sig .tc := ⟨.hbm, 100, rfl⟩
abbrev main_call4_v0 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_call5_cst : Ref sig .tc := ⟨.hbm, 105, rfl⟩
abbrev main_call5_v0 : Ref sig .tc := ⟨.hbm, 106, rfl⟩
abbrev main_v39 : Ref sig .tc := ⟨.hbm, 107, rfl⟩
abbrev main_v40 : Ref sig .tc := ⟨.hbm, 108, rfl⟩
abbrev main_call6_cst : Ref sig .tc := ⟨.hbm, 109, rfl⟩
abbrev main_call6_v0 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_call7_v0 : Ref sig .tc := ⟨.hbm, 114, rfl⟩
abbrev main_call7_v1 : Ref sig .tc := ⟨.hbm, 115, rfl⟩
abbrev main_v44 : Ref sig .tc := ⟨.hbm, 116, rfl⟩
abbrev main_v45 : Ref sig .tc := ⟨.hbm, 117, rfl⟩
abbrev main_cst_2 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩

abbrev nD : Nat := 1
abbrev τ : Topo := Topo.v7x

variable {F : FTy → Type} [FloatOps F]
-- ==== Mlp.lean ====
abbrev S8192x1024 : Shape := ⟨2, ![8192, 1024]⟩
abbrev S1x1x8192x256 : Shape := ⟨4, ![1, 1, 8192, 256]⟩
abbrev S1x8192x1024 : Shape := ⟨3, ![1, 8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S1x256x1024 : Shape := ⟨3, ![1, 256, 1024]⟩
abbrev S8192x256 : Shape := ⟨2, ![8192, 256]⟩
abbrev S1024x4096 : Shape := ⟨2, ![1024, 4096]⟩
abbrev S4096x1024 : Shape := ⟨2, ![4096, 1024]⟩
abbrev S1024x1024 : Shape := ⟨2, ![1024, 1024]⟩
abbrev S256x1024 : Shape := ⟨2, ![256, 1024]⟩
abbrev S8192x4096 : Shape := ⟨2, ![8192, 4096]⟩
abbrev S1x1 : Shape := ⟨2, ![1, 1]⟩
abbrev S256x256 : Shape := ⟨2, ![256, 256]⟩
abbrev S256x4096 : Shape := ⟨2, ![256, 4096]⟩
abbrev S4 : Shape := ⟨1, ![4]⟩
abbrev S1 : Shape := ⟨1, ![1]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 32
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S1x1x8192x256, .f32⟩
  | .hbm, ⟨2, _⟩ => ⟨S1x8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024x4096, .f32⟩
  | .hbm, ⟨7, _⟩ => ⟨S1x4096x1024, .f32⟩
  | .hbm, ⟨8, _⟩ => ⟨S1x1024x1024, .f32⟩
  | .hbm, ⟨9, _⟩ => ⟨S1x256x1024, .f32⟩
  | .hbm, ⟨10, _⟩ => ⟨S8192x256, .f32⟩
  | .hbm, ⟨11, _⟩ => ⟨S8192x1024, .f32⟩
  | .hbm, ⟨12, _⟩ => ⟨S1024x4096, .f32⟩
  | .hbm, ⟨13, _⟩ => ⟨S1024x4096, .bf16⟩
  | .hbm, ⟨14, _⟩ => ⟨S4096x1024, .f32⟩
  | .hbm, ⟨15, _⟩ => ⟨S4096x1024, .bf16⟩
  | .hbm, ⟨16, _⟩ => ⟨S1024x1024, .f32⟩
  | .hbm, ⟨17, _⟩ => ⟨S1024x1024, .bf16⟩
  | .hbm, ⟨18, _⟩ => ⟨S256x1024, .f32⟩
  | .hbm, ⟨19, _⟩ => ⟨S256x1024, .bf16⟩
  | .hbm, ⟨20, _⟩ => ⟨S8192x1024, .f32⟩
  | .hbm, ⟨21, _⟩ => ⟨S8192x1024, .bf16⟩
  | .hbm, ⟨22, _⟩ => ⟨S8192x4096, .bf16⟩
  | .hbm, ⟨23, _⟩ => ⟨S8192x4096, .bf16⟩
  | .hbm, ⟨24, _⟩ => ⟨S8192x1024, .bf16⟩
  | .hbm, ⟨25, _⟩ => ⟨S8192x1024, .bf16⟩
  | .hbm, ⟨26, _⟩ => ⟨S8192x1024, .bf16⟩
  | .hbm, ⟨27, _⟩ => ⟨S8192x1024, .bf16⟩
  | .hbm, ⟨28, _⟩ => ⟨S1x1, .f32⟩
  | .hbm, ⟨29, _⟩ => ⟨S1x1024, .f32⟩
  | .hbm, ⟨30, _⟩ => ⟨S1x1024, .f32⟩
  | .hbm, ⟨31, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S1x1, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1024x4096, .bf16⟩
  | .local _ .vmem, ⟨30, _⟩ => ⟨S4096x1024, .bf16⟩
  | .local _ .vmem, ⟨31, _⟩ => ⟨S1024x1024, .bf16⟩
  | .local _ .vmem, ⟨32, _⟩ => ⟨S256x1024, .bf16⟩
  | .local _ .vmem, ⟨33, _⟩ => ⟨S256x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev main_v10_6 : Ref sig .tc := ⟨.hbm, 26, rfl⟩
abbrev main_v10_7 : Ref sig .tc := ⟨.hbm, 27, rfl⟩
abbrev main_v10_8 : Ref sig .tc := ⟨.hbm, 28, rfl⟩
abbrev main_v10_9 : Ref sig .tc := ⟨.hbm, 29, rfl⟩
abbrev main_v10_10 : Ref sig .tc := ⟨.hbm, 30, rfl⟩
abbrev main_v10_11 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MlpRefIdeal.lean ====
abbrev S8192x1024 : Shape := ⟨2, ![8192, 1024]⟩
abbrev S1x1x8192x256 : Shape := ⟨4, ![1, 1, 8192, 256]⟩
abbrev S1x8192x1024 : Shape := ⟨3, ![1, 8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S1x256x1024 : Shape := ⟨3, ![1, 256, 1024]⟩
abbrev S8192x256 : Shape := ⟨2, ![8192, 256]⟩
abbrev S1024x4096 : Shape := ⟨2, ![1024, 4096]⟩
abbrev S4096x1024 : Shape := ⟨2, ![4096, 1024]⟩
abbrev S1024x1024 : Shape := ⟨2, ![1024, 1024]⟩
abbrev S256x1024 : Shape := ⟨2, ![256, 1024]⟩
abbrev S_ : Shape := ⟨0, ![]⟩
abbrev S8192x4096 : Shape := ⟨2, ![8192, 4096]⟩
abbrev S1024 : Shape := ⟨1, ![1024]⟩
abbrev S8192 : Shape := ⟨1, ![8192]⟩
abbrev S8192x1 : Shape := ⟨2, ![8192, 1]⟩
abbrev S1x1 : Shape := ⟨2, ![1, 1]⟩

abbrev nBuf : Space → Nat
  | .hbm => 239
  | .vmem => 0
  | .smem => 0
  | _ => 0

abbrev hbmTy0_0 (i : Nat) : BufTy := match i % 128 with
  | 0 => ⟨S8192x1024, .f32⟩
  | 1 => ⟨S1x1x8192x256, .f32⟩
  | 2 => ⟨S1x8192x1024, .f32⟩
  | 3 => ⟨S1x1024, .f32⟩
  | 4 => ⟨S1x1024, .f32⟩
  | 5 => ⟨S1x1024, .f32⟩
  | 6 => ⟨S1x1024x4096, .f32⟩
  | 7 => ⟨S1x4096x1024, .f32⟩
  | 8 => ⟨S1x1024x1024, .f32⟩
  | 9 => ⟨S1x256x1024, .f32⟩
  | 10 => ⟨S8192x256, .f32⟩
  | 11 => ⟨S8192x1024, .f32⟩
  | 12 => ⟨S1024x4096, .f32⟩
  | 13 => ⟨S4096x1024, .f32⟩
  | 14 => ⟨S1024x1024, .f32⟩
  | 15 => ⟨S256x1024, .f32⟩
  | 16 => ⟨S_, .f32⟩
  | 17 => ⟨S8192x4096, .f32⟩
  | 18 => ⟨S_, .f32⟩
  | 19 => ⟨S8192x1024, .f32⟩
  | 20 => ⟨S1024, .f32⟩
  | 21 => ⟨S8192x1024, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1, .f32⟩
  | 32 => ⟨S8192x1, .f32⟩
  | 33 => ⟨S_, .f32⟩
  | 34 => ⟨S8192x1, .f32⟩
  | 35 => ⟨S8192x1, .f32⟩
  | 36 => ⟨S8192x1024, .f32⟩
  | 37 => ⟨S8192x1024, .f32⟩
  | 38 => ⟨S1x1024, .f32⟩
  | 39 => ⟨S8192x1024, .f32⟩
  | 40 => ⟨S8192x1024, .f32⟩
  | 41 => ⟨S8192x4096, .f32⟩
  | 42 => ⟨S8192x4096, .f32⟩
  | 43 => ⟨S_, .f32⟩
  | 44 => ⟨S8192x4096, .f32⟩
  | 45 => ⟨S8192x4096, .f32⟩
  | 46 => ⟨S_, .f32⟩
  | 47 => ⟨S8192x4096, .f32⟩
  | 48 => ⟨S8192x4096, .i1⟩
  | 49 => ⟨S_, .f32⟩
  | 50 => ⟨S8192x4096, .f32⟩
  | 51 => ⟨S8192x4096, .f32⟩
  | 52 => ⟨S_, .f32⟩
  | 53 => ⟨S8192x4096, .f32⟩
  | 54 => ⟨S8192x4096, .f32⟩
  | 55 => ⟨S8192x1024, .f32⟩
  | 56 => ⟨S8192x1024, .f32⟩
  | 57 => ⟨S1024, .f32⟩
  | 58 => ⟨S8192x1024, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S_, .f32⟩
  | 66 => ⟨S8192x1, .f32⟩
  | 67 => ⟨S8192x1, .f32⟩
  | 68 => ⟨S8192x1, .f32⟩
  | 69 => ⟨S8192x1, .f32⟩
  | 70 => ⟨S_, .f32⟩
  | 71 => ⟨S8192x1, .f32⟩
  | 72 => ⟨S8192x1, .f32⟩
  | 73 => ⟨S8192x1024, .f32⟩
  | 74 => ⟨S8192x1024, .f32⟩
  | 75 => ⟨S1x1024, .f32⟩
  | 76 => ⟨S8192x1024, .f32⟩
  | 77 => ⟨S8192x1024, .f32⟩
  | 78 => ⟨S8192x1024, .f32⟩
  | 79 => ⟨S1024, .f32⟩
  | 80 => ⟨S8192x1024, .f32⟩
  | 81 => ⟨S_, .f32⟩
  | 82 => ⟨S8192, .f32⟩
  | 83 => ⟨S8192x1, .f32⟩
  | 84 => ⟨S_, .f32⟩
  | 85 => ⟨S8192x1, .f32⟩
  | 86 => ⟨S8192x1, .f32⟩
  | 87 => ⟨S_, .f32⟩
  | 88 => ⟨S8192x1, .f32⟩
  | 89 => ⟨S8192x1, .f32⟩
  | 90 => ⟨S8192x1, .f32⟩
  | 91 => ⟨S8192x1, .f32⟩
  | 92 => ⟨S_, .f32⟩
  | 93 => ⟨S8192x1, .f32⟩
  | 94 => ⟨S8192x1, .f32⟩
  | 95 => ⟨S8192x1024, .f32⟩
  | 96 => ⟨S8192x1024, .f32⟩
  | 97 => ⟨S1x1024, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S_, .f32⟩
  | 105 => ⟨S8192x1024, .f32⟩
  | 106 => ⟨S8192x1024, .f32⟩
  | 107 => ⟨S_, .f32⟩
  | 108 => ⟨S8192x1024, .f32⟩
  | 109 => ⟨S8192x1024, .f32⟩
  | 110 => ⟨S_, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S_, .f32⟩
  | 121 => ⟨S8192x1024, .f32⟩
  | 122 => ⟨S8192x1024, .f32⟩
  | 123 => ⟨S_, .f32⟩
  | 124 => ⟨S8192, .f32⟩
  | 125 => ⟨S_, .f32⟩
  | 126 => ⟨S8192, .f32⟩
  | 127 => ⟨S8192, .f32⟩
  | _ => ⟨S8192x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S8192, .f32⟩
  | 8 => ⟨S_, .f32⟩
  | 9 => ⟨S8192, .f32⟩
  | 10 => ⟨S8192, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S1024, .f32⟩
  | 20 => ⟨S1x1024, .f32⟩
  | 21 => ⟨S8192x1024, .f32⟩
  | 22 => ⟨S8192x1024, .f32⟩
  | 23 => ⟨S_, .f32⟩
  | 24 => ⟨S1024, .f32⟩
  | 25 => ⟨S8192x1024, .f32⟩
  | 26 => ⟨S_, .f32⟩
  | 27 => ⟨S8192, .f32⟩
  | 28 => ⟨S8192x1, .f32⟩
  | 29 => ⟨S8192x1024, .f32⟩
  | 30 => ⟨S8192x1024, .f32⟩
  | 31 => ⟨S8192x1024, .f32⟩
  | 32 => ⟨S8192x1, .f32⟩
  | 33 => ⟨S_, .f32⟩
  | 34 => ⟨S8192x1, .f32⟩
  | 35 => ⟨S8192x1, .f32⟩
  | 36 => ⟨S_, .f32⟩
  | 37 => ⟨S8192, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S1x1024, .f32⟩
  | 44 => ⟨S8192x1024, .f32⟩
  | 45 => ⟨S_, .f32⟩
  | 46 => ⟨S1024, .f32⟩
  | 47 => ⟨S1x1024, .f32⟩
  | 48 => ⟨S8192x1024, .f32⟩
  | 49 => ⟨S8192x1024, .f32⟩
  | 50 => ⟨S_, .f32⟩
  | 51 => ⟨S1024, .f32⟩
  | 52 => ⟨S8192x1024, .f32⟩
  | 53 => ⟨S_, .f32⟩
  | 54 => ⟨S8192, .f32⟩
  | 55 => ⟨S8192x1, .f32⟩
  | 56 => ⟨S8192x1024, .f32⟩
  | 57 => ⟨S8192x1024, .f32⟩
  | 58 => ⟨S8192x1, .f32⟩
  | 59 => ⟨S_, .f32⟩
  | 60 => ⟨S8192x1, .f32⟩
  | 61 => ⟨S8192x1, .f32⟩
  | 62 => ⟨S_, .f32⟩
  | 63 => ⟨S8192, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S1x1024, .f32⟩
  | 70 => ⟨S8192x4096, .f32⟩
  | 71 => ⟨S8192x4096, .f32⟩
  | 72 => ⟨S_, .f32⟩
  | 73 => ⟨S8192x4096, .f32⟩
  | 74 => ⟨S8192x4096, .f32⟩
  | 75 => ⟨S8192x1024, .f32⟩
  | 76 => ⟨S8192x1024, .f32⟩
  | 77 => ⟨S_, .f32⟩
  | 78 => ⟨S1024, .f32⟩
  | 79 => ⟨S1x1024, .f32⟩
  | 80 => ⟨S8192x1024, .f32⟩
  | 81 => ⟨S8192x1024, .f32⟩
  | 82 => ⟨S_, .f32⟩
  | 83 => ⟨S1024, .f32⟩
  | 84 => ⟨S8192x1024, .f32⟩
  | 85 => ⟨S_, .f32⟩
  | 86 => ⟨S8192, .f32⟩
  | 87 => ⟨S8192x1, .f32⟩
  | 88 => ⟨S8192x1024, .f32⟩
  | 89 => ⟨S8192x1024, .f32⟩
  | 90 => ⟨S8192x1024, .f32⟩
  | 91 => ⟨S8192x1, .f32⟩
  | 92 => ⟨S_, .f32⟩
  | 93 => ⟨S8192x1, .f32⟩
  | 94 => ⟨S8192x1, .f32⟩
  | 95 => ⟨S_, .f32⟩
  | 96 => ⟨S8192, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S1x1024, .f32⟩
  | 103 => ⟨S8192x1024, .bf16⟩
  | 104 => ⟨S8192x4096, .bf16⟩
  | 105 => ⟨S8192x4096, .bf16⟩
  | 106 => ⟨S8192x1024, .bf16⟩
  | 107 => ⟨S8192x1024, .bf16⟩
  | 108 => ⟨S8192x1024, .bf16⟩
  | 109 => ⟨S8192x1024, .bf16⟩
  | 110 => ⟨S1x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_v59 : Ref sig .tc := ⟨.hbm, 86, rfl⟩
abbrev main_cst_14 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_15 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_v76 : Ref sig .tc := ⟨.hbm, 106, rfl⟩
abbrev main_cst_17 : Ref sig .tc := ⟨.hbm, 107, rfl⟩
abbrev main_v77 : Ref sig .tc := ⟨.hbm, 108, rfl⟩
abbrev main_v78 : Ref sig .tc := ⟨.hbm, 109, rfl⟩
abbrev main_cst_18 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_19 : Ref sig .tc := ⟨.hbm, 120, rfl⟩
abbrev main_v88 : Ref sig .tc := ⟨.hbm, 121, rfl⟩
abbrev main_v89 : Ref sig .tc := ⟨.hbm, 122, rfl⟩
abbrev main_cst_20 : Ref sig .tc := ⟨.hbm, 123, rfl⟩
abbrev main_v90 : Ref sig .tc := ⟨.hbm, 124, rfl⟩
abbrev main_cst_21 : Ref sig .tc := ⟨.hbm, 125, rfl⟩
abbrev main_v91 : Ref sig .tc := ⟨.hbm, 126, rfl⟩
abbrev main_v92 : Ref sig .tc := ⟨.hbm, 127, rfl⟩
abbrev main_cst_22 : Ref sig .tc := ⟨.hbm, 128, rfl⟩
abbrev main_v93 : Ref sig .tc := ⟨.hbm, 129, rfl⟩
abbrev main_cst_23 : Ref sig .tc := ⟨.hbm, 130, rfl⟩
abbrev main_v94 : Ref sig .tc := ⟨.hbm, 131, rfl⟩
abbrev main_cst_24 : Ref sig .tc := ⟨.hbm, 132, rfl⟩
abbrev main_cst_25 : Ref sig .tc := ⟨.hbm, 133, rfl⟩
abbrev main_v95 : Ref sig .tc := ⟨.hbm, 134, rfl⟩
abbrev main_v96 : Ref sig .tc := ⟨.hbm, 135, rfl⟩
abbrev main_cst_26 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_27 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_28 : Ref sig .tc := ⟨.hbm, 151, rfl⟩
abbrev main_v110 : Ref sig .tc := ⟨.hbm, 152, rfl⟩
abbrev main_v111 : Ref sig .tc := ⟨.hbm, 153, rfl⟩
abbrev main_cst_29 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_30 : Ref sig .tc := ⟨.hbm, 161, rfl⟩
abbrev main_v118 : Ref sig .tc := ⟨.hbm, 162, rfl⟩
abbrev main_v119 : Ref sig .tc := ⟨.hbm, 163, rfl⟩
abbrev main_cst_31 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_32 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_33 : Ref sig .tc := ⟨.hbm, 178, rfl⟩
abbrev main_v132 : Ref sig .tc := ⟨.hbm, 179, rfl⟩
abbrev main_v133 : Ref sig .tc := ⟨.hbm, 180, rfl⟩
abbrev main_cst_34 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_cst_35 : Ref sig .tc := ⟨.hbm, 187, rfl⟩
abbrev main_v139 : Ref sig .tc := ⟨.hbm, 188, rfl⟩
abbrev main_v140 : Ref sig .tc := ⟨.hbm, 189, rfl⟩
abbrev main_cst_36 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_cst_37 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_38 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_cst_39 : Ref sig .tc := ⟨.hbm, 210, rfl⟩
abbrev main_v158 : Ref sig .tc := ⟨.hbm, 211, rfl⟩
abbrev main_v159 : Ref sig .tc := ⟨.hbm, 212, rfl⟩
abbrev main_cst_40 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_cst_41 : Ref sig .tc := ⟨.hbm, 220, rfl⟩
abbrev main_v166 : Ref sig .tc := ⟨.hbm, 221, rfl⟩
abbrev main_v167 : Ref sig .tc := ⟨.hbm, 222, rfl⟩
abbrev main_cst_42 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩

abbrev nD : Nat := 1
abbrev τ : Topo := Topo.v7x

variable {F : FTy → Type} [FloatOps F]
-- ==== Mix.lean ====
abbrev S8192x1024 : Shape := ⟨2, ![8192, 1024]⟩
abbrev S8192x512 : Shape := ⟨2, ![8192, 512]⟩
abbrev S8192x1536 : Shape := ⟨2, ![8192, 1536]⟩
abbrev S8192x2048 : Shape := ⟨2, ![8192, 2048]⟩
abbrev S1x2048 : Shape := ⟨2, ![1, 2048]⟩
abbrev S1x3x512 : Shape := ⟨3, ![1, 3, 512]⟩
abbrev S1x1024 : Shape := ⟨2, ![1, 1024]⟩
abbrev S1x512x1024 : Shape := ⟨3, ![1, 512, 1024]⟩
abbrev S1x1024x1024 : Shape := ⟨3, ![1, 1024, 1024]⟩
abbrev S_ : Shape := ⟨0, ![]⟩
abbrev S2048 : Shape := ⟨1, ![2048]⟩
abbrev S3x512 : Shape := ⟨2, ![3, 512]⟩
abbrev S512x1024 : Shape := ⟨2, ![512, 1024]⟩
abbrev S1024x1024 : Shape := ⟨2, ![1024, 1024]⟩
abbrev S2x512 : Shape := ⟨2, ![2, 512]⟩
abbrev S8194x512 : Shape := ⟨2, ![8194, 512]⟩
abbrev S1x512 : Shape := ⟨2, ![1, 512]⟩
abbrev S512 : Shape := ⟨1, ![512]⟩
abbrev S8192x3584 : Shape := ⟨2, ![8192, 3584]⟩
abbrev S512x512 : Shape := ⟨2, ![512, 512]⟩
abbrev S512x1536 : Shape := ⟨2, ![512, 1536]⟩
abbrev S16x1536 : Shape := ⟨2, ![16, 1536]⟩
abbrev S512x2048 : Shape := ⟨2, ![512, 2048]⟩
abbrev S512x3584 : Shape := ⟨2, ![512, 3584]⟩
abbrev S8x512 : Shape := ⟨2, ![8, 512]⟩
abbrev S3 : Shape := ⟨1, ![3]⟩
abbrev S1 : Shape := ⟨1, ![1]⟩
abbrev S512x1 : Shape := ⟨2, ![512, 1]⟩
abbrev S1024 : Shape := ⟨1, ![1024]⟩
abbrev S16x512 : Shape := ⟨2, ![16, 512]⟩

abbrev nBuf : Space → Nat
  | .hbm => 97
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1536, .f32⟩
  | .hbm, ⟨3, _⟩ => ⟨S8192x2048, .f32⟩
  | .hbm, ⟨4, _⟩ => ⟨S1x2048, .f32⟩
  | .hbm, ⟨5, _⟩ => ⟨S1x3x512, .f32⟩
  | .hbm, ⟨6, _⟩ => ⟨S1x1024, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S_, .f32⟩
  | .hbm, ⟨11, _⟩ => ⟨S8192x1024, .f32⟩
  | .hbm, ⟨12, _⟩ => ⟨S2048, .f32⟩
  | .hbm, ⟨13, _⟩ => ⟨S3x512, .f32⟩
  | .hbm, ⟨14, _⟩ => ⟨S512x1024, .f32⟩
  | .hbm, ⟨15, _⟩ => ⟨S512x1024, .f32⟩
  | .hbm, ⟨16, _⟩ => ⟨S1024x1024, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S2x512, .f32⟩
  | .hbm, ⟨24, _⟩ => ⟨S8192x512, .f32⟩
  | .hbm, ⟨25, _⟩ => ⟨S8194x512, .f32⟩
  | .hbm, ⟨26, _⟩ => ⟨S8192x512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S1x512, .f32⟩
  | .hbm, ⟨34, _⟩ => ⟨S512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S1x512, .f32⟩
  | .hbm, ⟨41, _⟩ => ⟨S512, .f32⟩
  | .hbm, ⟨42, _⟩ => ⟨S1x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x1024, .f32⟩
  | .hbm, ⟨48, _⟩ => ⟨S8192x1024, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192x2048, .f32⟩
  | .hbm, ⟨59, _⟩ => ⟨S8192x2048, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S2048, .f32⟩
  | .hbm, ⟨68, _⟩ => ⟨S1x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S_, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S8192x2048, .f32⟩
  | .hbm, ⟨78, _⟩ => ⟨S8192x2048, .f32⟩
  | .hbm, ⟨79, _⟩ => ⟨S8192x2048, .bf16⟩
  | .hbm, ⟨80, _⟩ => ⟨S8192x512, .bf16⟩
  | .hbm, ⟨81, _⟩ => ⟨S8192x1536, .bf16⟩
  | .hbm, ⟨82, _⟩ => ⟨S3x512, .f32⟩
  | .hbm, ⟨83, _⟩ => ⟨S512x1024, .f32⟩
  | .hbm, ⟨84, _⟩ => ⟨S512x1024, .bf16⟩
  | .hbm, ⟨85, _⟩ => ⟨S512x1024, .f32⟩
  | .hbm, ⟨86, _⟩ => ⟨S512x1024, .bf16⟩
  | .hbm, ⟨87, _⟩ => ⟨S1024x1024, .f32⟩
  | .hbm, ⟨88, _⟩ => ⟨S1024x1024, .bf16⟩
  | .hbm, ⟨89, _⟩ => ⟨S8192x1024, .bf16⟩
  | .hbm, ⟨90, _⟩ => ⟨S8192x1024, .bf16⟩
  | .hbm, ⟨91, _⟩ => ⟨S8192x1024, .bf16⟩
  | .hbm, ⟨92, _⟩ => ⟨S8192x512, .bf16⟩
  | .hbm, ⟨93, _⟩ => ⟨S8192x3584, .bf16⟩
  | .hbm, ⟨94, _⟩ => ⟨S1x1024, .f32⟩
  | .hbm, ⟨95, _⟩ => ⟨S1x2048, .f32⟩
  | .hbm, ⟨96, _⟩ => ⟨S3x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x1536, .bf16⟩
  | .local _ .vmem, ⟨7, _⟩ => ⟨S512x1536, .bf16⟩
  | .local _ .vmem, ⟨8, _⟩ => ⟨S16x1536, .bf16⟩
  | .local _ .vmem, ⟨9, _⟩ => ⟨S16x1536, .bf16⟩
  | .local _ .vmem, ⟨10, _⟩ => ⟨S512x2048, .bf16⟩
  | .local _ .vmem, ⟨11, _⟩ => ⟨S512x2048, .bf16⟩
  | .local _ .vmem, ⟨12, _⟩ => ⟨S3x512, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x512, .bf16⟩
  | .local _ .vmem, ⟨21, _⟩ => ⟨S512x512, .bf16⟩
  | .local _ .vmem, ⟨22, _⟩ => ⟨S512x3584, .bf16⟩
  | .local _ .vmem, ⟨23, _⟩ => ⟨S512x3584, .bf16⟩
  | .local _ .vmem, ⟨24, _⟩ => ⟨S1x1024, .f32⟩
  | .local _ .vmem, ⟨25, _⟩ => ⟨S1x2048, .f32⟩
  | .local _ .vmem, ⟨26, _⟩ => ⟨S3x512, .f32⟩
  | .local _ .vmem, ⟨27, _⟩ => ⟨S512x1024, .bf16⟩
  | .local _ .vmem, ⟨28, _⟩ => ⟨S512x1024, .bf16⟩
  | .local _ .vmem, ⟨29, _⟩ => ⟨S1024x1024, .bf16⟩
  | .local _ .vmem, ⟨30, _⟩ => ⟨S8x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_1 : Ref sig .tc := ⟨.hbm, 54, rfl⟩
abbrev main_v42 : Ref sig .tc := ⟨.hbm, 55, rfl⟩
abbrev main_v43 : Ref sig .tc := ⟨.hbm, 56, rfl⟩
abbrev main_cst_2 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_3 : Ref sig .tc := ⟨.hbm, 73, rfl⟩
abbrev main_v59 : Ref sig .tc := ⟨.hbm, 74, rfl⟩
abbrev main_v60 : Ref sig .tc := ⟨.hbm, 75, rfl⟩
abbrev main_cst_4 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73_0 : Ref sig .tc := ⟨.hbm, 89, rfl⟩
abbrev main_v73_1 : Ref sig .tc := ⟨.hbm, 90, rfl⟩
abbrev main_v73_2 : Ref sig .tc := ⟨.hbm, 91, rfl⟩
abbrev main_v73_3 : Ref sig .tc := ⟨.hbm, 92, rfl⟩
abbrev main_v73_4 : Ref sig .tc := ⟨.hbm, 93, rfl⟩
abbrev main_v73_5 : Ref sig .tc := ⟨.hbm, 94, rfl⟩
abbrev main_v73_6 : Ref sig .tc := ⟨.hbm, 95, rfl⟩
abbrev main_v73_7 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem15_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3584 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MixRefIdeal.lean ====
abbrev S8192x1024 : Shape := ⟨2, ![8192, 1024]⟩
abbrev S8192x512 : Shape := ⟨2, ![8192, 512]⟩
abbrev S8192x1536 : Shape := ⟨2, ![8192, 1536]⟩
abbrev S8192x2048 : Shape := ⟨2, ![8192, 2048]⟩
abbrev S1x2048 : Shape := ⟨2, ![1, 2048]⟩
abbrev S1x3x512 : Shape := ⟨3, ![1, 3, 512]⟩
abbrev S1x1024 : Shape := ⟨2, ![1, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩
abbrev S_ : Shape := ⟨0, ![]⟩
abbrev S2048 : Shape := ⟨1, ![2048]⟩
abbrev S3x512 : Shape := ⟨2, ![3, 512]⟩
abbrev S1024 : Shape := ⟨1, ![1024]⟩
abbrev S2x512 : Shape := ⟨2, ![2, 512]⟩
abbrev S8194x512 : Shape := ⟨2, ![8194, 512]⟩
abbrev S1x512 : Shape := ⟨2, ![1, 512]⟩
abbrev S512 : Shape := ⟨1, ![512]⟩
abbrev S8192 : Shape := ⟨1, ![8192]⟩
abbrev S8192x1 : Shape := ⟨2, ![8192, 1]⟩
abbrev S8192x3584 : Shape := ⟨2, ![8192, 3584]⟩

abbrev nBuf : Space → Nat
  | .hbm => 191
  | .vmem => 0
  | .smem => 0
  | _ => 0

abbrev hbmTy0_0 (i : Nat) : BufTy := match i % 128 with
  | 0 => ⟨S8192x1024, .f32⟩
  | 1 => ⟨S8192x512, .f32⟩
  | 2 => ⟨S8192x1536, .f32⟩
  | 3 => ⟨S8192x2048, .f32⟩
  | 4 => ⟨S1x2048, .f32⟩
  | 5 => ⟨S1x3x512, .f32⟩
  | 6 => ⟨S1x1024, .f32⟩
  | 7 => ⟨S1x512x1024, .f32⟩
  | 8 => ⟨S1x512x1024, .f32⟩
  | 9 => ⟨S1x1024x1024, .f32⟩
  | 10 => ⟨S512x1024, .f32⟩
  | 11 => ⟨S512x1024, .f32⟩
  | 12 => ⟨S1024x1024, .f32⟩
  | 13 => ⟨S_, .f32⟩
  | 14 => ⟨S8192x1024, .f32⟩
  | 15 => ⟨S2048, .f32⟩
  | 16 => ⟨S3x512, .f32⟩
  | 17 => ⟨S1024, .f32⟩
  | 18 => ⟨S8192x512, .f32⟩
  | 19 => ⟨S8192x512, .f32⟩
  | 20 => ⟨S8192x512, .f32⟩
  | 21 => ⟨S8192x1024, .f32⟩
  | 22 => ⟨S8192x1024, .f32⟩
  | 23 => ⟨S_, .f32⟩
  | 24 => ⟨S2x512, .f32⟩
  | 25 => ⟨S8192x512, .f32⟩
  | 26 => ⟨S8194x512, .f32⟩
  | 27 => ⟨S_, .f32⟩
  | 28 => ⟨S2x512, .f32⟩
  | 29 => ⟨S8192x512, .f32⟩
  | 30 => ⟨S1x512, .f32⟩
  | 31 => ⟨S512, .f32⟩
  | 32 => ⟨S1x512, .f32⟩
  | 33 => ⟨S8192x512, .f32⟩
  | 34 => ⟨S8192x512, .f32⟩
  | 35 => ⟨S8192x512, .f32⟩
  | 36 => ⟨S1x512, .f32⟩
  | 37 => ⟨S512, .f32⟩
  | 38 => ⟨S1x512, .f32⟩
  | 39 => ⟨S8192x512, .f32⟩
  | 40 => ⟨S8192x512, .f32⟩
  | 41 => ⟨S8192x512, .f32⟩
  | 42 => ⟨S8192x512, .f32⟩
  | 43 => ⟨S1x512, .f32⟩
  | 44 => ⟨S512, .f32⟩
  | 45 => ⟨S1x512, .f32⟩
  | 46 => ⟨S8192x512, .f32⟩
  | 47 => ⟨S8192x512, .f32⟩
  | 48 => ⟨S8192x512, .f32⟩
  | 49 => ⟨S8192x512, .f32⟩
  | 50 => ⟨S8192x1024, .f32⟩
  | 51 => ⟨S8192x1024, .f32⟩
  | 52 => ⟨S1x2048, .f32⟩
  | 53 => ⟨S8192x2048, .f32⟩
  | 54 => ⟨S8192x2048, .f32⟩
  | 55 => ⟨S8192x2048, .f32⟩
  | 56 => ⟨S8192x2048, .f32⟩
  | 57 => ⟨S_, .f32⟩
  | 58 => ⟨S8192x2048, .f32⟩
  | 59 => ⟨S8192x2048, .f32⟩
  | 60 => ⟨S_, .f32⟩
  | 61 => ⟨S8192x2048, .f32⟩
  | 62 => ⟨S8192x2048, .f32⟩
  | 63 => ⟨S_, .f32⟩
  | 64 => ⟨S8192x2048, .f32⟩
  | 65 => ⟨S8192x2048, .f32⟩
  | 66 => ⟨S8192x2048, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S_, .f32⟩
  | 76 => ⟨S8192, .f32⟩
  | 77 => ⟨S8192x1, .f32⟩
  | 78 => ⟨S_, .f32⟩
  | 79 => ⟨S8192x1, .f32⟩
  | 80 => ⟨S8192x1, .f32⟩
  | 81 => ⟨S_, .f32⟩
  | 82 => ⟨S8192x1, .f32⟩
  | 83 => ⟨S8192x1, .f32⟩
  | 84 => ⟨S8192x1, .f32⟩
  | 85 => ⟨S8192x1, .f32⟩
  | 86 => ⟨S_, .f32⟩
  | 87 => ⟨S8192x1, .f32⟩
  | 88 => ⟨S8192x1, .f32⟩
  | 89 => ⟨S8192x1024, .f32⟩
  | 90 => ⟨S8192x1024, .f32⟩
  | 91 => ⟨S1x1024, .f32⟩
  | 92 => ⟨S8192x1024, .f32⟩
  | 93 => ⟨S8192x1024, .f32⟩
  | 94 => ⟨S8192x1024, .f32⟩
  | 95 => ⟨S_, .f32⟩
  | 96 => ⟨S1024, .f32⟩
  | 97 => ⟨S1x1024, .f32⟩
  | 98 => ⟨S8192x1024, .f32⟩
  | 99 => ⟨S8192x1024, .f32⟩
  | 100 => ⟨S_, .f32⟩
  | 101 => ⟨S1024, .f32⟩
  | 102 => ⟨S8192x1024, .f32⟩
  | 103 => ⟨S_, .f32⟩
  | 104 => ⟨S8192, .f32⟩
  | 105 => ⟨S8192x1, .f32⟩
  | 106 => ⟨S8192x1024, .f32⟩
  | 107 => ⟨S8192x1024, .f32⟩
  | 108 => ⟨S8192x1, .f32⟩
  | 109 => ⟨S_, .f32⟩
  | 110 => ⟨S8192x1, .f32⟩
  | 111 => ⟨S8192x1, .f32⟩
  | 112 => ⟨S_, .f32⟩
  | 113 => ⟨S8192, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S8192x1024, .f32⟩
  | 124 => ⟨S8192x2048, .f32⟩
  | 125 => ⟨S8192x2048, .f32⟩
  | 126 => ⟨S_, .f32⟩
  | 127 => ⟨S2048, .f32⟩
  | _ => ⟨S8192x1024, .f32⟩

abbrev hbmTy0_1 (i : Nat) : BufTy := match i % 128 with
  | 0 => ⟨S1x2048, .f32⟩
  | 1 => ⟨S_, .f32⟩
  | 2 => ⟨S2048, .f32⟩
  | 3 => ⟨S8192x512, .f32⟩
  | 4 => ⟨S8192x512, .f32⟩
  | 5 => ⟨S8192x512, .f32⟩
  | 6 => ⟨S8192x512, .f32⟩
  | 7 => ⟨S_, .f32⟩
  | 8 => ⟨S512, .f32⟩
  | 9 => ⟨S1x512, .f32⟩
  | 10 => ⟨S8192x512, .f32⟩
  | 11 => ⟨S8192x512, .f32⟩
  | 12 => ⟨S_, .f32⟩
  | 13 => ⟨S512, .f32⟩
  | 14 => ⟨S1x512, .f32⟩
  | 15 => ⟨S_, .f32⟩
  | 16 => ⟨S3x512, .f32⟩
  | 17 => ⟨S_, .f32⟩
  | 18 => ⟨S8194x512, .f32⟩
  | 19 => ⟨S8192x512, .f32⟩
  | 20 => ⟨S_, .f32⟩
  | 21 => ⟨S512, .f32⟩
  | 22 => ⟨S1x512, .f32⟩
  | 23 => ⟨S8192x512, .f32⟩
  | 24 => ⟨S8192x512, .f32⟩
  | 25 => ⟨S_, .f32⟩
  | 26 => ⟨S512, .f32⟩
  | 27 => ⟨S1x512, .f32⟩
  | 28 => ⟨S_, .f32⟩
  | 29 => ⟨S3x512, .f32⟩
  | 30 => ⟨S3x512, .f32⟩
  | 31 => ⟨S_, .f32⟩
  | 32 => ⟨S8194x512, .f32⟩
  | 33 => ⟨S8194x512, .f32⟩
  | 34 => ⟨S8192x512, .f32⟩
  | 35 => ⟨S_, .f32⟩
  | 36 => ⟨S512, .f32⟩
  | 37 => ⟨S1x512, .f32⟩
  | 38 => ⟨S8192x512, .f32⟩
  | 39 => ⟨S8192x512, .f32⟩
  | 40 => ⟨S_, .f32⟩
  | 41 => ⟨S512, .f32⟩
  | 42 => ⟨S1x512, .f32⟩
  | 43 => ⟨S_, .f32⟩
  | 44 => ⟨S3x512, .f32⟩
  | 45 => ⟨S3x512, .f32⟩
  | 46 => ⟨S_, .f32⟩
  | 47 => ⟨S8194x512, .f32⟩
  | 48 => ⟨S8194x512, .f32⟩
  | 49 => ⟨S2x512, .f32⟩
  | 50 => ⟨S8192x512, .f32⟩
  | 51 => ⟨S8192x512, .f32⟩
  | 52 => ⟨S8192x512, .f32⟩
  | 53 => ⟨S8192x512, .f32⟩
  | 54 => ⟨S8192x1536, .f32⟩
  | 55 => ⟨S8192x3584, .f32⟩
  | 56 => ⟨S8192x1024, .bf16⟩
  | 57 => ⟨S8192x1024, .bf16⟩
  | 58 => ⟨S8192x1024, .bf16⟩
  | 59 => ⟨S8192x512, .bf16⟩
  | 60 => ⟨S8192x3584, .bf16⟩
  | 61 => ⟨S1x1024, .f32⟩
  | 62 => ⟨S1x2048, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_2 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_cst_4 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_5 : Ref sig .tc := ⟨.hbm, 75, rfl⟩
abbrev main_v59 : Ref sig .tc := ⟨.hbm, 76, rfl⟩
abbrev main_v60 : Ref sig .tc := ⟨.hbm, 77, rfl⟩
abbrev main_cst_6 : Ref sig .tc := ⟨.hbm, 78, rfl⟩
abbrev main_v61 : Ref sig .tc := ⟨.hbm, 79, rfl⟩
abbrev main_v62 : Ref sig .tc := ⟨.hbm, 80, rfl⟩
abbrev main_cst_7 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_8 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_9 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_10 : Ref sig .tc := ⟨.hbm, 100, rfl⟩
abbrev main_v79 : Ref sig .tc := ⟨.hbm, 101, rfl⟩
abbrev main_v80 : Ref sig .tc := ⟨.hbm, 102, rfl⟩
abbrev main_cst_11 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_12 : Ref sig .tc := ⟨.hbm, 109, rfl⟩
abbrev main_v86 : Ref sig .tc := ⟨.hbm, 110, rfl⟩
abbrev main_v87 : Ref sig .tc := ⟨.hbm, 111, rfl⟩
abbrev main_cst_13 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_14 : Ref sig .tc := ⟨.hbm, 126, rfl⟩
abbrev main_v101 : Ref sig .tc := ⟨.hbm, 127, rfl⟩
abbrev main_v102 : Ref sig .tc := ⟨.hbm, 128, rfl⟩
abbrev main_cst_15 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_16 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_17 : Ref sig .tc := ⟨.hbm, 140, rfl⟩
abbrev main_v112 : Ref sig .tc := ⟨.hbm, 141, rfl⟩
abbrev main_v113 : Ref sig .tc := ⟨.hbm, 142, rfl⟩
abbrev main_cst_18 : Ref sig .tc := ⟨.hbm, 143, rfl⟩
abbrev main_v114 : Ref sig .tc := ⟨.hbm, 144, rfl⟩
abbrev main_cst_19 : Ref sig .tc := ⟨.hbm, 145, rfl⟩
abbrev main_v115 : Ref sig .tc := ⟨.hbm, 146, rfl⟩
abbrev main_v116 : Ref sig .tc := ⟨.hbm, 147, rfl⟩
abbrev main_cst_20 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_21 : Ref sig .tc := ⟨.hbm, 153, rfl⟩
abbrev main_v121 : Ref sig .tc := ⟨.hbm, 154, rfl⟩
abbrev main_v122 : Ref sig .tc := ⟨.hbm, 155, rfl⟩
abbrev main_cst_22 : Ref sig .tc := ⟨.hbm, 156, rfl⟩
abbrev main_v123 : Ref sig .tc := ⟨.hbm, 157, rfl⟩
abbrev main_v124 : Ref sig .tc := ⟨.hbm, 158, rfl⟩
abbrev main_cst_23 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_24 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_25 : Ref sig .tc := ⟨.hbm, 168, rfl⟩
abbrev main_v132 : Ref sig .tc := ⟨.hbm, 169, rfl⟩
abbrev main_v133 : Ref sig .tc := ⟨.hbm, 170, rfl⟩
abbrev main_cst_26 : Ref sig .tc := ⟨.hbm, 171, rfl⟩
abbrev main_v134 : Ref sig .tc := ⟨.hbm, 172, rfl⟩
abbrev main_v135 : Ref sig .tc := ⟨.hbm, 173, rfl⟩
abbrev main_cst_27 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩

abbrev nD : Nat := 1
abbrev τ : Topo := Topo.v7x

variable {F : FTy → Type} [FloatOps F]
-- ==== Proof.InProjBlock.lean ====
module

public import proofs.«01_k».proof.Proof.Gen.InProjIdeal.Value
public import Idealize.ShloMosaic.Lib.Pipeline.ReadBack
public import Idealize.ShloMosaic.Lib.Tactic

@[expose] public section

noncomputable section

/-! What the input projection's backward call leaves in its two output windows and in its resident weight at every grid
    point: the generated chain `outsAt0`, opened to the body's own payloads with no view left. -/

namespace Cert.InProjIdeal.Block

open Cert.InProjIdeal Cert.InProjIdeal.Gen Idealize.ShloMosaic Idealize.ShloMosaic.TcCoe Idealize.SL.Sem

variable {F : FTy → Type} [FloatOps F]

/-- The literal offset of a whole rank-two window. -/
theorem hz : (![0, 0] : Fin 2 → Nat) = fun _ => 0 := funext fun a => by fin_cases a <;> rfl

/-- The gradient of the normed rows: the four cotangent pieces times the weight's column ranges, transposed. -/
def dhOf (w : Vec F S1024x5120 .bf16) (q k v : Vec F S512x512 .bf16) (r : Vec F S512x3584 .bf16) : FVec F S512x1024 .f32 :=
  k0_pay6 q (View.ld w (Rect.unit ![0, 0] S1024x512.size inb_S1024x5120_S1024x512_0_0))
    k (View.ld w (Rect.unit ![0, 512] S1024x512.size inb_S1024x5120_S1024x512_0_512))
    v (View.ld w (Rect.unit ![0, 1024] S1024x512.size inb_S1024x5120_S1024x512_0_1024))
    r (View.ld w (Rect.unit ![0, 1536] S1024x3584.size inb_S1024x5120_S1024x3584_0_1536))

/-- The block of the input gradient from a block of rows `x`, the residual cotangent `d`, the gain `g`. -/
def dxOf (w : Vec F S1024x5120 .bf16) (q k v : Vec F S512x512 .bf16) (r : Vec F S512x3584 .bf16) (x d : Vec F S512x1024 .f32)
    (g : Vec F S1x1024 .f32) : FVec F S512x1024 .f32 :=
  k0_pay4 (dhOf w q k v r) (k0_pay7 x) (k0_pay8 x) (Scalar.ofBits .f32 0x44800000#32) d g

/-- The gain's gradient after a block, from what the blocks before left. -/
def dgOf (w : Vec F S1024x5120 .bf16) (q k v : Vec F S512x512 .bf16) (r : Vec F S512x3584 .bf16) (x : Vec F S512x1024 .f32)
    (acc : Vec F S1x1024 .f32) : FVec F S1x1024 .f32 :=
  k0_pay3 (dhOf w q k v r) (k0_pay7 x) (k0_pay8 x) (Scalar.ofBits .f32 0x44800000#32) acc

variable (m : (ℓ : Loc nD τ sig) → Buf (Elt F) ℓ)

/-- The weight the first grid point copies in. -/
def wAt (c : Dev nD) : Vec F S1024x5120 .bf16 := V m c main_v2

/-- The first grid point: the weight arrives, the gain's gradient starts from zero. -/
theorem outs_first (c : Dev nD) (t : Fin cfg0.N) (h0 : t.val % 16 = 0) :
    outsAt0 m c t.val t.isLt =
      (dxOf (wAt m c) (iblk m c 2 t) (iblk m c 3 t) (iblk m c 4 t) (iblk m c 5 t) (iblk m c 0 t) (iblk m c 1 t) (iblk m c 6 t),
        dgOf (wAt m c) (iblk m c 2 t) (iblk m c 3 t) (iblk m c 4 t) (iblk m c 5 t) (iblk m c 0 t) k0_pay5,
        wAt m c) := by
  rw [outsAt0_A m c t h0 h0]
  unfold out0_A_7 out0_A_8 sout0_A_0
  rw [View.read_writes_eq_canon _ _ _ (fun y => cover0_A_7 (y := y) ..)]
  rw [View.read_writes_eq_canon _ _ _ (fun y => cover0_A_8 (y := y) ..)]
  unfold kernelRun0_A
  dsimp only
  sl_unfold_words
  rw [View.canon_unit_zero (S := S512x1024) hz, View.canon_cons_unit_zero (S := S1x1024) hz]
  simp only [View.readCov_unit_zero (S := S1x1024) _ hz, View.readAt_eq_ld, (hs0_0 t).read_unread, (hs0_1 t).read_unread,
    (hs0_2 t).read_unread, (hs0_3 t).read_unread, (hs0_4 t).read_unread, (hs0_5 t).read_unread, (hs0_6 t).read_unread,
    View.ld_unit_zero (S := S512x512) hz,
    View.ld_unit_zero (S := S512x3584) hz, View.ld_unit_zero (S := S512x1024) hz, View.ld_unit_zero (S := S1x1024) hz]
  have hw : ∀ (r : Rect S1024x5120),
      scM0_0.view.readCov (Val := Elt F) [⟨Rect.whole S1024x5120, ReadAs.same.apply (View.read (Elt F) (Memref.whole main_v2).view (V m c main_v2))⟩] r.toLoadRect
        = View.ld (wAt m c) r := fun r => View.readCov_fill (off := fun _ => 0) _ _ (wAt m c) [] r (fun _ => rfl)
  rw [hw, hw, hw, hw]
  exact congrArg₂ Prod.mk rfl (congrArg₂ Prod.mk rfl (View.read_writes_whole _ _ _))

/-- A later grid point: the weight stays, the gain's gradient adds to what the point before left. -/
theorem outs_next (c : Dev nD) (t : Fin cfg0.N) (h0 : ¬t.val % 16 = 0) (acc : Vec F S1x1024 .f32) (w : Vec F S1024x5120 .bf16)
    (dx : Vec F S512x1024 .f32)
    (hp : outsAt0 m c (t.val - 1) (by have := t.isLt; omega) = (dx, acc, w)) :
    outsAt0 m c t.val t.isLt =
      (dxOf w (iblk m c 2 t) (iblk m c 3 t) (iblk m c 4 t) (iblk m c 5 t) (iblk m c 0 t) (iblk m c 1 t) (iblk m c 6 t),
        dgOf w (iblk m c 2 t) (iblk m c 3 t) (iblk m c 4 t) (iblk m c 5 t) (iblk m c 0 t) acc, w) := by
  rw [outsAt0_B m c t h0 h0]
  simp only [hp]
  unfold out0_B_7 out0_B_8 sout0_B_0
  rw [View.read_writes_eq_canon _ _ _ (fun y => cover0_B_7 (y := y) ..)]
  rw [View.read_writes_eq_canon _ _ _ (fun y => cover0_B_8 (y := y) ..)]
  unfold kernelRun0_B
  dsimp only
  sl_unfold_words
  rw [View.canon_unit_zero (S := S512x1024) hz, View.canon_unit_zero (S := S1x1024) hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_8 t).read_unread,
    (Memref.isWhole_whole cc0_scratch0).read_unread, View.ld_unit_zero (S := S512x512) hz,
    View.ld_unit_zero (S := S512x3584) hz, View.ld_unit_zero (S := S512x1024) hz, View.ld_unit_zero (S := S1x1024) hz]
  rfl

end Cert.InProjIdeal.Block
-- ==== Proof.RowNorm.lean ====
module

public import Idealize.ShloMosaic.Lib.Pointwise

@[expose] public section

noncomputable section

/-! Root-mean-square normalisation of a row of 1024 extended reals and its gradient, as pure arithmetic: no program here. -/

namespace Cert.RowNorm

open Idealize.ShloMosaic

/-- The three literals of the norm. -/
theorem lit_1024 : Ideal.ofBits .f32 0x44800000#32 = ((1024 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

theorem lit_eps : ∃ e : ℝ, 0 < e ∧ Ideal.ofBits .f32 0x358637BD#32 = (e : EReal) := by
  refine ⟨_, ?_, by simp [Ideal.ofBits, Ideal.ieee, -EReal.coe_mul]; rfl⟩
  norm_num

/-- A real factor comes out of a product with a sum of two when it is not negative; -/
theorem coe_mul_add {r : ℝ} (h : 0 ≤ r) (a b : EReal) : (r : EReal) * (a + b) = r * a + r * b :=
  EReal.left_distrib_of_nonneg_of_ne_top (by exact_mod_cast h) (EReal.coe_ne_top r) a b

/-- and out of a whole sum. -/
theorem coe_mul_sum {ι : Type*} {r : ℝ} (h : 0 ≤ r) (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, coe_mul_add h, ih]

/-- A sum of reals is the sum in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Twice the same real multiple is the doubled multiple, of any extended real. -/
theorem coe_mul_two (p : ℝ) (S : EReal) : (p : EReal) * S + p * S = ((2 * p : ℝ) : EReal) * S := by
  induction S with
  | coe s => rw [← EReal.coe_mul, ← EReal.coe_mul, ← EReal.coe_add]; congr 1; ring
  | top =>
    rcases lt_trichotomy p 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy p 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

/-- Two arrays of rank two are equal when they agree at every row and column. -/
theorem ext2 {n0 n1 : Nat} {α : Type*} {f g : (⟨2, ![n0, n1]⟩ : Shape).Idx → α} (h : ∀ i j, f (ix2 i j) = g (ix2 i j)) : f = g :=
  funext fun i => by rw [eq_ix2 i]; exact h _ _

/-- The mean square plus epsilon, and the scale. -/
def ms (x : Fin 1024 → EReal) : EReal :=
  Ideal.div (∑ k, x k * x k) (Ideal.ofBits .f32 0x44800000#32) + Ideal.ofBits .f32 0x358637BD#32

def scale (x : Fin 1024 → EReal) : EReal := Ideal.rsqrt (ms x)

/-- A row of real numbers has a positive real mean square plus epsilon. -/
theorem ms_real (y : Fin 1024 → ℝ) : ∃ v : ℝ, 0 < v ∧ ms (fun k => (y k : EReal)) = v := by
  obtain ⟨e, he, hb⟩ := lit_eps
  refine ⟨(∑ k, y k * y k) * (1 / 1024) + e, ?_, ?_⟩
  · have : 0 ≤ ∑ k, y k * y k := Finset.sum_nonneg fun k _ => mul_self_nonneg _
    positivity
  · unfold ms
    rw [lit_1024, hb, Ideal.div_coe (by norm_num)]
    have : ((∑ k, y k * y k : ℝ) : EReal) = ∑ k, (y k : EReal) * (y k : EReal) := by
      rw [coe_sum]
      exact Finset.sum_congr rfl fun k _ => EReal.coe_mul _ _
    rw [← this, EReal.coe_add, EReal.coe_mul]

/-- Its scale is one over the square root. -/
theorem scale_real {x : Fin 1024 → EReal} {v : ℝ} (hv : 0 < v) (h : ms x = v) : scale x = (((Real.sqrt v)⁻¹ : ℝ) : EReal) := by
  unfold scale
  rw [h, Ideal.rsqrt_coe, if_neg (not_lt.mpr hv.le), if_neg hv.ne']

/-- The gradient of the norm's input as a kernel writes it: `u` the cotangent times the gain. -/
def grad (x u : Fin 1024 → EReal) (j : Fin 1024) : EReal :=
  scale x * (u j - x j * scale x * Ideal.div (∑ k, u k * (x k * scale x)) (Ideal.ofBits .f32 0x44800000#32))

/-- The shared factor of the two equal terms that reverse-mode differentiation of the mean square leaves. -/
def half (x u : Fin 1024 → EReal) : EReal :=
  Ideal.div ((∑ k, x k * u k) * (Ideal.ofBits .f32 0xBF000000#32 * Ideal.div (scale x) (ms x))) (Ideal.ofBits .f32 0x44800000#32)

/-- A square is not negative. -/
theorem mul_self_nonneg' (x : EReal) : 0 ≤ x * x := by
  induction x with
  | bot => simp
  | coe y => rw [← EReal.coe_mul]; exact_mod_cast mul_self_nonneg y
  | top => simp

/-- A row with an infinite entry has the infinite mean square. -/
theorem ms_top {x : Fin 1024 → EReal} {k : Fin 1024} (hk : x k * x k = ⊤) : ms x = ⊤ := by
  have hs : ∑ k, x k * x k = ⊤ :=
    top_unique (hk ▸ Finset.single_le_sum (f := fun k => x k * x k) (fun k _ => mul_self_nonneg' (x k)) (Finset.mem_univ k))
  obtain ⟨e, _, hb⟩ := lit_eps
  unfold ms
  rw [hs, lit_1024, hb, Ideal.div_coe (by norm_num), EReal.top_mul_coe_of_pos (by norm_num), EReal.top_add_coe]

/-- There the scale is zero, and the three terms and the closed form vanish alike. -/
theorem grad_eq_top (x u : Fin 1024 → EReal) (d : EReal) (j : Fin 1024) (h : ms x = ⊤) :
    d + grad x u j = d + u j * scale x + x j * half x u + half x u * x j := by
  have hs : scale x = 0 := by unfold scale; rw [h]; rfl
  have hd : Ideal.div 0 ⊤ = 0 := by simp [Ideal.div]
  have hh : half x u = 0 := by
    unfold half
    rw [hs, h, hd, mul_zero, mul_zero, lit_1024, Ideal.div_coe (by norm_num), zero_mul]
  unfold grad
  simp only [hh, hs, zero_mul, mul_zero, add_zero]

/-- The norm's gradient of a row of real numbers. -/
theorem grad_eq_real (x u : Fin 1024 → EReal) (d : EReal) (j : Fin 1024) (hx : ∀ k, ∃ y : ℝ, x k = y) :
    d + grad x u j = d + u j * scale x + x j * half x u + half x u * x j := by
  choose y hy using hx
  obtain rfl : x = fun k => (y k : EReal) := funext hy
  obtain ⟨v, hv, hms⟩ := ms_real y
  have hs := scale_real hv hms
  unfold grad half
  rw [hs, hms, lit_1024, lit_neg_half, Ideal.div_coe (by norm_num), Ideal.div_coe hv.ne', Ideal.div_coe (by norm_num)]
  have hR : 0 < (Real.sqrt v)⁻¹ := inv_pos.mpr (Real.sqrt_pos.mpr hv)
  have hRR : (Real.sqrt v)⁻¹ * (Real.sqrt v)⁻¹ = 1 / v := by
    rw [← mul_inv, Real.mul_self_sqrt hv.le, one_div]
  generalize (Real.sqrt v)⁻¹ = R at hR hRR
  set S := ∑ k, (y k : EReal) * u k with hS
  have h1 : ∑ k, u k * ((y k : EReal) * R) = R * S := by
    rw [hS, coe_mul_sum hR.le]
    exact Finset.sum_congr rfl fun k _ => by ac_rfl
  rw [h1]
  have hh : S * (((-(1 / 2) : ℝ) : EReal) * ((R : EReal) * ((1 / v : ℝ) : EReal))) * ((1 / 1024 : ℝ) : EReal)
      = ((-(1 / 2) * (R * (1 / v)) * (1 / 1024) : ℝ) : EReal) * S := by
    simp only [EReal.coe_mul]; ac_rfl
  rw [hh, add_assoc, add_assoc, mul_comm (_ * S) (y j : EReal)]
  have hT : (y j : EReal) * (((-(1 / 2) * (R * (1 / v)) * (1 / 1024) : ℝ) : EReal) * S)
      = ((y j * (-(1 / 2) * (R * (1 / v)) * (1 / 1024)) : ℝ) : EReal) * S := by
    rw [EReal.coe_mul (y j)]; ac_rfl
  rw [hT, coe_mul_two, sub_eq_add_neg, coe_mul_add hR.le, mul_comm (u j)]
  congr 2
  have hk : (R : EReal) * -((y j : EReal) * R * (R * S * ((1 / 1024 : ℝ) : EReal)))
      = ((-(R * (y j * R * R * (1 / 1024))) : ℝ) : EReal) * S := by
    rw [← mul_neg_one, EReal.coe_neg, EReal.coe_mul, EReal.coe_mul, EReal.coe_mul, EReal.coe_mul]
    rw [← mul_neg_one ((R : EReal) * _)]
    ac_rfl
  rw [hk]
  congr 2
  rw [← hRR]; ring

/-- **The norm's gradient.** The kernel's closed form is the three terms of reverse-mode differentiation, added to anything. -/
theorem grad_eq (x u : Fin 1024 → EReal) (d : EReal) (j : Fin 1024) :
    d + grad x u j = d + u j * scale x + x j * half x u + half x u * x j := by
  by_cases hx : ∀ k, ∃ y : ℝ, x k = y
  · exact grad_eq_real x u d j hx
  · obtain ⟨k, hk⟩ := not_forall.mp hx
    refine grad_eq_top x u d j (ms_top (k := k) ?_)
    revert hk
    generalize x k = y
    induction y with
    | bot => simp
    | coe y => exact fun hk => absurd ⟨y, rfl⟩ hk
    | top => simp

/-- An inner product over 5120 columns taken in the four ranges 512, 512, 512, 3584. -/
def pieces (q k v : Fin 512 → EReal) (r : Fin 3584 → EReal) (w : Fin 5120 → EReal) : EReal :=
  ∑ a, q a * w ⟨a.val, by omega⟩ + ∑ a, k a * w ⟨512 + a.val, by omega⟩ + ∑ a, v a * w ⟨1024 + a.val, by omega⟩
    + ∑ a, r a * w ⟨1536 + a.val, by omega⟩

/-- The same with the four laid side by side: one sum over all columns. -/
theorem pieces_eq (q k v : Fin 512 → EReal) (r : Fin 3584 → EReal) (w : Fin 5120 → EReal) :
    (∑ a : Fin 5120, (if h : a.val < 512 then q ⟨a.val, h⟩ else if h : a.val - 512 < 512 then k ⟨a.val - 512, h⟩ else
      if h : a.val - 512 - 512 < 512 then v ⟨a.val - 512 - 512, h⟩ else r ⟨a.val - 512 - 512 - 512, by omega⟩) * w a) = pieces q k v r w := by
  have split : ∀ f : Fin 5120 → EReal, ∑ a, f a = ∑ a : Fin 512, f ⟨a.val, by omega⟩ + ∑ a : Fin 512, f ⟨512 + a.val, by omega⟩
      + ∑ a : Fin 512, f ⟨1024 + a.val, by omega⟩ + ∑ a : Fin 3584, f ⟨1536 + a.val, by omega⟩ := fun f => by
    refine (Fin.sum_univ_add (a := 512 + 512 + 512) (b := 3584) f).trans (congrArg₂ _ ?_ rfl)
    refine (Fin.sum_univ_add (a := 512 + 512) (b := 512) _).trans (congrArg₂ _ ?_ rfl)
    exact Fin.sum_univ_add (a := 512) (b := 512) _
  rw [split]
  unfold pieces
  refine congrArg₂ _ (congrArg₂ _ (congrArg₂ _ ?_ ?_) ?_) ?_ <;> refine Finset.sum_congr rfl fun a _ => congrArg (· * _) ?_ <;> have ha := a.isLt <;>
    dsimp only
  · rw [dif_pos ha]
  · rw [dif_neg (by omega), dif_pos (by omega)]; exact congrArg k (Fin.ext (by dsimp only; omega))
  · rw [dif_neg (by omega), dif_neg (by omega), dif_pos (by omega)]; exact congrArg v (Fin.ext (by dsimp only; omega))
  · rw [dif_neg (by omega), dif_neg (by omega), dif_neg (by omega)]; exact congrArg r (Fin.ext (by dsimp only; omega))

end Cert.RowNorm
-- ==== Proof.InProjRead.lean ====
module

public import proofs.«01_k».proof.Proof.InProjBlock
public import proofs.«01_k».proof.Proof.RowNorm
public import Idealize.ShloMosaic.Lib.Pointwise

@[expose] public section

noncomputable section

/-! The input projection backward's block computes, read at one row and one column. -/

namespace Cert.InProjIdeal.Block

open Cert.InProjIdeal Cert.InProjIdeal.Gen Idealize.ShloMosaic Idealize.ShloMosaic.TcCoe Idealize.SL.Sem

/-- The gradient of the normed rows: four inner products with column ranges of the weight's row. -/
theorem dh_apply (w : Vec Ideal S1024x5120 .bf16) (q k v : Vec Ideal S512x512 .bf16) (r : Vec Ideal S512x3584 .bf16) (i : Fin 512) (j : Fin 1024) :
    dhOf w q k v r (ix2 i j) = RowNorm.pieces (fun a => q (ix2 i a)) (fun a => k (ix2 i a)) (fun a => v (ix2 i a)) (fun a => r (ix2 i a))
      (fun a => w (ix2 j a)) := by
  pointwise [dhOf, k0_pay6]
  rfl

/-- The input gradient's block. -/
theorem dx_apply (w : Vec Ideal S1024x5120 .bf16) (q k v : Vec Ideal S512x512 .bf16) (r : Vec Ideal S512x3584 .bf16) (x d : Vec Ideal S512x1024 .f32)
    (g : Vec Ideal S1x1024 .f32) (i : Fin 512) (j : Fin 1024) :
    dxOf w q k v r x d g (ix2 i j) =
      d (ix2 i j) + RowNorm.grad (fun k => x (ix2 i k)) (fun l => dhOf w q k v r (ix2 i l) * g (ix2 0 l)) j := by
  unfold dxOf
  generalize dhOf w q k v r = dh
  pointwise [k0_pay4, k0_pay7, k0_pay8, k0_pay1, k0_pay2]
  rfl

/-- The gain's gradient after a block: what was there and the block's rows. -/
theorem dg_apply (w : Vec Ideal S1024x5120 .bf16) (q k v : Vec Ideal S512x512 .bf16) (r : Vec Ideal S512x3584 .bf16) (x : Vec Ideal S512x1024 .f32)
    (acc : Vec Ideal S1x1024 .f32) (j : Fin 1024) :
    dgOf w q k v r x acc (ix2 0 j) =
      acc (ix2 0 j) + ∑ i : Fin 512, dhOf w q k v r (ix2 i j) * (x (ix2 i j) * RowNorm.scale fun k => x (ix2 i k)) := by
  unfold dgOf
  generalize dhOf w q k v r = dh
  pointwise [k0_pay3, k0_pay7, k0_pay8, k0_pay1, k0_pay2]
  rfl

/-- The gain's gradient starts from zero. -/
theorem zero_apply (j : Fin 1024) : k0_pay5 (F := Ideal) (ix2 0 j) = 0 := by
  pointwise [k0_pay5]

end Cert.InProjIdeal.Block
-- ==== Proof.InProjArray.lean ====
module

public import proofs.«01_k».proof.Proof.InProjRead
public import proofs.«01_k».proof.Proof.RowNorm

@[expose] public section

noncomputable section

/-! What the two output arrays of the input projection's backward call hold, by rows and columns of its arguments. -/

namespace Cert.InProjIdeal.Block

open Cert.InProjIdeal Cert.InProjIdeal.Gen Idealize.ShloMosaic Idealize.ShloMosaic.TcCoe Idealize.SL.Sem

variable (m : (ℓ : Loc nD τ sig) → Buf (Elt Ideal) ℓ) (c : Dev nD)

theorem v0_apply (i : Fin 8192) (j : Fin 1024) :
    (V m c main_v0 : Vec Ideal S8192x1024 .f32) (ix2 i j) = m ((c : Thread nD τ).loc main_arg0) (ix3 0 i j) := by
  have : (V m c main_v0 : Vec Ideal S8192x1024 .f32) = shapeCast S8192x1024 (m ((c : Thread nD τ).loc main_arg0)) shapeCasts_S1x8192x1024_S8192x1024 := by
    show StableHlo.after hostOps0 (fun b => m (c, b)) main_v0 = _
    after_results_simp
    rfl
  rw [this]
  have key (y : Vec Ideal S1x8192x1024 .f32) : shapeCast S8192x1024 y shapeCasts_S1x8192x1024_S8192x1024 (ix2 i j) = y (ix3 0 i j) := by
    pointwise []
  exact key _

theorem w_apply (i : Fin 1024) (j : Fin 5120) :
    (wAt m c) (ix2 i j) = m ((c : Thread nD τ).loc main_arg7) (ix3 0 i j) := by
  have : wAt m c = truncf (F := Ideal) (s := S1024x5120) (φ := .f32) .bf16 (shapeCast S1024x5120 (m ((c : Thread nD τ).loc main_arg7)) shapeCasts_S1x1024x5120_S1024x5120) bitsLt_bf16_f32 := by
    show StableHlo.after hostOps0 (fun b => m (c, b)) main_v2 = _
    after_results_simp
    rfl
  rw [this]
  have key (y : Vec Ideal S1x1024x5120 .f32) :
      truncf (F := Ideal) (φ := .f32) .bf16 (shapeCast S1024x5120 y shapeCasts_S1x1024x5120_S1024x5120) bitsLt_bf16_f32 (ix2 i j) = y (ix3 0 i j) := by
    pointwise []
  exact key _

theorem index_rows : ∀ t : Fin grid0.N, (win0_0.index t 0 = t.val ∧ win0_0.index t 1 = 0) ∧ (win0_1.index t 0 = t.val ∧ win0_1.index t 1 = 0)
   ∧ (win0_2.index t 0 = t.val ∧ win0_2.index t 1 = 0) ∧ (win0_3.index t 0 = t.val ∧ win0_3.index t 1 = 0) ∧ (win0_4.index t 0 = t.val ∧ win0_4.index t 1 = 0)
   ∧ (win0_5.index t 0 = t.val ∧ win0_5.index t 1 = 0) ∧ (win0_6.index t 0 = 0 ∧ win0_6.index t 1 = 0) ∧ (win0_7.index t 0 = t.val ∧ win0_7.index t 1 = 0)
   ∧ (win0_8.index t 0 = 0 ∧ win0_8.index t 1 = 0) := by decide +kernel

/-- Row `i` of block `t`. -/
def rowOf (t : Fin cfg0.N) (i : Fin 512) : Fin 8192 := ⟨t.val * 512 + i.val, by have := t.isLt; have : cfg0.N = 16 := rfl; omega⟩

theorem iblk0_apply (t : Fin cfg0.N) (i : Fin 512) (j : Fin 1024) :
    (iblk m c 0 t : Vec Ideal S512x1024 .f32) (ix2 i j) = m ((c : Thread nD τ).loc main_arg0) (ix3 0 (rowOf t i) j) := by
  rw [← v0_apply m c]
  unfold iblk
  rw [View.read_apply]
  show V m c main_v0 _ = V m c main_v0 _
  congr 1
  funext a
  apply Fin.ext
  match a with
  | ⟨0, _⟩ => show win0_0.index t 0 * 512 + 1 * i.val = t.val * 512 + i.val; rw [(index_rows t).1.1]; omega
  | ⟨1, _⟩ => show win0_0.index t 1 * 1024 + 1 * j.val = j.val; rw [(index_rows t).1.2]; omega

theorem iblk1_apply (t : Fin cfg0.N) (i : Fin 512) (j : Fin 1024) :
    (iblk m c 1 t : Vec Ideal S512x1024 .f32) (ix2 i j) = m ((c : Thread nD τ).loc main_arg1) (ix2 (rowOf t i) j) := by
  unfold iblk
  rw [View.read_apply]
  show V m c main_arg1 _ = m ((c : Thread nD τ).loc main_arg1) _
  rw [V_main_arg1 m c]
  congr 1
  funext a
  apply Fin.ext
  match a with
  | ⟨0, _⟩ => show win0_1.index t 0 * 512 + 1 * i.val = t.val * 512 + i.val; rw [(index_rows t).2.1.1]; omega
  | ⟨1, _⟩ => show win0_1.index t 1 * 1024 + 1 * j.val = j.val; rw [(index_rows t).2.1.2]; omega

theorem iblk2_apply (t : Fin cfg0.N) (i : Fin 512) (j : Fin 512) :
    (iblk m c 2 t : Vec Ideal S512x512 .bf16) (ix2 i j) = m ((c : Thread nD τ).loc main_arg2) (ix2 (rowOf t i) j) := by
  unfold iblk
  rw [View.read_apply]
  show V m c main_arg2 _ = m ((c : Thread nD τ).loc main_arg2) _
  rw [V_main_arg2 m c]
  congr 1
  funext a
  apply Fin.ext
  match a with
  | ⟨0, _⟩ => show win0_2.index t 0 * 512 + 1 * i.val = t.val * 512 + i.val; rw [(index_rows t).2.2.1.1]; omega
  | ⟨1, _⟩ => show win0_2.index t 1 * 512 + 1 * j.val = j.val; rw [(index_rows t).2.2.1.2]; omega

theorem iblk3_apply (t : Fin cfg0.N) (i : Fin 512) (j : Fin 512) :
    (iblk m c 3 t : Vec Ideal S512x512 .bf16) (ix2 i j) = m ((c : Thread nD τ).loc main_arg3) (ix2 (rowOf t i) j) := by
  unfold iblk
  rw [View.read_apply]
  show V m c main_arg3 _ = m ((c : Thread nD τ).loc main_arg3) _
  rw [V_main_arg3 m c]
  congr 1
  funext a
  apply Fin.ext
  match a with
  | ⟨0, _⟩ => show win0_3.index t 0 * 512 + 1 * i.val = t.val * 512 + i.val; rw [(index_rows t).2.2.2.1.1]; omega
  | ⟨1, _⟩ => show win0_3.index t 1 * 512 + 1 * j.val = j.val; rw [(index_rows t).2.2.2.1.2]; omega

theorem iblk4_apply (t : Fin cfg0.N) (i : Fin 512) (j : Fin 512) :
    (iblk m c 4 t : Vec Ideal S512x512 .bf16) (ix2 i j) = m ((c : Thread nD τ).loc main_arg4) (ix2 (rowOf t i) j) := by
  unfold iblk
  rw [View.read_apply]
  show V m c main_arg4 _ = m ((c : Thread nD τ).loc main_arg4) _
  rw [V_main_arg4 m c]
  congr 1
  funext a
  apply Fin.ext
  match a with
  | ⟨0, _⟩ => show win0_4.index t 0 * 512 + 1 * i.val = t.val * 512 + i.val; rw [(index_rows t).2.2.2.2.1.1]; omega
  | ⟨1, _⟩ => show win0_4.index t 1 * 512 + 1 * j.val = j.val; rw [(index_rows t).2.2.2.2.1.2]; omega

theorem iblk5_apply (t : Fin cfg0.N) (i : Fin 512) (j : Fin 3584) :
    (iblk m c 5 t : Vec Ideal S512x3584 .bf16) (ix2 i j) = m ((c : Thread nD τ).loc main_arg5) (ix2 (rowOf t i) j) := by
  unfold iblk
  rw [View.read_apply]
  show V m c main_arg5 _ = m ((c : Thread nD τ).loc main_arg5) _
  rw [V_main_arg5 m c]
  congr 1
  funext a
  apply Fin.ext
  match a with
  | ⟨0, _⟩ => show win0_5.index t 0 * 512 + 1 * i.val = t.val * 512 + i.val; rw [(index_rows t).2.2.2.2.2.1.1]; omega
  | ⟨1, _⟩ => show win0_5.index t 1 * 3584 + 1 * j.val = j.val; rw [(index_rows t).2.2.2.2.2.1.2]; omega

theorem iblk6_apply (t : Fin cfg0.N) (j : Fin 1024) :
    (iblk m c 6 t : Vec Ideal S1x1024 .f32) (ix2 0 j) = m ((c : Thread nD τ).loc main_arg6) (ix2 0 j) := by
  unfold iblk
  rw [View.read_apply]
  show V m c main_arg6 _ = m ((c : Thread nD τ).loc main_arg6) _
  rw [V_main_arg6 m c]
  congr 1
  funext a
  apply Fin.ext
  match a with
  | ⟨0, _⟩ => show win0_6.index t 0 * 1 + 1 * 0 = 0; rw [(index_rows t).2.2.2.2.2.2.1.1]
  | ⟨1, _⟩ => show win0_6.index t 1 * 1024 + 1 * j.val = j.val; rw [(index_rows t).2.2.2.2.2.2.1.2]; omega

end Cert.InProjIdeal.Block
-- ==== Proof.InProjFinal.lean ====
module

public import proofs.«01_k».proof.Proof.InProjArray
public import Idealize.ShloMosaic.Lib.Pipeline.ValueKit.Acc

@[expose] public section

noncomputable section

/-! The two output arrays of the input projection's backward call at the end of its sweep, by rows and columns of its arguments. -/

namespace Cert.InProjIdeal.Block

open Cert.InProjIdeal Cert.InProjIdeal.Gen Idealize.ShloMosaic Idealize.ShloMosaic.TcCoe Idealize.SL.Sem

variable (m : (ℓ : Loc nD τ sig) → Buf (Elt Ideal) ℓ) (c : Dev nD)

/-- A row of the call's input. -/
def xRow (i : Fin 8192) (k : Fin 1024) : EReal := m ((c : Thread nD τ).loc main_arg0) (ix3 0 i k)

/-- A row of the residual cotangent, and the gain. -/
def dRow (i : Fin 8192) (k : Fin 1024) : EReal := m ((c : Thread nD τ).loc main_arg1) (ix2 i k)
def gRow (k : Fin 1024) : EReal := m ((c : Thread nD τ).loc main_arg6) (ix2 0 k)

/-- The gradient of the normed rows. -/
def dhRow (i : Fin 8192) (j : Fin 1024) : EReal :=
  RowNorm.pieces (fun a => m ((c : Thread nD τ).loc main_arg2) (ix2 i a)) (fun a => m ((c : Thread nD τ).loc main_arg3) (ix2 i a))
    (fun a => m ((c : Thread nD τ).loc main_arg4) (ix2 i a)) (fun a => m ((c : Thread nD τ).loc main_arg5) (ix2 i a))
    (fun a => m ((c : Thread nD τ).loc main_arg7) (ix3 0 j a))

/-- A row's part of the gain's gradient. -/
def dgRow (i : Fin 8192) (j : Fin 1024) : EReal := dhRow m c i j * (xRow m c i j * RowNorm.scale (xRow m c i))

theorem dh_block (t : Fin cfg0.N) (i : Fin 512) (j : Fin 1024) :
    dhOf (wAt m c) (iblk m c 2 t) (iblk m c 3 t) (iblk m c 4 t) (iblk m c 5 t) (ix2 i j) = dhRow m c (rowOf t i) j := by
  rw [dh_apply]
  unfold dhRow
  simp only [iblk2_apply, iblk3_apply, iblk4_apply, iblk5_apply, w_apply]

theorem x_block (t : Fin cfg0.N) (i : Fin 512) : (fun k => (iblk m c 0 t : Vec Ideal S512x1024 .f32) (ix2 i k)) = xRow m c (rowOf t i) :=
  funext fun k => iblk0_apply m c t i k

/-- The input gradient's block at every grid point; the weight stays; the gain's gradient is the sum over the blocks so far. -/
theorem outs (n : ℕ) (h : n < cfg0.N) : ∃ acc : Vec Ideal S1x1024 .f32,
    outsAt0 m c n h = (dxOf (wAt m c) (iblk m c 2 ⟨n, h⟩) (iblk m c 3 ⟨n, h⟩) (iblk m c 4 ⟨n, h⟩) (iblk m c 5 ⟨n, h⟩) (iblk m c 0 ⟨n, h⟩)
      (iblk m c 1 ⟨n, h⟩) (iblk m c 6 ⟨n, h⟩), acc, wAt m c) ∧
    ∀ j : Fin 1024, acc (ix2 0 j) = ∑ s : Fin (n + 1), ∑ i : Fin 512, dgRow m c (rowOf ⟨s.val, by omega⟩ i) j := by
  have step (t : Fin cfg0.N) (acc : Vec Ideal S1x1024 .f32) (j : Fin 1024) :
      dgOf (wAt m c) (iblk m c 2 t) (iblk m c 3 t) (iblk m c 4 t) (iblk m c 5 t) (iblk m c 0 t) acc (ix2 0 j)
        = acc (ix2 0 j) + ∑ i : Fin 512, dgRow m c (rowOf t i) j := by
    rw [dg_apply]
    unfold dgRow
    simp only [dh_block, x_block, iblk0_apply]
    rfl
  induction n with
  | zero =>
    refine ⟨_, outs_first m c ⟨0, h⟩ rfl, fun j => ?_⟩
    rw [step, zero_apply, zero_add, Fin.sum_univ_one]
    rfl
  | succ n ih =>
    obtain ⟨acc, he, hacc⟩ := ih (by omega)
    have hN : cfg0.N = 16 := rfl
    refine ⟨_, outs_next m c ⟨n + 1, h⟩ (by dsimp only; omega) acc _ _ he, fun j => ?_⟩
    rw [step, hacc, Fin.sum_univ_castSucc (n := n + 1)]
    rfl

/-- The input gradient. -/
theorem dx_final (i : Fin 8192) (j : Fin 1024) :
    ((dats m 0 c).arrAt 7 cfg0.N : Vec Ideal S8192x1024 .f32) (ix2 i j) =
      dRow m c i j + RowNorm.grad (xRow m c i) (fun l => dhRow m c i l * gRow m c l) j := by
  obtain ⟨t, a, rfl⟩ : ∃ (t : Fin cfg0.N) (a : Fin 512), i = rowOf t a :=
    ⟨⟨i.val / 512, by have := i.isLt; show i.val / 512 < 16; omega⟩, ⟨i.val % 512, by omega⟩, Fin.ext (by show i.val = i.val / 512 * 512 + i.val % 512; omega)⟩
  have e := (dats m 0 c).arrAt_emb_eq_flushed 7 Value.disjoint7 t (flush0_7 t) (ix2 a j)
  rw [Value.flushed7] at e
  have hi : ((cfg0.win 7).blk t).view.emb (ix2 a j) = (ix2 (rowOf t a) j : S8192x1024.Idx) := by
    funext k
    apply Fin.ext
    match k with
    | ⟨0, _⟩ => show win0_7.index t 0 * 512 + 1 * a.val = t.val * 512 + a.val; rw [(index_rows t).2.2.2.2.2.2.2.1.1]; omega
    | ⟨1, _⟩ => show win0_7.index t 1 * 1024 + 1 * j.val = j.val; rw [(index_rows t).2.2.2.2.2.2.2.1.2]; omega
  rw [hi] at e
  obtain ⟨acc, ho, -⟩ := outs m c t.val t.isLt
  rw [ho] at e
  refine e.trans ?_
  show dxOf _ _ _ _ _ _ _ _ (ix2 a j) = _
  rw [dx_apply, iblk1_apply, x_block]
  simp only [dh_block, iblk6_apply]
  rfl

/-- The gain's gradient. -/
theorem dg_final (j : Fin 1024) :
    ((dats m 0 c).arrAt 8 cfg0.N : Vec Ideal S1x1024 .f32) (ix2 0 j) = ∑ i : Fin 8192, dgRow m c i j := by
  have hN : cfg0.N = 16 := rfl
  have last : ∀ t : Fin cfg0.N, (cfg0.win 8).flush t = true → t = ⟨15, by decide⟩ := fun t h =>
    Fin.ext (by have := (flush0_8 t).mp h; have := t.isLt; show t.val = 15; omega)
  obtain ⟨t, ht⟩ : ∃ t : Fin cfg0.N, t.val = 15 := ⟨⟨15, by decide⟩, rfl⟩
  have e := (dats m 0 c).arrAt_emb_eq_flushed 8 (fun t t' h h' hne => absurd ((last t h).trans (last t' h').symm) hne)
    t ((flush0_8 _).mpr (by rw [ht])) (ix2 0 j)
  rw [Value.flushed8] at e
  have hi : ((cfg0.win 8).blk t).view.emb (ix2 0 j) = (ix2 0 j : S1x1024.Idx) := by
    funext k
    apply Fin.ext
    match k with
    | ⟨0, _⟩ => show win0_8.index t 0 * 1 + 1 * 0 = 0; rw [(index_rows t).2.2.2.2.2.2.2.2.1]
    | ⟨1, _⟩ => show win0_8.index t 1 * 1024 + 1 * j.val = j.val; rw [(index_rows t).2.2.2.2.2.2.2.2.2]; omega
  rw [hi] at e
  obtain ⟨acc, ho, hacc⟩ := outs m c t.val t.isLt
  rw [ho] at e
  refine e.trans ?_
  show acc (ix2 0 j) = _
  rw [hacc]
  obtain rfl : t = ⟨15, by decide⟩ := Fin.ext ht
  exact Fin.sum_mul_add_fin 16 512 (fun i : Fin 8192 => dgRow m c i j)

end Cert.InProjIdeal.Block
-- ==== Proof.InProjRef.lean ====
module

public import proofs.«01_k».proof.Proof.Gen.InProjRefIdeal.Read
public import proofs.«01_k».proof.Proof.RowNorm
public import Idealize.ShloMosaic.Lib.Pointwise

@[expose] public section

noncomputable section

/-! The reference of the input projection's backward call (reverse-mode differentiation of the forward lines), read at a row and a column. -/

namespace Cert.InProjRefIdeal.Block

open Cert.InProjRefIdeal Cert.InProjRefIdeal.Gen Idealize.ShloMosaic Idealize.ShloMosaic.TcCoe Idealize.SL.Sem
open Cert.InProjRefIdeal.Read

variable (x0 : Vec Ideal S1x8192x1024 .f32) (x1 : Vec Ideal S8192x1024 .f32) (x2 x3 x4 : Vec Ideal S8192x512 .bf16) (x5 : Vec Ideal S8192x3584 .bf16)
  (x6 : Vec Ideal S1x1024 .f32) (x7 : Vec Ideal S1x1024x5120 .f32)

/-- The gradient of the normed rows: the four cotangent pieces side by side against the weight's row. -/
theorem dh_apply (i : Fin 8192) (j : Fin 1024) : val_main_v29 (F := Ideal) x2 x3 x4 x5 x7 (ix2 i j) =
    RowNorm.pieces (fun a => x2 (ix2 i a)) (fun a => x3 (ix2 i a)) (fun a => x4 (ix2 i a)) (fun a => x5 (ix2 i a)) (fun a => x7 (ix3 0 j a)) := by
  rw [← RowNorm.pieces_eq]
  pointwise [val_main_v29, val_main_v28, val_main_v5, val_main_v0, val_main_v1, val_main_v2, val_main_v3]

/-- The input gradient: the residual, the direct term and the mean square's two equal terms. -/
theorem dx_apply (i : Fin 8192) (j : Fin 1024) : val_main_v50 (F := Ideal) x0 x1 x2 x3 x4 x5 x6 x7 (ix2 i j) =
    x1 (ix2 i j) + val_main_v29 (F := Ideal) x2 x3 x4 x5 x7 (ix2 i j) * x6 (ix2 0 j) * RowNorm.scale (fun k => x0 (ix3 0 i k))
      + x0 (ix3 0 i j) * RowNorm.half (fun k => x0 (ix3 0 i k)) (fun l => val_main_v29 (F := Ideal) x2 x3 x4 x5 x7 (ix2 i l) * x6 (ix2 0 l))
      + RowNorm.half (fun k => x0 (ix3 0 i k)) (fun l => val_main_v29 (F := Ideal) x2 x3 x4 x5 x7 (ix2 i l) * x6 (ix2 0 l)) * x0 (ix3 0 i j) := by
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_cst, val_main_cst_0, val_main_cst_1, val_main_cst_2, val_main_cst_3, val_main_cst_4, val_main_cst_5, val_main_cst_6, val_main_cst_7]
  simp only [Finset.univ_unique, Finset.sum_const, Finset.card_singleton, one_smul]
  rfl

/-- The gain's gradient: the sum over all rows. -/
theorem dg_apply (j : Fin 1024) : val_main_v51 (F := Ideal) x0 x2 x3 x4 x5 x7 (ix2 0 j) =
    ∑ i : Fin 8192, x0 (ix3 0 i j) * RowNorm.scale (fun k => x0 (ix3 0 i k)) * val_main_v29 (F := Ideal) x2 x3 x4 x5 x7 (ix2 i j) := by
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_cst, val_main_cst_0, val_main_cst_1, val_main_cst_2, val_main_cst_3, val_main_cst_4, val_main_cst_5, val_main_cst_6, val_main_cst_7]
  simp only [Finset.univ_unique, Finset.sum_const, Finset.card_singleton, one_smul]
  rfl

end Cert.InProjRefIdeal.Block
-- ==== Proof.InProjClaims.lean ====
module

public import proofs.«01_k».proof.Defs
public import proofs.«01_k».proof.Proof.Gen.InProj.Frame
public import proofs.«01_k».proof.Proof.Gen.InProjRefIdeal.Run
public import proofs.«01_k».proof.Proof.InProjFinal
public import proofs.«01_k».proof.Proof.InProjRef
public import Idealize.ShloMosaic.Lib.Quiescent

@[expose] public section

noncomputable section

/-! The claims about the input projection's backward call. -/

namespace Cert.InProjClaims

open Idealize.ShloMosaic Idealize.ShloMosaic.TcCoe Idealize.SL.Sem

/-- The reference's frame, read off its run. -/
theorem frame_ref : quiescent_InProjRefIdeal := fun m ρ _ =>
  (θ_run InProjRefIdeal.defs _ _).mono (fun r h => ⟨fun c => (h c).2.2, sem_eq_zero_of_no_sems (by decide) r.2⟩)
    (InProjRefIdeal.Value.run (F := Ideal) m ρ)

/-- The two programs compute one value. -/
theorem algebraic : algebraic_InProjIdeal_InProjRefIdeal := by
  intro m g m' g' _ hagree
  refine ⟨_, _, (θ_run InProjIdeal.defs _ _).mono (fun r h c => h c) (InProjIdeal.Value.run_blocks (F := Ideal) m g),
    (θ_run InProjRefIdeal.defs _ _).mono (fun r h c => ⟨(h c).1.trans ?_, (h c).2.1.trans ?_, (h c).2.2⟩) (InProjRefIdeal.Value.run (F := Ideal) m' g')⟩
  · rw [InProjRefIdeal.Read.val_main_v50_eq, (hagree c).1, (hagree c).2.1, (hagree c).2.2.1, (hagree c).2.2.2.1, (hagree c).2.2.2.2.1, (hagree c).2.2.2.2.2.1,
      (hagree c).2.2.2.2.2.2.1, (hagree c).2.2.2.2.2.2.2]
    refine RowNorm.ext2 fun i j => ?_
    rw [InProjIdeal.Block.dx_final]
    refine (InProjRefIdeal.Block.dx_apply _ _ _ _ _ _ _ _ i j).trans ?_
    simp only [InProjRefIdeal.Block.dh_apply]
    exact (RowNorm.grad_eq (InProjIdeal.Block.xRow m c i) (fun l => InProjIdeal.Block.dhRow m c i l * InProjIdeal.Block.gRow m c l)
      (InProjIdeal.Block.dRow m c i j) j).symm
  · rw [InProjRefIdeal.Read.val_main_v51_eq, (hagree c).1, (hagree c).2.2.1, (hagree c).2.2.2.1, (hagree c).2.2.2.2.1, (hagree c).2.2.2.2.2.1,
      (hagree c).2.2.2.2.2.2.2]
    refine RowNorm.ext2 fun i j => ?_
    obtain rfl : i = 0 := Subsingleton.elim _ _
    rw [InProjIdeal.Block.dg_final]
    refine (InProjRefIdeal.Block.dg_apply _ _ _ _ _ _ j).trans ?_
    simp only [InProjRefIdeal.Block.dh_apply]
    exact Finset.sum_congr rfl fun i _ => mul_comm _ _

end Cert.InProjClaims
-- ==== Proof.Owns.lean ====
/-
  Two rules for a kernel body that reads and writes blocks of buffers it owns whole:  a load returns the block of the
  contents at its rectangle, a store leaves the contents overlaid with the block.
-/
module

public import Idealize.ShloMosaic.Lib.Pipeline.FrameBody
public import Idealize.ShloMosaic.Lib.Pipeline.Value
public import Idealize.ShloMosaic.Lib.Tactic

@[expose] public section

noncomputable section

namespace Cert.Owns

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
  {U : Type} [URA U] {Lvl : Type} [Preorder Lvl] {Λ : Labels} {defs : Defs nD τ sig Val Λ} (𝒱 : Variants) (c : Thread nD τ)
  (bd : Option 𝒱.V) (E : Set Name) {s : Shape} {e : EltTy} {α : Type}

local notation "𝕄" => MT nD τ sig Ix Val Name U Lvl

variable {Q : α → sProp (MT nD τ sig Ix Val Name U Lvl)}

/-- A load through a memref owned at `X` returns the elements of `X` at its rectangle. -/
theorem load_owns {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k (View.ld X r)) Q)
        -∗ wp frame (wpE defs 𝒱 c bd) E (.op (.load m r.toLoadRect hl) k) Q) := by
  unfold owns
  iintro ⟨%f, %hf, H⟩ Hk
  subst hf
  iapply (wp_load 𝒱 c bd E (m := m) (r := r.toLoadRect) (S := m.view.set) (View.setOn_subset_set _ _)) $$ H
  iintro H
  iapply Hk
  iexists f
  isplitr
  · ipureintro; rfl
  · iexact H

/-- A store of `w` through a memref owned whole at `X` leaves it owned at `X` with `w` at its rectangle. -/
theorem store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store_writes₀ 𝒱 c bd E (m := m) (r := r) (S := m.view.set) (m.view.set_slice_subset r)) $$ H
  iintro H
  iapply Hk
  iexists m.view.writes Val f [⟨r, w⟩]
  isplitr
  · ipureintro
    funext j
    by_cases hj : j ∈ r.set
    · obtain ⟨x, rfl⟩ := r.exists_idx_of_mem hj
      change _ = r.overlay (View.read Val m.view f) w (r.emb x)
      rw [Rect.overlay_emb]; exact View.read_writes_cons_emb _ _ _ _ _ _
    · rw [Rect.overlay_of_not_mem _ _ _ hj]
      exact View.read_writes_apply_of_forall_not_mem _ _ _ _ fun p hp => by
        rw [List.mem_singleton] at hp; subst hp; exact hj
  · iexact H

/-- A block overlaid at a rectangle that is the whole shape is the block. -/
theorem overlay_unit_zero {S : Shape} {γ : Type} {o : Fin S.rank → Nat} {h : ∀ a, o a + S.size a ≤ S.size a} (ho : ∀ a, o a = 0)
    (X w : S.Idx → γ) : (Rect.unit (s := S) o S.size h).overlay X w = w := by
  funext j
  have e : (Rect.unit (s := S) o S.size h).emb j = j := by
    funext a; apply Fin.ext; simp [Rect.emb, Rect.unit, ho a]
  conv_lhs => rw [← e]
  exact Rect.overlay_emb _ _ _ _

/-- A load of the whole shape returns the contents. -/
theorem load_whole {cs : CoreSpace} {m : Memref sig c.2.kind cs s e} {o : Fin s.rank → Nat} {inb : ∀ a, o a + s.size a ≤ s.size a}
    {hl : m.view.LoadsAt (Rect.unit (s := s) o s.size inb).toLoadRect}
    {k : (s.Idx → Val e) → Prog (TpuEff nD τ sig Val Λ c.2) α} {q : PosShare TreeShare} {X : s.Idx → Val e} (ho : o = fun _ => 0) :
    (owns c m q X : sProp 𝕄)
      ⊢ iprop((owns c m q X -∗ wp frame (wpE defs 𝒱 c bd) E (k X) Q)
        -∗ wp frame (wpE defs 𝒱 c bd) E (.op (.load m (Rect.unit (s := s) o s.size inb).toLoadRect hl) k) Q) := by
  have h := load_owns (Q := Q) (U := U) (Lvl := Lvl) (defs := defs) 𝒱 c bd E (m := m) (r := Rect.unit (s := s) o s.size inb) (hl := hl) (k := k) (q := q) (X := X)
  rw [View.ld_unit_zero ho] at h
  exact h

/-- A store of the whole shape leaves the block stored. -/
theorem store_whole {cs : CoreSpace} {m : Memref sig c.2.kind cs s e} {o : Fin s.rank → Nat} {inb : ∀ a, o a + s.size a ≤ s.size a}
    {w : s.Idx → Val e} {hx : (m.access (Rect.unit (s := s) o s.size inb)).Stores Finset.univ}
    {hm : Finset.univ = Finset.univ ∨ ∀ a, (Rect.unit (s := s) o s.size inb).stride a = 1}
    {k : PUnit → Prog (TpuEff nD τ sig Val Λ c.2) α} {X : s.Idx → Val e} (ho : o = fun _ => 0) :
    (owns c m fullShare X : sProp 𝕄)
      ⊢ iprop((owns c m fullShare w -∗ wp frame (wpE defs 𝒱 c bd) E (k ⟨⟩) Q)
        -∗ wp frame (wpE defs 𝒱 c bd) E (.op (.store m (Rect.unit (s := s) o s.size inb) w Finset.univ hx hm) k) Q) := by
  have h := store_owns (Q := Q) (U := U) (Lvl := Lvl) (defs := defs) 𝒱 c bd E (m := m) (r := Rect.unit (s := s) o s.size inb) (w := w) (hx := hx) (hm := hm) (k := k) (X := X)
  rw [overlay_unit_zero (fun a => congrFun ho a)] at h
  exact h

end Cert.Owns
-- ==== Proof.AttnStep.lean ====
/-
  One grid point of the attention's backward kernel as a function of what it reads.
    `Ctx`     what a point computes before its loop and the loop reads: the key and value slabs, the four chains' queries and
              cotangents (two heads by two halves of the query block), the triangular matrices, the totals;
    `Carry`   the loop's state: the block counter, the four chains' remainders, the sums so far and the query gradients;
    `diag`    the block on the diagonal: the first state, and its contributions to the keys' and values' gradients;
    `trip`    one earlier block: the next state, and the two gradients with the block's rows raised;
    `fold`    the loop, by its own condition;
    `point`   the whole point.
-/
module

public import proofs.«01_k».proof.Proof.Gen.AttnIdeal.Launch
public import proofs.«01_k».proof.Proof.Gen.AttnIdeal.Skeleton
public import proofs.«01_k».proof.Proof.Owns

@[expose] public section

/-! One step of the attention's backward loop over earlier key blocks: what it reads, its state, and its run. -/

set_option maxRecDepth 16384

noncomputable section

namespace Cert.AttnIdeal.Block

open Idealize.ShloMosaic Idealize.ShloMosaic.TcCoe Idealize.SL.Sem
open Cert.AttnIdeal.Gen

variable {F : FTy → Type} [FloatOps F] [Named F]

/-- What the loop reads and does not change. -/
structure Ctx (F : FTy → Type) where
  K : Vec F S8192x128 .bf16
  V : Vec F S8192x128 .bf16
  q0 : FVec F S128x128 .bf16
  d0 : FVec F S128x128 .bf16
  q1 : FVec F S128x128 .bf16
  d1 : FVec F S128x128 .bf16
  q2 : FVec F S128x128 .bf16
  d2 : FVec F S128x128 .bf16
  q3 : FVec F S128x128 .bf16
  d3 : FVec F S128x128 .bf16
  U : FVec F S256x256 .bf16
  L : FVec F S256x256 .bf16
  t0 : FVec F S128x1 .f32
  t1 : FVec F S128x1 .f32
  t2 : FVec F S128x1 .f32
  t3 : FVec F S128x1 .f32
  Q : FVec F S512x128 .bf16
  D : FVec F S512x128 .bf16

/-- The loop's state: counter, four remainders, four sums so far, four query gradients. -/
structure Carry (F : FTy → Type) where
  j : BitVec 32
  r0 : FVec F S128x1 .f32
  r1 : FVec F S128x1 .f32
  r2 : FVec F S128x1 .f32
  r3 : FVec F S128x1 .f32
  e0 : FVec F S128x1 .f32
  e1 : FVec F S128x1 .f32
  e2 : FVec F S128x1 .f32
  e3 : FVec F S128x1 .f32
  g0 : FVec F S128x128 .f32
  g1 : FVec F S128x128 .f32
  g2 : FVec F S128x128 .f32
  g3 : FVec F S128x128 .f32

/-- The state, and the keys' and the values' gradients so far. -/
structure Acc (F : FTy → Type) where
  s : Carry F
  dk : Vec F S8192x128 .f32
  dv : Vec F S8192x128 .f32

/-- The rows of the diagonal block at the point, -/
abbrev rowsD (i : grid0.Coords) : Rect S8192x128 := Rect.unit (s := S8192x128) (k0_off1 i) S256x128.size (k0_off1_inb i)
/-- and the rows of an earlier block. -/
abbrev rowsO (i : grid0.Coords) (j : BitVec 32) (h : k0_chk1 i j) : Rect S8192x128 :=
  Rect.unit (s := S8192x128) (k0_off2 i j) S256x128.size (k0_off2_inb i j h)

/-- The loop goes on: an earlier block is left, and the chains are not all spent. -/
def going (i : grid0.Coords) (s : Carry F) : BitVec 1 :=
  Scalar.andi (Scalar.cmpi .slt s.j (BitVec.ofNat 32 (i 1).val))
    (Scalar.cmpf .oge (k0_pay4 s.r0 s.r1 s.r2 s.r3) (Named.named κ "exp2_zero" 0xC3160000#32))

/-- One earlier block. -/
def trip (i : grid0.Coords) (x : Ctx F) (a : Acc F) (h : k0_chk1 i a.s.j) : Acc F :=
  let s := a.s
  let K := View.ld x.K (rowsO i s.j h)
  let V := View.ld x.V (rowsO i s.j h)
  let v492 := k0_pay121 x.d0 V
  let v493 := k0_pay122 x.q1 K
  let v494 := k0_pay123 x.d1 V
  let v495 := k0_pay124 x.q2 K
  let v496 := k0_pay125 x.d2 V
  let v497 := k0_pay126 x.q3 K
  let v498 := k0_pay127 x.d3 V
  let v512 := k0_pay129 x.q0 K
  let v514 := k0_pay131 x.q0 K
  let v515 := k0_pay132 x.q0 K
  let v521 := k0_pay135 x.q0 s.r0 K
  let v524 := k0_pay136 x.U (k0_pay133 x.q0 K) (k0_pay134 x.q0 K) (constant S128x256 .f32 0x00000000#32)
  let v543 := k0_pay141 v493
  let v544 := k0_pay142 v493
  let v550 := k0_pay143 s.r1 v493
  let v553 := k0_pay144 x.U v493
  let v558 := k0_pay146 v495
  let v562 := k0_pay148 v495
  let v567 := k0_pay149 v495
  let v572 := k0_pay152 v558 v562 v567
  let v573 := k0_pay153 v562 v567
  let v579 := k0_pay154 s.r2 v558 v562 v567
  let v582 := k0_pay155 x.U v562 v567
  let v601 := k0_pay160 v497
  let v602 := k0_pay161 v497
  let v608 := k0_pay162 s.r3 v497
  let v611 := k0_pay163 x.U v497
  let v615 := k0_pay165 v521 v524
  let v619 := k0_pay167 v492 v615
  let v628 := k0_pay168 x.L s.e0 v492 v615
  let v633 := k0_pay170 v494 v550 v553
  let v642 := k0_pay171 x.L s.e1 v494 v550 v553
  let v647 := k0_pay173 v496 v579 v582
  let v656 := k0_pay174 x.L s.e2 v496 v579 v582
  let v661 := k0_pay176 v498 v608 v611
  let v666 := k0_pay178 x.L v498 v608 v611
  let v667 := k0_pay179 x.L v498 v608 v611
  { s :=
      { j := Scalar.addi s.j 1#32
        r0 := k0_pay137 s.r0 v512
        r1 := k0_pay145 s.r1 v493
        r2 := k0_pay156 s.r2 v562 v567
        r3 := k0_pay164 s.r3 v497
        e0 := k0_pay183 v628
        e1 := k0_pay186 v642
        e2 := k0_pay189 v656
        e3 := k0_pay192 s.e3 v666 v667
        g0 := k0_pay182 x.t0 s.g0 K v514 v515 v619 v628
        g1 := k0_pay185 x.t1 s.g1 K v543 v544 v633 v642
        g2 := k0_pay188 x.t2 s.g2 K v572 v573 v647 v656
        g3 := k0_pay191 x.t3 s.e3 s.g3 K v601 v602 v661 v666 v667 }
    dk := (rowsO i s.j h).overlay a.dk (k0_pay193 x.t0 x.t1 x.t2 x.t3 x.Q s.e3 v514 v515 v543 v544 v572 v573 v601 v602 v619 v628
        v633 v642 v647 v656 v661 v666 v667 (View.ld a.dk (rowsO i s.j h)))
    dv := (rowsO i s.j h).overlay a.dv (k0_pay5 x.D (View.ld a.dv (rowsO i s.j h))
        (k0_pay194 (k0_pay166 v615) (k0_pay169 v550 v553) (k0_pay172 v579 v582) (k0_pay175 v608 v611))) }

open Classical in
/-- The loop, for at most `n` blocks. -/
def fold (i : grid0.Coords) (x : Ctx F) : ℕ → Acc F → Acc F
  | 0, a => a
  | n + 1, a => if h : going i a.s = 1#1 ∧ k0_chk1 i a.s.j then fold i x n (trip i x a h.2) else a

/-- What the point computes before its loop, from the blocks it reads. -/
def ctx (x0 : Vec F S256x128 .bf16) (x1 x2 : Vec F S8192x128 .bf16) (x3 : Vec F S256x128 .f32) (x4 : Vec F S256x128 .bf16)
    (x6 x7 : Vec F S256x256 .bf16) : Ctx F :=
  let v15 := k0_pay13 x0
  let v83 := iota .tc S1x128 32 [1] iota_S1x128_d1_w32
  let v27 := k0_pay14 x0
  let v38 := k0_pay18 (k0_pay15 x0) (k0_pay16 (F := F)) k0_pay17
  let v49 := k0_pay19 v15
  let v60 := k0_pay20 v15
  let v71 := k0_pay21 x4
  let v82 := k0_pay22 x4
  let v110 := k0_pay27 x4 x3
  { K := x1, V := x2
    q0 := v27, d0 := v71, q1 := v38, d1 := v82, q2 := v49
    d2 := k0_pay23 x4 v83 64#32
    q3 := v60, d3 := k0_pay24 x4
    U := k0_pay8 x6, L := k0_pay9 x7
    t0 := k0_pay32 (k0_pay28 x4 x3)
    t1 := k0_pay33 (k0_pay29 x4 x3) (k0_pay30 (F := F)) k0_pay31
    t2 := k0_pay34 v110, t3 := k0_pay35 v110
    Q := k0_pay25 v27 v38 v49 v60
    D := k0_pay26 x4 v71 v82 v83 64#32 }

/-- The block on the diagonal. -/
def diag (i : grid0.Coords) (x : Ctx F) (x5 : Vec F S256x256 .f32) (dk dv : Vec F S8192x128 .f32) : Acc F :=
  let v11 := k0_pay11 x5
  let v12 := k0_pay12 x5
  let K := View.ld x.K (rowsD i)
  let V := View.ld x.V (rowsD i)
  let v163 := k0_pay36 (F := F)
  let v164 := k0_pay37 (F := F)
  let v172 := k0_pay38 x.q0 K
  let v173 := k0_pay39 V
  let v174 := k0_pay40 x.d0 v173 (constant S128x128 .f32 0x00000000#32)
  let v175 := k0_pay41 x.q1 K
  let v176 := k0_pay42 x.d1 V
  let v178 := k0_pay43 x.q2 K
  let v180 := k0_pay44 x.d2 V
  let v181 := k0_pay45 x.q3 K
  let v182 := k0_pay46 x.d3 V
  let v198 := k0_pay50 v172
  let v199 := k0_pay51 v172
  let v208 := k0_pay53 v163 v172
  let v213 := k0_pay54 x.U v11 v172
  let v216 := k0_pay55 v11 v163 v172
  let v217 := k0_pay56 (F := F)
  let v232 := k0_pay60 v175 v217
  let v233 := k0_pay61 v175 v217
  let v241 := k0_pay63 v163 v175 v217
  let v244 := k0_pay64 x.U v12 v175 v217
  let v247 := k0_pay65 v12 v163 v175 v217
  let v261 := k0_pay67 v178
  let v262 := k0_pay68 v178
  let v263 := k0_pay69 v178
  let v264 := k0_pay70 v178
  let v273 := k0_pay72 v163 v262
  let v278 := k0_pay73 x.U v11 v261
  let v281 := k0_pay74 v11 v163 v261
  let v297 := k0_pay78 v181
  let v298 := k0_pay79 v181
  let v306 := k0_pay81 v163 v181
  let v309 := k0_pay82 x.U v12 v181
  let v311 := k0_pay83 v12 v181
  let v312 := k0_pay84 v163 v311
  let v318 := k0_pay85 v11 v208 v213
  let v320 := k0_pay86 v11 v174 v208 v213
  let v331 := k0_pay87 x.L v11 v163 v174 v208 v213
  let v336 := k0_pay88 v12 v241 v244
  let v338 := k0_pay89 v12 v176 v241 v244
  let v347 := k0_pay90 x.L v12 v163 v176 v241 v244
  let v353 := k0_pay91 v11 v273 v278
  let v355 := k0_pay92 v11 v180 v273 v278
  let v359 := k0_pay94 v11 v180 v273 v278
  let v361 := k0_pay95 x.L v11 v180 v273 v278
  let v362 := k0_pay96 x.L
  let z : FVec F S128x128 .f32 := constant S128x128 .f32 0x00000000#32
  let v366 := k0_pay97 v163 v359 v361 v362 z
  let v371 := k0_pay98 v12 v306 v309
  let v373 := k0_pay99 v12 v182 v306 v309
  let v382 := k0_pay100 x.L v12 v163 v182 v306 v309
  let v394 := k0_pay102 v11 x.t0 v164 K v198 v199 v320 v331
  let v395 := k0_pay103 v331
  let v397 := k0_pay105 v11 x.t0 v198 v199 v320 v331
  let v398 := k0_pay106 v318
  let v406 := k0_pay107 v12 x.t1 v232 v233 v338 v347
  let v408 := k0_pay108 v12 x.t1 v164 K v232 v233 v338 v347
  let v409 := k0_pay109 v347
  let v414 := k0_pay110 x.t2 v163 v263 v264 v355 v359 v361 v362 z
  { s :=
      { j := 0#32
        r0 := v216, r1 := v247, r2 := v281, r3 := v312
        e0 := v395, e1 := v409, e2 := k0_pay113 v366, e3 := k0_pay117 v382
        g0 := v394, g1 := v408, g2 := k0_pay112 v11 v164 K v414
        g3 := k0_pay116 v12 x.t3 v164 K v297 v298 v373 v382 }
    dk := (rowsD i).overlay dk (k0_pay118 v11 v12 x.Q x.t3 v297 v298 v373 v382 v397 v406 v414 (View.ld dk (rowsD i)))
    dv := (rowsD i).overlay dv (k0_pay119 x.D v336 v353 v371 v398 (View.ld dv (rowsD i))) }

/-- The query gradients' block. -/
def dqOut (s : Carry F) : Vec F S256x128 .bf16 :=
  k0_pay1 s.g0 s.g1 s.g2 s.g3 (iota .tc S1x128 32 [1] iota_S1x128_d1_w32) k0_pay120 128#32

/-- The whole point. -/
def point (i : grid0.Coords) (x0 : Vec F S256x128 .bf16) (x1 x2 : Vec F S8192x128 .bf16) (x3 : Vec F S256x128 .f32)
    (x4 : Vec F S256x128 .bf16) (x5 : Vec F S256x256 .f32) (x6 x7 : Vec F S256x256 .bf16) (dk dv : Vec F S8192x128 .f32) : Acc F :=
  fold i (ctx x0 x1 x2 x3 x4 x6 x7) 32
    (diag i (ctx x0 x1 x2 x3 x4 x6 x7) x5 (if (i 1).val = 0 then k0_pay6 else dk) (if (i 1).val = 0 then k0_pay7 else dv))

end Cert.AttnIdeal.Block
-- ==== Proof.AttnMath.lean ====
module

public import Idealize.ShloMosaic.Lib.Pointwise

@[expose] public section

/-! # One row of the attention, in real numbers

  A query row `s` sees the keys `k < s`.  Its score with key `k` is `x k` and the product of the row's
  cotangent with the value of key `k` is `d k`.  The weight of key `k` is `β(x k)` times the product of
  `1 − β(x k')` over the keys `k < k' < s`; this file states the weight, its contribution to the
  gradient and the gradient of the score, and computes what a block of keys adds to each of the sums
  the kernel carries from one block to the next. -/

namespace AttnMath

open Idealize.ShloMosaic Finset

/-- The logarithm of `1 − β`. -/
noncomputable def nk (x : ℝ) : ℝ := -Real.log (1 + Real.exp x)
/-- `1 − β`. -/
noncomputable def keep (x : ℝ) : ℝ := (1 + Real.exp x)⁻¹
/-- The gate `β`. -/
noncomputable def beta (x : ℝ) : ℝ := Real.exp x / (1 + Real.exp x)
/-- The weight of key `k` in row `s`. -/
noncomputable def ww (x : ℕ → ℝ) (s k : ℕ) : ℝ := if k < s then Real.exp (x k + ∑ i ∈ Ico k s, nk (x i)) else 0
/-- The weight's product with its cotangent. -/
noncomputable def ee (x d : ℕ → ℝ) (s k : ℕ) : ℝ := d k * ww x s k
/-- The gradient of the score. -/
noncomputable def dd (x d : ℕ → ℝ) (s k : ℕ) : ℝ :=
  if k < s then ee x d s k * keep (x k) - (∑ i ∈ range k, ee x d s i) * beta (x k) else 0
/-- The factor from natural logarithms to base two, -/
noncomputable def L2 : EReal := ((Real.log 2)⁻¹ : ℝ)

lemma one_add_exp_pos (x : ℝ) : 0 < 1 + Real.exp x := by positivity

lemma log_two_pos : 0 < Real.log 2 := Real.log_pos (by norm_num)

lemma exp_nk (x : ℝ) : Real.exp (nk x) = keep x := by
  rw [nk, keep, Real.exp_neg, Real.exp_log (one_add_exp_pos x)]

lemma exp_nk_add (x : ℝ) : Real.exp (nk x + x) = beta x := by
  rw [Real.exp_add, exp_nk, keep, beta, div_eq_mul_inv, mul_comm]

lemma keep_eq (x : ℝ) : keep x = 1 - beta x := by
  rw [keep, beta, eq_sub_iff_add_eq, inv_eq_one_div, ← add_div, div_self (one_add_exp_pos x).ne']

/-- A finite sum of reals is the same sum in the extended reals. -/
lemma coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

lemma exp2_coe (r : ℝ) : Ideal.exp2 (r : EReal) = ((Real.exp (r * Real.log 2) : ℝ) : EReal) := by
  show ((Real.rpow 2 r : ℝ) : EReal) = _
  congr 1
  show (2 : ℝ) ^ r = _
  rw [Real.rpow_def_of_pos (by norm_num), mul_comm]

lemma log_coe {r : ℝ} (h : 0 < r) : Ideal.log (r : EReal) = ((Real.log r : ℝ) : EReal) := by
  show (if r ≤ 0 then (⊥ : EReal) else (Real.log r : EReal)) = _
  rw [if_neg (not_le.mpr h)]

lemma coe_min (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

lemma div_mul_log (x : ℝ) : x * (Real.log 2)⁻¹ * Real.log 2 = x := by
  have := log_two_pos.ne'
  field_simp

/-- `−min(x, 0) …`: the stable form of the logarithm is the logarithm. -/
lemma stable (x : ℝ) : min (-x) 0 - Real.log (1 + Real.exp (min x (-x))) = nk x := by
  rw [nk]
  rcases le_total 0 x with h | h
  · rw [min_eq_left (by linarith), min_eq_right (by linarith)]
    have : (1 + Real.exp x) = Real.exp x * (1 + Real.exp (-x)) := by
      rw [mul_add, ← Real.exp_add]; simp; ring
    rw [this, Real.log_mul (Real.exp_pos x).ne' (one_add_exp_pos _).ne', Real.log_exp]
    ring
  · rw [min_eq_right (by linarith), min_eq_left (by linarith)]
    ring

/-- The kernel's base-two logarithm of `1 − β`. -/
theorem kernel_lk (x : ℝ) :
    min (0 - (x : EReal) * L2) 0 - Ideal.log (1 + Ideal.exp2 (min ((x : EReal) * L2) (0 - (x : EReal) * L2))) * L2
      = ((nk x * (Real.log 2)⁻¹ : ℝ) : EReal) := by
  rw [L2, ← EReal.coe_mul, ← EReal.coe_zero, ← EReal.coe_sub, coe_min, coe_min, exp2_coe, ← EReal.coe_one,
    ← EReal.coe_add, log_coe (by positivity), ← EReal.coe_mul, ← EReal.coe_sub]
  congr 1
  have h := log_two_pos
  have h' := inv_pos.mpr h
  have e1 : min (0 - x * (Real.log 2)⁻¹) 0 = min (-x) 0 * (Real.log 2)⁻¹ := by
    rw [min_mul_of_nonneg _ _ h'.le]; simp
  have e2 : min (x * (Real.log 2)⁻¹) (0 - x * (Real.log 2)⁻¹) * Real.log 2 = min x (-x) := by
    rw [min_mul_of_nonneg _ _ h.le, div_mul_log, sub_mul, div_mul_log]; simp
  rw [e1, e2, ← sub_mul, stable]

theorem kernel_keep (x : ℝ) : Ideal.exp2 ((nk x * (Real.log 2)⁻¹ : ℝ) : EReal) = ((keep x : ℝ) : EReal) := by
  rw [exp2_coe, div_mul_log, exp_nk]

theorem kernel_beta (x : ℝ) :
    Ideal.exp2 (((nk x * (Real.log 2)⁻¹ : ℝ) : EReal) + (x : EReal) * L2) = ((beta x : ℝ) : EReal) := by
  rw [L2, ← EReal.coe_mul, ← EReal.coe_add, exp2_coe, add_mul, div_mul_log, div_mul_log, exp_nk_add]

lemma coe_ite (p : Prop) [Decidable p] (a b : ℝ) : (if p then (a : EReal) else (b : EReal)) = ((if p then a else b : ℝ) : EReal) := by
  split <;> rfl

/-- The masked sum over one block of the keys after `c`, with the sum over the later blocks. -/
lemma strict_sum (f : ℕ → ℝ) (lo nc s c : ℕ) (hc : c < nc) :
    (∑ y : Fin nc, (if lo + y.val < s then f (lo + y.val) else 0) * (if c < y.val then 1 else 0)) + ∑ i ∈ Ico (lo + nc) s, f i
      = ∑ i ∈ Ico (lo + c + 1) s, f i := by
  have h0 : ∀ n, (∑ i ∈ Ico n s, f i) = ∑ i ∈ range s, if n ≤ i then f i else 0 := by
    intro n
    rw [← sum_filter]
    congr 1
    ext i; simp [and_comm]
  have e : (∑ y : Fin nc, (if lo + y.val < s then f (lo + y.val) else 0) * (if c < y.val then (1 : ℝ) else 0))
      = ∑ i ∈ Ico lo (lo + nc), if (i < s ∧ lo + c < i) then f i else 0 := by
    rw [sum_Ico_eq_sum_range, Nat.add_sub_cancel_left, sum_range]
    refine sum_congr rfl fun y _ => ?_
    by_cases h1 : lo + y.val < s <;> by_cases h2 : c < y.val <;> simp [h1, h2]
  have e2 : (∑ i ∈ Ico lo (lo + nc), if (i < s ∧ lo + c < i) then f i else 0)
      = ∑ i ∈ (range s).filter (fun i => lo + c + 1 ≤ i ∧ i < lo + nc), f i := by
    rw [← sum_filter]
    congr 1
    ext i; simp; omega
  rw [e, e2, ← sum_union]
  · congr 1
    ext i; simp; omega
  · rw [disjoint_left]; intro i; simp; omega

/-- The same with the key `c` itself. -/
lemma weak_sum (f : ℕ → ℝ) (lo nc s c : ℕ) (hc : c < nc) :
    (∑ y : Fin nc, (if lo + y.val < s then f (lo + y.val) else 0) * (if c ≤ y.val then 1 else 0)) + ∑ i ∈ Ico (lo + nc) s, f i
      = ∑ i ∈ Ico (lo + c) s, f i := by
  have e : (∑ y : Fin nc, (if lo + y.val < s then f (lo + y.val) else 0) * (if c ≤ y.val then (1 : ℝ) else 0))
      = ∑ i ∈ Ico lo (lo + nc), if (i < s ∧ lo + c ≤ i) then f i else 0 := by
    rw [sum_Ico_eq_sum_range, Nat.add_sub_cancel_left, sum_range]
    refine sum_congr rfl fun y _ => ?_
    by_cases h1 : lo + y.val < s <;> by_cases h2 : c ≤ y.val <;> simp [h1, h2]
  have e2 : (∑ i ∈ Ico lo (lo + nc), if (i < s ∧ lo + c ≤ i) then f i else 0)
      = ∑ i ∈ (range s).filter (fun i => lo + c ≤ i ∧ i < lo + nc), f i := by
    rw [← sum_filter]
    congr 1
    ext i; simp; omega
  rw [e, e2, ← sum_union]
  · congr 1
    ext i; simp; omega
  · rw [disjoint_left]; intro i; simp; omega

/-- The whole block. -/
lemma block_sum (f : ℕ → ℝ) (lo nc s : ℕ) (hn : 0 < nc) :
    (∑ y : Fin nc, (if lo + y.val < s then f (lo + y.val) else 0)) + ∑ i ∈ Ico (lo + nc) s, f i = ∑ i ∈ Ico lo s, f i := by
  have := weak_sum f lo nc s 0 hn
  simpa using this

lemma self_sub (x : ℝ) : (x : EReal) - (x : EReal) = 0 := by
  rw [← EReal.coe_sub, sub_self, EReal.coe_zero]

/-- A sum taken in two parts, the rounded value and what the rounding left: nothing is left. -/
lemma two_parts {nc : ℕ} (m : Fin nc → EReal) (U : Fin nc → EReal) (a u : Fin nc → ℝ) (hm : ∀ y, m y = (a y : EReal))
    (hU : ∀ y, U y = (u y : EReal)) : (∑ y, m y * U y) + ∑ y, (m y - m y) * U y = ((∑ y, a y * u y : ℝ) : EReal) := by
  have : ∀ y, (m y - m y) * U y = 0 := fun y => by rw [hm, self_sub, zero_mul]
  simp only [this, sum_const_zero, add_zero]
  rw [coe_sum]
  exact sum_congr rfl fun y _ => by rw [hm, hU, EReal.coe_mul]

/-- The weight of key `lo + c`, from the block's logarithms and the sum over the later blocks. -/
theorem weight_core {nc lo s : ℕ} (c : ℕ) (hc : c < nc) (hs : lo + c < s) (x : ℕ → ℝ) (m U : Fin nc → EReal) (r : EReal)
    (hm : ∀ y, m y = ((if lo + y.val < s then nk (x (lo + y.val)) * (Real.log 2)⁻¹ else 0 : ℝ) : EReal))
    (hU : ∀ y, U y = ((if c < y.val then 1 else 0 : ℝ) : EReal))
    (hr : r = ((∑ i ∈ Ico (lo + nc) s, nk (x i) * (Real.log 2)⁻¹ : ℝ) : EReal)) :
    Ideal.exp2 (((nk (x (lo + c)) * (Real.log 2)⁻¹ : ℝ) : EReal) + (x (lo + c) : EReal) * L2 + r
      + ((∑ y, m y * U y) + ∑ y, (m y - m y) * U y)) = ((ww x s (lo + c) : ℝ) : EReal) := by
  rw [two_parts m U _ _ hm hU, hr, L2, ← EReal.coe_mul, ← EReal.coe_add, ← EReal.coe_add, ← EReal.coe_add, exp2_coe, ww, if_pos hs]
  congr 2
  rw [add_assoc, add_comm (∑ i ∈ Ico (lo + nc) s, _),
    strict_sum (fun i => nk (x i) * (Real.log 2)⁻¹) lo nc s c hc, ← sum_mul, sum_eq_sum_Ico_succ_bot hs]
  have := log_two_pos.ne'
  field_simp
  ring

/-- The sum of the contributions from key `lo + c` on. -/
theorem suffix_core {nc lo s : ℕ} (c : ℕ) (hc : c < nc) (x d : ℕ → ℝ) (m U : Fin nc → EReal) (r : EReal)
    (hm : ∀ y, m y = ((ee x d s (lo + y.val) : ℝ) : EReal))
    (hU : ∀ y, U y = ((if c ≤ y.val then 1 else 0 : ℝ) : EReal))
    (hr : r = ((∑ i ∈ Ico (lo + nc) s, ee x d s i : ℝ) : EReal)) :
    ((∑ y, m y * U y) + ∑ y, (m y - m y) * U y) + r = ((∑ i ∈ Ico (lo + c) s, ee x d s i : ℝ) : EReal) := by
  rw [two_parts m U _ _ hm hU, hr, ← EReal.coe_add, ← weak_sum (ee x d s) lo nc s c hc]
  congr 2
  refine sum_congr rfl fun y _ => ?_
  congr 1
  split
  · rfl
  · next h => rw [ee, ww, if_neg h, mul_zero]

/-- The score's gradient, from the whole sum and the sum from the key on. -/
theorem score_core {s k : ℕ} (hk : k < s) (x d : ℕ → ℝ) :
    ((ee x d s k : ℝ) : EReal) * ((keep (x k) : ℝ) : EReal)
      - (((∑ i ∈ range s, ee x d s i : ℝ) : EReal) - ((∑ i ∈ Ico k s, ee x d s i : ℝ) : EReal)) * ((beta (x k) : ℝ) : EReal)
      = ((dd x d s k : ℝ) : EReal) := by
  rw [← EReal.coe_mul, ← EReal.coe_sub, ← EReal.coe_mul, ← EReal.coe_sub, dd, if_pos hk]
  congr 3
  rw [← sum_range_add_sum_Ico _ hk.le, add_sub_cancel_right]

end AttnMath
-- ==== Proof.AttnOff.lean ====
module

public import proofs.«01_k».proof.Proof.AttnStep
public import proofs.«01_k».proof.Proof.AttnMath

@[expose] public section

/-! # One chain of an earlier block, at real entries

  A chain is one head of one half of the query rows.  On a block of 256 keys before the rows of the
  chain every key is seen; this file reads, entry by entry, what the chain computes from the block's
  scores and from the sums carried over the later blocks. -/

namespace Cert.AttnIdeal.Off

open Idealize.ShloMosaic Idealize.ShloMosaic.TcCoe Idealize.SL.Sem Finset
open Cert.AttnIdeal Cert.AttnIdeal.Gen AttnMath

lemma named_log2e : (Named.named κ "log2_e" 0x3FB8AA3B#32 : Ideal .f32) = L2 := by
  simp [Named.named, κ, L2]

/-- The scores of the block. -/
noncomputable abbrev z (q : FVec Ideal S128x128 .bf16) (K : Vec Ideal S256x128 .bf16) : FVec Ideal S128x256 .f32 := k0_pay122 q K
/-- The weights, -/
noncomputable abbrev w (U : FVec Ideal S256x256 .bf16) (r : FVec Ideal S128x1 .f32) (z : FVec Ideal S128x256 .f32) : FVec Ideal S128x256 .bf16 :=
  k0_pay169 (k0_pay143 r z) (k0_pay144 U z)
/-- their products with the cotangent, -/
noncomputable abbrev e (U : FVec Ideal S256x256 .bf16) (dw : FVec Ideal S128x256 .f32) (r : FVec Ideal S128x1 .f32)
    (z : FVec Ideal S128x256 .f32) : FVec Ideal S128x256 .f32 :=
  k0_pay170 dw (k0_pay143 r z) (k0_pay144 U z)
/-- the sums of those from a key on, -/
noncomputable abbrev suf (U L : FVec Ideal S256x256 .bf16) (dw : FVec Ideal S128x256 .f32) (r e0 : FVec Ideal S128x1 .f32)
    (z : FVec Ideal S128x256 .f32) : FVec Ideal S128x256 .f32 :=
  k0_pay171 L e0 dw (k0_pay143 r z) (k0_pay144 U z)
/-- and the scores' gradients. -/
noncomputable abbrev dz (U L : FVec Ideal S256x256 .bf16) (dw : FVec Ideal S128x256 .f32) (t r e0 : FVec Ideal S128x1 .f32)
    (z : FVec Ideal S128x256 .f32) : FVec Ideal S128x256 .bf16 :=
  k0_pay184 t (k0_pay141 z) (k0_pay142 z) (e U dw r z) (suf U L dw r e0 z)
/-- The query gradients after the block. -/
noncomputable abbrev g' (U L : FVec Ideal S256x256 .bf16) (dw : FVec Ideal S128x256 .f32) (t r e0 : FVec Ideal S128x1 .f32)
    (g : FVec Ideal S128x128 .f32) (K : Vec Ideal S256x128 .bf16) (z : FVec Ideal S128x256 .f32) : FVec Ideal S128x128 .f32 :=
  k0_pay185 t g K (k0_pay141 z) (k0_pay142 z) (e U dw r z) (suf U L dw r e0 z)

/-- The strict upper mask: the keys after a key. -/
def IsU (U : FVec Ideal S256x256 .bf16) : Prop := ∀ i j : Fin 256, U (ix2 i j) = ((if j.val < i.val then 1 else 0 : ℝ) : EReal)
/-- The mask of the keys from a key on. -/
def IsL (L : FVec Ideal S256x256 .bf16) : Prop := ∀ i j : Fin 256, L (ix2 i j) = ((if j.val ≤ i.val then 1 else 0 : ℝ) : EReal)

section entries

variable {s0 lo : ℕ} {x d : ℕ → ℕ → ℝ} {Z dw : FVec Ideal S128x256 .f32} {t r e0 : FVec Ideal S128x1 .f32} {U L : FVec Ideal S256x256 .bf16}

/-- Scores are products of rows. -/
theorem z_apply {q : FVec Ideal S128x128 .bf16} {K : Vec Ideal S256x128 .bf16} {Q Kf : ℕ → ℕ → ℝ}
    (hq : ∀ (a : Fin 128) (l : Fin 128), q (ix2 a l) = ((Q (s0 + a.val) l.val : ℝ) : EReal))
    (hK : ∀ (c : Fin 256) (l : Fin 128), K (ix2 c l) = ((Kf (lo + c.val) l.val : ℝ) : EReal)) (a : Fin 128) (c : Fin 256) :
    z q K (ix2 a c) = ((∑ l : Fin 128, Q (s0 + a.val) l.val * Kf (lo + c.val) l.val : ℝ) : EReal) := by
  have h : z q K (ix2 a c) = ∑ l, q (ix2 a l) * K (ix2 c l) := by pointwise [k0_pay122]
  rw [h, coe_sum]
  exact sum_congr rfl fun l _ => by rw [hq, hK, EReal.coe_mul]

theorem dw_apply {q : FVec Ideal S128x128 .bf16} {K : Vec Ideal S256x128 .bf16} {Q Kf : ℕ → ℕ → ℝ}
    (hq : ∀ (a : Fin 128) (l : Fin 128), q (ix2 a l) = ((Q (s0 + a.val) l.val : ℝ) : EReal))
    (hK : ∀ (c : Fin 256) (l : Fin 128), K (ix2 c l) = ((Kf (lo + c.val) l.val : ℝ) : EReal)) (a : Fin 128) (c : Fin 256) :
    k0_pay123 q K (ix2 a c) = ((∑ l : Fin 128, Q (s0 + a.val) l.val * Kf (lo + c.val) l.val : ℝ) : EReal) := by
  have h : k0_pay123 q K (ix2 a c) = ∑ l, q (ix2 a l) * K (ix2 c l) := by pointwise [k0_pay123]
  rw [h, coe_sum]
  exact sum_congr rfl fun l _ => by rw [hq, hK, EReal.coe_mul]

theorem lk_apply {y : ℝ} {a : Fin 128} {c : Fin 256} (hz : Z (ix2 a c) = (y : EReal)) :
    k0_pay139 Z (ix2 a c) = ((nk y * (Real.log 2)⁻¹ : ℝ) : EReal) := by
  have h : k0_pay139 Z (ix2 a c) = min (0 - Z (ix2 a c) * L2) 0
      - Ideal.log (1 + Ideal.exp2 (min (Z (ix2 a c) * L2) (0 - Z (ix2 a c) * L2))) * L2 := by
    rw [← named_log2e]; pointwise [k0_pay139, k0_pay138]; rfl
  rw [h, hz, kernel_lk]

theorem z2_apply (a : Fin 128) (c : Fin 256) : k0_pay138 Z (ix2 a c) = Z (ix2 a c) * L2 := by
  rw [← named_log2e]; pointwise [k0_pay138]

theorem beta_apply {y : ℝ} {a : Fin 128} {c : Fin 256} (hz : Z (ix2 a c) = (y : EReal)) :
    k0_pay141 Z (ix2 a c) = ((beta y : ℝ) : EReal) := by
  have h : k0_pay141 Z (ix2 a c) = Ideal.exp2 (k0_pay139 Z (ix2 a c) + k0_pay138 Z (ix2 a c)) := by
    pointwise [k0_pay141, k0_pay140]; rfl
  rw [h, lk_apply hz, z2_apply, hz, kernel_beta]

theorem keep_apply {y : ℝ} {a : Fin 128} {c : Fin 256} (hz : Z (ix2 a c) = (y : EReal)) :
    k0_pay142 Z (ix2 a c) = ((keep y : ℝ) : EReal) := by
  have h : k0_pay142 Z (ix2 a c) = Ideal.exp2 (k0_pay139 Z (ix2 a c)) := by pointwise [k0_pay142]; rfl
  rw [h, lk_apply hz, kernel_keep]

variable (hs : lo + 256 ≤ s0)
  (hz : ∀ (a : Fin 128) (c : Fin 256), Z (ix2 a c) = ((x (s0 + a.val) (lo + c.val) : ℝ) : EReal))
  (hd : ∀ (a : Fin 128) (c : Fin 256), dw (ix2 a c) = ((d (s0 + a.val) (lo + c.val) : ℝ) : EReal))
  (hU : IsU U) (hL : IsL L)
  (hr : ∀ a : Fin 128, r (ix2 a 0) = ((∑ i ∈ Ico (lo + 256) (s0 + a.val), nk (x (s0 + a.val) i) * (Real.log 2)⁻¹ : ℝ) : EReal))
  (he : ∀ a : Fin 128, e0 (ix2 a 0) = ((∑ i ∈ Ico (lo + 256) (s0 + a.val), ee (x (s0 + a.val)) (d (s0 + a.val)) (s0 + a.val) i : ℝ) : EReal))
  (ht : ∀ a : Fin 128, t (ix2 a 0) = ((∑ i ∈ range (s0 + a.val), ee (x (s0 + a.val)) (d (s0 + a.val)) (s0 + a.val) i : ℝ) : EReal))

include hs hz hU hr in
/-- The block's weights, -/
theorem w_apply (a : Fin 128) (c : Fin 256) : w U r Z (ix2 a c) = ((ww (x (s0 + a.val)) (s0 + a.val) (lo + c.val) : ℝ) : EReal) := by
  have h : w U r Z (ix2 a c) = Ideal.exp2 (k0_pay139 Z (ix2 a c) + k0_pay138 Z (ix2 a c) + r (ix2 a 0)
      + ((∑ y, k0_pay139 Z (ix2 a y) * U (ix2 y c)) + ∑ y, (k0_pay139 Z (ix2 a y) - k0_pay139 Z (ix2 a y)) * U (ix2 y c))) := by
    pointwise [k0_pay169, k0_pay143, k0_pay144, k0_pay140]; rfl
  rw [h, lk_apply (hz a c), z2_apply, hz a c]
  refine weight_core c.val c.isLt (by omega) (x (s0 + a.val)) (fun y => k0_pay139 Z (ix2 a y)) (fun y => U (ix2 y c)) _ ?_ ?_ (hr a)
  · intro y
    rw [lk_apply (hz a y), if_pos (by omega)]
  · intro y; exact hU y c

include hs hz hd hU hr in
/-- their products with the cotangents, -/
theorem e_apply (a : Fin 128) (c : Fin 256) :
    e U dw r Z (ix2 a c) = ((ee (x (s0 + a.val)) (d (s0 + a.val)) (s0 + a.val) (lo + c.val) : ℝ) : EReal) := by
  have h : e U dw r Z (ix2 a c) = dw (ix2 a c) * w U r Z (ix2 a c) := by pointwise [k0_pay170]
  rw [h, hd, w_apply hs hz hU hr, ← EReal.coe_mul]; rfl

include hs hz hd hU hL hr he in
/-- the sums from a key on, -/
theorem suf_apply (a : Fin 128) (c : Fin 256) :
    suf U L dw r e0 Z (ix2 a c)
      = ((∑ i ∈ Ico (lo + c.val) (s0 + a.val), ee (x (s0 + a.val)) (d (s0 + a.val)) (s0 + a.val) i : ℝ) : EReal) := by
  have h : suf U L dw r e0 Z (ix2 a c) = ((∑ y, e U dw r Z (ix2 a y) * L (ix2 y c))
      + ∑ y, (e U dw r Z (ix2 a y) - e U dw r Z (ix2 a y)) * L (ix2 y c)) + e0 (ix2 a 0) := by
    pointwise [k0_pay171]
  rw [h]
  exact suffix_core c.val c.isLt (x (s0 + a.val)) (d (s0 + a.val)) (fun y => e U dw r Z (ix2 a y)) (fun y => L (ix2 y c)) _
    (fun y => e_apply hs hz hd hU hr a y) (fun y => hL y c) (he a)

include hs hz hd hU hL hr he ht in
/-- and the scores' gradients. -/
theorem dz_apply (a : Fin 128) (c : Fin 256) :
    dz U L dw t r e0 Z (ix2 a c) = ((dd (x (s0 + a.val)) (d (s0 + a.val)) (s0 + a.val) (lo + c.val) : ℝ) : EReal) := by
  have h : dz U L dw t r e0 Z (ix2 a c) = e U dw r Z (ix2 a c) * k0_pay142 Z (ix2 a c)
      - (t (ix2 a 0) - suf U L dw r e0 Z (ix2 a c)) * k0_pay141 Z (ix2 a c) := by
    pointwise [k0_pay184]
  rw [h, e_apply hs hz hd hU hr, suf_apply hs hz hd hU hL hr he, keep_apply (hz a c), beta_apply (hz a c), ht]
  exact score_core (by omega) _ _

include hs hz hr in
/-- The carried logarithms after the block, -/
theorem r_apply (a : Fin 128) :
    k0_pay145 r Z (ix2 a 0) = ((∑ i ∈ Ico lo (s0 + a.val), nk (x (s0 + a.val) i) * (Real.log 2)⁻¹ : ℝ) : EReal) := by
  have h : k0_pay145 r Z (ix2 a 0) = r (ix2 a 0) + ∑ y, k0_pay139 Z (ix2 a y) := by pointwise [k0_pay145]
  rw [h, hr, ← block_sum _ lo 256 (s0 + a.val) (by norm_num), add_comm, EReal.coe_add, coe_sum univ]
  congr 1
  refine sum_congr rfl fun y _ => ?_
  rw [lk_apply (hz a y), if_pos (by omega)]

include hs hz hd hU hL hr he in
/-- the carried sum, -/
theorem e'_apply (a : Fin 128) :
    k0_pay186 (suf U L dw r e0 Z) (ix2 a 0)
      = ((∑ i ∈ Ico lo (s0 + a.val), ee (x (s0 + a.val)) (d (s0 + a.val)) (s0 + a.val) i : ℝ) : EReal) := by
  have h : k0_pay186 (suf U L dw r e0 Z) (ix2 a 0) = suf U L dw r e0 Z (ix2 a 0) := by pointwise [k0_pay186]
  rw [h, suf_apply hs hz hd hU hL hr he]; rfl

include hs hz hd hU hL hr he ht in
/-- and the carried query gradients. -/
theorem g_apply {g : FVec Ideal S128x128 .f32} {K : Vec Ideal S256x128 .bf16} {Kf : ℕ → ℕ → ℝ}
    (hK : ∀ (c : Fin 256) (l : Fin 128), K (ix2 c l) = ((Kf (lo + c.val) l.val : ℝ) : EReal))
    (hg : ∀ (a l : Fin 128), g (ix2 a l)
      = ((∑ i ∈ Ico (lo + 256) (s0 + a.val), dd (x (s0 + a.val)) (d (s0 + a.val)) (s0 + a.val) i * Kf i l.val : ℝ) : EReal)) (a l : Fin 128) :
    g' U L dw t r e0 g K Z (ix2 a l)
      = ((∑ i ∈ Ico lo (s0 + a.val), dd (x (s0 + a.val)) (d (s0 + a.val)) (s0 + a.val) i * Kf i l.val : ℝ) : EReal) := by
  have h : g' U L dw t r e0 g K Z (ix2 a l) = g (ix2 a l) + ∑ y, dz U L dw t r e0 Z (ix2 a y) * K (ix2 y l) := by
    pointwise [k0_pay185]
  rw [h, hg, ← block_sum _ lo 256 (s0 + a.val) (by norm_num), add_comm, EReal.coe_add, coe_sum univ]
  congr 1
  refine sum_congr rfl fun y _ => ?_
  rw [dz_apply hs hz hd hU hL hr he ht, hK, if_pos (by omega), EReal.coe_mul]

end entries

end Cert.AttnIdeal.Off
-- ==== Proof.AttnDiag.lean ====
module

public import proofs.«01_k».proof.Proof.AttnOff

@[expose] public section

/-! # One chain of the block on the diagonal, at real entries

  On the diagonal a mask says which keys a row sees.  The rows of the first half see no key of the
  second half, so their chains are 128 keys wide; the chains of the second half are 256 keys wide. -/

namespace Cert.AttnIdeal.Diag

open Idealize.ShloMosaic Idealize.ShloMosaic.TcCoe Idealize.SL.Sem Finset
open Cert.AttnIdeal Cert.AttnIdeal.Gen AttnMath
open Cert.AttnIdeal.Off (IsU IsL named_log2e)

/-- Row `s0 + a` sees key `lo + c`. -/
def IsM (s0 lo : ℕ) (M : IVec S128x256 1) : Prop :=
  ∀ (a : Fin 128) (c : Fin 256), M (ix2 a c) = if lo + c.val < s0 + a.val then 1#1 else 0#1

lemma select_ite (p : Prop) [Decidable p] (x y : EReal) : Scalar.select (if p then 1#1 else 0#1) x y = if p then x else y := by
  split <;> simp [Scalar.select]

lemma zero36 (a : Fin 128) : k0_pay36 (F := Ideal) (ix2 a 0) = 0 := by pointwise [k0_pay36]
lemma zero37 (a l : Fin 128) : k0_pay37 (F := Ideal) (ix2 a l) = 0 := by pointwise [k0_pay37]

/-! ## The chains of the first half -/

namespace Narrow

/-- The scores, -/
noncomputable abbrev z (q : FVec Ideal S128x128 .bf16) (K : Vec Ideal S256x128 .bf16) : FVec Ideal S128x128 .f32 := k0_pay38 q K
/-- the products of cotangents and values, -/
noncomputable abbrev dw (d : FVec Ideal S128x128 .bf16) (V : Vec Ideal S256x128 .bf16) : FVec Ideal S128x128 .f32 := k0_pay40 d (k0_pay39 V) (constant S128x128 .f32 0x00000000#32)
/-- the weights, -/
noncomputable abbrev w (U : FVec Ideal S256x256 .bf16) (M : IVec S128x256 1) (z : FVec Ideal S128x128 .f32) : FVec Ideal S128x128 .bf16 :=
  k0_pay85 M (k0_pay53 k0_pay36 z) (k0_pay54 U M z)
/-- their products with the cotangents, -/
noncomputable abbrev e (U : FVec Ideal S256x256 .bf16) (M : IVec S128x256 1) (dw z : FVec Ideal S128x128 .f32) : FVec Ideal S128x128 .f32 :=
  k0_pay86 M dw (k0_pay53 k0_pay36 z) (k0_pay54 U M z)
/-- the sums of those from a key on, -/
noncomputable abbrev suf (U L : FVec Ideal S256x256 .bf16) (M : IVec S128x256 1) (dw z : FVec Ideal S128x128 .f32) : FVec Ideal S128x128 .f32 :=
  k0_pay87 L M k0_pay36 dw (k0_pay53 k0_pay36 z) (k0_pay54 U M z)
/-- the scores' gradients, -/
noncomputable abbrev dz (U L : FVec Ideal S256x256 .bf16) (M : IVec S128x256 1) (t : FVec Ideal S128x1 .f32)
    (dw z : FVec Ideal S128x128 .f32) : FVec Ideal S128x128 .bf16 :=
  k0_pay101 M t (k0_pay50 z) (k0_pay51 z) (e U M dw z) (suf U L M dw z)
/-- the query gradients, -/
noncomputable abbrev g (U L : FVec Ideal S256x256 .bf16) (M : IVec S128x256 1) (t : FVec Ideal S128x1 .f32)
    (K : Vec Ideal S256x128 .bf16) (dw z : FVec Ideal S128x128 .f32) : FVec Ideal S128x128 .f32 :=
  k0_pay102 M t k0_pay37 K (k0_pay50 z) (k0_pay51 z) (e U M dw z) (suf U L M dw z)
/-- and the sum of the logarithms. -/
noncomputable abbrev r (M : IVec S128x256 1) (z : FVec Ideal S128x128 .f32) : FVec Ideal S128x1 .f32 := k0_pay55 M k0_pay36 z

section entries

variable {s0 lo : ℕ} {x d : ℕ → ℕ → ℝ} {Z D : FVec Ideal S128x128 .f32} {t : FVec Ideal S128x1 .f32} {U L : FVec Ideal S256x256 .bf16}
  {M : IVec S128x256 1}

/-- Scores are products of rows, -/
theorem z_apply {q : FVec Ideal S128x128 .bf16} {K : Vec Ideal S256x128 .bf16} {Q Kf : ℕ → ℕ → ℝ}
    (hq : ∀ (a : Fin 128) (l : Fin 128), q (ix2 a l) = ((Q (s0 + a.val) l.val : ℝ) : EReal))
    (hK : ∀ (c : Fin 256) (l : Fin 128), K (ix2 c l) = ((Kf (lo + c.val) l.val : ℝ) : EReal)) (a : Fin 128) (c : Fin 128) :
    z q K (ix2 a c) = ((∑ l : Fin 128, Q (s0 + a.val) l.val * Kf (lo + c.val) l.val : ℝ) : EReal) := by
  have h : z q K (ix2 a c) = ∑ l, q (ix2 a l) * K (ix2 ⟨c.val, by omega⟩ l) := by pointwise [k0_pay38]
  rw [h, coe_sum]
  exact sum_congr rfl fun l _ => by rw [hq, hK, EReal.coe_mul]

/-- and so are the products with the values. -/
theorem dw_apply {q : FVec Ideal S128x128 .bf16} {K : Vec Ideal S256x128 .bf16} {Q Kf : ℕ → ℕ → ℝ}
    (hq : ∀ (a : Fin 128) (l : Fin 128), q (ix2 a l) = ((Q (s0 + a.val) l.val : ℝ) : EReal))
    (hK : ∀ (c : Fin 256) (l : Fin 128), K (ix2 c l) = ((Kf (lo + c.val) l.val : ℝ) : EReal)) (a : Fin 128) (c : Fin 128) :
    dw q K (ix2 a c) = ((∑ l : Fin 128, Q (s0 + a.val) l.val * Kf (lo + c.val) l.val : ℝ) : EReal) := by
  have h : dw q K (ix2 a c) = ∑ l, q (ix2 a l) * K (ix2 ⟨c.val, by omega⟩ l) := by pointwise [k0_pay40, k0_pay39]
  rw [h, coe_sum]
  exact sum_congr rfl fun l _ => by rw [hq, hK, EReal.coe_mul]

theorem z2_apply (a : Fin 128) (c : Fin 128) : k0_pay47 Z (ix2 a c) = Z (ix2 a c) * L2 := by
  rw [← named_log2e]; pointwise [k0_pay47]

theorem lk_apply {y : ℝ} {a : Fin 128} {c : Fin 128} (hz : Z (ix2 a c) = (y : EReal)) :
    k0_pay48 Z (ix2 a c) = ((nk y * (Real.log 2)⁻¹ : ℝ) : EReal) := by
  have h : k0_pay48 Z (ix2 a c) = min (0 - Z (ix2 a c) * L2) 0
      - Ideal.log (1 + Ideal.exp2 (min (Z (ix2 a c) * L2) (0 - Z (ix2 a c) * L2))) * L2 := by
    rw [← named_log2e]; pointwise [k0_pay48, k0_pay47]; rfl
  rw [h, hz, kernel_lk]

theorem beta_apply {y : ℝ} {a : Fin 128} {c : Fin 128} (hz : Z (ix2 a c) = (y : EReal)) :
    k0_pay50 Z (ix2 a c) = ((beta y : ℝ) : EReal) := by
  have h : k0_pay50 Z (ix2 a c) = Ideal.exp2 (k0_pay48 Z (ix2 a c) + k0_pay47 Z (ix2 a c)) := by
    pointwise [k0_pay50, k0_pay49]; rfl
  rw [h, lk_apply hz, z2_apply, hz, kernel_beta]

theorem keep_apply {y : ℝ} {a : Fin 128} {c : Fin 128} (hz : Z (ix2 a c) = (y : EReal)) :
    k0_pay51 Z (ix2 a c) = ((keep y : ℝ) : EReal) := by
  have h : k0_pay51 Z (ix2 a c) = Ideal.exp2 (k0_pay48 Z (ix2 a c)) := by pointwise [k0_pay51]; rfl
  rw [h, lk_apply hz, kernel_keep]

variable (hs : s0 + 128 ≤ lo + 128)
  (hz : ∀ (a : Fin 128) (c : Fin 128), Z (ix2 a c) = ((x (s0 + a.val) (lo + c.val) : ℝ) : EReal))
  (hd : ∀ (a : Fin 128) (c : Fin 128), D (ix2 a c) = ((d (s0 + a.val) (lo + c.val) : ℝ) : EReal))
  (hU : IsU U) (hL : IsL L) (hM : IsM s0 lo M)
  (ht : ∀ a : Fin 128, t (ix2 a 0) = ((∑ i ∈ range (s0 + a.val), ee (x (s0 + a.val)) (d (s0 + a.val)) (s0 + a.val) i : ℝ) : EReal))

lemma late (hs : s0 + 128 ≤ lo + 128) (f : ℕ → ℝ) (a : Fin 128) : (∑ i ∈ Ico (lo + 128) (s0 + a.val), f i) = 0 := by
  rw [Ico_eq_empty (by omega), sum_empty]

include hz hM in
/-- The masked logarithms, -/
theorem mk_apply (a : Fin 128) (c : Fin 128) :
    k0_pay52 M Z (ix2 a c)
      = ((if lo + c.val < s0 + a.val then nk (x (s0 + a.val) (lo + c.val)) * (Real.log 2)⁻¹ else 0 : ℝ) : EReal) := by
  have h : k0_pay52 M Z (ix2 a c) = Scalar.select (M (ix2 a ⟨c.val, by omega⟩)) (k0_pay48 Z (ix2 a c)) 0 := by pointwise [k0_pay52]
  rw [h, hM, select_ite, lk_apply (hz a c), ← EReal.coe_zero, coe_ite]

include hs hz hU hM in
/-- the weights, -/
theorem w_apply (a : Fin 128) (c : Fin 128) : w U M Z (ix2 a c) = ((ww (x (s0 + a.val)) (s0 + a.val) (lo + c.val) : ℝ) : EReal) := by
  have h : w U M Z (ix2 a c) = Scalar.select (M (ix2 a ⟨c.val, by omega⟩)) (Ideal.exp2 (k0_pay48 Z (ix2 a c) + k0_pay47 Z (ix2 a c) + k0_pay36 (F := Ideal) (ix2 a 0)
      + ((∑ y, k0_pay52 M Z (ix2 a y) * U (ix2 ⟨y.val, by omega⟩ ⟨c.val, by omega⟩)) + ∑ y, (k0_pay52 M Z (ix2 a y) - k0_pay52 M Z (ix2 a y)) * U (ix2 ⟨y.val, by omega⟩ ⟨c.val, by omega⟩)))) 0 := by
    pointwise [k0_pay85, k0_pay53, k0_pay54, k0_pay49]; rfl
  rw [h, hM, select_ite, lk_apply (hz a c), z2_apply, hz a c]
  by_cases hlt : lo + c.val < s0 + a.val
  · rw [if_pos hlt]
    refine weight_core c.val c.isLt hlt (x (s0 + a.val)) (fun y => k0_pay52 M Z (ix2 a y)) (fun y => U (ix2 ⟨y.val, by omega⟩ ⟨c.val, by omega⟩)) _ ?_ ?_ ?_
    · intro y; exact mk_apply hz hM a y
    · intro y; exact hU _ _
    · rw [zero36, late hs, EReal.coe_zero]
  · rw [if_neg hlt, ww, if_neg hlt, EReal.coe_zero]

include hs hz hd hU hM in
/-- their products with the cotangents, -/
theorem e_apply (a : Fin 128) (c : Fin 128) :
    e U M D Z (ix2 a c) = ((ee (x (s0 + a.val)) (d (s0 + a.val)) (s0 + a.val) (lo + c.val) : ℝ) : EReal) := by
  have h : e U M D Z (ix2 a c) = D (ix2 a c) * w U M Z (ix2 a c) := by pointwise [k0_pay86]
  rw [h, hd, w_apply hs hz hU hM, ← EReal.coe_mul]; rfl

include hs hz hd hU hL hM in
/-- the sums from a key on, -/
theorem suf_apply (a : Fin 128) (c : Fin 128) :
    suf U L M D Z (ix2 a c)
      = ((∑ i ∈ Ico (lo + c.val) (s0 + a.val), ee (x (s0 + a.val)) (d (s0 + a.val)) (s0 + a.val) i : ℝ) : EReal) := by
  have h : suf U L M D Z (ix2 a c) = ((∑ y, e U M D Z (ix2 a y) * L (ix2 ⟨y.val, by omega⟩ ⟨c.val, by omega⟩))
      + ∑ y, (e U M D Z (ix2 a y) - e U M D Z (ix2 a y)) * L (ix2 ⟨y.val, by omega⟩ ⟨c.val, by omega⟩)) + k0_pay36 (F := Ideal) (ix2 a 0) := by
    pointwise [k0_pay87]
  rw [h]
  refine suffix_core c.val c.isLt (x (s0 + a.val)) (d (s0 + a.val)) (fun y => e U M D Z (ix2 a y)) (fun y => L (ix2 ⟨y.val, by omega⟩ ⟨c.val, by omega⟩)) _
    (fun y => e_apply hs hz hd hU hM a y) (fun y => hL _ _) ?_
  rw [zero36, late hs, EReal.coe_zero]

include hs hz hd hU hL hM ht in
/-- the scores' gradients, -/
theorem dz_apply (a : Fin 128) (c : Fin 128) :
    dz U L M t D Z (ix2 a c) = ((dd (x (s0 + a.val)) (d (s0 + a.val)) (s0 + a.val) (lo + c.val) : ℝ) : EReal) := by
  have h : dz U L M t D Z (ix2 a c) = Scalar.select (M (ix2 a ⟨c.val, by omega⟩)) (e U M D Z (ix2 a c) * k0_pay51 Z (ix2 a c)
      - (t (ix2 a 0) - suf U L M D Z (ix2 a c)) * k0_pay50 Z (ix2 a c)) 0 := by
    pointwise [k0_pay101]
  rw [h, hM, select_ite, e_apply hs hz hd hU hM, suf_apply hs hz hd hU hL hM, keep_apply (hz a c), beta_apply (hz a c), ht]
  by_cases hlt : lo + c.val < s0 + a.val
  · rw [if_pos hlt]
    exact score_core hlt _ _
  · rw [if_neg hlt, dd, if_neg hlt, EReal.coe_zero]

include hs hz hM in
/-- the sums of the logarithms, -/
theorem r_apply (a : Fin 128) :
    r M Z (ix2 a 0) = ((∑ i ∈ Ico lo (s0 + a.val), nk (x (s0 + a.val) i) * (Real.log 2)⁻¹ : ℝ) : EReal) := by
  have h : r M Z (ix2 a 0) = k0_pay36 (F := Ideal) (ix2 a 0) + ∑ y, k0_pay52 M Z (ix2 a y) := by pointwise [k0_pay55]
  rw [h, zero36, zero_add, ← block_sum _ lo 128 (s0 + a.val) (by norm_num), late hs, add_zero, coe_sum univ]
  exact sum_congr rfl fun y _ => mk_apply hz hM a y

include hs hz hd hU hL hM in
/-- the sums of the products -/
theorem e'_apply (a : Fin 128) :
    k0_pay103 (suf U L M D Z) (ix2 a 0)
      = ((∑ i ∈ Ico lo (s0 + a.val), ee (x (s0 + a.val)) (d (s0 + a.val)) (s0 + a.val) i : ℝ) : EReal) := by
  have h : k0_pay103 (suf U L M D Z) (ix2 a 0) = suf U L M D Z (ix2 a 0) := by pointwise [k0_pay103]
  rw [h, suf_apply hs hz hd hU hL hM]; rfl

include hs hz hd hU hL hM ht in
/-- and the query gradients. -/
theorem g_apply {K : Vec Ideal S256x128 .bf16} {Kf : ℕ → ℕ → ℝ}
    (hK : ∀ (c : Fin 256) (l : Fin 128), K (ix2 c l) = ((Kf (lo + c.val) l.val : ℝ) : EReal)) (a l : Fin 128) :
    g U L M t K D Z (ix2 a l)
      = ((∑ i ∈ Ico lo (s0 + a.val), dd (x (s0 + a.val)) (d (s0 + a.val)) (s0 + a.val) i * Kf i l.val : ℝ) : EReal) := by
  have h : g U L M t K D Z (ix2 a l) = k0_pay37 (F := Ideal) (ix2 a l) + ∑ y, dz U L M t D Z (ix2 a y) * K (ix2 ⟨y.val, by omega⟩ l) := by
    pointwise [k0_pay102]
  rw [h, zero37, zero_add, ← block_sum _ lo 128 (s0 + a.val) (by norm_num), late hs, add_zero, coe_sum univ]
  refine sum_congr rfl fun y _ => ?_
  rw [dz_apply hs hz hd hU hL hM ht, hK, ← EReal.coe_mul]
  congr 1
  split
  · rfl
  · next hn => rw [dd, if_neg hn, zero_mul]

end entries

end Narrow

/-! ## The chains of the second half -/

namespace Wide

/-- The scores, -/
noncomputable abbrev z (q : FVec Ideal S128x128 .bf16) (K : Vec Ideal S256x128 .bf16) : FVec Ideal S128x256 .f32 := k0_pay41 q K
/-- the products of cotangents and values, -/
noncomputable abbrev dw (d : FVec Ideal S128x128 .bf16) (V : Vec Ideal S256x128 .bf16) : FVec Ideal S128x256 .f32 := k0_pay42 d V
/-- the weights, -/
noncomputable abbrev w (U : FVec Ideal S256x256 .bf16) (M : IVec S128x256 1) (z : FVec Ideal S128x256 .f32) : FVec Ideal S128x256 .bf16 :=
  k0_pay88 M (k0_pay63 k0_pay36 z k0_pay56) (k0_pay64 U M z k0_pay56)
/-- their products with the cotangents, -/
noncomputable abbrev e (U : FVec Ideal S256x256 .bf16) (M : IVec S128x256 1) (dw z : FVec Ideal S128x256 .f32) : FVec Ideal S128x256 .f32 :=
  k0_pay89 M dw (k0_pay63 k0_pay36 z k0_pay56) (k0_pay64 U M z k0_pay56)
/-- the sums of those from a key on, -/
noncomputable abbrev suf (U L : FVec Ideal S256x256 .bf16) (M : IVec S128x256 1) (dw z : FVec Ideal S128x256 .f32) : FVec Ideal S128x256 .f32 :=
  k0_pay90 L M k0_pay36 dw (k0_pay63 k0_pay36 z k0_pay56) (k0_pay64 U M z k0_pay56)
/-- the scores' gradients, -/
noncomputable abbrev dz (U L : FVec Ideal S256x256 .bf16) (M : IVec S128x256 1) (t : FVec Ideal S128x1 .f32)
    (dw z : FVec Ideal S128x256 .f32) : FVec Ideal S128x256 .bf16 :=
  k0_pay107 M t (k0_pay60 z k0_pay56) (k0_pay61 z k0_pay56) (e U M dw z) (suf U L M dw z)
/-- the query gradients, -/
noncomputable abbrev g (U L : FVec Ideal S256x256 .bf16) (M : IVec S128x256 1) (t : FVec Ideal S128x1 .f32)
    (K : Vec Ideal S256x128 .bf16) (dw z : FVec Ideal S128x256 .f32) : FVec Ideal S128x128 .f32 :=
  k0_pay108 M t k0_pay37 K (k0_pay60 z k0_pay56) (k0_pay61 z k0_pay56) (e U M dw z) (suf U L M dw z)
/-- and the sum of the logarithms. -/
noncomputable abbrev r (M : IVec S128x256 1) (z : FVec Ideal S128x256 .f32) : FVec Ideal S128x1 .f32 := k0_pay65 M k0_pay36 z k0_pay56

section entries

variable {s0 lo : ℕ} {x d : ℕ → ℕ → ℝ} {Z D : FVec Ideal S128x256 .f32} {t : FVec Ideal S128x1 .f32} {U L : FVec Ideal S256x256 .bf16}
  {M : IVec S128x256 1}

/-- Scores are products of rows, -/
theorem z_apply {q : FVec Ideal S128x128 .bf16} {K : Vec Ideal S256x128 .bf16} {Q Kf : ℕ → ℕ → ℝ}
    (hq : ∀ (a : Fin 128) (l : Fin 128), q (ix2 a l) = ((Q (s0 + a.val) l.val : ℝ) : EReal))
    (hK : ∀ (c : Fin 256) (l : Fin 128), K (ix2 c l) = ((Kf (lo + c.val) l.val : ℝ) : EReal)) (a : Fin 128) (c : Fin 256) :
    z q K (ix2 a c) = ((∑ l : Fin 128, Q (s0 + a.val) l.val * Kf (lo + c.val) l.val : ℝ) : EReal) := by
  have h : z q K (ix2 a c) = ∑ l, q (ix2 a l) * K (ix2 c l) := by pointwise [k0_pay41]
  rw [h, coe_sum]
  exact sum_congr rfl fun l _ => by rw [hq, hK, EReal.coe_mul]

/-- and so are the products with the values. -/
theorem dw_apply {q : FVec Ideal S128x128 .bf16} {K : Vec Ideal S256x128 .bf16} {Q Kf : ℕ → ℕ → ℝ}
    (hq : ∀ (a : Fin 128) (l : Fin 128), q (ix2 a l) = ((Q (s0 + a.val) l.val : ℝ) : EReal))
    (hK : ∀ (c : Fin 256) (l : Fin 128), K (ix2 c l) = ((Kf (lo + c.val) l.val : ℝ) : EReal)) (a : Fin 128) (c : Fin 256) :
    dw q K (ix2 a c) = ((∑ l : Fin 128, Q (s0 + a.val) l.val * Kf (lo + c.val) l.val : ℝ) : EReal) := by
  have h : dw q K (ix2 a c) = ∑ l, q (ix2 a l) * K (ix2 c l) := by pointwise [k0_pay42]
  rw [h, coe_sum]
  exact sum_congr rfl fun l _ => by rw [hq, hK, EReal.coe_mul]

theorem z2_apply (a : Fin 128) (c : Fin 256) : k0_pay57 Z k0_pay56 (ix2 a c) = Z (ix2 a c) * L2 := by
  rw [← named_log2e]; pointwise [k0_pay57, k0_pay56]

theorem lk_apply {y : ℝ} {a : Fin 128} {c : Fin 256} (hz : Z (ix2 a c) = (y : EReal)) :
    k0_pay58 Z k0_pay56 (ix2 a c) = ((nk y * (Real.log 2)⁻¹ : ℝ) : EReal) := by
  have h : k0_pay58 Z k0_pay56 (ix2 a c) = min (0 - Z (ix2 a c) * L2) 0
      - Ideal.log (1 + Ideal.exp2 (min (Z (ix2 a c) * L2) (0 - Z (ix2 a c) * L2))) * L2 := by
    rw [← named_log2e]; pointwise [k0_pay58, k0_pay57, k0_pay56]; rfl
  rw [h, hz, kernel_lk]

theorem beta_apply {y : ℝ} {a : Fin 128} {c : Fin 256} (hz : Z (ix2 a c) = (y : EReal)) :
    k0_pay60 Z k0_pay56 (ix2 a c) = ((beta y : ℝ) : EReal) := by
  have h : k0_pay60 Z k0_pay56 (ix2 a c) = Ideal.exp2 (k0_pay58 Z k0_pay56 (ix2 a c) + k0_pay57 Z k0_pay56 (ix2 a c)) := by
    pointwise [k0_pay60, k0_pay59]; rfl
  rw [h, lk_apply hz, z2_apply, hz, kernel_beta]

theorem keep_apply {y : ℝ} {a : Fin 128} {c : Fin 256} (hz : Z (ix2 a c) = (y : EReal)) :
    k0_pay61 Z k0_pay56 (ix2 a c) = ((keep y : ℝ) : EReal) := by
  have h : k0_pay61 Z k0_pay56 (ix2 a c) = Ideal.exp2 (k0_pay58 Z k0_pay56 (ix2 a c)) := by pointwise [k0_pay61]; rfl
  rw [h, lk_apply hz, kernel_keep]

variable (hs : s0 + 128 ≤ lo + 256)
  (hz : ∀ (a : Fin 128) (c : Fin 256), Z (ix2 a c) = ((x (s0 + a.val) (lo + c.val) : ℝ) : EReal))
  (hd : ∀ (a : Fin 128) (c : Fin 256), D (ix2 a c) = ((d (s0 + a.val) (lo + c.val) : ℝ) : EReal))
  (hU : IsU U) (hL : IsL L) (hM : IsM s0 lo M)
  (ht : ∀ a : Fin 128, t (ix2 a 0) = ((∑ i ∈ range (s0 + a.val), ee (x (s0 + a.val)) (d (s0 + a.val)) (s0 + a.val) i : ℝ) : EReal))

lemma late (hs : s0 + 128 ≤ lo + 256) (f : ℕ → ℝ) (a : Fin 128) : (∑ i ∈ Ico (lo + 256) (s0 + a.val), f i) = 0 := by
  rw [Ico_eq_empty (by omega), sum_empty]

include hz hM in
/-- The masked logarithms, -/
theorem mk_apply (a : Fin 128) (c : Fin 256) :
    k0_pay62 M Z k0_pay56 (ix2 a c)
      = ((if lo + c.val < s0 + a.val then nk (x (s0 + a.val) (lo + c.val)) * (Real.log 2)⁻¹ else 0 : ℝ) : EReal) := by
  have h : k0_pay62 M Z k0_pay56 (ix2 a c) = Scalar.select (M (ix2 a c)) (k0_pay58 Z k0_pay56 (ix2 a c)) 0 := by pointwise [k0_pay62]
  rw [h, hM, select_ite, lk_apply (hz a c), ← EReal.coe_zero, coe_ite]

include hs hz hU hM in
/-- the weights, -/
theorem w_apply (a : Fin 128) (c : Fin 256) : w U M Z (ix2 a c) = ((ww (x (s0 + a.val)) (s0 + a.val) (lo + c.val) : ℝ) : EReal) := by
  have h : w U M Z (ix2 a c) = Scalar.select (M (ix2 a c)) (Ideal.exp2 (k0_pay58 Z k0_pay56 (ix2 a c) + k0_pay57 Z k0_pay56 (ix2 a c) + k0_pay36 (F := Ideal) (ix2 a 0)
      + ((∑ y, k0_pay62 M Z k0_pay56 (ix2 a y) * U (ix2 y c)) + ∑ y, (k0_pay62 M Z k0_pay56 (ix2 a y) - k0_pay62 M Z k0_pay56 (ix2 a y)) * U (ix2 y c)))) 0 := by
    pointwise [k0_pay88, k0_pay63, k0_pay64, k0_pay59]; rfl
  rw [h, hM, select_ite, lk_apply (hz a c), z2_apply, hz a c]
  by_cases hlt : lo + c.val < s0 + a.val
  · rw [if_pos hlt]
    refine weight_core c.val c.isLt hlt (x (s0 + a.val)) (fun y => k0_pay62 M Z k0_pay56 (ix2 a y)) (fun y => U (ix2 y c)) _ ?_ ?_ ?_
    · intro y; exact mk_apply hz hM a y
    · intro y; exact hU _ _
    · rw [zero36, late hs, EReal.coe_zero]
  · rw [if_neg hlt, ww, if_neg hlt, EReal.coe_zero]

include hs hz hd hU hM in
/-- their products with the cotangents, -/
theorem e_apply (a : Fin 128) (c : Fin 256) :
    e U M D Z (ix2 a c) = ((ee (x (s0 + a.val)) (d (s0 + a.val)) (s0 + a.val) (lo + c.val) : ℝ) : EReal) := by
  have h : e U M D Z (ix2 a c) = D (ix2 a c) * w U M Z (ix2 a c) := by pointwise [k0_pay89]
  rw [h, hd, w_apply hs hz hU hM, ← EReal.coe_mul]; rfl

include hs hz hd hU hL hM in
/-- the sums from a key on, -/
theorem suf_apply (a : Fin 128) (c : Fin 256) :
    suf U L M D Z (ix2 a c)
      = ((∑ i ∈ Ico (lo + c.val) (s0 + a.val), ee (x (s0 + a.val)) (d (s0 + a.val)) (s0 + a.val) i : ℝ) : EReal) := by
  have h : suf U L M D Z (ix2 a c) = ((∑ y, e U M D Z (ix2 a y) * L (ix2 y c))
      + ∑ y, (e U M D Z (ix2 a y) - e U M D Z (ix2 a y)) * L (ix2 y c)) + k0_pay36 (F := Ideal) (ix2 a 0) := by
    pointwise [k0_pay90]
  rw [h]
  refine suffix_core c.val c.isLt (x (s0 + a.val)) (d (s0 + a.val)) (fun y => e U M D Z (ix2 a y)) (fun y => L (ix2 y c)) _
    (fun y => e_apply hs hz hd hU hM a y) (fun y => hL _ _) ?_
  rw [zero36, late hs, EReal.coe_zero]

include hs hz hd hU hL hM ht in
/-- the scores' gradients, -/
theorem dz_apply (a : Fin 128) (c : Fin 256) :
    dz U L M t D Z (ix2 a c) = ((dd (x (s0 + a.val)) (d (s0 + a.val)) (s0 + a.val) (lo + c.val) : ℝ) : EReal) := by
  have h : dz U L M t D Z (ix2 a c) = Scalar.select (M (ix2 a c)) (e U M D Z (ix2 a c) * k0_pay61 Z k0_pay56 (ix2 a c)
      - (t (ix2 a 0) - suf U L M D Z (ix2 a c)) * k0_pay60 Z k0_pay56 (ix2 a c)) 0 := by
    pointwise [k0_pay107]
  rw [h, hM, select_ite, e_apply hs hz hd hU hM, suf_apply hs hz hd hU hL hM, keep_apply (hz a c), beta_apply (hz a c), ht]
  by_cases hlt : lo + c.val < s0 + a.val
  · rw [if_pos hlt]
    exact score_core hlt _ _
  · rw [if_neg hlt, dd, if_neg hlt, EReal.coe_zero]

include hs hz hM in
/-- the sums of the logarithms, -/
theorem r_apply (a : Fin 128) :
    r M Z (ix2 a 0) = ((∑ i ∈ Ico lo (s0 + a.val), nk (x (s0 + a.val) i) * (Real.log 2)⁻¹ : ℝ) : EReal) := by
  have h : r M Z (ix2 a 0) = k0_pay36 (F := Ideal) (ix2 a 0) + ∑ y, k0_pay62 M Z k0_pay56 (ix2 a y) := by pointwise [k0_pay65]
  rw [h, zero36, zero_add, ← block_sum _ lo 256 (s0 + a.val) (by norm_num), late hs, add_zero, coe_sum univ]
  exact sum_congr rfl fun y _ => mk_apply hz hM a y

include hs hz hd hU hL hM in
/-- the sums of the products -/
theorem e'_apply (a : Fin 128) :
    k0_pay109 (suf U L M D Z) (ix2 a 0)
      = ((∑ i ∈ Ico lo (s0 + a.val), ee (x (s0 + a.val)) (d (s0 + a.val)) (s0 + a.val) i : ℝ) : EReal) := by
  have h : k0_pay109 (suf U L M D Z) (ix2 a 0) = suf U L M D Z (ix2 a 0) := by pointwise [k0_pay109]
  rw [h, suf_apply hs hz hd hU hL hM]; rfl

include hs hz hd hU hL hM ht in
/-- and the query gradients. -/
theorem g_apply {K : Vec Ideal S256x128 .bf16} {Kf : ℕ → ℕ → ℝ}
    (hK : ∀ (c : Fin 256) (l : Fin 128), K (ix2 c l) = ((Kf (lo + c.val) l.val : ℝ) : EReal)) (a l : Fin 128) :
    g U L M t K D Z (ix2 a l)
      = ((∑ i ∈ Ico lo (s0 + a.val), dd (x (s0 + a.val)) (d (s0 + a.val)) (s0 + a.val) i * Kf i l.val : ℝ) : EReal) := by
  have h : g U L M t K D Z (ix2 a l) = k0_pay37 (F := Ideal) (ix2 a l) + ∑ y, dz U L M t D Z (ix2 a y) * K (ix2 y l) := by
    pointwise [k0_pay108]
  rw [h, zero37, zero_add, ← block_sum _ lo 256 (s0 + a.val) (by norm_num), late hs, add_zero, coe_sum univ]
  refine sum_congr rfl fun y _ => ?_
  rw [dz_apply hs hz hd hU hL hM ht, hK, ← EReal.coe_mul]
  congr 1
  split
  · rfl
  · next hn => rw [dd, if_neg hn, zero_mul]

end entries

end Wide

end Cert.AttnIdeal.Diag
-- ==== Proof.AttnParts.lean ====
module

public import proofs.«01_k».proof.Proof.AttnDiag

@[expose] public section

/-! # The four chains of a point are copies of one

  The kernel writes its four chains out one after the other; cut into stages, each is the same
  computation.  Here each part of the loop's state after a block is named by the one chain's functions. -/

namespace Cert.AttnIdeal.Parts

open Idealize.ShloMosaic Idealize.ShloMosaic.TcCoe Idealize.SL.Sem
open Cert.AttnIdeal Cert.AttnIdeal.Gen Cert.AttnIdeal.Block

variable (i : grid0.Coords) (x : Ctx Ideal) (a : Acc Ideal)

section trip
variable (h : k0_chk1 i a.s.j)

/-- The keys and the values of the block. -/
noncomputable abbrev Kb : Vec Ideal S256x128 .bf16 := View.ld x.K (rowsO i a.s.j h)
noncomputable abbrev Vb : Vec Ideal S256x128 .bf16 := View.ld x.V (rowsO i a.s.j h)

noncomputable abbrev dz0 := Off.dz x.U x.L (k0_pay123 x.d0 (Vb i x a h)) x.t0 a.s.r0 a.s.e0 (Off.z x.q0 (Kb i x a h))
noncomputable abbrev dz1 := Off.dz x.U x.L (k0_pay123 x.d1 (Vb i x a h)) x.t1 a.s.r1 a.s.e1 (Off.z x.q1 (Kb i x a h))
noncomputable abbrev dz2 := Off.dz x.U x.L (k0_pay123 x.d2 (Vb i x a h)) x.t2 a.s.r2 a.s.e2 (Off.z x.q2 (Kb i x a h))
noncomputable abbrev dz3 := Off.dz x.U x.L (k0_pay123 x.d3 (Vb i x a h)) x.t3 a.s.r3 a.s.e3 (Off.z x.q3 (Kb i x a h))

theorem trip_r0 : (trip i x a h).s.r0 = k0_pay145 a.s.r0 (Off.z x.q0 (Kb i x a h)) := rfl
theorem trip_r1 : (trip i x a h).s.r1 = k0_pay145 a.s.r1 (Off.z x.q1 (Kb i x a h)) := rfl
theorem trip_r2 : (trip i x a h).s.r2 = k0_pay145 a.s.r2 (Off.z x.q2 (Kb i x a h)) := rfl
theorem trip_r3 : (trip i x a h).s.r3 = k0_pay145 a.s.r3 (Off.z x.q3 (Kb i x a h)) := rfl

theorem trip_e0 : (trip i x a h).s.e0
    = k0_pay186 (Off.suf x.U x.L (k0_pay123 x.d0 (Vb i x a h)) a.s.r0 a.s.e0 (Off.z x.q0 (Kb i x a h))) := rfl
theorem trip_e1 : (trip i x a h).s.e1
    = k0_pay186 (Off.suf x.U x.L (k0_pay123 x.d1 (Vb i x a h)) a.s.r1 a.s.e1 (Off.z x.q1 (Kb i x a h))) := rfl
theorem trip_e2 : (trip i x a h).s.e2
    = k0_pay186 (Off.suf x.U x.L (k0_pay123 x.d2 (Vb i x a h)) a.s.r2 a.s.e2 (Off.z x.q2 (Kb i x a h))) := rfl
theorem trip_e3 : (trip i x a h).s.e3
    = k0_pay186 (Off.suf x.U x.L (k0_pay123 x.d3 (Vb i x a h)) a.s.r3 a.s.e3 (Off.z x.q3 (Kb i x a h))) := rfl

theorem trip_g0 : (trip i x a h).s.g0
    = Off.g' x.U x.L (k0_pay123 x.d0 (Vb i x a h)) x.t0 a.s.r0 a.s.e0 a.s.g0 (Kb i x a h) (Off.z x.q0 (Kb i x a h)) := rfl
theorem trip_g1 : (trip i x a h).s.g1
    = Off.g' x.U x.L (k0_pay123 x.d1 (Vb i x a h)) x.t1 a.s.r1 a.s.e1 a.s.g1 (Kb i x a h) (Off.z x.q1 (Kb i x a h)) := rfl
theorem trip_g2 : (trip i x a h).s.g2
    = Off.g' x.U x.L (k0_pay123 x.d2 (Vb i x a h)) x.t2 a.s.r2 a.s.e2 a.s.g2 (Kb i x a h) (Off.z x.q2 (Kb i x a h)) := rfl
theorem trip_g3 : (trip i x a h).s.g3
    = Off.g' x.U x.L (k0_pay123 x.d3 (Vb i x a h)) x.t3 a.s.r3 a.s.e3 a.s.g3 (Kb i x a h) (Off.z x.q3 (Kb i x a h)) := rfl

/-- Four blocks of 128 rows, one below the other. -/
noncomputable abbrev four (a b c d : FVec Ideal S128x256 .bf16) : FVec Ideal S512x256 .bf16 := k0_pay194 a b c d

theorem trip_dk : (trip i x a h).dk = (rowsO i a.s.j h).overlay a.dk (k0_pay5 x.Q (View.ld a.dk (rowsO i a.s.j h))
    (four (dz0 i x a h) (dz1 i x a h) (dz2 i x a h) (dz3 i x a h))) := rfl

theorem trip_dv : (trip i x a h).dv = (rowsO i a.s.j h).overlay a.dv (k0_pay5 x.D (View.ld a.dv (rowsO i a.s.j h))
    (four (Off.w x.U a.s.r0 (Off.z x.q0 (Kb i x a h))) (Off.w x.U a.s.r1 (Off.z x.q1 (Kb i x a h)))
      (Off.w x.U a.s.r2 (Off.z x.q2 (Kb i x a h))) (Off.w x.U a.s.r3 (Off.z x.q3 (Kb i x a h))))) := rfl

end trip

section diag
variable (x5 : Vec Ideal S256x256 .f32) (dk dv : Vec Ideal S8192x128 .f32)

noncomputable abbrev Kd : Vec Ideal S256x128 .bf16 := View.ld x.K (rowsD i)
noncomputable abbrev Vd : Vec Ideal S256x128 .bf16 := View.ld x.V (rowsD i)
noncomputable abbrev M0 : IVec S128x256 1 := k0_pay11 x5
noncomputable abbrev M1 : IVec S128x256 1 := k0_pay12 x5

open Diag

noncomputable abbrev z0 := Narrow.z x.q0 (Kd i x)
noncomputable abbrev z1 := Wide.z x.q1 (Kd i x)
noncomputable abbrev z2 := Narrow.z x.q2 (Kd i x)
noncomputable abbrev z3 := Wide.z x.q3 (Kd i x)
noncomputable abbrev dw0 := Narrow.dw x.d0 (Vd i x)
noncomputable abbrev dw1 := Wide.dw x.d1 (Vd i x)
noncomputable abbrev dw2 := Narrow.dw x.d2 (Vd i x)
noncomputable abbrev dw3 := Wide.dw x.d3 (Vd i x)

theorem diag_r0 : (diag i x x5 dk dv).s.r0 = Narrow.r (M0 x5) (z0 i x) := rfl
theorem diag_r1 : (diag i x x5 dk dv).s.r1 = Wide.r (M1 x5) (z1 i x) := rfl
theorem diag_r2 : (diag i x x5 dk dv).s.r2 = Narrow.r (M0 x5) (z2 i x) := rfl
theorem diag_r3 : (diag i x x5 dk dv).s.r3 = Wide.r (M1 x5) (z3 i x) := rfl

theorem diag_e0 : (diag i x x5 dk dv).s.e0 = k0_pay103 (Narrow.suf x.U x.L (M0 x5) (dw0 i x) (z0 i x)) := rfl
theorem diag_e1 : (diag i x x5 dk dv).s.e1 = k0_pay109 (Wide.suf x.U x.L (M1 x5) (dw1 i x) (z1 i x)) := rfl
theorem diag_e2 : (diag i x x5 dk dv).s.e2 = k0_pay103 (Narrow.suf x.U x.L (M0 x5) (dw2 i x) (z2 i x)) := rfl
theorem diag_e3 : (diag i x x5 dk dv).s.e3 = k0_pay109 (Wide.suf x.U x.L (M1 x5) (dw3 i x) (z3 i x)) := rfl

theorem diag_g0 : (diag i x x5 dk dv).s.g0 = Narrow.g x.U x.L (M0 x5) x.t0 (Kd i x) (dw0 i x) (z0 i x) := rfl
theorem diag_g1 : (diag i x x5 dk dv).s.g1 = Wide.g x.U x.L (M1 x5) x.t1 (Kd i x) (dw1 i x) (z1 i x) := rfl
theorem diag_g2 : (diag i x x5 dk dv).s.g2 = Narrow.g x.U x.L (M0 x5) x.t2 (Kd i x) (dw2 i x) (z2 i x) := rfl
theorem diag_g3 : (diag i x x5 dk dv).s.g3 = Wide.g x.U x.L (M1 x5) x.t3 (Kd i x) (dw3 i x) (z3 i x) := rfl

/-- A narrow block with zeros beside it. -/
noncomputable abbrev padded (m : FVec Ideal S128x128 .bf16) : FVec Ideal S128x256 .bf16 := k0_pay106 m

theorem diag_dk : (diag i x x5 dk dv).dk = (rowsD i).overlay dk (k0_pay5 x.Q (View.ld dk (rowsD i))
    (four (padded (Narrow.dz x.U x.L (M0 x5) x.t0 (dw0 i x) (z0 i x))) (Wide.dz x.U x.L (M1 x5) x.t1 (dw1 i x) (z1 i x))
      (padded (Narrow.dz x.U x.L (M0 x5) x.t2 (dw2 i x) (z2 i x))) (Wide.dz x.U x.L (M1 x5) x.t3 (dw3 i x) (z3 i x)))) := rfl

theorem diag_dv : (diag i x x5 dk dv).dv = (rowsD i).overlay dv (k0_pay5 x.D (View.ld dv (rowsD i))
    (four (padded (Narrow.w x.U (M0 x5) (z0 i x))) (Wide.w x.U (M1 x5) (z1 i x))
      (padded (Narrow.w x.U (M0 x5) (z2 i x))) (Wide.w x.U (M1 x5) (z3 i x)))) := rfl

end diag

end Cert.AttnIdeal.Parts
-- ==== Proof.AttnLoop.lean ====
/-
  The backward kernel's loop over earlier blocks: the label's specification, met by its body.  Holding the slabs and the
  two gradients, it returns the state and leaves the gradients as `fold` gives them.
-/
module

public import proofs.«01_k».proof.Proof.AttnStep

@[expose] public section

/-! The loop over earlier key blocks, which ends when no weight is left: its invariant and its run. -/

set_option maxRecDepth 16384

noncomputable section

namespace Cert.AttnIdeal.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F] [Named F]

local notation "𝕄" => MT nD τ sig Unit (Elt F) ℕ (UR sig nD τ) ℕ

/-- The variants a call of the loop's label descends in: the blocks left. -/
abbrev 𝒱₀ : Variants := Variants.nat

/-! ### The counter -/

/-- The loop's test passes only below the query block's number. -/
theorem lt_of_going (i : grid0.Coords) (s : Carry F) (j : ℕ) (hj : j ≤ 32) (hs : s.j = BitVec.ofNat 32 j)
    (h : going i s = 1#1) : j < (i 1).val := by
  by_contra hn
  have hi : (i 1).val < 32 := (i 1).isLt
  have h0 : Scalar.cmpi .slt s.j (BitVec.ofNat 32 (i 1).val) = 0#1 := by
    rw [hs]
    generalize (i 1).val = q at hn hi
    have hn' : q ≤ j := by omega
    interval_cases j <;> interval_cases q <;> first | rfl | omega
  rw [going, h0] at h
  exact (by decide : ∀ b : BitVec 1, Scalar.andi 0#1 b ≠ 1#1) _ h

/-- The first row of the block the loop reads at counter `j`. -/
theorem off2_val (i : grid0.Coords) (j : ℕ) (h : j < (i 1).val) :
    k0_off2 i (BitVec.ofNat 32 j) = ![256 * ((i 1).val - 1 - j), 0] := by
  have hi : (i 1).val < 32 := (i 1).isLt
  unfold k0_off2
  dsimp only
  generalize (i 1).val = q at h hi
  interval_cases q <;> first | omega | (interval_cases j <;> rfl)

/-- The first row of the diagonal block. -/
theorem off1_val (i : grid0.Coords) : k0_off1 i = ![256 * (i 1).val, 0] := by
  have hi : (i 1).val < 32 := (i 1).isLt
  unfold k0_off1
  dsimp only
  generalize (i 1).val = q at hi
  interval_cases q <;> rfl

/-- The side condition the loop assumes of its counter holds below the query block's number. -/
theorem chk_of_lt (i : grid0.Coords) (j : ℕ) (h : j < (i 1).val) : k0_chk1 i (BitVec.ofNat 32 j) := by
  have hi : (i 1).val < 32 := (i 1).isLt
  refine ⟨?_, ?_⟩
  · have e : (k0_mult2 i (BitVec.ofNat 32 j)).toNat = 256 * ((i 1).val - 1 - j) := congrFun (off2_val i j h) 0
    exact ⟨_, e⟩
  · rw [off2_val i j h]
    intro a
    fin_cases a
    · show 256 * ((i 1).val - 1 - j) + 256 ≤ 8192; omega
    · exact Nat.le_refl 128

/-- The counter's step. -/
theorem addi_succ (j : ℕ) : Scalar.addi (BitVec.ofNat 32 j) 1#32 = BitVec.ofNat 32 (j + 1) := by
  show BitVec.ofNat 32 j + 1#32 = _
  rw [BitVec.ofNat_add]

/-! ### The label -/

section Label

variable (c : Dev nD) (i : grid0.Coords) (x : Ctx F)
  (m3 : Memref sig .tc .vmem S8192x128 .bf16) (h3 : m3.IsWhole) (m4 : Memref sig .tc .vmem S8192x128 .bf16) (h4 : m4.IsWhole)
  (m13 : Memref sig .tc .vmem S8192x128 .f32) (h13 : m13.IsWhole) (m14 : Memref sig .tc .vmem S8192x128 .f32) (h14 : m14.IsWhole)

/-- The label's record at a state. -/
def clo (s : Carry F) : Cc0While1 F :=
  ⟨i, m3, h3, m4, h4, x.q0, x.d0, x.q1, x.d1, x.q2, x.d2, x.q3, x.d3, x.U, x.L, x.t0, x.t1, x.t2, x.t3, m13, h13, x.Q, m14, h14, x.D,
    s.j, s.r0, s.r1, s.r2, s.r3, s.e0, s.e1, s.e2, s.e3, s.g0, s.g1, s.g2, s.g3⟩

/-- The label's result at a state. -/
abbrev res (s : Carry F) : (Λ₀ F).Result (1 : (Λ₀ F).Label) :=
  (s.j, s.r0, s.r1, s.r2, s.r3, s.e0, s.e1, s.e2, s.e3, s.g0, s.g1, s.g2, s.g3)

/-- What the loop holds: the two slabs and the two gradients. -/
def held (dk dv : Vec F S8192x128 .f32) : sProp 𝕄 :=
  iprop(owns (c : Thread nD τ) m3 fullShare x.K ∗ owns (c : Thread nD τ) m4 fullShare x.V
    ∗ owns (c : Thread nD τ) m13 fullShare dk ∗ owns (c : Thread nD τ) m14 fullShare dv)

/-- The label's specification with at most `k` blocks left. -/
def spec (k : ℕ) (a : Acc F) : sWPT 𝕄 ((Λ₀ F).Result (1 : (Λ₀ F).Label)) := do
  sWPT.consume (held c x m3 m4 m13 m14 a.dk a.dv)
  sWPT.produce (held c x m3 m4 m13 m14 (fold i x k a).dk (fold i x k a).dv)
  pure (res (fold i x k a).s)

theorem spec_apply (k : ℕ) (a : Acc F) (K : (Λ₀ F).Result (1 : (Λ₀ F).Label) → sProp 𝕄) :
    spec c i x m3 m4 m13 m14 k a K
      = iprop(held c x m3 m4 m13 m14 a.dk a.dv
          ∗ (held c x m3 m4 m13 m14 (fold i x k a).dk (fold i x k a).dv -∗ K (res (fold i x k a).s))) := rfl

theorem spec_le (E : Set ℕ) : ∀ (k j : ℕ) (a : Acc F), a.s.j = BitVec.ofNat 32 j → j ≤ (i 1).val → (i 1).val ≤ j + k →
    ∀ K, spec c i x m3 m4 m13 m14 k a K
      ⊢ wp frame (wpE (defs₀ (F := F)) 𝒱₀ (c : Thread nD τ) (some k)) E
          (defs₀ (F := F) .tc 1 (clo i x m3 h3 m4 h4 m13 h13 m14 h14 a.s)) K := by
  have hi : (i 1).val < 32 := (i 1).isLt
  have stop : ∀ (k : ℕ) (a : Acc F), ¬going i a.s = 1#1 → ∀ K, iprop(held c x m3 m4 m13 m14 a.dk a.dv
          ∗ (held c x m3 m4 m13 m14 a.dk a.dv -∗ K (res a.s)))
      ⊢ wp frame (wpE (defs₀ (F := F)) 𝒱₀ (c : Thread nD τ) (some k)) E
          (defs₀ (F := F) .tc 1 (clo i x m3 h3 m4 h4 m13 h13 m14 h14 a.s)) K := by
    intro k a htest K
    show _ ⊢ wp frame (wpE (defs₀ (F := F)) 𝒱₀ (c : Thread nD τ) (some k)) E
      (cc0_while1 i m3 h3 m4 h4 x.q0 x.d0 x.q1 x.d1 x.q2 x.d2 x.q3 x.d3 x.U x.L x.t0 x.t1 x.t2 x.t3 m13 h13 x.Q m14 h14 x.D
        a.s.j a.s.r0 a.s.r1 a.s.r2 a.s.r3 a.s.e0 a.s.e1 a.s.e2 a.s.e3 a.s.g0 a.s.g1 a.s.g2 a.s.g3) K
    simp only [cc0_while1_eq_skeleton]; unfold cc0_while1_skel
    have htest' : ¬(Scalar.andi (Scalar.cmpi .slt a.s.j (BitVec.ofNat 32 (i 1).val))
      (Scalar.cmpf .oge (k0_pay4 a.s.r0 a.s.r1 a.s.r2 a.s.r3) (Named.named κ "exp2_zero" 0xC3160000#32)) = 1#1) := htest
    simp only [htest', ↓reduceIte, Prog.pure_eq_ret]
    iintro ⟨H, Hk⟩
    rw [wp_ret]; imodintro
    iapply Hk
    iexact H
  intro k
  induction k with
  | zero =>
    intro j a hs hj hk K
    rw [spec_apply]
    have htest : ¬going i a.s = 1#1 := fun h => by
      have := lt_of_going i a.s j (by omega) hs h
      omega
    exact stop 0 a htest K
  | succ k ih =>
    intro j a hs hj hk K
    rw [spec_apply]
    by_cases htest : going i a.s = 1#1
    · have hlt := lt_of_going i a.s j (by omega) hs htest
      have hc : k0_chk1 i a.s.j := by rw [hs]; exact chk_of_lt i j hlt
      have hf : fold i x (k + 1) a = fold i x k (trip i x a hc) := by
        rw [fold, dif_pos ⟨htest, hc⟩]
      rw [hf]
      show _ ⊢ wp frame (wpE (defs₀ (F := F)) 𝒱₀ (c : Thread nD τ) (some (k + 1))) E
        (cc0_while1 i m3 h3 m4 h4 x.q0 x.d0 x.q1 x.d1 x.q2 x.d2 x.q3 x.d3 x.U x.L x.t0 x.t1 x.t2 x.t3 m13 h13 x.Q m14 h14 x.D
          a.s.j a.s.r0 a.s.r1 a.s.r2 a.s.r3 a.s.e0 a.s.e1 a.s.e2 a.s.e3 a.s.g0 a.s.g1 a.s.g2 a.s.g3) K
      simp only [cc0_while1_eq_skeleton]; unfold cc0_while1_skel
      have htest' : Scalar.andi (Scalar.cmpi .slt a.s.j (BitVec.ofNat 32 (i 1).val))
        (Scalar.cmpf .oge (k0_pay4 a.s.r0 a.s.r1 a.s.r2 a.s.r3) (Named.named κ "exp2_zero" 0xC3160000#32)) = 1#1 := htest
      simp only [k0_part11_eq_skeleton, k0_part12_eq_skeleton, k0_part13_eq_skeleton, k0_part14_eq_skeleton, k0_part15_eq_skeleton]
      unfold k0_part11_skel k0_part12_skel k0_part13_skel k0_part14_skel k0_part15_skel
      simp only [htest', ↓reduceIte, Prog.lift, Prog.bind_op, Prog.bind_ret, Prog.pure_eq_ret]
      unfold held
      iintro ⟨⟨H3, H4, HK, HV⟩, Hk⟩
      iapply (wp_assume 𝒱₀ (c : Thread nD τ) (some (k + 1)) E hc)
      iapply (Owns.load_owns 𝒱₀ (c : Thread nD τ) (some (k + 1)) E) $$ H3; iintro H3
      iapply (Owns.load_owns 𝒱₀ (c : Thread nD τ) (some (k + 1)) E) $$ H4; iintro H4
      iapply (Owns.load_owns 𝒱₀ (c : Thread nD τ) (some (k + 1)) E) $$ HK; iintro HK
      iapply (Owns.load_owns 𝒱₀ (c : Thread nD τ) (some (k + 1)) E) $$ HK; iintro HK
      iapply (Owns.store_owns 𝒱₀ (c : Thread nD τ) (some (k + 1)) E) $$ HK; iintro HK
      iapply (Owns.load_owns 𝒱₀ (c : Thread nD τ) (some (k + 1)) E) $$ HV; iintro HV
      iapply (Owns.load_owns 𝒱₀ (c : Thread nD τ) (some (k + 1)) E) $$ HV; iintro HV
      iapply (Owns.store_owns 𝒱₀ (c : Thread nD τ) (some (k + 1)) E) $$ HV; iintro HV
      iapply (wp_call_spec 𝒱₀ (c : Thread nD τ) (some (k + 1)) E (spec c i x m3 m4 m13 m14 k (trip i x a hc)) k
        (fun u hu => by cases hu; exact Nat.lt_succ_self k)
        (ih (j + 1) (trip i x a hc) (by show Scalar.addi a.s.j 1#32 = _; rw [hs]; exact addi_succ j) (by omega) (by omega)))
      rw [spec_apply]; unfold held
      isplitl [H3 H4 HK HV]
      · isplitl [H3]; · iexact H3
        isplitl [H4]; · iexact H4
        isplitl [HK]; · iexact HK
        iexact HV
      · iintro H
        rw [wp_ret]; imodintro
        iapply Hk
        iexact H
    · have hf : fold i x (k + 1) a = a := by
        rw [fold, dif_neg fun h => htest h.1]
      rw [hf]
      exact stop (k + 1) a htest K

end Label

end Cert.AttnIdeal.Block
-- ==== Proof.AttnInv.lean ====
module

public import proofs.«01_k».proof.Proof.AttnParts
public import proofs.«01_k».proof.Proof.AttnLoop

@[expose] public section

/-! # What a point of the attention's backward pass computes, at real entries

  A point takes 256 query rows and two heads, hence four chains: two heads times two halves of the rows.
  `Inv` says what the state holds once the blocks from key `lo` on are done; the diagonal block sets
  it up, an earlier block moves it 256 keys down, and the loop ends at key zero. -/

namespace Cert.AttnIdeal.Inv

open Idealize.ShloMosaic Idealize.ShloMosaic.TcCoe Idealize.SL.Sem Finset
open Cert.AttnIdeal Cert.AttnIdeal.Gen Cert.AttnIdeal.Block Cert.AttnIdeal.Parts AttnMath
open Cert.AttnIdeal.Off (IsU IsL)
open Cert.AttnIdeal.Diag (IsM)

/-- The rows of a pair of heads: the masked and scaled queries and the masked cotangents of the four
    chains, the keys and the values. -/
structure Data where
  Qm : Fin 4 → ℕ → ℕ → ℝ
  Dm : Fin 4 → ℕ → ℕ → ℝ
  Kf : ℕ → ℕ → ℝ
  Vf : ℕ → ℕ → ℝ

namespace Data
variable (D : Data)

/-- The scores, -/
noncomputable def X (p : Fin 4) (s k : ℕ) : ℝ := ∑ l : Fin 128, D.Qm p s l.val * D.Kf k l.val
/-- the cotangents' products with the values, -/
noncomputable def Y (p : Fin 4) (s k : ℕ) : ℝ := ∑ l : Fin 128, D.Dm p s l.val * D.Vf k l.val
/-- the weights, -/
noncomputable def W (p : Fin 4) (s k : ℕ) : ℝ := ww (D.X p s) s k
/-- the scores' gradients, -/
noncomputable def Z (p : Fin 4) (s k : ℕ) : ℝ := dd (D.X p s) (D.Y p s) s k
/-- what the rows of a point add to the keys' gradients, -/
noncomputable def CK (qi k l : ℕ) : ℝ :=
  (∑ a : Fin 128, D.Z 0 (256 * qi + a.val) k * D.Qm 0 (256 * qi + a.val) l)
  + (∑ a : Fin 128, D.Z 1 (256 * qi + 128 + a.val) k * D.Qm 1 (256 * qi + 128 + a.val) l)
  + (∑ a : Fin 128, D.Z 2 (256 * qi + a.val) k * D.Qm 2 (256 * qi + a.val) l)
  + (∑ a : Fin 128, D.Z 3 (256 * qi + 128 + a.val) k * D.Qm 3 (256 * qi + 128 + a.val) l)
/-- and to the values'. -/
noncomputable def CV (qi k l : ℕ) : ℝ :=
  (∑ a : Fin 128, D.W 0 (256 * qi + a.val) k * D.Dm 0 (256 * qi + a.val) l)
  + (∑ a : Fin 128, D.W 1 (256 * qi + 128 + a.val) k * D.Dm 1 (256 * qi + 128 + a.val) l)
  + (∑ a : Fin 128, D.W 2 (256 * qi + a.val) k * D.Dm 2 (256 * qi + a.val) l)
  + (∑ a : Fin 128, D.W 3 (256 * qi + 128 + a.val) k * D.Dm 3 (256 * qi + 128 + a.val) l)

lemma Z_late {p : Fin 4} {s k : ℕ} (h : s ≤ k) : D.Z p s k = 0 := by rw [Z, dd, if_neg (by omega)]
lemma W_late {p : Fin 4} {s k : ℕ} (h : s ≤ k) : D.W p s k = 0 := by rw [W, ww, if_neg (by omega)]

lemma CK_late {qi k : ℕ} (l : ℕ) (h : 256 * qi + 256 ≤ k) : D.CK qi k l = 0 := by
  have e : ∀ (p : Fin 4) (a : Fin 128) (o : ℕ), o ≤ 128 → D.Z p (256 * qi + o + a.val) k = 0 := fun p a o ho =>
    D.Z_late (by omega)
  have e0 := fun p a => e p a 0 (by norm_num)
  have e1 := fun p a => e p a 128 le_rfl
  simp only [add_zero] at e0
  simp only [CK, e0, e1, zero_mul, sum_const_zero, add_zero]

lemma CV_late {qi k : ℕ} (l : ℕ) (h : 256 * qi + 256 ≤ k) : D.CV qi k l = 0 := by
  have e : ∀ (p : Fin 4) (a : Fin 128) (o : ℕ), o ≤ 128 → D.W p (256 * qi + o + a.val) k = 0 := fun p a o ho =>
    D.W_late (by omega)
  have e0 := fun p a => e p a 0 (by norm_num)
  have e1 := fun p a => e p a 128 le_rfl
  simp only [add_zero] at e0
  simp only [CV, e0, e1, zero_mul, sum_const_zero, add_zero]

end Data

variable (D : Data)

/-- What a chain reads. -/
structure ChainOK (p : Fin 4) (s0 : ℕ) (q d : FVec Ideal S128x128 .bf16) (t : FVec Ideal S128x1 .f32) : Prop where
  hq : ∀ (a l : Fin 128), q (ix2 a l) = ((D.Qm p (s0 + a.val) l.val : ℝ) : EReal)
  hd : ∀ (a l : Fin 128), d (ix2 a l) = ((D.Dm p (s0 + a.val) l.val : ℝ) : EReal)
  ht : ∀ a : Fin 128, t (ix2 a 0)
    = ((∑ i ∈ range (s0 + a.val), ee (D.X p (s0 + a.val)) (D.Y p (s0 + a.val)) (s0 + a.val) i : ℝ) : EReal)

/-- What a chain carries once the keys from `lo` on are done. -/
structure StOK (p : Fin 4) (s0 lo : ℕ) (r e : FVec Ideal S128x1 .f32) (g : FVec Ideal S128x128 .f32) : Prop where
  hr : ∀ a : Fin 128, r (ix2 a 0) = ((∑ i ∈ Ico lo (s0 + a.val), nk (D.X p (s0 + a.val) i) * (Real.log 2)⁻¹ : ℝ) : EReal)
  he : ∀ a : Fin 128, e (ix2 a 0)
    = ((∑ i ∈ Ico lo (s0 + a.val), ee (D.X p (s0 + a.val)) (D.Y p (s0 + a.val)) (s0 + a.val) i : ℝ) : EReal)
  hg : ∀ (a l : Fin 128), g (ix2 a l)
    = ((∑ i ∈ Ico lo (s0 + a.val), dd (D.X p (s0 + a.val)) (D.Y p (s0 + a.val)) (s0 + a.val) i * D.Kf i l.val : ℝ) : EReal)

/-- The rows of a block of keys or values. -/
def BlockOK (f : ℕ → ℕ → ℝ) (lo : ℕ) (K : Vec Ideal S256x128 .bf16) : Prop :=
  ∀ (c : Fin 256) (l : Fin 128), K (ix2 c l) = ((f (lo + c.val) l.val : ℝ) : EReal)

section chain
variable {D} {p : Fin 4} {s0 lo : ℕ} {q d : FVec Ideal S128x128 .bf16} {t r e : FVec Ideal S128x1 .f32} {g : FVec Ideal S128x128 .f32}
  {U L : FVec Ideal S256x256 .bf16} {K V : Vec Ideal S256x128 .bf16} {M : IVec S128x256 1}

/-- An earlier block moves a chain's state down. -/
theorem off_step (hc : ChainOK D p s0 q d t) (hst : StOK D p s0 (lo + 256) r e g) (hs : lo + 256 ≤ s0) (hU : IsU U) (hL : IsL L)
    (hK : BlockOK D.Kf lo K) (hV : BlockOK D.Vf lo V) :
    StOK D p s0 lo (k0_pay145 r (Off.z q K)) (k0_pay186 (Off.suf U L (k0_pay123 d V) r e (Off.z q K)))
        (Off.g' U L (k0_pay123 d V) t r e g K (Off.z q K))
      ∧ (∀ (a : Fin 128) (c : Fin 256), Off.dz U L (k0_pay123 d V) t r e (Off.z q K) (ix2 a c) = ((D.Z p (s0 + a.val) (lo + c.val) : ℝ) : EReal))
      ∧ (∀ (a : Fin 128) (c : Fin 256), Off.w U r (Off.z q K) (ix2 a c) = ((D.W p (s0 + a.val) (lo + c.val) : ℝ) : EReal)) := by
  have hz : ∀ (a : Fin 128) (c : Fin 256), Off.z q K (ix2 a c) = ((D.X p (s0 + a.val) (lo + c.val) : ℝ) : EReal) :=
    Off.z_apply hc.hq hK
  have hd : ∀ (a : Fin 128) (c : Fin 256), k0_pay123 d V (ix2 a c) = ((D.Y p (s0 + a.val) (lo + c.val) : ℝ) : EReal) :=
    Off.dw_apply hc.hd hV
  exact ⟨⟨Off.r_apply hs hz hst.hr, Off.e'_apply hs hz hd hU hL hst.hr hst.he,
      Off.g_apply hs hz hd hU hL hst.hr hst.he hc.ht hK hst.hg⟩,
    Off.dz_apply hs hz hd hU hL hst.hr hst.he hc.ht, Off.w_apply hs hz hU hst.hr⟩

/-- The diagonal block starts a chain of the first half, -/
theorem narrow_start (hc : ChainOK D p lo q d t) (hU : IsU U) (hL : IsL L) (hM : IsM lo lo M)
    (hK : BlockOK D.Kf lo K) (hV : BlockOK D.Vf lo V) :
    StOK D p lo lo (Diag.Narrow.r M (Diag.Narrow.z q K)) (k0_pay103 (Diag.Narrow.suf U L M (Diag.Narrow.dw d V) (Diag.Narrow.z q K)))
        (Diag.Narrow.g U L M t K (Diag.Narrow.dw d V) (Diag.Narrow.z q K))
      ∧ (∀ (a : Fin 128) (c : Fin 256), padded (Diag.Narrow.dz U L M t (Diag.Narrow.dw d V) (Diag.Narrow.z q K)) (ix2 a c)
          = ((D.Z p (lo + a.val) (lo + c.val) : ℝ) : EReal))
      ∧ (∀ (a : Fin 128) (c : Fin 256), padded (Diag.Narrow.w U M (Diag.Narrow.z q K)) (ix2 a c)
          = ((D.W p (lo + a.val) (lo + c.val) : ℝ) : EReal)) := by
  have hz : ∀ (a : Fin 128) (c : Fin 128), Diag.Narrow.z q K (ix2 a c) = ((D.X p (lo + a.val) (lo + c.val) : ℝ) : EReal) :=
    Diag.Narrow.z_apply hc.hq hK
  have hd : ∀ (a : Fin 128) (c : Fin 128), Diag.Narrow.dw d V (ix2 a c) = ((D.Y p (lo + a.val) (lo + c.val) : ℝ) : EReal) :=
    Diag.Narrow.dw_apply hc.hd hV
  have hp : ∀ (m : FVec Ideal S128x128 .bf16) (a : Fin 128) (c : Fin 256),
      padded m (ix2 a c) = if h : c.val < 128 then m (ix2 a ⟨c.val, h⟩) else 0 := by
    intro m a c; pointwise [k0_pay106, k0_pay104]
  refine ⟨⟨Diag.Narrow.r_apply le_rfl hz hM, Diag.Narrow.e'_apply le_rfl hz hd hU hL hM,
      Diag.Narrow.g_apply le_rfl hz hd hU hL hM hc.ht hK⟩, fun a c => ?_, fun a c => ?_⟩
  · rw [hp]
    split
    · exact Diag.Narrow.dz_apply le_rfl hz hd hU hL hM hc.ht _ _
    · rw [D.Z_late (by omega), EReal.coe_zero]
  · rw [hp]
    split
    · exact Diag.Narrow.w_apply le_rfl hz hU hM _ _
    · rw [D.W_late (by omega), EReal.coe_zero]

/-- and one of the second half. -/
theorem wide_start (hc : ChainOK D p (lo + 128) q d t) (hU : IsU U) (hL : IsL L) (hM : IsM (lo + 128) lo M)
    (hK : BlockOK D.Kf lo K) (hV : BlockOK D.Vf lo V) :
    StOK D p (lo + 128) lo (Diag.Wide.r M (Diag.Wide.z q K)) (k0_pay109 (Diag.Wide.suf U L M (Diag.Wide.dw d V) (Diag.Wide.z q K)))
        (Diag.Wide.g U L M t K (Diag.Wide.dw d V) (Diag.Wide.z q K))
      ∧ (∀ (a : Fin 128) (c : Fin 256), Diag.Wide.dz U L M t (Diag.Wide.dw d V) (Diag.Wide.z q K) (ix2 a c)
          = ((D.Z p (lo + 128 + a.val) (lo + c.val) : ℝ) : EReal))
      ∧ (∀ (a : Fin 128) (c : Fin 256), Diag.Wide.w U M (Diag.Wide.z q K) (ix2 a c)
          = ((D.W p (lo + 128 + a.val) (lo + c.val) : ℝ) : EReal)) := by
  have hz : ∀ (a : Fin 128) (c : Fin 256), Diag.Wide.z q K (ix2 a c) = ((D.X p (lo + 128 + a.val) (lo + c.val) : ℝ) : EReal) :=
    Diag.Wide.z_apply hc.hq hK
  have hd : ∀ (a : Fin 128) (c : Fin 256), Diag.Wide.dw d V (ix2 a c) = ((D.Y p (lo + 128 + a.val) (lo + c.val) : ℝ) : EReal) :=
    Diag.Wide.dw_apply hc.hd hV
  exact ⟨⟨Diag.Wide.r_apply (by omega) hz hM, Diag.Wide.e'_apply (by omega) hz hd hU hL hM,
      Diag.Wide.g_apply (by omega) hz hd hU hL hM hc.ht hK⟩,
    Diag.Wide.dz_apply (by omega) hz hd hU hL hM hc.ht, Diag.Wide.w_apply (by omega) hz hU hM⟩

end chain

/-! ## Rows of the slabs -/

section rows
variable {lo : ℕ} {off : Fin 2 → ℕ} {inb : ∀ a, off a + S256x128.size a ≤ S8192x128.size a}

lemma idx_rows (hoff : off = ![lo, 0]) (hlo : lo + 256 ≤ 8192) (c : Fin 256) (l : Fin 128) :
    (Rect.unit (s := S8192x128) off S256x128.size inb).emb (ix2 c l) = ix2 (⟨lo + c.val, by omega⟩ : Fin 8192) l := by
  subst hoff
  funext a
  match a with
  | 0 => exact Fin.ext (by show lo + 1 * c.val = lo + c.val; omega)
  | 1 => exact Fin.ext (by show 0 + 1 * l.val = l.val; omega)

lemma ld_rows {α : EltTy} (X : Vec Ideal S8192x128 α) (hoff : off = ![lo, 0]) (hlo : lo + 256 ≤ 8192) (c : Fin 256) (l : Fin 128) :
    (View.ld X (Rect.unit (s := S8192x128) off S256x128.size inb) : Vec Ideal S256x128 α) (ix2 c l)
      = X (ix2 (⟨lo + c.val, by omega⟩ : Fin 8192) l) := by
  rw [← idx_rows (inb := inb) hoff hlo c l]; rfl

lemma overlay_rows (X : Vec Ideal S8192x128 .f32) (G : Vec Ideal S256x128 .f32) (hoff : off = ![lo, 0]) (hlo : lo + 256 ≤ 8192)
    (k : Fin 8192) (l : Fin 128) :
    (Rect.unit (s := S8192x128) off S256x128.size inb).overlay X G (ix2 k l)
      = if h : lo ≤ k.val ∧ k.val < lo + 256 then G (ix2 (⟨k.val - lo, by omega⟩ : Fin 256) l) else X (ix2 k l) := by
  split
  · next h =>
    have e : ix2 k l = (Rect.unit (s := S8192x128) off S256x128.size inb).emb (ix2 (⟨k.val - lo, by omega⟩ : Fin 256) l) := by
      rw [idx_rows hoff hlo]
      congr 1
      exact Fin.ext (by show k.val = lo + (k.val - lo); omega)
    conv_lhs => rw [e]
    exact Rect.overlay_emb (Rect.unit (s := S8192x128) off S256x128.size inb) X G _
  · next h =>
    refine Rect.overlay_of_not_mem (Rect.unit (s := S8192x128) off S256x128.size inb) X G fun hm => h ?_
    have := (Rect.mem_set_unit.mp hm) 0
    subst hoff
    exact this

end rows

/-- A sum over 512 rows in four parts. -/
lemma sum_four {β : Type*} [AddCommMonoid β] (f : Fin 512 → β) :
    ∑ i, f i = (∑ a : Fin 128, f ⟨a.val, by omega⟩) + (∑ a : Fin 128, f ⟨128 + a.val, by omega⟩)
      + (∑ a : Fin 128, f ⟨256 + a.val, by omega⟩) + (∑ a : Fin 128, f ⟨384 + a.val, by omega⟩) := by
  rw [show (∑ i, f i) = ∑ i : Fin (128 + 128 + 128 + 128), f i from rfl, Fin.sum_univ_add, Fin.sum_univ_add, Fin.sum_univ_add]
  rfl

/-- The product of the four chains' blocks with their rows, added to what was there. -/
lemma four_mul {y0 y1 y2 y3 : FVec Ideal S128x256 .bf16} {Q : FVec Ideal S512x128 .bf16} {old : Vec Ideal S256x128 .f32}
    {f0 f1 f2 f3 q0 q1 q2 q3 : Fin 128 → ℝ} (c : Fin 256) (l : Fin 128)
    (h0 : ∀ a, y0 (ix2 a c) = (f0 a : EReal)) (h1 : ∀ a, y1 (ix2 a c) = (f1 a : EReal))
    (h2 : ∀ a, y2 (ix2 a c) = (f2 a : EReal)) (h3 : ∀ a, y3 (ix2 a c) = (f3 a : EReal))
    (g0 : ∀ a : Fin 128, Q (ix2 ⟨a.val, by omega⟩ l) = (q0 a : EReal))
    (g1 : ∀ a : Fin 128, Q (ix2 ⟨128 + a.val, by omega⟩ l) = (q1 a : EReal))
    (g2 : ∀ a : Fin 128, Q (ix2 ⟨256 + a.val, by omega⟩ l) = (q2 a : EReal))
    (g3 : ∀ a : Fin 128, Q (ix2 ⟨384 + a.val, by omega⟩ l) = (q3 a : EReal)) :
    k0_pay5 Q old (four y0 y1 y2 y3) (ix2 c l) = old (ix2 c l)
      + (((∑ a, f0 a * q0 a) + (∑ a, f1 a * q1 a) + (∑ a, f2 a * q2 a) + (∑ a, f3 a * q3 a) : ℝ) : EReal) := by
  have h : k0_pay5 Q old (four y0 y1 y2 y3) (ix2 c l) = old (ix2 c l) + ∑ i, four y0 y1 y2 y3 (ix2 i c) * Q (ix2 i l) := by
    pointwise [k0_pay5]
  have hf : ∀ i : Fin 512, four y0 y1 y2 y3 (ix2 i c) = if h : i.val < 128 then y0 (ix2 ⟨i.val, h⟩ c)
      else if h : i.val - 128 < 128 then y1 (ix2 ⟨i.val - 128, h⟩ c)
      else if h : i.val - 128 - 128 < 128 then y2 (ix2 ⟨i.val - 128 - 128, h⟩ c)
      else y3 (ix2 ⟨i.val - 128 - 128 - 128, by omega⟩ c) := by
    intro i; pointwise [k0_pay194]
  rw [h, sum_four]
  congr 1
  rw [EReal.coe_add, EReal.coe_add, EReal.coe_add, coe_sum, coe_sum, coe_sum, coe_sum]
  congr 1
  · congr 1
    · congr 1
      · refine sum_congr rfl fun a _ => ?_
        rw [hf, dif_pos a.isLt, h0, g0, EReal.coe_mul]
      · refine sum_congr rfl fun a _ => ?_
        rw [hf, dif_neg (by simp), dif_pos (by simp), g1, EReal.coe_mul, ← h1]
        congr 3
        exact Fin.ext (by simp)
    · refine sum_congr rfl fun a _ => ?_
      rw [hf, dif_neg (by simp; omega), dif_neg (by simp; omega), dif_pos (by simp; omega), g2, EReal.coe_mul, ← h2]
      congr 3
      exact Fin.ext (by simp; omega)
  · refine sum_congr rfl fun a _ => ?_
    rw [hf, dif_neg (by simp; omega), dif_neg (by simp; omega), dif_neg (by simp; omega), g3, EReal.coe_mul, ← h3]
    congr 3
    exact Fin.ext (by simp; omega)

/-! ## The point -/

/-- What a point reads. -/
structure Good (qi : ℕ) (x : Ctx Ideal) : Prop where
  hK : ∀ (k : Fin 8192) (l : Fin 128), x.K (ix2 k l) = ((D.Kf k.val l.val : ℝ) : EReal)
  hV : ∀ (k : Fin 8192) (l : Fin 128), x.V (ix2 k l) = ((D.Vf k.val l.val : ℝ) : EReal)
  hU : IsU x.U
  hL : IsL x.L
  c0 : ChainOK D 0 (256 * qi) x.q0 x.d0 x.t0
  c1 : ChainOK D 1 (256 * qi + 128) x.q1 x.d1 x.t1
  c2 : ChainOK D 2 (256 * qi) x.q2 x.d2 x.t2
  c3 : ChainOK D 3 (256 * qi + 128) x.q3 x.d3 x.t3
  hQ0 : ∀ (l a : Fin 128), x.Q (ix2 ⟨a.val, by omega⟩ l) = ((D.Qm 0 (256 * qi + a.val) l.val : ℝ) : EReal)
  hQ1 : ∀ (l a : Fin 128), x.Q (ix2 ⟨128 + a.val, by omega⟩ l) = ((D.Qm 1 (256 * qi + 128 + a.val) l.val : ℝ) : EReal)
  hQ2 : ∀ (l a : Fin 128), x.Q (ix2 ⟨256 + a.val, by omega⟩ l) = ((D.Qm 2 (256 * qi + a.val) l.val : ℝ) : EReal)
  hQ3 : ∀ (l a : Fin 128), x.Q (ix2 ⟨384 + a.val, by omega⟩ l) = ((D.Qm 3 (256 * qi + 128 + a.val) l.val : ℝ) : EReal)
  hD0 : ∀ (l a : Fin 128), x.D (ix2 ⟨a.val, by omega⟩ l) = ((D.Dm 0 (256 * qi + a.val) l.val : ℝ) : EReal)
  hD1 : ∀ (l a : Fin 128), x.D (ix2 ⟨128 + a.val, by omega⟩ l) = ((D.Dm 1 (256 * qi + 128 + a.val) l.val : ℝ) : EReal)
  hD2 : ∀ (l a : Fin 128), x.D (ix2 ⟨256 + a.val, by omega⟩ l) = ((D.Dm 2 (256 * qi + a.val) l.val : ℝ) : EReal)
  hD3 : ∀ (l a : Fin 128), x.D (ix2 ⟨384 + a.val, by omega⟩ l) = ((D.Dm 3 (256 * qi + 128 + a.val) l.val : ℝ) : EReal)

/-- What the state holds once the keys from `lo` on are done, starting from gradients `k0` and `v0`. -/
structure Inv (qi lo : ℕ) (k0 v0 : ℕ → ℕ → ℝ) (a : Acc Ideal) : Prop where
  s0 : StOK D 0 (256 * qi) lo a.s.r0 a.s.e0 a.s.g0
  s1 : StOK D 1 (256 * qi + 128) lo a.s.r1 a.s.e1 a.s.g1
  s2 : StOK D 2 (256 * qi) lo a.s.r2 a.s.e2 a.s.g2
  s3 : StOK D 3 (256 * qi + 128) lo a.s.r3 a.s.e3 a.s.g3
  dk : ∀ (k : Fin 8192) (l : Fin 128), a.dk (ix2 k l) = ((k0 k.val l.val + if lo ≤ k.val then D.CK qi k.val l.val else 0 : ℝ) : EReal)
  dv : ∀ (k : Fin 8192) (l : Fin 128), a.dv (ix2 k l) = ((v0 k.val l.val + if lo ≤ k.val then D.CV qi k.val l.val else 0 : ℝ) : EReal)

variable {D}

lemma lo_add (lo k : ℕ) (h : lo ≤ k) : lo + (k - lo) = k := by omega

/-- An earlier block. -/
theorem trip_inv {i : grid0.Coords} {x : Ctx Ideal} {a : Acc Ideal} {k0 v0 : ℕ → ℕ → ℝ} (hx : Good D (i 1).val x) (j : ℕ)
    (hj : j < (i 1).val) (hsj : a.s.j = BitVec.ofNat 32 j) (h : k0_chk1 i a.s.j)
    (ha : Inv D (i 1).val (256 * ((i 1).val - j)) k0 v0 a) :
    Inv D (i 1).val (256 * ((i 1).val - (j + 1))) k0 v0 (trip i x a h) := by
  have hi : (i 1).val < 32 := (i 1).isLt
  have hoff : k0_off2 i a.s.j = ![256 * ((i 1).val - (j + 1)), 0] := by
    rw [hsj, off2_val i j hj]; congr 2; omega
  generalize hlo : 256 * ((i 1).val - (j + 1)) = lo at hoff ⊢
  have hlo' : 256 * ((i 1).val - j) = lo + 256 := by omega
  rw [hlo'] at ha
  have hle : lo + 256 ≤ 8192 := by omega
  have hs : lo + 256 ≤ 256 * (i 1).val := by omega
  have hK : BlockOK D.Kf lo (Kb i x a h) := fun c l => (ld_rows x.K hoff hle c l).trans (hx.hK _ _)
  have hV : BlockOK D.Vf lo (Vb i x a h) := fun c l => (ld_rows x.V hoff hle c l).trans (hx.hV _ _)
  obtain ⟨t0, z0, w0⟩ := off_step hx.c0 ha.s0 hs hx.hU hx.hL hK hV
  obtain ⟨t1, z1, w1⟩ := off_step hx.c1 ha.s1 (by omega) hx.hU hx.hL hK hV
  obtain ⟨t2, z2, w2⟩ := off_step hx.c2 ha.s2 hs hx.hU hx.hL hK hV
  obtain ⟨t3, z3, w3⟩ := off_step hx.c3 ha.s3 (by omega) hx.hU hx.hL hK hV
  refine ⟨?_, ?_, ?_, ?_, fun k l => ?_, fun k l => ?_⟩
  · rw [trip_r0, trip_e0, trip_g0]; exact t0
  · rw [trip_r1, trip_e1, trip_g1]; exact t1
  · rw [trip_r2, trip_e2, trip_g2]; exact t2
  · rw [trip_r3, trip_e3, trip_g3]; exact t3
  · rw [trip_dk, overlay_rows _ _ hoff hle]
    split
    · next hk =>
      rw [four_mul _ l (fun a' => z0 a' _) (fun a' => z1 a' _) (fun a' => z2 a' _) (fun a' => z3 a' _) (hx.hQ0 l) (hx.hQ1 l) (hx.hQ2 l)
        (hx.hQ3 l), ld_rows a.dk hoff hle, ha.dk]
      simp only [lo_add lo k.val hk.1]
      rw [if_neg (by omega), if_pos hk.1, add_zero, ← EReal.coe_add]; rfl
    · next hk =>
      rw [ha.dk]
      congr 2
      exact if_congr (by omega) rfl rfl
  · rw [trip_dv, overlay_rows _ _ hoff hle]
    split
    · next hk =>
      rw [four_mul _ l (fun a' => w0 a' _) (fun a' => w1 a' _) (fun a' => w2 a' _) (fun a' => w3 a' _) (hx.hD0 l) (hx.hD1 l) (hx.hD2 l)
        (hx.hD3 l), ld_rows a.dv hoff hle, ha.dv]
      simp only [lo_add lo k.val hk.1]
      rw [if_neg (by omega), if_pos hk.1, add_zero, ← EReal.coe_add]; rfl
    · next hk =>
      rw [ha.dv]
      congr 2
      exact if_congr (by omega) rfl rfl

/-- The block on the diagonal. -/
theorem diag_inv {i : grid0.Coords} {x : Ctx Ideal} {x5 : Vec Ideal S256x256 .f32} {dk dv : Vec Ideal S8192x128 .f32} {k0 v0 : ℕ → ℕ → ℝ}
    (hx : Good D (i 1).val x) (hM0 : IsM (256 * (i 1).val) (256 * (i 1).val) (M0 x5))
    (hM1 : IsM (256 * (i 1).val + 128) (256 * (i 1).val) (M1 x5))
    (hdk : ∀ (k : Fin 8192) (l : Fin 128), dk (ix2 k l) = ((k0 k.val l.val : ℝ) : EReal))
    (hdv : ∀ (k : Fin 8192) (l : Fin 128), dv (ix2 k l) = ((v0 k.val l.val : ℝ) : EReal)) :
    Inv D (i 1).val (256 * (i 1).val) k0 v0 (diag i x x5 dk dv) := by
  have hi : (i 1).val < 32 := (i 1).isLt
  have hoff := off1_val i
  have hle : 256 * (i 1).val + 256 ≤ 8192 := by omega
  have hK : BlockOK D.Kf (256 * (i 1).val) (Kd i x) := fun c l => (ld_rows x.K hoff hle c l).trans (hx.hK _ _)
  have hV : BlockOK D.Vf (256 * (i 1).val) (Vd i x) := fun c l => (ld_rows x.V hoff hle c l).trans (hx.hV _ _)
  obtain ⟨t0, z0, w0⟩ := narrow_start hx.c0 hx.hU hx.hL hM0 hK hV
  obtain ⟨t1, z1, w1⟩ := wide_start hx.c1 hx.hU hx.hL hM1 hK hV
  obtain ⟨t2, z2, w2⟩ := narrow_start hx.c2 hx.hU hx.hL hM0 hK hV
  obtain ⟨t3, z3, w3⟩ := wide_start hx.c3 hx.hU hx.hL hM1 hK hV
  refine ⟨?_, ?_, ?_, ?_, fun k l => ?_, fun k l => ?_⟩
  · rw [diag_r0, diag_e0, diag_g0]; exact t0
  · rw [diag_r1, diag_e1, diag_g1]; exact t1
  · rw [diag_r2, diag_e2, diag_g2]; exact t2
  · rw [diag_r3, diag_e3, diag_g3]; exact t3
  · rw [diag_dk, overlay_rows _ _ hoff hle]
    split
    · next hk =>
      rw [four_mul _ l (fun a' => z0 a' _) (fun a' => z1 a' _) (fun a' => z2 a' _) (fun a' => z3 a' _) (hx.hQ0 l) (hx.hQ1 l) (hx.hQ2 l)
        (hx.hQ3 l), ld_rows dk hoff hle, hdk]
      simp only [lo_add _ k.val hk.1]
      rw [if_pos hk.1, ← EReal.coe_add]; rfl
    · next hk =>
      rw [hdk]
      by_cases hlt : 256 * (i 1).val ≤ k.val
      · rw [if_pos hlt, D.CK_late _ (by omega), add_zero]
      · rw [if_neg hlt, add_zero]
  · rw [diag_dv, overlay_rows _ _ hoff hle]
    split
    · next hk =>
      rw [four_mul _ l (fun a' => w0 a' _) (fun a' => w1 a' _) (fun a' => w2 a' _) (fun a' => w3 a' _) (hx.hD0 l) (hx.hD1 l) (hx.hD2 l)
        (hx.hD3 l), ld_rows dv hoff hle, hdv]
      simp only [lo_add _ k.val hk.1]
      rw [if_pos hk.1, ← EReal.coe_add]; rfl
    · next hk =>
      rw [hdv]
      by_cases hlt : 256 * (i 1).val ≤ k.val
      · rw [if_pos hlt, D.CV_late _ (by omega), add_zero]
      · rw [if_neg hlt, add_zero]

/-- The loop goes on as long as an earlier block is left: with the threshold at `−∞` nothing else ends it. -/
theorem going_of_lt (i : grid0.Coords) (s : Carry Ideal) (j : ℕ) (hs : s.j = BitVec.ofNat 32 j) (h : j < (i 1).val) : going i s = 1#1 := by
  have hi : (i 1).val < 32 := (i 1).isLt
  have hbot : (Named.named κ "exp2_zero" 0xC3160000#32 : Ideal .f32) = (⊥ : EReal) := by simp [Named.named, κ]
  unfold going
  rw [hbot, hs]
  have h1 : Scalar.cmpi .slt (BitVec.ofNat 32 j) (BitVec.ofNat 32 (i 1).val) = 1#1 := by
    generalize (i 1).val = q at h hi
    interval_cases q <;> interval_cases j <;> rfl
  have h2 : Scalar.cmpf .oge (k0_pay4 s.r0 s.r1 s.r2 s.r3) (⊥ : Ideal .f32) = 1#1 := by
    show BitVec.ofBool (decide ((⊥ : EReal) ≤ (k0_pay4 s.r0 s.r1 s.r2 s.r3 : EReal))) = 1#1
    rw [decide_eq_true bot_le]; rfl
  rw [h1, h2]; rfl

/-- The loop ends at key zero. -/
theorem fold_inv {i : grid0.Coords} {x : Ctx Ideal} {k0 v0 : ℕ → ℕ → ℝ} (hx : Good D (i 1).val x) :
    ∀ (n j : ℕ) (a : Acc Ideal), j ≤ (i 1).val → (i 1).val ≤ j + n → a.s.j = BitVec.ofNat 32 j →
      Inv D (i 1).val (256 * ((i 1).val - j)) k0 v0 a → Inv D (i 1).val 0 k0 v0 (Block.fold i x n a) := by
  intro n
  induction n with
  | zero =>
    intro j a h1 h2 _ ha
    rw [show 256 * ((i 1).val - j) = 0 by omega] at ha
    exact ha
  | succ n ih =>
    intro j a h1 h2 hsj ha
    unfold Block.fold
    by_cases hlt : j < (i 1).val
    · have hc : k0_chk1 i a.s.j := by rw [hsj]; exact chk_of_lt i j hlt
      rw [dif_pos ⟨going_of_lt i a.s j hsj hlt, hc⟩]
      refine ih (j + 1) _ (by omega) (by omega) ?_ (trip_inv hx j hlt hsj hc ha)
      show Scalar.addi a.s.j 1#32 = _
      rw [hsj, addi_succ]
    · have hn : ¬ (going i a.s = 1#1 ∧ k0_chk1 i a.s.j) := fun hh =>
        hlt (lt_of_going i a.s j (by have : (i 1).val < 32 := (i 1).isLt; omega) hsj hh.1)
      rw [dif_neg hn]
      rw [show 256 * ((i 1).val - j) = 0 by omega] at ha
      exact ha

end Cert.AttnIdeal.Inv
-- ==== Proof.AttnCtx.lean ====
module

public import proofs.«01_k».proof.Proof.AttnInv

@[expose] public section

/-! # What a point reads, from the blocks of its windows

  The entries of the projected rows are `A`, those of the cotangent `B`.  Pair `g` of heads occupies 128
  columns from `128 g` on: the queries there, the keys 512 and the values 1024 columns further. -/

namespace Cert.AttnIdeal.Inv

open Idealize.ShloMosaic Idealize.ShloMosaic.TcCoe Idealize.SL.Sem Finset
open Cert.AttnIdeal Cert.AttnIdeal.Gen Cert.AttnIdeal.Block Cert.AttnIdeal.Parts AttnMath
open Cert.AttnIdeal.Off (IsU IsL)
open Cert.AttnIdeal.Diag (IsM select_ite)

/-- The rows of pair `g`. -/
noncomputable def data (A B : ℕ → ℕ → ℝ) (g : ℕ) : Data where
  Qm p s l := if l / 64 = p.val / 2 then A s (128 * g + l) * (1 / 8) else 0
  Dm p s l := if l / 64 = p.val / 2 then B s (128 * g + l) else 0
  Kf k l := A k (512 + 128 * g + l)
  Vf k l := A k (1024 + 128 * g + l)

/-- The lanes of the first head, -/
lemma lane0 : ∀ c : Fin 128, IntOp.andi (IntOp.cmpi .sge (BitVec.ofNat 32 c.val) 0#32)
    (IntOp.cmpi .slt (BitVec.ofNat 32 c.val) 64#32) = if c.val / 64 = 0 then 1#1 else 0#1 := by decide
/-- and of the second. -/
lemma lane1 : ∀ c : Fin 128, IntOp.andi (IntOp.cmpi .sge (BitVec.ofNat 32 c.val) 64#32)
    (IntOp.cmpi .slt (BitVec.ofNat 32 c.val) 128#32) = if c.val / 64 = 1 then 1#1 else 0#1 := by decide

lemma eighth : Ideal.ofBits FTy.bf16 15872#16 = ((1 / 8 : ℝ) : EReal) := by
  simp [Ideal.ofBits, Ideal.ieee, -EReal.coe_mul]; norm_num
lemma eighth' : Ideal.ofBits FTy.f32 1040187392#32 = ((1 / 8 : ℝ) : EReal) := by
  simp [Ideal.ofBits, Ideal.ieee, -EReal.coe_mul]; norm_num
lemma half : Ideal.ofBits FTy.f32 1056964608#32 = ((1 / 2 : ℝ) : EReal) := by
  simp [Ideal.ofBits, Ideal.ieee, -EReal.coe_mul]; norm_num

/-- The entries of the blocks at point `(g, qi)`. -/
structure Blocks (A B O : ℕ → ℕ → ℝ) (g qi : ℕ) (x0 : Vec Ideal S256x128 .bf16) (x1 x2 : Vec Ideal S8192x128 .bf16)
    (x3 : Vec Ideal S256x128 .f32) (x4 : Vec Ideal S256x128 .bf16) (x5 : Vec Ideal S256x256 .f32) (x6 x7 : Vec Ideal S256x256 .bf16) : Prop where
  h0 : ∀ (a : Fin 256) (l : Fin 128), x0 (ix2 a l) = ((A (256 * qi + a.val) (128 * g + l.val) : ℝ) : EReal)
  h1 : ∀ (k : Fin 8192) (l : Fin 128), x1 (ix2 k l) = ((A k.val (512 + 128 * g + l.val) : ℝ) : EReal)
  h2 : ∀ (k : Fin 8192) (l : Fin 128), x2 (ix2 k l) = ((A k.val (1024 + 128 * g + l.val) : ℝ) : EReal)
  h3 : ∀ (a : Fin 256) (l : Fin 128), x3 (ix2 a l) = ((O (256 * qi + a.val) l.val : ℝ) : EReal)
  h4 : ∀ (a : Fin 256) (l : Fin 128), x4 (ix2 a l) = ((B (256 * qi + a.val) (128 * g + l.val) : ℝ) : EReal)
  h5 : ∀ (a c : Fin 256), x5 (ix2 a c) = ((if c.val < a.val then 1 else 0 : ℝ) : EReal)
  h6 : ∀ (a c : Fin 256), x6 (ix2 a c) = ((if c.val < a.val then 1 else 0 : ℝ) : EReal)
  h7 : ∀ (a c : Fin 256), x7 (ix2 a c) = ((if c.val ≤ a.val then 1 else 0 : ℝ) : EReal)
  hO : ∀ (p : Fin 4) (s : ℕ) (l : Fin 128), l.val / 64 = p.val / 2 →
    O s l.val = ∑ i ∈ range s, (data A B g).W p s i * (data A B g).Vf i l.val

section
variable {A B O : ℕ → ℕ → ℝ} {g qi : ℕ} {x0 : Vec Ideal S256x128 .bf16} {x1 x2 : Vec Ideal S8192x128 .bf16}
    {x3 : Vec Ideal S256x128 .f32} {x4 : Vec Ideal S256x128 .bf16} {x5 : Vec Ideal S256x256 .f32} {x6 x7 : Vec Ideal S256x256 .bf16}

lemma causal10 (hb : Blocks A B O g qi x0 x1 x2 x3 x4 x5 x6 x7) (a c : Fin 256) : k0_pay10 x5 (ix2 a c) = if c.val < a.val then 1#1 else 0#1 := by
  have h : k0_pay10 x5 (ix2 a c) = BitVec.ofBool (decide (Ideal.ofBits FTy.f32 1056964608#32 < x5 (ix2 a c))) := by pointwise [k0_pay10]
  rw [h, hb.h5, half]
  have e : (((1 / 2 : ℝ) : EReal) < ((if c.val < a.val then 1 else 0 : ℝ) : EReal)) ↔ c.val < a.val := by
    rw [EReal.coe_lt_coe_iff]
    split
    · next h => exact ⟨fun _ => h, fun _ => by norm_num⟩
    · next h => exact ⟨fun h' => absurd h' (by norm_num), fun h' => absurd h' h⟩
  simp only [e]
  by_cases h : c.val < a.val
  · rw [if_pos h, decide_eq_true h]; rfl
  · rw [if_neg h, decide_eq_false h]; rfl

theorem mask0 (hb : Blocks A B O g qi x0 x1 x2 x3 x4 x5 x6 x7) (lo : ℕ) : IsM lo lo (M0 x5) := by
  intro a c
  have h : k0_pay11 x5 (ix2 a c) = k0_pay10 x5 (ix2 ⟨a.val, by omega⟩ c) := by pointwise [k0_pay11]
  exact (h.trans (causal10 hb _ _)).trans (if_congr (by simp) rfl rfl)

theorem mask1 (hb : Blocks A B O g qi x0 x1 x2 x3 x4 x5 x6 x7) (lo : ℕ) : IsM (lo + 128) lo (M1 x5) := by
  intro a c
  have h : k0_pay12 x5 (ix2 a c) = k0_pay10 x5 (ix2 ⟨128 + a.val, by omega⟩ c) := by pointwise [k0_pay12]
  exact (h.trans (causal10 hb _ _)).trans (if_congr (by simp only; omega) rfl rfl)

/-- The weights' whole sum is the product of the cotangent with the output. -/
lemma total (hb : Blocks A B O g qi x0 x1 x2 x3 x4 x5 x6 x7) (p : Fin 4) (s : ℕ) :
    ∑ l : Fin 128, (if l.val / 64 = p.val / 2 then B s (128 * g + l.val) * O s l.val else 0)
      = ∑ i ∈ range s, ee ((data A B g).X p s) ((data A B g).Y p s) s i := by
  have e : ∀ l : Fin 128, (if l.val / 64 = p.val / 2 then B s (128 * g + l.val) * O s l.val else 0)
      = ∑ i ∈ range s, (data A B g).W p s i * ((data A B g).Dm p s l.val * (data A B g).Vf i l.val) := by
    intro l
    by_cases h : l.val / 64 = p.val / 2
    · rw [if_pos h, hb.hO p s l h, mul_sum]
      refine sum_congr rfl fun i _ => ?_
      show _ = _ * ((if l.val / 64 = p.val / 2 then B s (128 * g + l.val) else 0) * _)
      rw [if_pos h]; ring
    · rw [if_neg h, sum_eq_zero]
      intro i _
      show _ * ((if l.val / 64 = p.val / 2 then B s (128 * g + l.val) else 0) * _) = 0
      rw [if_neg h]; ring
  rw [sum_congr rfl fun l _ => e l, sum_comm]
  refine sum_congr rfl fun i _ => ?_
  rw [← mul_sum, mul_comm]; rfl

lemma coe_mask (p : Prop) [Decidable p] (r : ℝ) : (if p then (r : EReal) else 0) = ((if p then r else 0 : ℝ) : EReal) := by
  split <;> rfl

/-- Rows of four blocks, one below the other. -/
lemma rows_four {f : Fin 512 → EReal} {a b c d : Fin 128 → EReal}
    (hf : ∀ i : Fin 512, f i = if h : i.val < 128 then a ⟨i.val, h⟩
      else if h : i.val - 128 < 128 then b ⟨i.val - 128, h⟩
      else if h : i.val - 128 - 128 < 128 then c ⟨i.val - 128 - 128, h⟩ else d ⟨i.val - 128 - 128 - 128, by omega⟩) :
    (∀ r : Fin 128, f ⟨r.val, by omega⟩ = a r) ∧ (∀ r : Fin 128, f ⟨128 + r.val, by omega⟩ = b r)
      ∧ (∀ r : Fin 128, f ⟨256 + r.val, by omega⟩ = c r) ∧ (∀ r : Fin 128, f ⟨384 + r.val, by omega⟩ = d r) := by
  refine ⟨fun r => ?_, fun r => ?_, fun r => ?_, fun r => ?_⟩ <;> rw [hf]
  · rw [dif_pos r.isLt]
  · rw [dif_neg (by simp), dif_pos (by simp)]
    exact congrArg b (Fin.ext (by simp))
  · rw [dif_neg (by simp; omega), dif_neg (by simp; omega), dif_pos (by simp; omega)]
    exact congrArg c (Fin.ext (by simp; omega))
  · rw [dif_neg (by simp; omega), dif_neg (by simp; omega), dif_neg (by simp; omega)]
    exact congrArg d (Fin.ext (by simp; omega))

lemma cat25 (a b c d : FVec Ideal S128x128 .bf16) (l : Fin 128) :
    (∀ r : Fin 128, k0_pay25 a b c d (ix2 ⟨r.val, by omega⟩ l) = a (ix2 r l))
      ∧ (∀ r : Fin 128, k0_pay25 a b c d (ix2 ⟨128 + r.val, by omega⟩ l) = b (ix2 r l))
      ∧ (∀ r : Fin 128, k0_pay25 a b c d (ix2 ⟨256 + r.val, by omega⟩ l) = c (ix2 r l))
      ∧ (∀ r : Fin 128, k0_pay25 a b c d (ix2 ⟨384 + r.val, by omega⟩ l) = d (ix2 r l)) :=
  rows_four (f := fun i => k0_pay25 a b c d (ix2 i l)) (a := fun r => a (ix2 r l)) (b := fun r => b (ix2 r l)) (c := fun r => c (ix2 r l))
    (d := fun r => d (ix2 r l)) fun i => by pointwise [k0_pay25]

lemma cat26 (x4 : Vec Ideal S256x128 .bf16) (a b : FVec Ideal S128x128 .bf16) (l : Fin 128) :
    (∀ r : Fin 128, k0_pay26 x4 a b (iota .tc S1x128 32 [1] iota_S1x128_d1_w32) 64#32 (ix2 ⟨r.val, by omega⟩ l) = a (ix2 r l))
      ∧ (∀ r : Fin 128, k0_pay26 x4 a b (iota .tc S1x128 32 [1] iota_S1x128_d1_w32) 64#32 (ix2 ⟨128 + r.val, by omega⟩ l) = b (ix2 r l))
      ∧ (∀ r : Fin 128, k0_pay26 x4 a b (iota .tc S1x128 32 [1] iota_S1x128_d1_w32) 64#32 (ix2 ⟨256 + r.val, by omega⟩ l)
          = k0_pay23 x4 (iota .tc S1x128 32 [1] iota_S1x128_d1_w32) 64#32 (ix2 r l))
      ∧ (∀ r : Fin 128, k0_pay26 x4 a b (iota .tc S1x128 32 [1] iota_S1x128_d1_w32) 64#32 (ix2 ⟨384 + r.val, by omega⟩ l)
          = k0_pay24 x4 (ix2 r l)) :=
  rows_four (f := fun i => k0_pay26 x4 a b (iota .tc S1x128 32 [1] iota_S1x128_d1_w32) 64#32 (ix2 i l)) (a := fun r => a (ix2 r l))
    (b := fun r => b (ix2 r l)) (c := fun r => k0_pay23 x4 (iota .tc S1x128 32 [1] iota_S1x128_d1_w32) 64#32 (ix2 r l))
    (d := fun r => k0_pay24 x4 (ix2 r l)) fun i => by pointwise [k0_pay26]

/-- The point's context. -/
theorem ctx_good (hb : Blocks A B O g qi x0 x1 x2 x3 x4 x5 x6 x7) : Good (data A B g) qi (ctx x0 x1 x2 x3 x4 x6 x7) := by
  have q0 : ∀ a l : Fin 128, (ctx x0 x1 x2 x3 x4 x6 x7).q0 (ix2 a l) = (((data A B g).Qm 0 (256 * qi + a.val) l.val : ℝ) : EReal) := by
    intro a l
    show k0_pay14 x0 (ix2 a l) = _
    pointwise [k0_pay14, k0_pay13]
    rw [lane0, select_ite, hb.h0, eighth, ← EReal.coe_mul, coe_mask]; rfl
  have q1 : ∀ a l : Fin 128, (ctx x0 x1 x2 x3 x4 x6 x7).q1 (ix2 a l) = (((data A B g).Qm 1 (256 * qi + 128 + a.val) l.val : ℝ) : EReal) := by
    intro a l
    show k0_pay18 (k0_pay15 x0) k0_pay16 k0_pay17 (ix2 a l) = _
    pointwise [k0_pay18, k0_pay15, k0_pay16, k0_pay17, k0_pay13]
    rw [lane0, select_ite, hb.h0, eighth, ← EReal.coe_mul, coe_mask, ← add_assoc]; rfl
  have q2 : ∀ a l : Fin 128, (ctx x0 x1 x2 x3 x4 x6 x7).q2 (ix2 a l) = (((data A B g).Qm 2 (256 * qi + a.val) l.val : ℝ) : EReal) := by
    intro a l
    show k0_pay19 (k0_pay13 x0) (ix2 a l) = _
    pointwise [k0_pay19, k0_pay13]
    rw [lane1, select_ite, hb.h0, eighth, ← EReal.coe_mul, coe_mask]; rfl
  have q3 : ∀ a l : Fin 128, (ctx x0 x1 x2 x3 x4 x6 x7).q3 (ix2 a l) = (((data A B g).Qm 3 (256 * qi + 128 + a.val) l.val : ℝ) : EReal) := by
    intro a l
    show k0_pay20 (k0_pay13 x0) (ix2 a l) = _
    pointwise [k0_pay20, k0_pay13]
    rw [lane1, select_ite, hb.h0, eighth, ← EReal.coe_mul, coe_mask, ← add_assoc]; rfl
  have d0 : ∀ a l : Fin 128, (ctx x0 x1 x2 x3 x4 x6 x7).d0 (ix2 a l) = (((data A B g).Dm 0 (256 * qi + a.val) l.val : ℝ) : EReal) := by
    intro a l
    show k0_pay21 x4 (ix2 a l) = _
    pointwise [k0_pay21]
    rw [lane0, select_ite, hb.h4, coe_mask]; rfl
  have d1 : ∀ a l : Fin 128, (ctx x0 x1 x2 x3 x4 x6 x7).d1 (ix2 a l) = (((data A B g).Dm 1 (256 * qi + 128 + a.val) l.val : ℝ) : EReal) := by
    intro a l
    show k0_pay22 x4 (ix2 a l) = _
    pointwise [k0_pay22]
    rw [lane0, select_ite, hb.h4, coe_mask, ← add_assoc]; rfl
  have d2 : ∀ a l : Fin 128, (ctx x0 x1 x2 x3 x4 x6 x7).d2 (ix2 a l) = (((data A B g).Dm 2 (256 * qi + a.val) l.val : ℝ) : EReal) := by
    intro a l
    show k0_pay23 x4 (iota .tc S1x128 32 [1] iota_S1x128_d1_w32) 64#32 (ix2 a l) = _
    pointwise [k0_pay23]
    rw [lane1, select_ite, hb.h4, coe_mask]; rfl
  have d3 : ∀ a l : Fin 128, (ctx x0 x1 x2 x3 x4 x6 x7).d3 (ix2 a l) = (((data A B g).Dm 3 (256 * qi + 128 + a.val) l.val : ℝ) : EReal) := by
    intro a l
    show k0_pay24 x4 (ix2 a l) = _
    pointwise [k0_pay24]
    rw [lane1, select_ite, hb.h4, coe_mask, ← add_assoc]; rfl
  have tt : ∀ (p : Fin 4) (s : ℕ), (∑ l : Fin 128, if l.val / 64 = p.val / 2 then ((B s (128 * g + l.val) : ℝ) : EReal) * ((O s l.val : ℝ) : EReal) else 0)
      = ((∑ i ∈ range s, ee ((data A B g).X p s) ((data A B g).Y p s) s i : ℝ) : EReal) := by
    intro p s
    rw [← total hb p s, coe_sum]
    exact sum_congr rfl fun l _ => by rw [← EReal.coe_mul, coe_mask]
  refine ⟨hb.h1, hb.h2, ?_, ?_, ⟨q0, d0, ?_⟩, ⟨q1, d1, ?_⟩, ⟨q2, d2, ?_⟩, ⟨q3, d3, ?_⟩, ?_, ?_, ?_, ?_, ?_, ?_, ?_, ?_⟩
  · intro i j
    have h : k0_pay8 x6 (ix2 i j) = x6 (ix2 i j) := by pointwise [k0_pay8]
    exact h.trans (hb.h6 i j)
  · intro i j
    have h : k0_pay9 x7 (ix2 i j) = x7 (ix2 i j) := by pointwise [k0_pay9]
    exact h.trans (hb.h7 i j)
  · intro a
    show k0_pay32 (k0_pay28 x4 x3) (ix2 a 0) = _
    pointwise [k0_pay32, k0_pay28, k0_pay27]
    simp only [lane0, select_ite, hb.h4, hb.h3]
    exact tt 0 _
  · intro a
    show k0_pay33 (k0_pay29 x4 x3) k0_pay30 k0_pay31 (ix2 a 0) = _
    pointwise [k0_pay33, k0_pay29, k0_pay27, k0_pay30, k0_pay31]
    simp only [lane0, select_ite, hb.h4, hb.h3, ← add_assoc]
    exact tt 1 _
  · intro a
    show k0_pay34 (k0_pay27 x4 x3) (ix2 a 0) = _
    pointwise [k0_pay34, k0_pay27]
    simp only [lane1, select_ite, hb.h4, hb.h3]
    exact tt 2 _
  · intro a
    show k0_pay35 (k0_pay27 x4 x3) (ix2 a 0) = _
    pointwise [k0_pay35, k0_pay27]
    simp only [lane1, select_ite, hb.h4, hb.h3, ← add_assoc]
    exact tt 3 _
  · exact fun l a => (cat25 _ _ _ _ l).1 a |>.trans (q0 a l)
  · exact fun l a => (cat25 _ _ _ _ l).2.1 a |>.trans (q1 a l)
  · exact fun l a => (cat25 _ _ _ _ l).2.2.1 a |>.trans (q2 a l)
  · exact fun l a => (cat25 _ _ _ _ l).2.2.2 a |>.trans (q3 a l)
  · exact fun l a => (cat26 _ _ _ l).1 a |>.trans (d0 a l)
  · exact fun l a => (cat26 _ _ _ l).2.1 a |>.trans (d1 a l)
  · exact fun l a => (cat26 _ _ _ l).2.2.1 a |>.trans (d2 a l)
  · exact fun l a => (cat26 _ _ _ l).2.2.2 a |>.trans (d3 a l)

/-- The whole point, from gradients `k0` and `v0` at a later point of the pair and from zero at its first. -/
theorem point_inv {i : grid0.Coords} (hi : qi = (i 1).val) (hb : Blocks A B O g qi x0 x1 x2 x3 x4 x5 x6 x7)
    {dk dv : Vec Ideal S8192x128 .f32} {k0 v0 : ℕ → ℕ → ℝ}
    (hdk : qi ≠ 0 → ∀ (k : Fin 8192) (l : Fin 128), dk (ix2 k l) = ((k0 k.val l.val : ℝ) : EReal))
    (hdv : qi ≠ 0 → ∀ (k : Fin 8192) (l : Fin 128), dv (ix2 k l) = ((v0 k.val l.val : ℝ) : EReal)) :
    Inv (data A B g) qi 0 (if qi = 0 then fun _ _ => 0 else k0) (if qi = 0 then fun _ _ => 0 else v0)
      (point i x0 x1 x2 x3 x4 x5 x6 x7 dk dv) := by
  subst hi
  have hlt : (i 1).val < 32 := (i 1).isLt
  have hx := ctx_good hb
  refine fold_inv hx 32 0 _ (Nat.zero_le _) (by omega) rfl ?_
  rw [Nat.sub_zero]
  refine diag_inv hx (mask0 hb _) (mask1 hb _) ?_ ?_
  · intro k l
    by_cases h : (i 1).val = 0
    · rw [if_pos h, if_pos h]
      show k0_pay6 (ix2 k l) = _
      pointwise [k0_pay6]
      rfl
    · rw [if_neg h, if_neg h]; exact hdk h k l
  · intro k l
    by_cases h : (i 1).val = 0
    · rw [if_pos h, if_pos h]
      show k0_pay7 (ix2 k l) = _
      pointwise [k0_pay7]
      rfl
    · rw [if_neg h, if_neg h]; exact hdv h k l

/-- The query gradients' block. -/
theorem dqOut_apply {k0 v0 : ℕ → ℕ → ℝ} {a : Acc Ideal} (ha : Inv (data A B g) qi 0 k0 v0 a) (r : Fin 256) (l : Fin 128) :
    dqOut a.s (ix2 r l) = (((∑ i ∈ range (256 * qi + r.val),
      (data A B g).Z (if l.val / 64 = 1 then 2 else 0) (256 * qi + r.val) i * A i (512 + 128 * g + l.val)) * (1 / 8) : ℝ) : EReal) := by
  unfold dqOut
  pointwise [k0_pay1, k0_pay120]
  rw [lane1, eighth', EReal.coe_mul]
  congr 1
  simp only [select_ite]
  by_cases h : r.val < 128
  · rw [dif_pos h]
    by_cases hl : l.val / 64 = 1
    · rw [if_pos hl, if_pos hl]
      exact (ha.s2.hg ⟨r.val, h⟩ l).trans (by rw [← range_eq_Ico]; rfl)
    · rw [if_neg hl, if_neg hl]
      exact (ha.s0.hg ⟨r.val, h⟩ l).trans (by rw [← range_eq_Ico]; rfl)
  · rw [dif_neg h]
    have e : 256 * qi + 128 + (r.val - 128) = 256 * qi + r.val := by omega
    by_cases hl : l.val / 64 = 1
    · rw [if_pos hl, if_pos hl]
      exact (ha.s3.hg ⟨r.val - 128, by omega⟩ l).trans (by rw [← range_eq_Ico]; simp only [e]; rfl)
    · rw [if_neg hl, if_neg hl]
      exact (ha.s1.hg ⟨r.val - 128, by omega⟩ l).trans (by rw [← range_eq_Ico]; simp only [e]; rfl)

end

end Cert.AttnIdeal.Inv
-- ==== Proof.AttnBody.lean ====
/-
  The backward kernel's body at a grid point: holding the eight blocks it reads, the three it writes and the two gradients it
  keeps, it leaves what `point` says.
-/
module

public import proofs.«01_k».proof.Proof.AttnLoop

@[expose] public section

/-! The body of the attention's backward call at one grid point. -/

set_option maxRecDepth 16384

noncomputable section

namespace Cert.AttnIdeal.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F] [Named F]

local notation "𝕄" => MT nD τ sig Unit (Elt F) ℕ (UR sig nD τ) ℕ

/-- The body clears the two gradients at a head pair's first query block, -/
theorem first_iff (i : grid0.Coords) :
    Scalar.cmpi .ne (Scalar.extui (Scalar.cmpi .eq (BitVec.ofNat 32 (i 1).val) 0#32) : BitVec 32) 0#32 = 1#1 ↔ (i 1).val = 0 := by
  have hi : (i 1).val < 32 := (i 1).isLt
  generalize (i 1).val = q at hi
  interval_cases q <;> decide

/-- and writes them out at its last. -/
theorem last_iff (i : grid0.Coords) : k0_cond2 i = 1#1 ↔ (i 1).val = 31 := by
  have hi : (i 1).val < 32 := (i 1).isLt
  unfold k0_cond2
  dsimp only
  generalize (i 1).val = q at hi
  interval_cases q <;> decide

/-- A point that clears the gradients does not depend on what they held. -/
theorem point_first (i : grid0.Coords) (hi : (i 1).val = 0) (x0 : Vec F S256x128 .bf16) (x1 x2 : Vec F S8192x128 .bf16)
    (x3 : Vec F S256x128 .f32) (x4 : Vec F S256x128 .bf16) (x5 : Vec F S256x256 .f32) (x6 x7 : Vec F S256x256 .bf16)
    (dk dv dk' dv' : Vec F S8192x128 .f32) :
    point i x0 x1 x2 x3 x4 x5 x6 x7 dk dv = point i x0 x1 x2 x3 x4 x5 x6 x7 dk' dv' := by
  simp only [point, if_pos hi]

theorem zz : (![0, 0] : Fin 2 → ℕ) = fun _ => 0 := by decide

variable (c : Dev nD) (i : grid0.Coords)
  (arg2 : Memref sig .tc .vmem S256x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S256x128 .f32) (harg5 : arg5.IsWhole)
  (arg6 : Memref sig .tc .vmem S256x128 .bf16) (harg6 : arg6.IsWhole) (arg7 : Memref sig .tc .vmem S256x256 .f32) (harg7 : arg7.IsWhole)
  (arg8 : Memref sig .tc .vmem S256x256 .bf16) (harg8 : arg8.IsWhole) (arg9 : Memref sig .tc .vmem S256x256 .bf16) (harg9 : arg9.IsWhole)
  (arg10 : Memref sig .tc .vmem S256x128 .bf16) (harg10 : arg10.IsWhole) (arg11 : Memref sig .tc .vmem S8192x128 .bf16) (harg11 : arg11.IsWhole)
  (arg12 : Memref sig .tc .vmem S8192x128 .bf16) (harg12 : arg12.IsWhole) (arg13 : Memref sig .tc .vmem S8192x128 .f32) (harg13 : arg13.IsWhole)
  (arg14 : Memref sig .tc .vmem S8192x128 .f32) (harg14 : arg14.IsWhole)

/-- The buffers the body holds. -/
def bufs (x0 : Vec F S256x128 .bf16) (x1 x2 : Vec F S8192x128 .bf16) (x3 : Vec F S256x128 .f32) (x4 : Vec F S256x128 .bf16)
    (x5 : Vec F S256x256 .f32) (x6 x7 : Vec F S256x256 .bf16) (y8 : Vec F S256x128 .bf16) (y9 y10 : Vec F S8192x128 .bf16)
    (dk dv : Vec F S8192x128 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare x6 ∗ owns (c : Thread nD τ) arg9 fullShare x7 ∗ owns (c : Thread nD τ) arg10 fullShare y8
    ∗ owns (c : Thread nD τ) arg11 fullShare y9 ∗ owns (c : Thread nD τ) arg12 fullShare y10 ∗ owns (c : Thread nD τ) arg13 fullShare dk
    ∗ owns (c : Thread nD τ) arg14 fullShare dv)

set_option maxHeartbeats 2000000 in
theorem body (x0 : Vec F S256x128 .bf16) (x1 x2 : Vec F S8192x128 .bf16) (x3 : Vec F S256x128 .f32) (x4 : Vec F S256x128 .bf16)
    (x5 : Vec F S256x256 .f32) (x6 x7 : Vec F S256x256 .bf16) (y8 : Vec F S256x128 .bf16) (y9 y10 : Vec F S8192x128 .bf16)
    (dk dv : Vec F S8192x128 .f32) (p : Acc F) (hp : p = point i x0 x1 x2 x3 x4 x5 x6 x7 dk dv) (E : Set ℕ) (K : PUnit → sProp 𝕄) :
    iprop(bufs c arg2 arg3 arg4 arg5 arg6 arg7 arg8 arg9 arg10 arg11 arg12 arg13 arg14 x0 x1 x2 x3 x4 x5 x6 x7 y8 y9 y10 dk dv
        ∗ (bufs c arg2 arg3 arg4 arg5 arg6 arg7 arg8 arg9 arg10 arg11 arg12 arg13 arg14 x0 x1 x2 x3 x4 x5 x6 x7 (dqOut p.s)
            (if (i 1).val = 31 then k0_pay2 p.dk else y9) (if (i 1).val = 31 then k0_pay3 p.dv else y10) p.dk p.dv -∗ K ⟨⟩))
      ⊢ wp frame (wpE (defs₀ (F := F)) 𝒱₀ (c : Thread nD τ) none) E
          (cc0_attn_bwd i arg2 harg2 arg3 harg3 arg4 harg4 arg5 harg5 arg6 harg6 arg7 harg7 arg8 harg8 arg9 harg9 arg10 harg10
            arg11 harg11 arg12 harg12 arg13 harg13 arg14 harg14) K := by
  simp only [cc0_attn_bwd_eq_skeleton]; unfold cc0_attn_bwd_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel
    k0_part9_skel k0_part10_skel
  have hi : (i 1).val < 32 := (i 1).isLt
  have hf := first_iff i
  have hl := last_iff i
  unfold point at hp
  obtain ⟨dk0, hdk⟩ : ∃ d : Vec F S8192x128 .f32, d = if (i 1).val = 0 then k0_pay6 else dk := ⟨_, rfl⟩
  obtain ⟨dv0, hdv⟩ : ∃ d : Vec F S8192x128 .f32, d = if (i 1).val = 0 then k0_pay7 else dv := ⟨_, rfl⟩
  rw [← hdk, ← hdv] at hp
  unfold bufs
  iintro ⟨⟨H2, H3, H4, H5, H6, H7, H8, H9, H10, H11, H12, H13, H14⟩, Hk⟩
  by_cases hz : (i 1).val = 0 <;> by_cases hn : (i 1).val = 31
  · omega
  all_goals first | rw [if_neg hz] at hdk hdv | rw [if_pos hz] at hdk hdv
  all_goals first | simp only [if_neg hn] | simp only [if_pos hn]
  all_goals first | have hc0 := hf.mpr hz | have hc0 := mt hf.mp hz
  all_goals first | have hc1 := hl.mpr hn | have hc1 := mt hl.mp hn
  all_goals simp only [hc0, hc1, ↓reduceIte, ↓reduceDIte, Prog.lift, Prog.bind_op, Prog.bind_ret, Prog.pure_eq_ret]
  -- the gradients cleared, at the first query block
  on_goal 1 =>
    iapply (Owns.load_whole 𝒱₀ (c : Thread nD τ) none E zz) $$ H13; iintro H13
    iapply (Owns.store_whole 𝒱₀ (c : Thread nD τ) none E zz) $$ H13; iintro H13
    iapply (Owns.load_whole 𝒱₀ (c : Thread nD τ) none E zz) $$ H14; iintro H14
    iapply (Owns.store_whole 𝒱₀ (c : Thread nD τ) none E zz) $$ H14; iintro H14
  all_goals rw [← hdk, ← hdv]
  -- the blocks read
  all_goals (iapply (Owns.load_whole 𝒱₀ (c : Thread nD τ) none E zz) $$ H8; iintro H8)
  all_goals (iapply (Owns.load_whole 𝒱₀ (c : Thread nD τ) none E zz) $$ H9; iintro H9)
  all_goals (iapply (Owns.load_whole 𝒱₀ (c : Thread nD τ) none E zz) $$ H7; iintro H7)
  all_goals (iapply (Owns.load_whole 𝒱₀ (c : Thread nD τ) none E zz) $$ H2; iintro H2)
  all_goals (iapply (Owns.load_whole 𝒱₀ (c : Thread nD τ) none E zz) $$ H6; iintro H6)
  all_goals (iapply (Owns.load_whole 𝒱₀ (c : Thread nD τ) none E zz) $$ H5; iintro H5)
  all_goals (iapply (Owns.load_owns 𝒱₀ (c : Thread nD τ) none E) $$ H3; iintro H3)
  all_goals (iapply (Owns.load_owns 𝒱₀ (c : Thread nD τ) none E) $$ H4; iintro H4)
  -- the diagonal block
  all_goals (iapply (Owns.load_owns 𝒱₀ (c : Thread nD τ) none E) $$ H13; iintro H13)
  all_goals (iapply (Owns.load_owns 𝒱₀ (c : Thread nD τ) none E) $$ H13; iintro H13)
  all_goals (iapply (Owns.store_owns 𝒱₀ (c : Thread nD τ) none E) $$ H13; iintro H13)
  all_goals (iapply (Owns.load_owns 𝒱₀ (c : Thread nD τ) none E) $$ H14; iintro H14)
  all_goals (iapply (Owns.load_owns 𝒱₀ (c : Thread nD τ) none E) $$ H14; iintro H14)
  all_goals (iapply (Owns.store_owns 𝒱₀ (c : Thread nD τ) none E) $$ H14; iintro H14)
  -- the loop
  all_goals iapply (wp_call_spec 𝒱₀ (c : Thread nD τ) none E (spec c i (ctx x0 x1 x2 x3 x4 x6 x7) arg3 arg4 arg13 arg14 32 (diag i (ctx x0 x1 x2 x3 x4 x6 x7) x5 dk0 dv0)) 32
    (fun u hu => nomatch hu) (spec_le c i (ctx x0 x1 x2 x3 x4 x6 x7) arg3 harg3 arg4 harg4 arg13 harg13 arg14 harg14 E 32 0 (diag i (ctx x0 x1 x2 x3 x4 x6 x7) x5 dk0 dv0) rfl (Nat.zero_le _) (by omega)))
  all_goals rw [spec_apply, ← hp]; unfold held
  all_goals isplitl [H3 H4 H13 H14]
  · (isplitl [H3]; iexact H3); (isplitl [H4]; iexact H4); (isplitl [H13]; iexact H13); iexact H14
  rotate_left
  · (isplitl [H3]; iexact H3); (isplitl [H4]; iexact H4); (isplitl [H13]; iexact H13); iexact H14
  rotate_left
  · (isplitl [H3]; iexact H3); (isplitl [H4]; iexact H4); (isplitl [H13]; iexact H13); iexact H14
  rotate_left
  all_goals iintro ⟨H3, H4, H13, H14⟩
  -- the query gradients, stored
  all_goals (iapply (Owns.load_whole 𝒱₀ (c : Thread nD τ) none E zz) $$ H10; iintro H10)
  all_goals (iapply (Owns.store_whole 𝒱₀ (c : Thread nD τ) none E zz) $$ H10; iintro H10)
  -- the gradients written out, at the last query block
  on_goal 2 =>
    iapply (Owns.load_whole 𝒱₀ (c : Thread nD τ) none E zz) $$ H13; iintro H13
    iapply (Owns.load_whole 𝒱₀ (c : Thread nD τ) none E zz) $$ H11; iintro H11
    iapply (Owns.store_whole 𝒱₀ (c : Thread nD τ) none E zz) $$ H11; iintro H11
    iapply (Owns.load_whole 𝒱₀ (c : Thread nD τ) none E zz) $$ H14; iintro H14
    iapply (Owns.load_whole 𝒱₀ (c : Thread nD τ) none E zz) $$ H12; iintro H12
    iapply (Owns.store_whole 𝒱₀ (c : Thread nD τ) none E zz) $$ H12; iintro H12
  all_goals rw [wp_ret]; imodintro
  all_goals iapply Hk
  · (isplitl [H2]; iexact H2); (isplitl [H3]; iexact H3); (isplitl [H4]; iexact H4); (isplitl [H5]; iexact H5); (isplitl [H6]; iexact H6); (isplitl [H7]; iexact H7); (isplitl [H8]; iexact H8); (isplitl [H9]; iexact H9); (isplitl [H10]; iexact H10); (isplitl [H11]; iexact H11); (isplitl [H12]; iexact H12); (isplitl [H13]; iexact H13); iexact H14
  · (isplitl [H2]; iexact H2); (isplitl [H3]; iexact H3); (isplitl [H4]; iexact H4); (isplitl [H5]; iexact H5); (isplitl [H6]; iexact H6); (isplitl [H7]; iexact H7); (isplitl [H8]; iexact H8); (isplitl [H9]; iexact H9); (isplitl [H10]; iexact H10); (isplitl [H11]; iexact H11); (isplitl [H12]; iexact H12); (isplitl [H13]; iexact H13); iexact H14
  · (isplitl [H2]; iexact H2); (isplitl [H3]; iexact H3); (isplitl [H4]; iexact H4); (isplitl [H5]; iexact H5); (isplitl [H6]; iexact H6); (isplitl [H7]; iexact H7); (isplitl [H8]; iexact H8); (isplitl [H9]; iexact H9); (isplitl [H10]; iexact H10); (isplitl [H11]; iexact H11); (isplitl [H12]; iexact H12); (isplitl [H13]; iexact H13); iexact H14

end Cert.AttnIdeal.Block
-- ==== Proof.AttnFrame.lean ====
/-
  The launch of the attention's backward kernel: 128 grid points, four head pairs by 32 query blocks. The keys' and the values'
  gradients are kept from point to point (`accAt`) and written out at a head pair's last query block; the query gradients are written
  at each point. `frame` is the claim that the program ends, with its arguments unchanged and every counter at zero.
-/
module

public import proofs.«01_k».proof.Proof.AttnBody
public import proofs.«01_k».proof.Proof.Gen.AttnIdeal.Points
public import Idealize.ShloMosaic.Lib.Pipeline.FrameBody
public import Idealize.ShloMosaic.Lib.Claim

@[expose] public section

/-! The attention's backward call from its host lines to its end: the pipeline's data and the run. -/

set_option maxRecDepth 16384

noncomputable section

namespace Cert.AttnIdeal.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The host's lines before the kernel, in the program's order. -/
abbrev lines : List (List (HloOp τ sig (Elt F))) :=
  [hostOps0, hostOps0_1, hostOps0_2, hostOps0_3, hostOps0_4, hostOps0_5, hostOps0_6, hostOps0_7]

/-- The buffers as the kernel finds them. -/
abbrev V (c : Dev nD) (b : Ref sig .tc) : Buf (Elt F) ((c : Thread nD τ).loc b) :=
  StableHlo.after (List.flatten lines) (fun b => m (c, b)) b

set_option maxHeartbeats 800000 in
/-- The host's lines, then the kernel. -/
theorem hmain : Pipeline.HMain (Ix := Unit) (Name := ℕ) (U := UR sig nD τ) (Lvl := ℕ) (cfgs (F := F)) 0 defs₀ 𝒱₀ m (main (F := F)) (V m) :=
  Pipeline.hmain_prefixes (cfgs (F := F)) 0 defs₀ 𝒱₀ m main lines
    (by simp only [lines, List.Forall]; exact ⟨hostOps0_sub, hostOps0_1_sub, hostOps0_2_sub, hostOps0_3_sub, hostOps0_4_sub, hostOps0_5_sub, hostOps0_6_sub, hostOps0_7_sub⟩)
    (by simp only [lines, List.Forall]; repeat' constructor) main_chain

/-- No line of the host's writes a buffer other than its own result's. -/
theorem V_of (b : Ref sig .tc) (c : Dev nD)
    (h : (List.flatten (lines (F := F))).Forall fun op => Proc.devRef .tc b ∉ op.writes) :
    V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) := V_of m _ c (by
  simp only [lines, hostOps0, hostOps0_1, hostOps0_2, hostOps0_3, hostOps0_4, hostOps0_5, hostOps0_6, hostOps0_7, List.flatten_cons,
    List.flatten_nil, List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide))

theorem V_main_arg1 (c : Dev nD) : V m c main_arg1 = m ((c : Thread nD τ).loc main_arg1) := V_of m _ c (by
  simp only [lines, hostOps0, hostOps0_1, hostOps0_2, hostOps0_3, hostOps0_4, hostOps0_5, hostOps0_6, hostOps0_7, List.flatten_cons,
    List.flatten_nil, List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide))

/-- The block of window `w` at a point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- A point's result, given the gradients kept so far. -/
def pointAt (c : Dev nD) (t : Fin (cfg0 (F := F)).N) (dk dv : Vec F S8192x128 .f32) : Acc F :=
  point (grid0.coords t) (iblk m c 0 t) (iblk m c 1 t) (iblk m c 2 t) (iblk m c 3 t) (iblk m c 4 t) (iblk m c 5 t) (iblk m c 6 t)
    (iblk m c 7 t) dk dv

/-- What the points up to number `n` leave. -/
def accAt (c : Dev nD) : (n : ℕ) → n < (cfg0 (F := F)).N → Acc F
  | 0, h => pointAt m c ⟨0, h⟩ k0_pay6 k0_pay7
  | n + 1, h => pointAt m c ⟨n + 1, h⟩ (accAt c n (Nat.lt_of_succ_lt h)).dk (accAt c n (Nat.lt_of_succ_lt h)).dv

theorem coord1 (t : Fin grid0.N) : (grid0.coords t 1).val = t.val % 32 := by
  have e1 : (grid0.coords t 1).val = t.val / 1 % 32 := Pipeline.Grid.coords_val t 1 (by decide) rfl
  rw [e1, Nat.div_one]

theorem coord0 (t : Fin grid0.N) : (grid0.coords t 0).val = t.val / 32 := by
  have ht : t.val < 128 := lt_of_lt_of_eq t.isLt N_0
  have e0 : (grid0.coords t 0).val = t.val / 32 % 4 := Pipeline.Grid.coords_val t 0 (by decide) rfl
  omega

/-- At a head pair's first query block what was kept does not matter. -/
theorem pointAt_first (c : Dev nD) (t : Fin (cfg0 (F := F)).N) (h : t.val % 32 = 0) (dk dv dk' dv' : Vec F S8192x128 .f32) :
    pointAt m c t dk dv = pointAt m c t dk' dv' := by
  unfold pointAt; exact point_first _ (by rw [coord1, h]) ..

theorem accAt_succ (c : Dev nD) (t : Fin (cfg0 (F := F)).N) (h : t.val ≠ 0) :
    accAt m c t.val t.isLt = pointAt m c t (accAt m c (t.val - 1) (by omega)).dk (accAt m c (t.val - 1) (by omega)).dv := by
  obtain ⟨n, hn⟩ := t
  cases n with
  | zero => exact absurd rfl h
  | succ n => rfl

theorem accAt_first (c : Dev nD) (t : Fin (cfg0 (F := F)).N) (h : t.val % 32 = 0) (dk dv : Vec F S8192x128 .f32) :
    accAt m c t.val t.isLt = pointAt m c t dk dv := by
  by_cases hz : t.val = 0
  · obtain ⟨n, hn⟩ := t
    cases n with
    | zero => exact pointAt_first m c _ h ..
    | succ n => exact absurd hz (Nat.succ_ne_zero n)
  · rw [accAt_succ m c t hz]; exact pointAt_first m c t h ..

/-- The kept gradients' buffers. -/
abbrev scM0_0 : Memref sig .tc .vmem S8192x128 .f32 := Memref.whole cc0_scratch0
abbrev scM0_1 : Memref sig .tc .vmem S8192x128 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What is held between points. -/
def PhiS (c : Dev nD) : (n : ℕ) → n ≤ (cfg0 (F := F)).N → sProp 𝕄
  | 0, _ => Pipeline.ΦA spec0 c
  | n + 1, hn => iprop(iprop(owns (c : Thread nD τ) scM0_0 fullShare (accAt m c n hn).dk
      ∗ owns (c : Thread nD τ) scM0_1 fullShare (accAt m c n hn).dv) ∗ (∃ r, prngReg c r))

theorem PhiS_zero (c : Dev nD) (n : ℕ) (h : n ≤ (cfg0 (F := F)).N) (hz : n = 0) : PhiS m c n h = Pipeline.ΦA spec0 c := by
  subst hz; rfl

theorem PhiS_succ (c : Dev nD) (n : ℕ) (hn : n < (cfg0 (F := F)).N) :
    PhiS m c (n + 1) hn = iprop(iprop(owns (c : Thread nD τ) scM0_0 fullShare (accAt m c n hn).dk
      ∗ owns (c : Thread nD τ) scM0_1 fullShare (accAt m c n hn).dv) ∗ (∃ r, prngReg c r)) := rfl

theorem PhiS_pos (c : Dev nD) (n : ℕ) (h : n ≤ (cfg0 (F := F)).N) (hz : n ≠ 0) :
    PhiS m c n h = iprop(iprop(owns (c : Thread nD τ) scM0_0 fullShare (accAt m c (n - 1) (by omega)).dk
      ∗ owns (c : Thread nD τ) scM0_1 fullShare (accAt m c (n - 1) (by omega)).dv) ∗ (∃ r, prngReg c r)) := by
  cases n with
  | zero => exact absurd rfl hz
  | succ n => rfl

/-- The proof data: inputs stay, the query gradients' block is the point's, the two others are what is kept, rounded. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqOut (accAt m c t.val t.isLt).s
    | ⟨9, _⟩ => k0_pay2 (accAt m c t.val t.isLt).dk
    | ⟨10, _⟩ => k0_pay3 (accAt m c t.val t.isLt).dv
  Φ t := PhiS m c t.val (Nat.le_of_lt_succ t.isLt)
  q w := Pipeline.shareOf spec0 w
  owed _ := 0

theorem A_eq (c : Dev nD) (w : Fin (cfg0 (F := F)).W) : (dats m 0 c).A w = V m c (Pipeline.arrRef spec0 w) := by
  dsimp only [dats]

theorem PhiS_castSucc (c : Dev nD) (t : Fin (cfg0 (F := F)).N) :
    (dats m 0 c).Φ t.castSucc = PhiS m c t.val (Nat.le_of_lt t.isLt) := by
  dsimp only [dats]; exact Pipeline.Dat.Φ_castSucc (PhiS m c) t

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = iblk m c 4 t := rfl
theorem after0_5 (c : Dev nD) (t : Fin (cfg0 (F := F)).N) : (dats m 0 c).after 5 t = iblk m c 5 t := rfl
theorem after0_6 (c : Dev nD) (t : Fin (cfg0 (F := F)).N) : (dats m 0 c).after 6 t = iblk m c 6 t := rfl
theorem after0_7 (c : Dev nD) (t : Fin (cfg0 (F := F)).N) : (dats m 0 c).after 7 t = iblk m c 7 t := rfl
theorem after0_8 (c : Dev nD) (t : Fin (cfg0 (F := F)).N) : (dats m 0 c).after 8 t = dqOut (accAt m c t.val t.isLt).s := rfl
theorem after0_9 (c : Dev nD) (t : Fin (cfg0 (F := F)).N) : (dats m 0 c).after 9 t = k0_pay2 (accAt m c t.val t.isLt).dk := rfl
theorem after0_10 (c : Dev nD) (t : Fin (cfg0 (F := F)).N) : (dats m 0 c).after 10 t = k0_pay3 (accAt m c t.val t.isLt).dv := rfl

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans (by unfold Dat.fetched Dat.blockOf iblk; rw [A_eq]; try rfl)
theorem before0_4 (c : Dev nD) (t : Fin (cfg0 (F := F)).N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans (by unfold Dat.fetched Dat.blockOf iblk; rw [A_eq]; try rfl)
theorem before0_5 (c : Dev nD) (t : Fin (cfg0 (F := F)).N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans (by unfold Dat.fetched Dat.blockOf iblk; rw [A_eq]; try rfl)
theorem before0_6 (c : Dev nD) (t : Fin (cfg0 (F := F)).N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans (by unfold Dat.fetched Dat.blockOf iblk; rw [A_eq]; try rfl)
theorem before0_7 (c : Dev nD) (t : Fin (cfg0 (F := F)).N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans (by unfold Dat.fetched Dat.blockOf iblk; rw [A_eq]; try rfl)

/-- The two kept gradients' windows are idle but at a head pair's last query block. -/
theorem idle_9 : ∀ t : Fin grid0.N, ¬t.val % 32 = 31 → idle0 9 (grid0.coords t) = true := by decide +kernel
theorem noFlush_9 : ∀ t : Fin grid0.N, ¬t.val % 32 = 31 → (win0 9).flush t = false := by decide +kernel
theorem live_9 : ∀ t : Fin grid0.N, t.val % 32 = 31 → idle0 9 (grid0.coords t) = false := by decide +kernel
theorem idle_10 : ∀ t : Fin grid0.N, ¬t.val % 32 = 31 → idle0 10 (grid0.coords t) = true := by decide +kernel
theorem noFlush_10 : ∀ t : Fin grid0.N, ¬t.val % 32 = 31 → (win0 10).flush t = false := by decide +kernel
theorem live_10 : ∀ t : Fin grid0.N, t.val % 32 = 31 → idle0 10 (grid0.coords t) = false := by decide +kernel

/-- The windows' buffers at a point. -/
abbrev ms0_0 (t : Fin (cfg0 (F := F)).N) : Memref sig .tc .vmem S256x128 .bf16 := win0_0.stage ((cfg0 (F := F)).slots t 0)
abbrev ms0_1 (t : Fin (cfg0 (F := F)).N) : Memref sig .tc .vmem S8192x128 .bf16 := win0_1.stage ((cfg0 (F := F)).slots t 1)
abbrev ms0_2 (t : Fin (cfg0 (F := F)).N) : Memref sig .tc .vmem S8192x128 .bf16 := win0_2.stage ((cfg0 (F := F)).slots t 2)
abbrev ms0_3 (t : Fin (cfg0 (F := F)).N) : Memref sig .tc .vmem S256x128 .f32 := win0_3.stage ((cfg0 (F := F)).slots t 3)
abbrev ms0_4 (t : Fin (cfg0 (F := F)).N) : Memref sig .tc .vmem S256x128 .bf16 := win0_4.stage ((cfg0 (F := F)).slots t 4)
abbrev ms0_5 (t : Fin (cfg0 (F := F)).N) : Memref sig .tc .vmem S256x256 .f32 := win0_5.stage ((cfg0 (F := F)).slots t 5)
abbrev ms0_6 (t : Fin (cfg0 (F := F)).N) : Memref sig .tc .vmem S256x256 .bf16 := win0_6.stage ((cfg0 (F := F)).slots t 6)
abbrev ms0_7 (t : Fin (cfg0 (F := F)).N) : Memref sig .tc .vmem S256x256 .bf16 := win0_7.stage ((cfg0 (F := F)).slots t 7)
abbrev ms0_8 (t : Fin (cfg0 (F := F)).N) : Memref sig .tc .vmem S256x128 .bf16 := win0_8.stage ((cfg0 (F := F)).slots t 8)
abbrev ms0_9 (t : Fin (cfg0 (F := F)).N) : Memref sig .tc .vmem S8192x128 .bf16 := win0_9.stage ((cfg0 (F := F)).slots t 9)
abbrev ms0_10 (t : Fin (cfg0 (F := F)).N) : Memref sig .tc .vmem S8192x128 .bf16 := win0_10.stage ((cfg0 (F := F)).slots t 10)

/-- What the body is called with at a point, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin (cfg0 (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- A window the body leaves at a named value. -/
theorem leaves_0 (c : Dev nD) (t : Fin (cfg0 (F := F)).N) :
    (dats m 0 c).leavesExact 0 t = owns (c : Thread nD τ) (ms0_0 t) fullShare ((dats m 0 c).after 0 t) := by
  unfold Dat.leavesExact; rw [show (cfg0 (F := F)).idle 0 (grid0.coords t) = false from rfl]; rfl
theorem leaves_1 (c : Dev nD) (t : Fin (cfg0 (F := F)).N) :
    (dats m 0 c).leavesExact 1 t = owns (c : Thread nD τ) (ms0_1 t) fullShare ((dats m 0 c).after 1 t) := by
  unfold Dat.leavesExact; rw [show (cfg0 (F := F)).idle 1 (grid0.coords t) = false from rfl]; rfl
theorem leaves_2 (c : Dev nD) (t : Fin (cfg0 (F := F)).N) :
    (dats m 0 c).leavesExact 2 t = owns (c : Thread nD τ) (ms0_2 t) fullShare ((dats m 0 c).after 2 t) := by
  unfold Dat.leavesExact; rw [show (cfg0 (F := F)).idle 2 (grid0.coords t) = false from rfl]; rfl
theorem leaves_3 (c : Dev nD) (t : Fin (cfg0 (F := F)).N) :
    (dats m 0 c).leavesExact 3 t = owns (c : Thread nD τ) (ms0_3 t) fullShare ((dats m 0 c).after 3 t) := by
  unfold Dat.leavesExact; rw [show (cfg0 (F := F)).idle 3 (grid0.coords t) = false from rfl]; rfl
theorem leaves_4 (c : Dev nD) (t : Fin (cfg0 (F := F)).N) :
    (dats m 0 c).leavesExact 4 t = owns (c : Thread nD τ) (ms0_4 t) fullShare ((dats m 0 c).after 4 t) := by
  unfold Dat.leavesExact; rw [show (cfg0 (F := F)).idle 4 (grid0.coords t) = false from rfl]; rfl
theorem leaves_5 (c : Dev nD) (t : Fin (cfg0 (F := F)).N) :
    (dats m 0 c).leavesExact 5 t = owns (c : Thread nD τ) (ms0_5 t) fullShare ((dats m 0 c).after 5 t) := by
  unfold Dat.leavesExact; rw [show (cfg0 (F := F)).idle 5 (grid0.coords t) = false from rfl]; rfl
theorem leaves_6 (c : Dev nD) (t : Fin (cfg0 (F := F)).N) :
    (dats m 0 c).leavesExact 6 t = owns (c : Thread nD τ) (ms0_6 t) fullShare ((dats m 0 c).after 6 t) := by
  unfold Dat.leavesExact; rw [show (cfg0 (F := F)).idle 6 (grid0.coords t) = false from rfl]; rfl
theorem leaves_7 (c : Dev nD) (t : Fin (cfg0 (F := F)).N) :
    (dats m 0 c).leavesExact 7 t = owns (c : Thread nD τ) (ms0_7 t) fullShare ((dats m 0 c).after 7 t) := by
  unfold Dat.leavesExact; rw [show (cfg0 (F := F)).idle 7 (grid0.coords t) = false from rfl]; rfl
theorem leaves_8 (c : Dev nD) (t : Fin (cfg0 (F := F)).N) :
    (dats m 0 c).leavesExact 8 t = owns (c : Thread nD τ) (ms0_8 t) fullShare ((dats m 0 c).after 8 t) := by
  unfold Dat.leavesExact; rw [show (cfg0 (F := F)).idle 8 (grid0.coords t) = false from rfl]; rfl
theorem leaves_9 (c : Dev nD) (t : Fin (cfg0 (F := F)).N) (h : t.val % 32 = 31) :
    (dats m 0 c).leavesExact 9 t = owns (c : Thread nD τ) (ms0_9 t) fullShare ((dats m 0 c).after 9 t) := by
  unfold Dat.leavesExact; rw [show (cfg0 (F := F)).idle 9 (grid0.coords t) = false from live_9 t h]; rfl
theorem leaves_10 (c : Dev nD) (t : Fin (cfg0 (F := F)).N) (h : t.val % 32 = 31) :
    (dats m 0 c).leavesExact 10 t = owns (c : Thread nD τ) (ms0_10 t) fullShare ((dats m 0 c).after 10 t) := by
  unfold Dat.leavesExact; rw [show (cfg0 (F := F)).idle 10 (grid0.coords t) = false from live_10 t h]; rfl

/-- The two kept gradients' windows, at the last query block and elsewhere. -/
theorem leave_9 (c : Dev nD) (t : Fin (cfg0 (F := F)).N) (y : Vec F S8192x128 .bf16) (hy : ∃ d, y = (dats m 0 c).before 9 t d) :
    owns (c : Thread nD τ) (ms0_9 t) fullShare (if (grid0.coords t 1).val = 31 then k0_pay2 (accAt m c t.val t.isLt).dk else y)
      ⊢ (dats m 0 c).leavesExact 9 t := by
  rw [coord1]
  by_cases h : t.val % 32 = 31
  · rw [if_pos h, leaves_9 m c t h, after0_9]
  · rw [if_neg h, Dat.leavesExact_idle (dats m 0 c) 9 t (idle_9 t h) (noFlush_9 t h)]
    obtain ⟨d, rfl⟩ := hy
    iintro H
    iexists _; iexact H
theorem leave_10 (c : Dev nD) (t : Fin (cfg0 (F := F)).N) (y : Vec F S8192x128 .bf16) (hy : ∃ d, y = (dats m 0 c).before 10 t d) :
    owns (c : Thread nD τ) (ms0_10 t) fullShare (if (grid0.coords t 1).val = 31 then k0_pay3 (accAt m c t.val t.isLt).dv else y)
      ⊢ (dats m 0 c).leavesExact 10 t := by
  rw [coord1]
  by_cases h : t.val % 32 = 31
  · rw [if_pos h, leaves_10 m c t h, after0_10]
  · rw [if_neg h, Dat.leavesExact_idle (dats m 0 c) 10 t (idle_10 t h) (noFlush_10 t h)]
    obtain ⟨d, rfl⟩ := hy
    iintro H
    iexists _; iexact H

set_option maxHeartbeats 4000000 in
/-- The body at a point, whatever it holds of the kept gradients so long as the point's result does not depend on it. -/
theorem sound (c : Dev nD) (t : Fin (cfg0 (F := F)).N) (dk dv : Vec F S8192x128 .f32) (h : accAt m c t.val t.isLt = pointAt m c t dk dv) :
    iprop((iprop(owns (c : Thread nD τ) scM0_0 fullShare dk ∗ owns (c : Thread nD τ) scM0_1 fullShare dv) ∗ (∃ r, prngReg c r))
      ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
      ⊢ wp frame (wpE (defs₀ (F := F)) 𝒱₀ c none) Set.univ (bodyAt0 t) (fun _ => bodyPost m c t) := by
  unfold bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves_0, after0_0, leaves_1, after0_1, leaves_2, after0_2, leaves_3, after0_3, leaves_4, after0_4, leaves_5, after0_5, leaves_6, after0_6, leaves_7, after0_7, leaves_8, after0_8]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body c (grid0.coords t) (ms0_0 t) (hstage0_0 (((cfg0 (F := F)).slots t 0).cast nbuf0_0)) (ms0_1 t) (hstage0_1 (((cfg0 (F := F)).slots t 1).cast nbuf0_1)) (ms0_2 t) (hstage0_2 (((cfg0 (F := F)).slots t 2).cast nbuf0_2)) (ms0_3 t) (hstage0_3 (((cfg0 (F := F)).slots t 3).cast nbuf0_3)) (ms0_4 t) (hstage0_4 (((cfg0 (F := F)).slots t 4).cast nbuf0_4)) (ms0_5 t) (hstage0_5 (((cfg0 (F := F)).slots t 5).cast nbuf0_5)) (ms0_6 t) (hstage0_6 (((cfg0 (F := F)).slots t 6).cast nbuf0_6)) (ms0_7 t) (hstage0_7 (((cfg0 (F := F)).slots t 7).cast nbuf0_7)) (ms0_8 t) (hstage0_8 (((cfg0 (F := F)).slots t 8).cast nbuf0_8)) (ms0_9 t) (hstage0_9 (((cfg0 (F := F)).slots t 9).cast nbuf0_9)) (ms0_10 t) (hstage0_10 (((cfg0 (F := F)).slots t 10).cast nbuf0_10))
    scM0_0 (Memref.isWhole_whole _) scM0_1 (Memref.isWhole_whole _) (iblk m c 0 t) (iblk m c 1 t) (iblk m c 2 t) (iblk m c 3 t) (iblk m c 4 t) (iblk m c 5 t)
    (iblk m c 6 t) (iblk m c 7 t) ((dats m 0 c).before 8 t d8) ((dats m 0 c).before 9 t d9) ((dats m 0 c).before 10 t d10) dk dv
    (accAt m c t.val t.isLt) h Set.univ _)
  unfold bufs
  isplitl [H0 H1 H2 H3 H4 H5 H6 H7 H8 H9 H10 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    iexact HS1
  iintro ⟨H0, H1, H2, H3, H4, H5, H6, H7, H8, H9, H10, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (leave_9 m c t _ ⟨d9, rfl⟩); iexact H9
  iapply (leave_10 m c t _ ⟨d10, rfl⟩); iexact H10

/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre
  by_cases hz : t.val = 0
  · rw [PhiS_castSucc m c t, PhiS_zero m c _ _ hz, PhiA0_eq]
    iintro ⟨⟨⟨⟨%dk, HS0⟩, ⟨%dv, HS1⟩⟩, Hg⟩, Hr⟩
    iapply (sound m c t dk dv (accAt_first m c t (by omega) dk dv))
    isplitl [HS0 HS1 Hg]
    · isplitl [HS0 HS1]
      · isplitl [HS0]; · iexact HS0
        iexact HS1
      iexact Hg
    iexact Hr
  · rw [PhiS_castSucc m c t, PhiS_pos m c _ _ hz]
    exact sound m c t _ _ (accAt_succ m c t hz)

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last (cfg0 (F := F)).N) ⊢ Pipeline.ΦA spec0 c := by
  rw [show (dats m 0 c).Φ (Fin.last (cfg0 (F := F)).N) = PhiS m c (Fin.last (cfg0 (F := F)).N).val (Nat.le_of_lt_succ (Fin.last (cfg0 (F := F)).N).isLt) from rfl,
    PhiS_pos m c _ _ (by rw [Fin.val_last]; have : (cfg0 (F := F)).N = 128 := N_0; omega), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The run: every array of the kernel ends at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := A_eq m) (hin := hin m) (hout := hout m)

/-- The claim: the program ends, its arguments unchanged, its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).1 2).trans (((dats m 0 c).arrAt_in 2 rfl _).trans ((A_eq m c 2).trans (V_main_arg0 m c))),
      ((h.1 c).1 4).trans (((dats m 0 c).arrAt_in 4 rfl _).trans ((A_eq m c 4).trans (V_main_arg1 m c)))⟩, h.2⟩) (run_main_quiescent m ρ)

end Cert.AttnIdeal.Block

end
-- ==== Proof.AttnArray.lean ====
module

public import proofs.«01_k».proof.Proof.AttnCtx
public import proofs.«01_k».proof.Proof.AttnFrame
public import Idealize.ShloMosaic.Lib.Pipeline.ValueKit.Acc

@[expose] public section

noncomputable section

/-! The blocks the attention's backward call reads at every grid point, by the entries of its arguments, and what its
    accumulators hold as its sweep goes on. -/

namespace Cert.AttnIdeal.Block

open Cert.AttnIdeal Cert.AttnIdeal.Gen Cert.AttnIdeal.Inv Idealize.ShloMosaic Idealize.ShloMosaic.TcCoe Idealize.SL.Sem
open Finset (range sum_range_succ)

variable (m : (ℓ : Loc nD τ sig) → Buf (Elt Ideal) ℓ) (c : Dev nD)

/-- The arguments' entries and those of the forward call's result, as reals. -/
structure Entries (A B O : ℕ → ℕ → ℝ) : Prop where
  arg0 : ∀ (i : Fin 8192) (j : Fin 1536), (m ((c : Thread nD τ).loc main_arg0) : Vec Ideal S8192x1536 .bf16) (ix2 i j) = ((A i.val j.val : ℝ) : EReal)
  arg1 : ∀ (i : Fin 8192) (j : Fin 512), (m ((c : Thread nD τ).loc main_arg1) : Vec Ideal S8192x512 .bf16) (ix2 i j) = ((B i.val j.val : ℝ) : EReal)
  out : ∀ (i : Fin 8192) (j : Fin 512), (V m c main_v29 : Vec Ideal S8192x512 .f32) (ix2 i j) = ((O i.val j.val : ℝ) : EReal)
  total : ∀ (g : Fin 4) (p : Fin 4) (s : ℕ) (l : Fin 128), l.val / 64 = p.val / 2 →
    O s (128 * g.val + l.val) = ∑ i ∈ range s, (data A B g.val).W p s i * (data A B g.val).Vf i l.val

theorem index_in : ∀ t : Fin grid0.N, (win0_0.index t 0 = t.val % 32 ∧ win0_0.index t 1 = t.val / 32)
   ∧ (win0_1.index t 0 = 0 ∧ win0_1.index t 1 = 4 + t.val / 32) ∧ (win0_2.index t 0 = 0 ∧ win0_2.index t 1 = 8 + t.val / 32)
   ∧ (win0_3.index t 0 = t.val % 32 ∧ win0_3.index t 1 = t.val / 32) ∧ (win0_4.index t 0 = t.val % 32 ∧ win0_4.index t 1 = t.val / 32) := by
  decide +kernel

theorem index_mask : ∀ t : Fin grid0.N, (win0_5.index t 0 = 0 ∧ win0_5.index t 1 = 0)
   ∧ (win0_6.index t 0 = 0 ∧ win0_6.index t 1 = 0) ∧ (win0_7.index t 0 = 0 ∧ win0_7.index t 1 = 0) := by
  decide +kernel

theorem index_out : ∀ t : Fin grid0.N, (win0_8.index t 0 = t.val % 32 ∧ win0_8.index t 1 = t.val / 32)
   ∧ (win0_9.index t 0 = 0 ∧ win0_9.index t 1 = t.val / 32) ∧ (win0_10.index t 0 = 0 ∧ win0_10.index t 1 = t.val / 32) := by
  decide +kernel

lemma lt_points (t : Fin grid0.N) : t.val < 128 := lt_of_lt_of_eq t.isLt N_0

/-- The row and the column of a block's entry. -/
def rowOf (t : Fin grid0.N) (a : Fin 256) : Fin 8192 := ⟨256 * (t.val % 32) + a.val, by omega⟩
def colOf (t : Fin grid0.N) (l : Fin 128) : Fin 512 := ⟨128 * (t.val / 32) + l.val, by have := lt_points t; omega⟩

theorem iblk0_apply (t : Fin grid0.N) (a : Fin 256) (l : Fin 128) :
    (iblk m c 0 t : Vec Ideal S256x128 .bf16) (ix2 a l)
      = m ((c : Thread nD τ).loc main_arg0) (ix2 (rowOf t a) (⟨128 * (t.val / 32) + l.val, by have := lt_points t; omega⟩ : Fin 1536)) := by
  unfold iblk
  rw [View.read_apply]
  show V m c main_arg0 _ = m ((c : Thread nD τ).loc main_arg0) _
  rw [V_main_arg0 m c]
  congr 1
  funext k
  apply Fin.ext
  match k with
  | ⟨0, _⟩ => show win0_0.index t 0 * 256 + 1 * a.val = 256 * (t.val % 32) + a.val; rw [(index_in t).1.1]; omega
  | ⟨1, _⟩ => show win0_0.index t 1 * 128 + 1 * l.val = 128 * (t.val / 32) + l.val; rw [(index_in t).1.2]; omega

theorem iblk1_apply (t : Fin grid0.N) (k : Fin 8192) (l : Fin 128) :
    (iblk m c 1 t : Vec Ideal S8192x128 .bf16) (ix2 k l)
      = m ((c : Thread nD τ).loc main_arg0) (ix2 k (⟨512 + 128 * (t.val / 32) + l.val, by have := lt_points t; omega⟩ : Fin 1536)) := by
  unfold iblk
  rw [View.read_apply]
  show V m c main_arg0 _ = m ((c : Thread nD τ).loc main_arg0) _
  rw [V_main_arg0 m c]
  congr 1
  funext a
  apply Fin.ext
  match a with
  | ⟨0, _⟩ => show win0_1.index t 0 * 8192 + 1 * k.val = k.val; rw [(index_in t).2.1.1]; omega
  | ⟨1, _⟩ => show win0_1.index t 1 * 128 + 1 * l.val = 512 + 128 * (t.val / 32) + l.val; rw [(index_in t).2.1.2]; omega

theorem iblk2_apply (t : Fin grid0.N) (k : Fin 8192) (l : Fin 128) :
    (iblk m c 2 t : Vec Ideal S8192x128 .bf16) (ix2 k l)
      = m ((c : Thread nD τ).loc main_arg0) (ix2 k (⟨1024 + 128 * (t.val / 32) + l.val, by have := lt_points t; omega⟩ : Fin 1536)) := by
  unfold iblk
  rw [View.read_apply]
  show V m c main_arg0 _ = m ((c : Thread nD τ).loc main_arg0) _
  rw [V_main_arg0 m c]
  congr 1
  funext a
  apply Fin.ext
  match a with
  | ⟨0, _⟩ => show win0_2.index t 0 * 8192 + 1 * k.val = k.val; rw [(index_in t).2.2.1.1]; omega
  | ⟨1, _⟩ => show win0_2.index t 1 * 128 + 1 * l.val = 1024 + 128 * (t.val / 32) + l.val; rw [(index_in t).2.2.1.2]; omega

theorem iblk3_apply (t : Fin grid0.N) (a : Fin 256) (l : Fin 128) :
    (iblk m c 3 t : Vec Ideal S256x128 .f32) (ix2 a l) = (V m c main_v29 : Vec Ideal S8192x512 .f32) (ix2 (rowOf t a) (colOf t l)) := by
  unfold iblk
  rw [View.read_apply]
  show V m c main_v29 _ = V m c main_v29 _
  congr 1
  funext k
  apply Fin.ext
  match k with
  | ⟨0, _⟩ => show win0_3.index t 0 * 256 + 1 * a.val = 256 * (t.val % 32) + a.val; rw [(index_in t).2.2.2.1.1]; omega
  | ⟨1, _⟩ => show win0_3.index t 1 * 128 + 1 * l.val = 128 * (t.val / 32) + l.val; rw [(index_in t).2.2.2.1.2]; omega

theorem iblk4_apply (t : Fin grid0.N) (a : Fin 256) (l : Fin 128) :
    (iblk m c 4 t : Vec Ideal S256x128 .bf16) (ix2 a l) = m ((c : Thread nD τ).loc main_arg1) (ix2 (rowOf t a) (colOf t l)) := by
  unfold iblk
  rw [View.read_apply]
  show V m c main_arg1 _ = m ((c : Thread nD τ).loc main_arg1) _
  rw [V_main_arg1 m c]
  congr 1
  funext k
  apply Fin.ext
  match k with
  | ⟨0, _⟩ => show win0_4.index t 0 * 256 + 1 * a.val = 256 * (t.val % 32) + a.val; rw [(index_in t).2.2.2.2.1]; omega
  | ⟨1, _⟩ => show win0_4.index t 1 * 128 + 1 * l.val = 128 * (t.val / 32) + l.val; rw [(index_in t).2.2.2.2.2]; omega

end Cert.AttnIdeal.Block

end
-- ==== Proof.AttnHost.lean ====
module

public import proofs.«01_k».proof.Proof.AttnArray
public import proofs.«01_k».proof.Proof.Gen.AttnRefIdeal.Read

@[expose] public section

noncomputable section

/-! The forward call's result, as the host's lines leave it: the reference computes it by the same lines. -/

namespace Cert.AttnIdeal.Block

open Cert.AttnIdeal Cert.AttnIdeal.Gen Idealize.ShloMosaic Idealize.ShloMosaic.TcCoe Idealize.SL.Sem

variable (m : (ℓ : Loc nD τ sig) → Buf (Elt Ideal) ℓ) (c : Dev nD)

/-- The forward call's result. -/
theorem V_out : (V m c main_v29 : Vec Ideal S8192x512 .f32)
    = AttnRefIdeal.Read.val_main_v29 (F := Ideal) (m ((c : Thread nD τ).loc main_arg0) : Vec Ideal S8192x1536 .bf16) := by
  show StableHlo.after (List.flatten lines) (fun b => m (c, b)) main_v29 = _
  simp only [lines, hostOps0, hostOps0_1, hostOps0_2, hostOps0_3, hostOps0_4, hostOps0_5, hostOps0_6, hostOps0_7, List.flatten_cons,
    List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

end Cert.AttnIdeal.Block

end
-- ==== Proof.RowCumsum.lean ====
module

public import Idealize.ShloMosaic.Lib.Pointwise

@[expose] public section

/-! The host's running sums along the last of three axes, at exact arithmetic: a window as long as the axis, padded low (the sums from the
    left) or high (the sums from the right). -/

namespace RowCumsum

open Idealize.ShloMosaic
open Finset (range)

/-- Adding up a list from the left. -/
lemma foldl_add {α : Type*} (g : α → EReal) : ∀ (l : List α) (v : EReal), l.foldl (fun r n => r + g n) v = v + (l.map g).sum
  | [], v => by simp
  | a :: l, v => by rw [List.foldl_cons, foldl_add g l, List.map_cons, List.sum_cons, add_assoc]

/-- A window's only moving axis is the last. -/
lemma window_axis {N : ℕ} (n : Fin (⟨3, ![1, 1, N]⟩ : Shape).numel) (i : (⟨3, ![1, 1, N]⟩ : Shape).Idx)
    (hi : (⟨3, ![1, 1, N]⟩ : Shape).rowMajor.symm n = i) : (i 0).val = 0 ∧ (i 1).val = 0 ∧ (i 2).val = n.val := by
  have e : (⟨3, ![1, 1, N]⟩ : Shape).rowMajor i = n := by rw [← hi, Equiv.apply_symm_apply]
  have h0 : (i 0).val < 1 := (i 0).isLt
  have h1 : (i 1).val < 1 := (i 1).isLt
  have v := Shape.rowMajor_val_three i
  rw [e] at v
  have z0 : (i 0).val = 0 := by omega
  have z1 : (i 1).val = 0 := by omega
  rw [z0, z1] at v
  refine ⟨z0, z1, ?_⟩
  rw [v]
  simp

lemma numel_window (N : ℕ) : (⟨3, ![1, 1, N]⟩ : Shape).numel = N := by
  simp [Shape.numel, Fin.prod_univ_succ]

variable {H R N : ℕ}

/-- One window's sum, by positions. -/
lemma window_sum (lo hi : ℕ) (x : (⟨3, ![H, R, N]⟩ : Shape).Idx → EReal) (f : ℕ → EReal) (a : Fin H) (b : Fin R) (hx : ∀ i : Fin N, x (ix3 a b i) = f i.val)
    (h : (⟨3, ![H, R, N]⟩ : Shape).ReduceWindows ![1, 1, N] ![1, 1, 1] ![0, 0, lo] ![0, 0, hi] (⟨3, ![H, R, N]⟩ : Shape)) (j : Fin N) :
    Ideal.hostReduceWindowAdd ![1, 1, N] ![1, 1, 1] ![0, 0, lo] ![0, 0, hi] h x 0 (ix3 a b j)
      = ∑ n ∈ range N, if lo ≤ j.val + n ∧ j.val + n - lo < N then f (j.val + n - lo) else 0 := by
  unfold Ideal.hostReduceWindowAdd Host.reduceWindow
  dsimp only
  rw [foldl_add, zero_add, ← Fin.sum_univ_def]
  rw [← Fin.sum_univ_eq_sum_range (fun n => if lo ≤ j.val + n ∧ j.val + n - lo < N then f (j.val + n - lo) else 0) N]
  rw [← (finCongr (numel_window N)).sum_comp]
  refine Finset.sum_congr rfl fun n _ => ?_
  obtain ⟨w0, w1, w2⟩ := window_axis n _ rfl
  show _ = if lo ≤ j.val + n.val ∧ j.val + n.val - lo < N then f (j.val + n.val - lo) else 0
  split
  · next hin =>
    have h2 := hin 2
    change lo ≤ j.val * 1 + ((⟨3, ![1, 1, N]⟩ : Shape).rowMajor.symm n 2).val ∧ j.val * 1 + ((⟨3, ![1, 1, N]⟩ : Shape).rowMajor.symm n 2).val - lo < N at h2
    rw [w2, Nat.mul_one] at h2
    rw [if_pos h2]
    refine (congrArg x (funext fun k => Fin.ext ?_)).trans (hx ⟨j.val + n.val - lo, h2.2⟩)
    match k with
    | ⟨0, _⟩ => show a.val * 1 + ((⟨3, ![1, 1, N]⟩ : Shape).rowMajor.symm n 0).val - 0 = a.val; rw [w0]; omega
    | ⟨1, _⟩ => show b.val * 1 + ((⟨3, ![1, 1, N]⟩ : Shape).rowMajor.symm n 1).val - 0 = b.val; rw [w1]; omega
    | ⟨2, _⟩ => show j.val * 1 + ((⟨3, ![1, 1, N]⟩ : Shape).rowMajor.symm n 2).val - lo = j.val + n.val - lo; rw [w2]; omega
  · next hin =>
    rw [if_neg fun hle => hin fun k => by
      match k with
      | ⟨0, _⟩ =>
        show 0 ≤ a.val * 1 + ((⟨3, ![1, 1, N]⟩ : Shape).rowMajor.symm n 0).val ∧ a.val * 1 + ((⟨3, ![1, 1, N]⟩ : Shape).rowMajor.symm n 0).val - 0 < H
        rw [w0]; have := a.isLt; omega
      | ⟨1, _⟩ =>
        show 0 ≤ b.val * 1 + ((⟨3, ![1, 1, N]⟩ : Shape).rowMajor.symm n 1).val ∧ b.val * 1 + ((⟨3, ![1, 1, N]⟩ : Shape).rowMajor.symm n 1).val - 0 < R
        rw [w1]; have := b.isLt; omega
      | ⟨2, _⟩ =>
        show lo ≤ j.val * 1 + ((⟨3, ![1, 1, N]⟩ : Shape).rowMajor.symm n 2).val ∧ j.val * 1 + ((⟨3, ![1, 1, N]⟩ : Shape).rowMajor.symm n 2).val - lo < N
        rw [w2]; omega]

/-- The sums from the left. -/
theorem left (lo : ℕ) (hlo : lo + 1 = N) (x : (⟨3, ![H, R, N]⟩ : Shape).Idx → EReal) (f : ℕ → EReal) (a : Fin H) (b : Fin R)
    (hx : ∀ i : Fin N, x (ix3 a b i) = f i.val)
    (h : (⟨3, ![H, R, N]⟩ : Shape).ReduceWindows ![1, 1, N] ![1, 1, 1] ![0, 0, lo] ![0, 0, 0] (⟨3, ![H, R, N]⟩ : Shape)) (j : Fin N) :
    Ideal.hostReduceWindowAdd ![1, 1, N] ![1, 1, 1] ![0, 0, lo] ![0, 0, 0] h x 0 (ix3 a b j) = ∑ i ∈ range (j.val + 1), f i := by
  rw [window_sum lo 0 x f a b hx h j, Finset.range_eq_Ico, ← Finset.sum_Ico_consecutive _ (Nat.zero_le (lo - j.val)) (by omega),
    Finset.sum_eq_zero (s := Finset.Ico 0 (lo - j.val)) fun n hn => if_neg (by have := Finset.mem_Ico.mp hn; omega), zero_add,
    Finset.sum_Ico_eq_sum_range, show N - (lo - j.val) = j.val + 1 by omega]
  refine Finset.sum_congr rfl fun n hn => ?_
  have := Finset.mem_range.mp hn
  rw [if_pos (by omega)]
  congr 1
  omega

/-- The sums from the right. -/
theorem right (hi : ℕ) (x : (⟨3, ![H, R, N]⟩ : Shape).Idx → EReal) (f : ℕ → EReal) (a : Fin H) (b : Fin R)
    (hx : ∀ i : Fin N, x (ix3 a b i) = f i.val)
    (h : (⟨3, ![H, R, N]⟩ : Shape).ReduceWindows ![1, 1, N] ![1, 1, 1] ![0, 0, 0] ![0, 0, hi] (⟨3, ![H, R, N]⟩ : Shape)) (j : Fin N) :
    Ideal.hostReduceWindowAdd ![1, 1, N] ![1, 1, 1] ![0, 0, 0] ![0, 0, hi] h x 0 (ix3 a b j) = ∑ i ∈ Finset.Ico j.val N, f i := by
  rw [window_sum 0 hi x f a b hx h j, Finset.sum_Ico_eq_sum_range, Finset.range_eq_Ico, Finset.range_eq_Ico,
    ← Finset.sum_Ico_consecutive _ (Nat.zero_le (N - j.val)) (by omega),
    Finset.sum_eq_zero (s := Finset.Ico (N - j.val) N) fun n hn => if_neg (by have := Finset.mem_Ico.mp hn; omega), add_zero]
  refine Finset.sum_congr rfl fun n hn => ?_
  have := Finset.mem_Ico.mp hn
  rw [if_pos (by omega), Nat.sub_zero]

end RowCumsum

end
-- ==== Proof.AttnRows.lean ====
module

public import proofs.«01_k».proof.Proof.AttnMath
public import proofs.«01_k».proof.Proof.Gen.AttnRefIdeal.Read
public import proofs.«01_k».proof.Proof.RowCumsum

@[expose] public section

noncomputable section

/-! The attention's forward lines and their gradient, head by head and row by row, by the entries of their arguments. -/

namespace AttnMath

open Idealize.ShloMosaic Finset

/-- The score of key `k` in row `s` of head `n`, from the projected rows, -/
def zz (A : ℕ → ℕ → ℝ) (n s k : ℕ) : ℝ := (∑ d : Fin 64, A s (n * 64 + d.val) * A k (512 + (n * 64 + d.val))) * (1 / 8)
/-- the cotangent's product with the value of key `k`, -/
def yy (A B : ℕ → ℕ → ℝ) (n s k : ℕ) : ℝ := ∑ d : Fin 64, B s (n * 64 + d.val) * A k (1024 + (n * 64 + d.val))
/-- the weight, -/
def wgt (A : ℕ → ℕ → ℝ) (n s k : ℕ) : ℝ := ww (zz A n s) s k
/-- and the score's gradient. -/
def grd (A B : ℕ → ℕ → ℝ) (n s k : ℕ) : ℝ := dd (zz A n s) (yy A B n s) s k

lemma nk_neg (z : ℝ) : nk (-z) = nk z + z := by
  have h : 1 + Real.exp z = Real.exp z * (1 + Real.exp (-z)) := by
    rw [mul_add, ← Real.exp_add]; simp; ring
  rw [nk, nk, h, Real.log_mul (Real.exp_pos z).ne' (one_add_exp_pos _).ne', Real.log_exp]
  ring

lemma coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

lemma exp_coe (r : ℝ) : Ideal.exp (r : EReal) = ((Real.exp r : ℝ) : EReal) := rfl

lemma select_false (x y : EReal) {b : BitVec 1} (h : b = 0#1) : Scalar.select b x y = y := by
  rw [h]; rfl

/-- The stable form of `log (1 + exp x)`. -/
theorem softplus (x : ℝ) :
    max (x : EReal) 0 + Ideal.log1p (Ideal.exp (-(max ((x : EReal) - 0) (-((x : EReal) - 0))))) = ((-nk x : ℝ) : EReal) := by
  unfold Ideal.log1p
  rw [← EReal.coe_zero, ← EReal.coe_sub, ← EReal.coe_neg, coe_max, coe_max, ← EReal.coe_neg, exp_coe, ← EReal.coe_one, ← EReal.coe_add,
    log_coe (by positivity), ← EReal.coe_add]
  congr 1
  rw [← stable x]
  have e1 : max x 0 = -min (-x) 0 := by rw [← neg_zero, ← max_neg_neg]; simp
  have e2 : -max (x - 0) (-(x - 0)) = min x (-x) := by rw [sub_zero, ← min_neg_neg, neg_neg, min_comm]
  rw [e1, e2]
  ring

lemma exp_softplus (z : ℝ) : Real.exp (-z - -nk (-z)) = keep z := by
  rw [← exp_nk, nk_neg]
  congr 1
  ring

/-- A masked row's sum from the right. -/
lemma masked_tail (f : ℕ → ℝ) {s N : ℕ} (h : s ≤ N) (k : ℕ) : (∑ i ∈ Ico k N, if i < s then f i else 0) = ∑ i ∈ Ico k s, f i := by
  rw [← sum_filter]
  congr 1
  ext i
  simp only [mem_filter, mem_Ico]
  omega

end AttnMath

namespace Cert.AttnRefIdeal.Rows

open Cert.AttnRefIdeal Cert.AttnRefIdeal.Gen Cert.AttnRefIdeal.Read Idealize.ShloMosaic AttnMath
open Finset (range sum_range_succ sum_range)

lemma eighth : Ideal.ofBits FTy.f32 1040187392#32 = ((1 / 8 : ℝ) : EReal) := by
  simp [Ideal.ofBits, Ideal.ieee, -EReal.coe_mul]; norm_num
lemma zero_bits : FloatOps.ofBits (F := Ideal) FTy.f32 0x00000000#32 = (0 : EReal) := by
  show Ideal.ofBits FTy.f32 0#32 = 0
  simp [Ideal.ofBits, Ideal.ieee]
lemma top_bits : FloatOps.ofBits (F := Ideal) FTy.f32 0x7F800000#32 = (⊤ : EReal) := by
  show Ideal.ofBits FTy.f32 0x7F800000#32 = ⊤
  simp [Ideal.ofBits, Ideal.ieee]

lemma une_self (x : EReal) : FloatOps.cmpf (F := Ideal) (φ := .f32) .une x x = 0#1 := by
  show BitVec.ofBool (decide (x ≠ x)) = 0#1
  simp

lemma oeq_top (r : ℝ) : FloatOps.cmpf (F := Ideal) (φ := .f32) .oeq (r : EReal) (⊤ : EReal) = 0#1 := by
  show BitVec.ofBool (decide ((r : EReal) = ⊤)) = 0#1
  simp

variable {x0 : Vec Ideal S8192x1536 .bf16} {x1 : Vec Ideal S8192x512 .bf16} {A B : ℕ → ℕ → ℝ}

/-- The projected rows' entries. -/
def Has0 (x0 : Vec Ideal S8192x1536 .bf16) (A : ℕ → ℕ → ℝ) : Prop := ∀ (i : Fin 8192) (j : Fin 1536), x0 (ix2 i j) = ((A i.val j.val : ℝ) : EReal)
/-- The cotangent's. -/
def Has1 (x1 : Vec Ideal S8192x512 .bf16) (B : ℕ → ℕ → ℝ) : Prop := ∀ (i : Fin 8192) (j : Fin 512), x1 (ix2 i j) = ((B i.val j.val : ℝ) : EReal)

theorem v12_apply (h0 : Has0 x0 A) (n : Fin 8) (s k : Fin 8192) : val_main_v12 (F := Ideal) x0 (ix3 n s k) = ((zz A n.val s.val k.val : ℝ) : EReal) := by
  have h : val_main_v12 (F := Ideal) x0 (ix3 n s k)
      = (∑ d : Fin 64, x0 (ix2 s ⟨n.val * 64 + d.val, by omega⟩) * x0 (ix2 k ⟨512 + (n.val * 64 + d.val), by omega⟩)) * Ideal.ofBits FTy.f32 1040187392#32 := by
    pointwise [val_main_v12, val_main_v11, val_main_cst, val_main_v10, val_main_v5, val_main_v4, val_main_v1, val_main_v0, val_main_v7, val_main_v6, val_main_v2]
  rw [h, eighth, zz, EReal.coe_mul, coe_sum]
  congr 1
  refine Finset.sum_congr rfl fun d _ => ?_
  rw [h0, h0, EReal.coe_mul]

theorem softplus_apply (h0 : Has0 x0 A) (n : Fin 8) (s k : Fin 8192) :
    val_main_call0_v1_0 (F := Ideal) x0 (ix3 n s k) = ((-nk (-zz A n.val s.val k.val) : ℝ) : EReal) := by
  rw [val_main_call0_v1_0_apply, val_main_call0_call0_v4_apply, val_main_call0_call0_v11_apply, val_main_call0_call0_v1_apply,
    val_main_call0_call0_v10_apply, val_main_call0_call0_v9_apply, val_main_call0_call0_v8_apply, val_main_call0_call0_v7_apply,
    val_main_call0_call0_v3_apply, val_main_call0_v0_apply, val_main_call0_call0_v0_apply, val_main_call0_call0_v2_apply,
    val_main_call0_call0_cst_apply, v12_apply h0, zero_bits, select_false _ _ (une_self _), ← softplus, EReal.coe_neg]
  rfl

theorem v19_0_apply (h0 : Has0 x0 A) (n : Fin 8) (s k : Fin 8192) :
    val_main_v19_0 (F := Ideal) x0 (ix3 n s k) = ((nk (-zz A n.val s.val k.val) : ℝ) : EReal) := by
  rw [val_main_v19_0_apply, softplus_apply h0]
  show -((-nk (-zz A n.val s.val k.val) : ℝ) : EReal) = _
  rw [← EReal.coe_neg, neg_neg]

theorem v19_1_apply (h0 : Has0 x0 A) (n : Fin 8) (s k : Fin 8192) :
    val_main_v19_1 (F := Ideal) x0 (ix3 n s k) = ((keep (zz A n.val s.val k.val) : ℝ) : EReal) := by
  have hz : FloatOps.hostNegf (F := Ideal) (φ := .f32) ((zz A n.val s.val k.val : ℝ) : EReal) = ((-zz A n.val s.val k.val : ℝ) : EReal) := (EReal.coe_neg _).symm
  rw [val_main_v19_1_apply, val_main_call0_call0_v21_apply, val_main_call0_call0_v20_apply, val_main_call0_call0_v18_apply,
    val_main_call0_call0_v16_apply, val_main_call0_call0_v14_apply, val_main_call0_call0_v13_apply, val_main_call0_call0_v17_apply,
    val_main_call0_call0_cst_0_apply, val_main_call0_call0_cst_2_apply, top_bits, softplus_apply h0, val_main_call0_v0_apply, v12_apply h0,
    hz, select_false _ _ (oeq_top _), select_false _ _ (oeq_top _), ← exp_softplus]
  show Ideal.exp (((_ : ℝ) : EReal) - ((_ : ℝ) : EReal)) = _
  rw [← EReal.coe_sub]
  rfl

theorem causal_apply (s k : Fin 8192) : val_main_v18 (F := Ideal) (ix2 s k) = if k.val < s.val then 1#1 else 0#1 := by
  have h : val_main_v18 (F := Ideal) (ix2 s k) = IntOp.cmpi .slt (BitVec.ofNat 32 k.val) (BitVec.ofNat 32 s.val) := by
    pointwise [val_main_v18, val_main_v17, val_main_v16, val_main_v15, val_main_v14, val_main_v13]
  have small (a : Fin 8192) : (BitVec.ofNat 32 a.val).toInt = a.val := by
    have e : (BitVec.ofNat 32 a.val).toNat = a.val := by rw [BitVec.toNat_ofNat, Nat.mod_eq_of_lt (by omega)]
    rw [BitVec.toInt_eq_toNat_of_lt (by omega), e]
  rw [h]
  show BitVec.ofBool ((BitVec.ofNat 32 k.val).slt (BitVec.ofNat 32 s.val)) = _
  rw [BitVec.slt_eq_decide, small, small]
  by_cases hl : k.val < s.val <;> simp [hl]

theorem mask1_apply (n : Fin 8) (s k : Fin 8192) : val_main_v21_1 (F := Ideal) (ix3 n s k) = if k.val < s.val then 1#1 else 0#1 := by
  rw [← causal_apply]; pointwise [val_main_v21_1]

theorem mask2_apply (n : Fin 8) (s k : Fin 8192) : val_main_v26_1 (F := Ideal) (ix3 n s k) = if k.val < s.val then 1#1 else 0#1 := by
  rw [← causal_apply]; pointwise [val_main_v26_1]

/-- A masked entry. -/
lemma select_mask (p : Prop) [Decidable p] (r t : ℝ) :
    Scalar.select (if p then 1#1 else 0#1) (r : EReal) (t : EReal) = ((if p then r else t : ℝ) : EReal) := by
  by_cases h : p
  · rw [if_pos h, if_pos h]; rfl
  · rw [if_neg h, if_neg h]; rfl

theorem v21_apply (h0 : Has0 x0 A) (n : Fin 8) (s k : Fin 8192) :
    val_main_v21_0 (F := Ideal) x0 (ix3 n s k) = ((if k.val < s.val then nk (zz A n.val s.val k.val) else 0 : ℝ) : EReal) := by
  rw [val_main_v21_0_apply, mask1_apply, val_main_v20_apply, v19_0_apply h0, v12_apply h0, val_main_call1_v2_apply, val_main_call1_v0_apply,
    val_main_cst_0_apply, zero_bits, ← select_mask, EReal.coe_zero]
  congr 1
  show ((_ : ℝ) : EReal) - ((_ : ℝ) : EReal) = _
  rw [← EReal.coe_sub, nk_neg, add_sub_cancel_right]

theorem v22_apply (h0 : Has0 x0 A) (n : Fin 8) (s k : Fin 8192) :
    val_main_v22 (F := Ideal) x0 (ix3 n s k) = ((∑ i ∈ Finset.Ico k.val s.val, nk (zz A n.val s.val i) : ℝ) : EReal) := by
  have hv : val_main_call2_v0 (F := Ideal) (Shape.Idx.first h_S_) = (0 : EReal) := by
    rw [val_main_call2_v0_apply, val_main_call2_cst_apply, zero_bits]
  have e := RowCumsum.right 8191 (val_main_v21_0 (F := Ideal) x0) (fun i => ((if i < s.val then nk (zz A n.val s.val i) else 0 : ℝ) : EReal)) n s
    (fun i => v21_apply h0 n s i) reduceWindows_S8x8192x8192_S8x8192x8192_w1s1p0_0_w1s1p0_0_w8192s1p0_8191 k
  rw [← coe_sum, masked_tail _ (by omega)] at e
  rw [val_main_v22, Host.reduceWindowAdd, Ideal.hostReduceWindowAdd_def, hv]
  exact e

theorem v25_apply (h0 : Has0 x0 A) (n : Fin 8) (s k : Fin 8192) :
    val_main_v25 (F := Ideal) x0 (ix3 n s k) = ((Real.exp (nk (-zz A n.val s.val k.val) + ((∑ i ∈ Finset.Ico k.val s.val, nk (zz A n.val s.val i))
      - if k.val < s.val then nk (zz A n.val s.val k.val) else 0)) : ℝ) : EReal) := by
  rw [val_main_v25_apply, val_main_v24_apply, val_main_v23_apply, v19_0_apply h0, v22_apply h0, v21_apply h0]
  show Ideal.exp (((_ : ℝ) : EReal) + (((_ : ℝ) : EReal) - ((_ : ℝ) : EReal))) = _
  rw [← EReal.coe_sub, ← EReal.coe_add]
  rfl

/-- The exponential is the weight where the row sees the key. -/
lemma exp_weight {n s k : ℕ} (h : k < s) : Real.exp (nk (-zz A n s k) + ((∑ i ∈ Finset.Ico k s, nk (zz A n s i)) - if k < s then nk (zz A n s k) else 0))
    = wgt A n s k := by
  rw [if_pos h, wgt, ww, if_pos h, nk_neg]
  congr 1
  ring

theorem v26_apply (h0 : Has0 x0 A) (n : Fin 8) (s k : Fin 8192) : val_main_v26_0 (F := Ideal) x0 (ix3 n s k) = ((wgt A n.val s.val k.val : ℝ) : EReal) := by
  rw [val_main_v26_0_apply, mask2_apply, v25_apply h0, val_main_call3_v2_apply, val_main_call3_v0_apply, val_main_cst_1_apply, zero_bits,
    ← EReal.coe_zero]
  refine (select_mask _ _ _).trans ?_
  by_cases h : k.val < s.val
  · rw [if_pos h, exp_weight h]
  · rw [if_neg h, wgt, ww, if_neg h]

theorem v35_apply (h0 : Has0 x0 A) (h1 : Has1 x1 B) (n : Fin 8) (s k : Fin 8192) :
    val_main_v35 (F := Ideal) x0 x1 (ix3 n s k) = ((yy A B n.val s.val k.val : ℝ) : EReal) := by
  have h : val_main_v35 (F := Ideal) x0 x1 (ix3 n s k)
      = ∑ d : Fin 64, x1 (ix2 s ⟨n.val * 64 + d.val, by omega⟩) * x0 (ix2 k ⟨1024 + (n.val * 64 + d.val), by omega⟩) := by
    pointwise [val_main_v35, val_main_v32, val_main_v31, val_main_v30, val_main_v9, val_main_v8, val_main_v3, val_main_v0]
  rw [h, yy, coe_sum]
  refine Finset.sum_congr rfl fun d _ => ?_
  rw [h0, h1, EReal.coe_mul]

theorem v37_apply (h0 : Has0 x0 A) (h1 : Has1 x1 B) (n : Fin 8) (s k : Fin 8192) :
    val_main_v37 (F := Ideal) x0 x1 (ix3 n s k) = ((ee (zz A n.val s.val) (yy A B n.val s.val) s.val k.val : ℝ) : EReal) := by
  rw [val_main_v37_apply, val_main_v36_apply, mask2_apply, v35_apply h0 h1, v25_apply h0, val_main_call4_v0_apply, val_main_call4_cst_apply,
    zero_bits, ← EReal.coe_zero, select_mask]
  show ((_ : ℝ) : EReal) * ((_ : ℝ) : EReal) = _
  rw [← EReal.coe_mul]
  congr 1
  by_cases h : k.val < s.val
  · rw [exp_weight h, if_pos h]; rfl
  · rw [if_neg h, zero_mul, ee, ww, if_neg h, mul_zero]

theorem v39_apply (h0 : Has0 x0 A) (h1 : Has1 x1 B) (n : Fin 8) (s k : Fin 8192) :
    val_main_v39 (F := Ideal) x0 x1 (ix3 n s k)
      = ((∑ i ∈ range (k.val + 1), ee (zz A n.val s.val) (yy A B n.val s.val) s.val i : ℝ) : EReal) := by
  have hv : val_main_call5_v0 (F := Ideal) (Shape.Idx.first h_S_) = (0 : EReal) := by
    rw [val_main_call5_v0_apply, val_main_call5_cst_apply, zero_bits]
  have e := RowCumsum.left 8191 rfl (val_main_v37 (F := Ideal) x0 x1) (fun i => ((ee (zz A n.val s.val) (yy A B n.val s.val) s.val i : ℝ) : EReal)) n s
    (fun i => v37_apply h0 h1 n s i) reduceWindows_S8x8192x8192_S8x8192x8192_w1s1p0_0_w1s1p0_0_w8192s1p8191_0 k
  rw [← coe_sum] at e
  rw [val_main_v39, Host.reduceWindowAdd, Ideal.hostReduceWindowAdd_def, hv]
  exact e

/-- The sums before a key, where the row sees it. -/
theorem v41_apply (h0 : Has0 x0 A) (h1 : Has1 x1 B) (n : Fin 8) (s k : Fin 8192) :
    val_main_v41 (F := Ideal) x0 x1 (ix3 n s k)
      = ((if k.val < s.val then ∑ i ∈ range k.val, ee (zz A n.val s.val) (yy A B n.val s.val) s.val i else 0 : ℝ) : EReal) := by
  have e : val_main_v40 (F := Ideal) x0 x1 (ix3 n s k) = ((∑ i ∈ range k.val, ee (zz A n.val s.val) (yy A B n.val s.val) s.val i : ℝ) : EReal) := by
    rw [val_main_v40_apply, val_main_v38_apply, v39_apply h0 h1, v37_apply h0 h1, sum_range_succ]
    show -((_ : ℝ) : EReal) + ((_ : ℝ) : EReal) = _
    rw [← EReal.coe_neg, ← EReal.coe_add]
    congr 1
    ring
  rw [val_main_v41_apply, mask1_apply, e, val_main_call6_v0_apply, val_main_call6_cst_apply, zero_bits, ← EReal.coe_zero, select_mask]

/-- The score's gradient. -/
theorem v45_apply (h0 : Has0 x0 A) (h1 : Has1 x1 B) (n : Fin 8) (s k : Fin 8192) :
    val_main_v45 (F := Ideal) x0 x1 (ix3 n s k) = ((grd A B n.val s.val k.val : ℝ) : EReal) := by
  rw [val_main_v45_apply, val_main_v44_apply, val_main_call7_v1_apply, val_main_call7_v0_apply, val_main_v43_apply, val_main_v42_apply,
    v41_apply h0 h1, v37_apply h0 h1, v19_1_apply h0]
  show -((_ : ℝ) : EReal) + -(-(((_ : ℝ) : EReal) + ((_ : ℝ) : EReal)) * ((_ : ℝ) : EReal)) = _
  rw [← EReal.coe_add, ← EReal.coe_neg, ← EReal.coe_neg, ← EReal.coe_mul, ← EReal.coe_neg, ← EReal.coe_add]
  congr 1
  rw [grd, dd]
  by_cases h : k.val < s.val
  · rw [if_pos h, if_pos h, keep_eq]; ring
  · rw [if_neg h, if_neg h, ee, ww, if_neg h]; ring

theorem v47_apply (h0 : Has0 x0 A) (h1 : Has1 x1 B) (n : Fin 8) (s k : Fin 8192) :
    val_main_v47 (F := Ideal) x0 x1 (ix3 n s k) = ((grd A B n.val s.val k.val * (1 / 8) : ℝ) : EReal) := by
  rw [val_main_v47_apply, v45_apply h0 h1, val_main_v46_apply, val_main_cst_2_apply, EReal.coe_mul, ← eighth]
  rfl

/-- The forward call's result. -/
theorem out_apply (h0 : Has0 x0 A) (i : Fin 8192) (j : Fin 512) :
    val_main_v29 (F := Ideal) x0 (ix2 i j) = ((∑ k ∈ range 8192, wgt A (j.val / 64) i.val k * A k (1024 + j.val) : ℝ) : EReal) := by
  have h : val_main_v29 (F := Ideal) x0 (ix2 i j)
      = ∑ k : Fin 8192, val_main_v26_0 (F := Ideal) x0 (ix3 (⟨j.val / 64, by omega⟩ : Fin 8) i k) * x0 (ix2 k (⟨1024 + j.val, by omega⟩ : Fin 1536)) := by
    pointwise [val_main_v29, val_main_v28, val_main_v27, val_main_v9, val_main_v8, val_main_v3, val_main_v0]
  rw [h, coe_sum, sum_range]
  refine Finset.sum_congr rfl fun k _ => ?_
  rw [v26_apply h0, h0, EReal.coe_mul]

/-- The query gradients. -/
theorem dq_apply (h0 : Has0 x0 A) (h1 : Has1 x1 B) (i : Fin 8192) (j : Fin 512) :
    val_main_v56 (F := Ideal) x0 x1 (ix2 i j) = ((∑ k ∈ range 8192, grd A B (j.val / 64) i.val k * (1 / 8) * A k (512 + j.val) : ℝ) : EReal) := by
  have h : val_main_v56 (F := Ideal) x0 x1 (ix2 i j)
      = ∑ k : Fin 8192, val_main_v47 (F := Ideal) x0 x1 (ix3 (⟨j.val / 64, by omega⟩ : Fin 8) i k) * x0 (ix2 k (⟨512 + j.val, by omega⟩ : Fin 1536)) := by
    pointwise [val_main_v56, val_main_v55, val_main_v54, val_main_v49, val_main_v7, val_main_v6, val_main_v2, val_main_v0]
  rw [h, coe_sum, sum_range]
  refine Finset.sum_congr rfl fun k _ => ?_
  rw [v47_apply h0 h1, h0, ← EReal.coe_mul]

/-- The key gradients. -/
theorem dk_apply (h0 : Has0 x0 A) (h1 : Has1 x1 B) (i : Fin 8192) (j : Fin 512) :
    val_main_v57 (F := Ideal) x0 x1 (ix2 i j) = ((∑ s ∈ range 8192, grd A B (j.val / 64) s i.val * (1 / 8) * A s j.val : ℝ) : EReal) := by
  have h : val_main_v57 (F := Ideal) x0 x1 (ix2 i j)
      = ∑ s : Fin 8192, val_main_v47 (F := Ideal) x0 x1 (ix3 (⟨j.val / 64, by omega⟩ : Fin 8) s i) * x0 (ix2 s (⟨j.val, by omega⟩ : Fin 1536)) := by
    pointwise [val_main_v57, val_main_v53, val_main_v52, val_main_v48, val_main_v5, val_main_v4, val_main_v1, val_main_v0]
  rw [h, coe_sum, sum_range]
  refine Finset.sum_congr rfl fun k _ => ?_
  rw [v47_apply h0 h1, h0, ← EReal.coe_mul]

/-- The value gradients. -/
theorem dv_apply (h0 : Has0 x0 A) (h1 : Has1 x1 B) (i : Fin 8192) (j : Fin 512) :
    val_main_v58 (F := Ideal) x0 x1 (ix2 i j) = ((∑ s ∈ range 8192, B s j.val * wgt A (j.val / 64) s i.val : ℝ) : EReal) := by
  have h : val_main_v58 (F := Ideal) x0 x1 (ix2 i j)
      = ∑ s : Fin 8192, x1 (ix2 s j) * val_main_v26_0 (F := Ideal) x0 (ix3 (⟨j.val / 64, by omega⟩ : Fin 8) s i) := by
    pointwise [val_main_v58, val_main_v51, val_main_v50, val_main_v34, val_main_v33, val_main_v32, val_main_v31, val_main_v30]
  rw [h, coe_sum, sum_range]
  refine Finset.sum_congr rfl fun k _ => ?_
  rw [v26_apply h0, h1, ← EReal.coe_mul]

end Cert.AttnRefIdeal.Rows

end
-- ==== Proof.AttnJoin.lean ====
module

public import proofs.«01_k».proof.Proof.AttnCtx
public import proofs.«01_k».proof.Proof.AttnRows

@[expose] public section

noncomputable section

/-! The kernel's sums over the lanes and the query blocks of a pair of heads are the sums over the rows and columns of each head. -/

namespace Cert.AttnIdeal.Inv

open Idealize.ShloMosaic AttnMath Finset

/-- The lanes of one head. -/
lemma half_sum {h : ℕ} (hh : h < 2) (f : ℕ → ℝ) : (∑ l : Fin 128, if l.val / 64 = h then f l.val else 0) = ∑ d : Fin 64, f (h * 64 + d.val) := by
  have e : (∑ l : Fin 128, if l.val / 64 = h then f l.val else 0)
      = (∑ d : Fin 64, if d.val / 64 = h then f d.val else 0) + ∑ d : Fin 64, if (64 + d.val) / 64 = h then f (64 + d.val) else 0 :=
    Fin.sum_univ_add (a := 64) (b := 64) fun l : Fin (64 + 64) => if l.val / 64 = h then f l.val else 0
  have d0 (d : Fin 64) : d.val / 64 = 0 := by omega
  have d1 (d : Fin 64) : (64 + d.val) / 64 = 1 := by omega
  rw [e]
  simp only [d0, d1]
  obtain rfl | rfl : h = 0 ∨ h = 1 := by omega
  · simp
  · simp

variable {A B : ℕ → ℕ → ℝ} {g : ℕ}

lemma X_eq (p : Fin 4) (s k : ℕ) : (data A B g).X p s k = zz A (2 * g + p.val / 2) s k := by
  have e (l : Fin 128) : (data A B g).Qm p s l.val * (data A B g).Kf k l.val
      = if l.val / 64 = p.val / 2 then A s (128 * g + l.val) * (1 / 8) * A k (512 + 128 * g + l.val) else 0 := by
    show (if l.val / 64 = p.val / 2 then _ else 0) * _ = _
    rw [ite_mul, zero_mul]
    rfl
  unfold Data.X
  rw [sum_congr rfl fun l _ => e l,
    half_sum (by omega) (fun l => A s (128 * g + l) * (1 / 8) * A k (512 + 128 * g + l)), zz, sum_mul]
  refine sum_congr rfl fun d _ => ?_
  rw [show 128 * g + (p.val / 2 * 64 + d.val) = (2 * g + p.val / 2) * 64 + d.val by ring,
    show 512 + 128 * g + (p.val / 2 * 64 + d.val) = 512 + ((2 * g + p.val / 2) * 64 + d.val) by ring]
  ring

lemma Y_eq (p : Fin 4) (s k : ℕ) : (data A B g).Y p s k = yy A B (2 * g + p.val / 2) s k := by
  have e (l : Fin 128) : (data A B g).Dm p s l.val * (data A B g).Vf k l.val
      = if l.val / 64 = p.val / 2 then B s (128 * g + l.val) * A k (1024 + 128 * g + l.val) else 0 := by
    show (if l.val / 64 = p.val / 2 then _ else 0) * _ = _
    rw [ite_mul, zero_mul]
    rfl
  unfold Data.Y
  rw [sum_congr rfl fun l _ => e l,
    half_sum (by omega) (fun l => B s (128 * g + l) * A k (1024 + 128 * g + l)), yy]
  refine sum_congr rfl fun d _ => ?_
  rw [show 128 * g + (p.val / 2 * 64 + d.val) = (2 * g + p.val / 2) * 64 + d.val by ring,
    show 1024 + 128 * g + (p.val / 2 * 64 + d.val) = 1024 + ((2 * g + p.val / 2) * 64 + d.val) by ring]

lemma W_eq (p : Fin 4) (s k : ℕ) : (data A B g).W p s k = wgt A (2 * g + p.val / 2) s k := by
  rw [Data.W, wgt, show (data A B g).X p s = zz A (2 * g + p.val / 2) s from funext fun k => X_eq p s k]

lemma Z_eq (p : Fin 4) (s k : ℕ) : (data A B g).Z p s k = grd A B (2 * g + p.val / 2) s k := by
  rw [Data.Z, grd, show (data A B g).X p s = zz A (2 * g + p.val / 2) s from funext fun k => X_eq p s k,
    show (data A B g).Y p s = yy A B (2 * g + p.val / 2) s from funext fun k => Y_eq p s k]

/-- The rows of the query blocks. -/
lemma sum_blocks (F : ℕ → ℝ) : ∀ n, (∑ q ∈ range n, ((∑ a : Fin 128, F (256 * q + a.val)) + ∑ a : Fin 128, F (256 * q + 128 + a.val)))
    = ∑ s ∈ range (256 * n), F s
  | 0 => rfl
  | n + 1 => by
    rw [sum_range_succ, sum_blocks F n, show 256 * (n + 1) = 256 * n + (128 + 128) by ring, sum_range_add, sum_range_add]
    simp only [add_assoc, sum_range]

/-- What the query blocks add to the keys' gradients. -/
theorem keys_eq (k : ℕ) (l : ℕ) (hl : l < 128) :
    (∑ q ∈ range 32, (data A B g).CK q k l) = ∑ s ∈ range 8192, grd A B ((128 * g + l) / 64) s k * (1 / 8) * A s (128 * g + l) := by
  rw [← sum_blocks (fun s => grd A B ((128 * g + l) / 64) s k * (1 / 8) * A s (128 * g + l)) 32]
  refine sum_congr rfl fun q _ => ?_
  unfold Data.CK
  simp only [Z_eq]
  have Q (p : Fin 4) (s : ℕ) : (data A B g).Qm p s l = if l / 64 = p.val / 2 then A s (128 * g + l) * (1 / 8) else 0 := rfl
  simp only [Q]
  obtain h | h : l / 64 = 0 ∨ l / 64 = 1 := by omega
  · rw [show (128 * g + l) / 64 = 2 * g by omega]
    simp [h]
    congr 1 <;> exact sum_congr rfl fun a _ => by ring
  · rw [show (128 * g + l) / 64 = 2 * g + 1 by omega]
    simp [h]
    congr 1 <;> exact sum_congr rfl fun a _ => by ring

/-- What they add to the values'. -/
theorem values_eq (k : ℕ) (l : ℕ) (hl : l < 128) :
    (∑ q ∈ range 32, (data A B g).CV q k l) = ∑ s ∈ range 8192, B s (128 * g + l) * wgt A ((128 * g + l) / 64) s k := by
  rw [← sum_blocks (fun s => B s (128 * g + l) * wgt A ((128 * g + l) / 64) s k) 32]
  refine sum_congr rfl fun q _ => ?_
  unfold Data.CV
  simp only [W_eq]
  have Q (p : Fin 4) (s : ℕ) : (data A B g).Dm p s l = if l / 64 = p.val / 2 then B s (128 * g + l) else 0 := rfl
  simp only [Q]
  obtain h | h : l / 64 = 0 ∨ l / 64 = 1 := by omega
  · rw [show (128 * g + l) / 64 = 2 * g by omega]
    simp [h]
    congr 1 <;> exact sum_congr rfl fun a _ => by ring
  · rw [show (128 * g + l) / 64 = 2 * g + 1 by omega]
    simp [h]
    congr 1 <;> exact sum_congr rfl fun a _ => by ring

/-- Later keys add nothing. -/
lemma sum_seen (f : ℕ → ℝ) {i : ℕ} (hi : i ≤ 8192) (h : ∀ k, i ≤ k → f k = 0) : ∑ k ∈ range 8192, f k = ∑ k ∈ range i, f k := by
  rw [range_eq_Ico, ← sum_Ico_consecutive _ (Nat.zero_le i) hi, sum_eq_zero (s := Ico i 8192) fun k hk => h k (mem_Ico.mp hk).1, add_zero, ← range_eq_Ico]

lemma wgt_late (n : ℕ) {s k : ℕ} (h : s ≤ k) : wgt A n s k = 0 := by rw [wgt, ww, if_neg (by omega)]
lemma grd_late (n : ℕ) {s k : ℕ} (h : s ≤ k) : grd A B n s k = 0 := by rw [grd, dd, if_neg (by omega)]

/-- The query gradients. -/
theorem queries_eq (i l : ℕ) (hi : i < 8192) (hl : l < 128) :
    (∑ k ∈ range i, (data A B g).Z (if l / 64 = 1 then 2 else 0) i k * A k (512 + 128 * g + l)) * (1 / 8)
      = ∑ k ∈ range 8192, grd A B ((128 * g + l) / 64) i k * (1 / 8) * A k (512 + (128 * g + l)) := by
  rw [sum_seen _ hi.le fun k hk => by rw [grd_late _ hk]; ring, sum_mul]
  refine sum_congr rfl fun k _ => ?_
  rw [Z_eq, show 512 + 128 * g + l = 512 + (128 * g + l) by ring]
  obtain h | h : l / 64 = 0 ∨ l / 64 = 1 := by omega
  · rw [show (128 * g + l) / 64 = 2 * g by omega, h, if_neg (by norm_num)]
    show grd A B (2 * g + 0) i k * _ * _ = _
    rw [add_zero]; ring
  · rw [show (128 * g + l) / 64 = 2 * g + 1 by omega, h, if_pos rfl]
    show grd A B (2 * g + 1) i k * _ * _ = _
    ring

/-- The forward call's result, by rows. -/
def outR (A : ℕ → ℕ → ℝ) (i j : ℕ) : ℝ := ∑ k ∈ range i, wgt A (j / 64) i k * A k (1024 + j)

theorem out_total (p : Fin 4) (s : ℕ) (l : Fin 128) (h : l.val / 64 = p.val / 2) :
    outR A s (128 * g + l.val) = ∑ i ∈ range s, (data A B g).W p s i * (data A B g).Vf i l.val := by
  unfold outR
  refine sum_congr rfl fun k _ => ?_
  rw [W_eq, show (128 * g + l.val) / 64 = 2 * g + p.val / 2 by omega, ← add_assoc]
  rfl

theorem out_eq (i j : ℕ) (hi : i < 8192) : (∑ k ∈ range 8192, wgt A (j / 64) i k * A k (1024 + j)) = outR A i j :=
  sum_seen _ hi.le fun k hk => by rw [wgt_late _ hk, zero_mul]

end Cert.AttnIdeal.Inv

end
-- ==== Proof.AttnPre.lean ====
module

public import proofs.«01_k».proof.Defs
public import proofs.«01_k».proof.Proof.AttnHost
public import proofs.«01_k».proof.Proof.AttnJoin
public import Idealize.ShloMosaic.Lib.Pointwise

@[expose] public section

noncomputable section

/-! The precondition: every entry of the two arguments is a real number. -/

namespace Cert.Pre_attn_finite

open Idealize.ShloMosaic

/-- The predicate's side conditions. -/
theorem facts : Facts where
  concatenates_S8192x1536_S8192x512_S8192x2048_d1 := by decide
  bitsLt_bf16_f32 := by decide
  bcast_S_S8192x2048 := by decide

/-- What lies below the infinity in absolute value is real. -/
lemma real_of_bit {x : EReal} (h : BitVec.ofBool (decide ((max x (-x) : EReal) < Ideal.ofBits .f32 0x7F800000#32)) = 1#1) : x = (x.toReal : EReal) := by
  have htop : Ideal.ofBits .f32 0x7F800000#32 = ⊤ := by simp [Ideal.ofBits, Ideal.ieee]
  rw [htop] at h
  induction x using EReal.rec with
  | bot => simp at h
  | top => simp at h
  | coe r => rfl

variable [Facts] {x0 : Vec Ideal S8192x1536 .bf16} {x1 : Vec Ideal S8192x512 .bf16}

/-- The projected rows. -/
theorem rows (h : fn (F := Ideal) x0 x1 = fun _ => 1#1) (i : Fin 8192) (j : Fin 1536) : x0 (ix2 i j) = ((x0 (ix2 i j) : EReal).toReal : EReal) := by
  have e : fn (F := Ideal) x0 x1 (ix2 i ⟨j.val, by omega⟩)
      = BitVec.ofBool (decide ((max (x0 (ix2 i j)) (-x0 (ix2 i j)) : EReal) < Ideal.ofBits .f32 0x7F800000#32)) := by
    pointwise [fn]
    rfl
  rw [h] at e
  exact real_of_bit e.symm

/-- The cotangent. -/
theorem cotangent (h : fn (F := Ideal) x0 x1 = fun _ => 1#1) (i : Fin 8192) (j : Fin 512) : x1 (ix2 i j) = ((x1 (ix2 i j) : EReal).toReal : EReal) := by
  have e : fn (F := Ideal) x0 x1 (ix2 i ⟨1536 + j.val, by omega⟩)
      = BitVec.ofBool (decide ((max (x1 (ix2 i j)) (-x1 (ix2 i j)) : EReal) < Ideal.ofBits .f32 0x7F800000#32)) := by
    pointwise [fn]
    rfl
  rw [h] at e
  exact real_of_bit e.symm

end Cert.Pre_attn_finite

namespace Cert.AttnIdeal.Block

open Cert.AttnIdeal Cert.AttnIdeal.Gen Idealize.ShloMosaic Idealize.ShloMosaic.TcCoe Idealize.SL.Sem Cert.AttnIdeal.Inv

variable (m : (ℓ : Loc nD τ sig) → Buf (Elt Ideal) ℓ) (c : Dev nD)

/-- The projected rows as reals, zero outside the array. -/
def realA (i j : ℕ) : ℝ := if h : i < 8192 ∧ j < 1536 then
  ((m ((c : Thread nD τ).loc main_arg0) : Vec Ideal S8192x1536 .bf16) (ix2 (⟨i, h.1⟩ : Fin 8192) (⟨j, h.2⟩ : Fin 1536)) : EReal).toReal else 0
/-- The cotangent as reals. -/
def realB (i j : ℕ) : ℝ := if h : i < 8192 ∧ j < 512 then
  ((m ((c : Thread nD τ).loc main_arg1) : Vec Ideal S8192x512 .bf16) (ix2 (⟨i, h.1⟩ : Fin 8192) (⟨j, h.2⟩ : Fin 512)) : EReal).toReal else 0

variable {m} [Cert.Pre_attn_finite.Facts] (hpre : Pre_AttnIdeal_attn_finite m)
include hpre

theorem has0 : AttnRefIdeal.Rows.Has0 (m ((c : Thread nD τ).loc main_arg0)) (realA m c) := fun i j => by
  refine (Pre_attn_finite.rows (hpre c) i j).trans ?_
  rw [realA, dif_pos ⟨i.isLt, j.isLt⟩]

theorem has1 : AttnRefIdeal.Rows.Has1 (m ((c : Thread nD τ).loc main_arg1)) (realB m c) := fun i j => by
  refine (Pre_attn_finite.cotangent (hpre c) i j).trans ?_
  rw [realB, dif_pos ⟨i.isLt, j.isLt⟩]

/-- Where the arguments are finite the kernel's arrays are real, and the saved result is the forward call's. -/
theorem entries : Entries m c (realA m c) (realB m c) (outR (realA m c)) where
  arg0 := has0 c hpre
  arg1 := has1 c hpre
  out i j := by
    rw [V_out, AttnRefIdeal.Rows.out_apply (has0 c hpre), out_eq _ _ i.isLt]
  total g p s l h := out_total p s l h

end Cert.AttnIdeal.Block

end
-- ==== Proof.AttnMask.lean ====
module

public import proofs.«01_k».proof.Proof.AttnArray

@[expose] public section

noncomputable section

/-! The three masks, as the host's lines leave them. -/

namespace Cert.AttnIdeal.Block

open Cert.AttnIdeal Cert.AttnIdeal.Gen Idealize.ShloMosaic Idealize.ShloMosaic.TcCoe Idealize.SL.Sem

variable (m : (ℓ : Loc nD τ sig) → Buf (Elt Ideal) ℓ) (c : Dev nD)

/-- The last lines make the masks. -/
theorem lines_split : List.flatten (lines (F := Ideal)) = List.flatten [hostOps0, hostOps0_1, hostOps0_2, hostOps0_3, hostOps0_4, hostOps0_5, hostOps0_6] ++ hostOps0_7 := rfl

theorem V_mask5 : (V m c main_v33 : Vec Ideal S256x256 .f32) = uitofp (F := Ideal) .f32 (cmpi .slt (iotaInDim S256x256 32 1) (iotaInDim S256x256 32 0)) := by
  show StableHlo.after (List.flatten lines) (fun b => m (c, b)) main_v33 = _
  rw [lines_split, StableHlo.after_append]
  generalize StableHlo.after (List.flatten _) _ = W
  after_results_simp

theorem V_mask6 : (V m c main_v35 : Vec Ideal S256x256 .bf16) = uitofp (F := Ideal) .bf16 (cmpi .sgt (iotaInDim S256x256 32 0) (iotaInDim S256x256 32 1)) := by
  show StableHlo.after (List.flatten lines) (fun b => m (c, b)) main_v35 = _
  rw [lines_split, StableHlo.after_append]
  generalize StableHlo.after (List.flatten _) _ = W
  after_results_simp

theorem V_mask7 : (V m c main_v37 : Vec Ideal S256x256 .bf16) = uitofp (F := Ideal) .bf16 (cmpi .sge (iotaInDim S256x256 32 0) (iotaInDim S256x256 32 1)) := by
  show StableHlo.after (List.flatten lines) (fun b => m (c, b)) main_v37 = _
  rw [lines_split, StableHlo.after_append]
  generalize StableHlo.after (List.flatten _) _ = W
  after_results_simp

lemma toInt_small {a : ℕ} (h : a < 2 ^ 31) : (BitVec.ofNat 32 a).toInt = a := by
  have e : (BitVec.ofNat 32 a).toNat = a := by rw [BitVec.toNat_ofNat, Nat.mod_eq_of_lt (by omega)]
  rw [BitVec.toInt_eq_toNat_of_lt (by omega), e]

lemma slt_bits {a b : ℕ} (ha : a < 2 ^ 31) (hb : b < 2 ^ 31) :
    IntOp.cmpi .slt (BitVec.ofNat 32 b) (BitVec.ofNat 32 a) = if b < a then 1#1 else 0#1 := by
  show BitVec.ofBool ((BitVec.ofNat 32 b).slt (BitVec.ofNat 32 a)) = _
  rw [BitVec.slt_eq_decide, toInt_small ha, toInt_small hb]
  by_cases h : b < a <;> simp [h]

lemma sgt_bits {a b : ℕ} (ha : a < 2 ^ 31) (hb : b < 2 ^ 31) :
    IntOp.cmpi .sgt (BitVec.ofNat 32 a) (BitVec.ofNat 32 b) = if b < a then 1#1 else 0#1 := slt_bits ha hb

lemma sge_bits {a b : ℕ} (ha : a < 2 ^ 31) (hb : b < 2 ^ 31) :
    IntOp.cmpi .sge (BitVec.ofNat 32 a) (BitVec.ofNat 32 b) = if b ≤ a then 1#1 else 0#1 := by
  show BitVec.ofBool ((BitVec.ofNat 32 b).sle (BitVec.ofNat 32 a)) = _
  rw [BitVec.sle_eq_decide, toInt_small ha, toInt_small hb]
  by_cases h : b ≤ a <;> simp [h]

lemma uitofp_mask (φ : FTy) (p : Prop) [Decidable p] : FloatOps.uitofp (F := Ideal) φ (if p then 1#1 else 0#1) = ((if p then 1 else 0 : ℝ) : EReal) := by
  by_cases h : p
  · rw [if_pos h, if_pos h]; show ((((1#1 : BitVec 1).toNat : ℝ)) : EReal) = _; norm_num
  · rw [if_neg h, if_neg h]; show ((((0#1 : BitVec 1).toNat : ℝ)) : EReal) = _; norm_num

theorem iblk5_apply (t : Fin grid0.N) (a b : Fin 256) :
    (iblk m c 5 t : Vec Ideal S256x256 .f32) (ix2 a b) = ((if b.val < a.val then 1 else 0 : ℝ) : EReal) := by
  have e : (iblk m c 5 t : Vec Ideal S256x256 .f32) (ix2 a b) = (V m c main_v33 : Vec Ideal S256x256 .f32) (ix2 a b) := by
    unfold iblk
    rw [View.read_apply]
    show V m c main_v33 _ = V m c main_v33 _
    congr 1
    funext k
    apply Fin.ext
    match k with
    | ⟨0, _⟩ => show win0_5.index t 0 * 256 + 1 * a.val = a.val; rw [(index_mask t).1.1]; omega
    | ⟨1, _⟩ => show win0_5.index t 1 * 256 + 1 * b.val = b.val; rw [(index_mask t).1.2]; omega
  have k : (uitofp (F := Ideal) .f32 (cmpi .slt (iotaInDim S256x256 32 1) (iotaInDim S256x256 32 0)) : Vec Ideal S256x256 .f32) (ix2 a b)
      = FloatOps.uitofp .f32 (IntOp.cmpi .slt (BitVec.ofNat 32 b.val) (BitVec.ofNat 32 a.val)) := by
    pointwise []
  refine e.trans ((congrFun (V_mask5 m c) _).trans (k.trans ?_))
  rw [slt_bits (by omega) (by omega), uitofp_mask]

theorem iblk6_apply (t : Fin grid0.N) (a b : Fin 256) :
    (iblk m c 6 t : Vec Ideal S256x256 .bf16) (ix2 a b) = ((if b.val < a.val then 1 else 0 : ℝ) : EReal) := by
  have e : (iblk m c 6 t : Vec Ideal S256x256 .bf16) (ix2 a b) = (V m c main_v35 : Vec Ideal S256x256 .bf16) (ix2 a b) := by
    unfold iblk
    rw [View.read_apply]
    show V m c main_v35 _ = V m c main_v35 _
    congr 1
    funext k
    apply Fin.ext
    match k with
    | ⟨0, _⟩ => show win0_6.index t 0 * 256 + 1 * a.val = a.val; rw [(index_mask t).2.1.1]; omega
    | ⟨1, _⟩ => show win0_6.index t 1 * 256 + 1 * b.val = b.val; rw [(index_mask t).2.1.2]; omega
  have k : (uitofp (F := Ideal) .bf16 (cmpi .sgt (iotaInDim S256x256 32 0) (iotaInDim S256x256 32 1)) : Vec Ideal S256x256 .bf16) (ix2 a b)
      = FloatOps.uitofp .bf16 (IntOp.cmpi .sgt (BitVec.ofNat 32 a.val) (BitVec.ofNat 32 b.val)) := by
    pointwise []
  refine e.trans ((congrFun (V_mask6 m c) _).trans (k.trans ?_))
  rw [sgt_bits (by omega) (by omega), uitofp_mask]

theorem iblk7_apply (t : Fin grid0.N) (a b : Fin 256) :
    (iblk m c 7 t : Vec Ideal S256x256 .bf16) (ix2 a b) = ((if b.val ≤ a.val then 1 else 0 : ℝ) : EReal) := by
  have e : (iblk m c 7 t : Vec Ideal S256x256 .bf16) (ix2 a b) = (V m c main_v37 : Vec Ideal S256x256 .bf16) (ix2 a b) := by
    unfold iblk
    rw [View.read_apply]
    show V m c main_v37 _ = V m c main_v37 _
    congr 1
    funext k
    apply Fin.ext
    match k with
    | ⟨0, _⟩ => show win0_7.index t 0 * 256 + 1 * a.val = a.val; rw [(index_mask t).2.2.1]; omega
    | ⟨1, _⟩ => show win0_7.index t 1 * 256 + 1 * b.val = b.val; rw [(index_mask t).2.2.2]; omega
  have k : (uitofp (F := Ideal) .bf16 (cmpi .sge (iotaInDim S256x256 32 0) (iotaInDim S256x256 32 1)) : Vec Ideal S256x256 .bf16) (ix2 a b)
      = FloatOps.uitofp .bf16 (IntOp.cmpi .sge (BitVec.ofNat 32 a.val) (BitVec.ofNat 32 b.val)) := by
    pointwise []
  refine e.trans ((congrFun (V_mask7 m c) _).trans (k.trans ?_))
  rw [sge_bits (by omega) (by omega), uitofp_mask]

end Cert.AttnIdeal.Block

end
-- ==== Proof.AttnFinal.lean ====
module

public import proofs.«01_k».proof.Proof.AttnMask

@[expose] public section

noncomputable section

/-! The three output arrays of the attention's backward call at the end of its sweep, by the entries of its arguments. -/

namespace Cert.AttnIdeal.Block

open Cert.AttnIdeal Cert.AttnIdeal.Gen Cert.AttnIdeal.Inv Idealize.ShloMosaic Idealize.ShloMosaic.TcCoe Idealize.SL.Sem
open Finset (range sum_range_succ)

variable {m : (ℓ : Loc nD τ sig) → Buf (Elt Ideal) ℓ} {c : Dev nD} {A B O : ℕ → ℕ → ℝ}

/-- The blocks at a point. -/
theorem blocks (he : Entries m c A B O) (t : Fin grid0.N) :
    Blocks A B (fun s l => O s (128 * (t.val / 32) + l)) (t.val / 32) (t.val % 32) (iblk m c 0 t) (iblk m c 1 t) (iblk m c 2 t) (iblk m c 3 t)
      (iblk m c 4 t) (iblk m c 5 t) (iblk m c 6 t) (iblk m c 7 t) where
  h0 a l := (iblk0_apply m c t a l).trans (he.arg0 _ _)
  h1 k l := (iblk1_apply m c t k l).trans (he.arg0 _ _)
  h2 k l := (iblk2_apply m c t k l).trans (he.arg0 _ _)
  h3 a l := (iblk3_apply m c t a l).trans (he.out _ _)
  h4 a l := (iblk4_apply m c t a l).trans (he.arg1 _ _)
  h5 := iblk5_apply m c t
  h6 := iblk6_apply m c t
  h7 := iblk7_apply m c t
  hO := he.total ⟨t.val / 32, by have := lt_points t; omega⟩

/-- The gradients kept before a point: the sums over the pair's query blocks before it. -/
def keys (A B : ℕ → ℕ → ℝ) (g n : ℕ) (k l : ℕ) : ℝ := ∑ q ∈ range n, (data A B g).CK q k l
def values (A B : ℕ → ℕ → ℝ) (g n : ℕ) (k l : ℕ) : ℝ := ∑ q ∈ range n, (data A B g).CV q k l

/-- What a point leaves. -/
theorem acc_inv (he : Entries m c A B O) : ∀ (n : ℕ) (h : n < grid0.N),
    Inv (data A B (n / 32)) (n % 32) 0 (keys A B (n / 32) (n % 32)) (values A B (n / 32) (n % 32)) (accAt m c n h) := by
  intro n
  induction n with
  | zero =>
    intro h
    have e := point_inv (i := grid0.coords ⟨0, h⟩) (dk := k0_pay6 (F := Ideal)) (dv := k0_pay7 (F := Ideal)) (k0 := fun _ _ => 0) (v0 := fun _ _ => 0)
      ((coord1 ⟨0, h⟩).symm) (blocks he ⟨0, h⟩) (fun hz => absurd rfl hz) (fun hz => absurd rfl hz)
    exact e
  | succ n ih =>
    intro h
    have hn : n < grid0.N := by omega
    have ih := ih hn
    by_cases hz : (n + 1) % 32 = 0
    · have e := point_inv (i := grid0.coords ⟨n + 1, h⟩) (dk := (accAt m c n hn).dk) (dv := (accAt m c n hn).dv)
        (k0 := fun _ _ => 0) (v0 := fun _ _ => 0) ((coord1 ⟨n + 1, h⟩).symm) (blocks he ⟨n + 1, h⟩) (fun hc => absurd hz hc) (fun hc => absurd hz hc)
      have k0 : keys A B ((n + 1) / 32) ((n + 1) % 32) = fun _ _ => 0 := by
        rw [hz]; rfl
      have v0 : values A B ((n + 1) / 32) ((n + 1) % 32) = fun _ _ => 0 := by
        rw [hz]; rfl
      rw [k0, v0]
      rw [ite_self] at e
      exact e
    · have hg : (n + 1) / 32 = n / 32 := by omega
      have hq : (n + 1) % 32 = n % 32 + 1 := by omega
      have k1 (k l : ℕ) : keys A B ((n + 1) / 32) ((n + 1) % 32) k l = keys A B (n / 32) (n % 32) k l + (data A B (n / 32)).CK (n % 32) k l := by
        unfold keys; rw [hg, hq, sum_range_succ]
      have v1 (k l : ℕ) : values A B ((n + 1) / 32) ((n + 1) % 32) k l = values A B (n / 32) (n % 32) k l + (data A B (n / 32)).CV (n % 32) k l := by
        unfold values; rw [hg, hq, sum_range_succ]
      have e := point_inv (i := grid0.coords ⟨n + 1, h⟩) (dk := (accAt m c n hn).dk) (dv := (accAt m c n hn).dv)
        (k0 := keys A B ((n + 1) / 32) ((n + 1) % 32)) (v0 := values A B ((n + 1) / 32) ((n + 1) % 32))
        ((coord1 ⟨n + 1, h⟩).symm) (blocks he ⟨n + 1, h⟩)
        (fun _ k l => by rw [ih.dk, k1, if_pos (Nat.zero_le _)]) (fun _ k l => by rw [ih.dv, v1, if_pos (Nat.zero_le _)])
      rw [if_neg hz, if_neg hz] at e
      exact e

/-- The query gradients. -/
theorem dq_final (he : Entries m c A B O) (t : Fin grid0.N) (a : Fin 256) (l : Fin 128) :
    ((dats m 0 c).arrAt 8 (cfg0 (F := Ideal)).N : Vec Ideal S8192x512 .bf16) (ix2 (rowOf t a) (colOf t l)) =
      (((∑ i ∈ range (rowOf t a).val, (data A B (t.val / 32)).Z (if l.val / 64 = 1 then 2 else 0) (rowOf t a).val i
        * A i (512 + 128 * (t.val / 32) + l.val)) * (1 / 8) : ℝ) : EReal) := by
  have e := (dats m 0 c).arrAt_emb_eq_flushed 8 (fun t t' _ _ hne => ((cfg0 (F := Ideal)).win 8).disjoint_blk fun h => hne (Fin.ext (by
      have h0 := congrFun h 0; have h1 := congrFun h 1
      have a0 := (index_out t).1; have b0 := (index_out t').1
      have := (a0.1.symm.trans h0).trans b0.1; have := (a0.2.symm.trans h1).trans b0.2
      omega))) t (flush0_8 t) (ix2 a l)
  have hi : (((cfg0 (F := Ideal)).win 8).blk t).view.emb (ix2 a l) = (ix2 (rowOf t a) (colOf t l) : S8192x512.Idx) := by
    funext k
    apply Fin.ext
    match k with
    | ⟨0, _⟩ => show win0_8.index t 0 * 256 + 1 * a.val = 256 * (t.val % 32) + a.val; rw [(index_out t).1.1]; omega
    | ⟨1, _⟩ => show win0_8.index t 1 * 128 + 1 * l.val = 128 * (t.val / 32) + l.val; rw [(index_out t).1.2]; omega
  rw [hi] at e
  exact e.trans (dqOut_apply (acc_inv he t.val t.isLt) a l)

/-- The last point of a pair of heads. -/
def lastOf (g : Fin 4) : Fin grid0.N := ⟨32 * g.val + 31, by rw [N_0]; omega⟩

/-- The key gradients. -/
theorem dk_final (he : Entries m c A B O) (g : Fin 4) (k : Fin 8192) (l : Fin 128) :
    ((dats m 0 c).arrAt 9 (cfg0 (F := Ideal)).N : Vec Ideal S8192x512 .bf16) (ix2 k ⟨128 * g.val + l.val, by omega⟩) =
      ((keys A B g.val 32 k.val l.val : ℝ) : EReal) := by
  have e := (dats m 0 c).arrAt_emb_eq_flushed 9 (fun t t' hf hf' hne => ((cfg0 (F := Ideal)).win 9).disjoint_blk fun h => hne (Fin.ext (by
      have h1 := congrFun h 1
      have := ((index_out t).2.1.2.symm.trans h1).trans (index_out t').2.1.2
      have := (flush0_9 t).mp hf; have := (flush0_9 t').mp hf'
      omega))) (lastOf g) ((flush0_9 _).mpr (by show (32 * g.val + 31) % 32 = 31; omega)) (ix2 k l)
  have hd : (lastOf g).val / 32 = g.val := by show (32 * g.val + 31) / 32 = g.val; omega
  have hm : (lastOf g).val % 32 = 31 := by show (32 * g.val + 31) % 32 = 31; omega
  have hi : (((cfg0 (F := Ideal)).win 9).blk (lastOf g)).view.emb (ix2 k l) = (ix2 k ⟨128 * g.val + l.val, by omega⟩ : S8192x512.Idx) := by
    funext a
    apply Fin.ext
    match a with
    | ⟨0, _⟩ => show win0_9.index (lastOf g) 0 * 8192 + 1 * k.val = k.val; rw [(index_out (lastOf g)).2.1.1]; omega
    | ⟨1, _⟩ => show win0_9.index (lastOf g) 1 * 128 + 1 * l.val = 128 * g.val + l.val; rw [(index_out (lastOf g)).2.1.2]; omega
  rw [hi] at e
  have ha := (acc_inv he (lastOf g).val (lastOf g).isLt).dk k l
  rw [hd, hm, if_pos (Nat.zero_le _)] at ha
  refine e.trans ?_
  show k0_pay2 (accAt m c (lastOf g).val (lastOf g).isLt).dk (ix2 k l) = _
  generalize (accAt m c (lastOf g).val (lastOf g).isLt).dk = x at ha ⊢
  have key : k0_pay2 x (ix2 k l) = x (ix2 k l) := by pointwise [k0_pay2]
  rw [key, ha]
  unfold keys
  rw [sum_range_succ (n := 31)]

/-- The value gradients. -/
theorem dv_final (he : Entries m c A B O) (g : Fin 4) (k : Fin 8192) (l : Fin 128) :
    ((dats m 0 c).arrAt 10 (cfg0 (F := Ideal)).N : Vec Ideal S8192x512 .bf16) (ix2 k ⟨128 * g.val + l.val, by omega⟩) =
      ((values A B g.val 32 k.val l.val : ℝ) : EReal) := by
  have e := (dats m 0 c).arrAt_emb_eq_flushed 10 (fun t t' hf hf' hne => ((cfg0 (F := Ideal)).win 10).disjoint_blk fun h => hne (Fin.ext (by
      have h1 := congrFun h 1
      have := ((index_out t).2.2.2.symm.trans h1).trans (index_out t').2.2.2
      have := (flush0_10 t).mp hf; have := (flush0_10 t').mp hf'
      omega))) (lastOf g) ((flush0_10 _).mpr (by show (32 * g.val + 31) % 32 = 31; omega)) (ix2 k l)
  have hd : (lastOf g).val / 32 = g.val := by show (32 * g.val + 31) / 32 = g.val; omega
  have hm : (lastOf g).val % 32 = 31 := by show (32 * g.val + 31) % 32 = 31; omega
  have hi : (((cfg0 (F := Ideal)).win 10).blk (lastOf g)).view.emb (ix2 k l) = (ix2 k ⟨128 * g.val + l.val, by omega⟩ : S8192x512.Idx) := by
    funext a
    apply Fin.ext
    match a with
    | ⟨0, _⟩ => show win0_10.index (lastOf g) 0 * 8192 + 1 * k.val = k.val; rw [(index_out (lastOf g)).2.2.1]; omega
    | ⟨1, _⟩ => show win0_10.index (lastOf g) 1 * 128 + 1 * l.val = 128 * g.val + l.val; rw [(index_out (lastOf g)).2.2.2]; omega
  rw [hi] at e
  have ha := (acc_inv he (lastOf g).val (lastOf g).isLt).dv k l
  rw [hd, hm, if_pos (Nat.zero_le _)] at ha
  refine e.trans ?_
  show k0_pay3 (accAt m c (lastOf g).val (lastOf g).isLt).dv (ix2 k l) = _
  generalize (accAt m c (lastOf g).val (lastOf g).isLt).dv = x at ha ⊢
  have key : k0_pay3 x (ix2 k l) = x (ix2 k l) := by pointwise [k0_pay3]
  rw [key, ha]
  unfold values
  rw [sum_range_succ (n := 31)]

end Cert.AttnIdeal.Block

end
-- ==== Proof.AttnClaims.lean ====
module

public import proofs.«01_k».proof.Proof.AttnPre
public import proofs.«01_k».proof.Proof.AttnFinal
public import proofs.«01_k».proof.Proof.RowNorm
public import proofs.«01_k».proof.Proof.AttnFrameBits
public import proofs.«01_k».proof.Proof.Gen.AttnRefIdeal.Run
public import Idealize.ShloMosaic.Lib.Quiescent

@[expose] public section

noncomputable section

/-! The claims about the attention's backward call. -/

namespace Cert.AttnClaims

open Idealize.ShloMosaic Idealize.ShloMosaic.TcCoe Idealize.SL.Sem Finset AttnMath AttnIdeal.Inv

/-- The constants that the idealized kernel names. -/
theorem preserves : preserves_Attn_AttnIdeal :=
  ⟨IdealRules.named_const.statement Cert.AttnIdeal.κ "log2_e" .f32 0x3FB8AA3B#32 (((Real.log 2)⁻¹ : ℝ) : EReal) rfl,
    IdealRules.named_const.statement Cert.AttnIdeal.κ "exp2_zero" .f32 0xC3160000#32 ⊥ rfl⟩

/-- The reference's frame, read off its run. -/
theorem frame_ref : quiescent_AttnRefIdeal := fun m ρ _ =>
  (θ_run AttnRefIdeal.defs _ _).mono (fun r h => ⟨fun c => (h c).2.2.2, sem_eq_zero_of_no_sems (by decide) r.2⟩)
    (AttnRefIdeal.Value.run (F := Ideal) m ρ)

open AttnIdeal.Block in
/-- The kernel's run: the three arrays the pipeline leaves, and the arguments as they were. -/
theorem run (m : (ℓ : Loc AttnIdeal.nD AttnIdeal.τ AttnIdeal.sig) → Buf (Elt Ideal) ℓ) (ρ : Dev AttnIdeal.nD → PrngReg) :
    θ_run AttnIdeal.defs (onTc (τ := AttnIdeal.τ) (AttnIdeal.main (F := Ideal))) ⟨m, fun _ => 0, ρ⟩ (fun r => ∀ c : Dev AttnIdeal.nD,
      r.2.mem ((c.tc : Thread AttnIdeal.nD AttnIdeal.τ).loc AttnIdeal.main_v38_0) = (dats m 0 c).arrAt 8 (AttnIdeal.cfg0 (F := Ideal)).N
      ∧ r.2.mem ((c.tc : Thread AttnIdeal.nD AttnIdeal.τ).loc AttnIdeal.main_v38_1) = (dats m 0 c).arrAt 9 (AttnIdeal.cfg0 (F := Ideal)).N
      ∧ r.2.mem ((c.tc : Thread AttnIdeal.nD AttnIdeal.τ).loc AttnIdeal.main_v38_2) = (dats m 0 c).arrAt 10 (AttnIdeal.cfg0 (F := Ideal)).N
      ∧ r.2.mem ((c.tc : Thread AttnIdeal.nD AttnIdeal.τ).loc AttnIdeal.main_arg0) = m ((c.tc : Thread AttnIdeal.nD AttnIdeal.τ).loc AttnIdeal.main_arg0)
      ∧ r.2.mem ((c.tc : Thread AttnIdeal.nD AttnIdeal.τ).loc AttnIdeal.main_arg1) = m ((c.tc : Thread AttnIdeal.nD AttnIdeal.τ).loc AttnIdeal.main_arg1)) :=
  (θ_run AttnIdeal.defs _ _).mono (fun _ h c => ⟨(h.1 c).1 8, (h.1 c).1 9, (h.1 c).1 10,
    ((h.1 c).1 2).trans (((dats m 0 c).arrAt_in 2 rfl _).trans ((A_eq m c 2).trans (V_main_arg0 m c))),
    ((h.1 c).1 4).trans (((dats m 0 c).arrAt_in 4 rfl _).trans ((A_eq m c 4).trans (V_main_arg1 m c)))⟩) (run_main_quiescent m ρ)

open AttnIdeal.Block in
/-- On finite arguments the two programs compute one value. -/
theorem algebraic [Cert.Pre_attn_finite.Facts] : algebraic_AttnIdeal_AttnRefIdeal_pre_attn_finite := by
  intro m g m' g' hpre hagree
  refine ⟨_, _, _, (θ_run AttnIdeal.defs _ _).mono (fun r h c => h c) (run m g),
    (θ_run AttnRefIdeal.defs _ _).mono (fun r h c => ⟨(h c).1.trans ?_, (h c).2.1.trans ?_, (h c).2.2.1.trans ?_, (h c).2.2.2⟩)
      (AttnRefIdeal.Value.run (F := Ideal) m' g')⟩
  · rw [AttnRefIdeal.Read.val_main_v56_eq, (hagree c).1, (hagree c).2]
    refine RowNorm.ext2 fun i j => ?_
    have hi : 32 * (j.val / 128) + i.val / 256 < AttnIdeal.grid0.N := by show _ < 128; omega
    have e := dq_final (entries c hpre) ⟨32 * (j.val / 128) + i.val / 256, hi⟩ (⟨i.val % 256, by omega⟩ : Fin 256) (⟨j.val % 128, by omega⟩ : Fin 128)
    rw [show rowOf ⟨32 * (j.val / 128) + i.val / 256, hi⟩ (⟨i.val % 256, by omega⟩ : Fin 256) = i from Fin.ext (by simp only [rowOf]; omega),
      show colOf ⟨32 * (j.val / 128) + i.val / 256, hi⟩ (⟨j.val % 128, by omega⟩ : Fin 128) = j from Fin.ext (by simp only [colOf]; omega)] at e
    refine (AttnRefIdeal.Rows.dq_apply (has0 c hpre) (has1 c hpre) i j).trans (Eq.trans ?_ e.symm)
    rw [queries_eq _ _ i.isLt (by show j.val % 128 < 128; omega)]
    simp only [show 128 * ((32 * (j.val / 128) + i.val / 256) / 32) + j.val % 128 = j.val by omega]
  · rw [AttnRefIdeal.Read.val_main_v57_eq, (hagree c).1, (hagree c).2]
    refine RowNorm.ext2 fun i j => ?_
    have e := dk_final (entries c hpre) (⟨j.val / 128, by omega⟩ : Fin 4) i (⟨j.val % 128, by omega⟩ : Fin 128)
    simp only [show 128 * (j.val / 128) + j.val % 128 = j.val by omega] at e
    refine (AttnRefIdeal.Rows.dk_apply (has0 c hpre) (has1 c hpre) i j).trans (Eq.trans ?_ e.symm)
    rw [keys, keys_eq _ _ (by omega)]
    simp only [show 128 * (j.val / 128) + j.val % 128 = j.val by omega]
  · rw [AttnRefIdeal.Read.val_main_v58_eq, (hagree c).1, (hagree c).2]
    refine RowNorm.ext2 fun i j => ?_
    have e := dv_final (entries c hpre) (⟨j.val / 128, by omega⟩ : Fin 4) i (⟨j.val % 128, by omega⟩ : Fin 128)
    simp only [show 128 * (j.val / 128) + j.val % 128 = j.val by omega] at e
    refine (AttnRefIdeal.Rows.dv_apply (has0 c hpre) (has1 c hpre) i j).trans (Eq.trans ?_ e.symm)
    rw [values, values_eq _ _ (by omega)]
    simp only [show 128 * (j.val / 128) + j.val % 128 = j.val by omega]

end Cert.AttnClaims

end
-- ==== Proof.MlpBlock.lean ====
module

public import proofs.«01_k».proof.Proof.Gen.MlpIdeal.Frame.RunB
public import Idealize.ShloMosaic.Lib.Pipeline.ReadBack
public import Idealize.ShloMosaic.Lib.Tactic

@[expose] public section

set_option maxRecDepth 16384
set_option maxRecDepth 16384
set_option maxRecDepth 16384
set_option maxRecDepth 16384

noncomputable section

/-! What one run of the feed-forward and loss body writes, opened to the body's own payloads with no view left. -/

namespace Cert.MlpIdeal.Block

open Cert.MlpIdeal Cert.MlpIdeal.Gen Idealize.ShloMosaic Idealize.ShloMosaic.TcCoe Idealize.SL.Sem

variable {F : FTy → Type} [FloatOps F]

/-- The literal offset of a whole rank-two window. -/
theorem hz : (![0, 0] : Fin 2 → Nat) = fun _ => 0 := funext fun a => by fin_cases a <;> rfl

/-! The four column ranges of the up weight, the four row ranges of the down weight. -/

def chU0 (wu : Vec F S1024x4096 .bf16) : Vec F S1024x1024 .bf16 := View.ld wu (Rect.unit ![0, 0] S1024x1024.size inb_S1024x4096_S1024x1024_0_0)
def chU1 (wu : Vec F S1024x4096 .bf16) : Vec F S1024x1024 .bf16 := View.ld wu (Rect.unit ![0, 1024] S1024x1024.size inb_S1024x4096_S1024x1024_0_1024)
def chU2 (wu : Vec F S1024x4096 .bf16) : Vec F S1024x1024 .bf16 := View.ld wu (Rect.unit ![0, 2048] S1024x1024.size inb_S1024x4096_S1024x1024_0_2048)
def chU3 (wu : Vec F S1024x4096 .bf16) : Vec F S1024x1024 .bf16 := View.ld wu (Rect.unit ![0, 3072] S1024x1024.size inb_S1024x4096_S1024x1024_0_3072)
def chD0 (wd : Vec F S4096x1024 .bf16) : Vec F S1024x1024 .bf16 := View.ld wd (Rect.unit ![0, 0] S1024x1024.size inb_S4096x1024_S1024x1024_0_0)
def chD1 (wd : Vec F S4096x1024 .bf16) : Vec F S1024x1024 .bf16 := View.ld wd (Rect.unit ![1024, 0] S1024x1024.size inb_S4096x1024_S1024x1024_1024_0)
def chD2 (wd : Vec F S4096x1024 .bf16) : Vec F S1024x1024 .bf16 := View.ld wd (Rect.unit ![2048, 0] S1024x1024.size inb_S4096x1024_S1024x1024_2048_0)
def chD3 (wd : Vec F S4096x1024 .bf16) : Vec F S1024x1024 .bf16 := View.ld wd (Rect.unit ![3072, 0] S1024x1024.size inb_S4096x1024_S1024x1024_3072_0)

/-- What a grid point reads: its blocks of rows, the gains, the resident weights. -/
structure In (F : FTy → Type) where
  x : Vec F S256x1024 .f32
  p : Vec F S256x256 .f32
  t : Vec F S256x1024 .f32
  g1 : Vec F S1x1024 .f32
  g2 : Vec F S1x1024 .f32
  g3 : Vec F S1x1024 .f32
  wu : Vec F S1024x4096 .bf16
  wd : Vec F S4096x1024 .bf16
  wg : Vec F S1024x1024 .bf16
  we : Vec F S256x1024 .bf16

namespace In
variable (b : In F)

/-! The values the body computes, in its order; `acc` is what an accumulating window held. -/

def h : FVec F S256x1024 .bf16 := k0_pay7 b.x b.g1
def u0 : FVec F S256x1024 .f32 := k0_pay10 b.x b.g1 (chU0 b.wu)
def u1 : FVec F S256x1024 .f32 := k0_pay13 b.h (chU1 b.wu)
def u2 : FVec F S256x1024 .f32 := k0_pay16 b.h (chU2 b.wu)
def u3 : FVec F S256x1024 .f32 := k0_pay20 b.h (chU3 b.wu)
def a0 : FVec F S256x1024 .bf16 := k0_pay11 b.x b.g1 (chU0 b.wu)
def a1 : FVec F S256x1024 .bf16 := k0_pay14 b.h (chU1 b.wu)
def a2 : FVec F S256x1024 .bf16 := k0_pay17 b.h (chU2 b.wu)
def a3 : FVec F S256x1024 .bf16 := k0_pay21 b.h (chU3 b.wu)
def fs : FVec F S256x1024 .f32 := k0_pay18 b.h k0_pay8 b.a0 (chD0 b.wd) (chU1 b.wu) (chD1 b.wd) (chU2 b.wu) (chD2 b.wd)
def rf : FVec F S256x1 .f32 := k0_pay23 b.h b.fs (chU3 b.wu) (chD3 b.wd)
def fh : FVec F S256x1024 .f32 := k0_pay24 b.h b.fs (chU3 b.wu) (chD3 b.wd)
def x2 : FVec F S256x1024 .f32 := k0_pay25 b.x b.h b.fs (chU3 b.wu) (chD3 b.wd) b.g2
def r3 : FVec F S256x1 .f32 := k0_pay26 b.x b.h b.fs (chU3 b.wu) (chD3 b.wd) b.g2
def x2h : FVec F S256x1024 .f32 := k0_pay27 b.x b.h b.fs (chU3 b.wu) (chD3 b.wd) b.g2
def h3 : FVec F S256x1024 .bf16 := k0_pay28 b.x2h b.g3
def pg : FVec F S256x1024 .f32 := k0_pay29 b.x2h b.g3 b.wg
def pp : FVec F S256x1024 .f32 := k0_pay30 b.p b.we
def diff : FVec F S256x1024 .f32 := k0_pay31 b.x2 b.x2h b.g3 b.wg b.p b.we b.t
def loss (acc : Vec F S1x1 .f32) : FVec F S1x1 .f32 := k0_pay32 b.x2 b.x2h b.g3 b.wg b.p b.we b.t acc
def dpp : FVec F S256x1024 .bf16 := k0_pay34 b.pg b.diff
def ds : FVec F S256x1024 .bf16 := k0_pay35 b.pg b.pp b.diff
def dg3 (acc : Vec F S1x1024 .f32) : FVec F S1x1024 .f32 := k0_pay37 b.x2h b.pg b.pp b.diff b.wg acc
def dx2 : FVec F S256x1024 .f32 := k0_pay38 b.r3 b.x2h b.pg b.pp b.diff b.wg b.g3
def dg2 (acc : Vec F S1x1024 .f32) : FVec F S1x1024 .f32 := k0_pay39 b.fh b.dx2 acc
def df : FVec F S256x1024 .bf16 := k0_pay40 b.rf b.fh b.dx2 b.g2
def du0 : FVec F S256x1024 .bf16 := k0_pay41 b.rf b.fh b.dx2 b.g2 (chD0 b.wd) b.u0
def hs0 : FVec F S256x1024 .f32 := k0_pay42 b.rf b.fh b.dx2 b.g2 (chD0 b.wd) b.u0 (chU0 b.wu)
def du1 : FVec F S256x1024 .bf16 := k0_pay43 b.df (chD1 b.wd) b.u1
def du2 : FVec F S256x1024 .bf16 := k0_pay44 b.df (chD2 b.wd) b.u2
def hs : FVec F S256x1024 .f32 := k0_pay45 b.df b.hs0 (chD1 b.wd) b.u1 (chU1 b.wu) (chD2 b.wd) b.u2 (chU2 b.wu)
def da3 : FVec F S256x1024 .f32 := k0_pay46 b.df (chD3 b.wd)
def du3 : FVec F S256x1024 .bf16 := k0_pay47 b.da3 b.u3
def dg1 (acc : Vec F S1x1024 .f32) : FVec F S1x1024 .f32 := k0_pay49 (k0_pay6 b.x) b.hs b.da3 b.u3 (chU3 b.wu) acc
def dx1 : FVec F S256x1024 .f32 := k0_pay50 (k0_pay5 b.x) (k0_pay6 b.x) b.dx2 b.hs b.da3 b.u3 (chU3 b.wu) b.g1

/-- The pieces of the two 4096-wide windows, the last written first. -/
def aL : List (View.Piece (Elt F) S256x4096 .bf16) :=
  [⟨Rect.unit ![0, 3072] S256x1024.size inb_S256x4096_S256x1024_0_3072, b.a3⟩, ⟨Rect.unit ![0, 2048] S256x1024.size inb_S256x4096_S256x1024_0_2048, b.a2⟩,
    ⟨Rect.unit ![0, 1024] S256x1024.size inb_S256x4096_S256x1024_0_1024, b.a1⟩, ⟨Rect.unit ![0, 0] S256x1024.size inb_S256x4096_S256x1024_0_0, b.a0⟩]
def duL : List (View.Piece (Elt F) S256x4096 .bf16) :=
  [⟨Rect.unit ![0, 3072] S256x1024.size inb_S256x4096_S256x1024_0_3072, b.du3⟩, ⟨Rect.unit ![0, 2048] S256x1024.size inb_S256x4096_S256x1024_0_2048, b.du2⟩,
    ⟨Rect.unit ![0, 1024] S256x1024.size inb_S256x4096_S256x1024_0_1024, b.du1⟩, ⟨Rect.unit ![0, 0] S256x1024.size inb_S256x4096_S256x1024_0_0, b.du0⟩]

/-- Everything a grid point leaves, from what the accumulating windows held. -/
def outs (l : Vec F S1x1 .f32) (d1 d2 d3 : Vec F S1x1024 .f32) :=
  (b.dx1, b.h, View.canon b.duL, View.canon b.aL, b.df, b.h3, b.ds, b.dpp, b.loss l, b.dg1 d1, b.dg2 d2, b.dg3 d3, b.wu, b.wd, b.wg, b.we)

end In

/-- A read of a column range of the hidden rows, after all four were written, is what was written there. -/
theorem read_u (v : View sig .tc .vmem S256x4096 .f32) (f0 f1 f2 f3 : Vec F S256x1024 .f32) :
    let P : List (View.Piece (Elt F) S256x4096 .f32) :=
      [⟨Rect.unit ![0, 3072] S256x1024.size inb_S256x4096_S256x1024_0_3072, f3⟩, ⟨Rect.unit ![0, 2048] S256x1024.size inb_S256x4096_S256x1024_0_2048, f2⟩,
        ⟨Rect.unit ![0, 1024] S256x1024.size inb_S256x4096_S256x1024_0_1024, f1⟩, ⟨Rect.unit ![0, 0] S256x1024.size inb_S256x4096_S256x1024_0_0, f0⟩]
    v.readCov P (Rect.unit (s := S256x4096) ![0, 0] S256x1024.size inb_S256x4096_S256x1024_0_0).toLoadRect = f0
      ∧ v.readCov P (Rect.unit (s := S256x4096) ![0, 1024] S256x1024.size inb_S256x4096_S256x1024_0_1024).toLoadRect = f1
      ∧ v.readCov P (Rect.unit (s := S256x4096) ![0, 2048] S256x1024.size inb_S256x4096_S256x1024_0_2048).toLoadRect = f2
      ∧ v.readCov P (Rect.unit (s := S256x4096) ![0, 3072] S256x1024.size inb_S256x4096_S256x1024_0_3072).toLoadRect = f3 := by
  refine ⟨?_, ?_, ?_, ?_⟩
  · rw [View.readCov_skip _ _ _ _ _ (by decide), View.readCov_skip _ _ _ _ _ (by decide), View.readCov_skip _ _ _ _ _ (by decide),
      View.readCov_cons_toLoadRect]
  · rw [View.readCov_skip _ _ _ _ _ (by decide), View.readCov_skip _ _ _ _ _ (by decide), View.readCov_cons_toLoadRect]
  · rw [View.readCov_skip _ _ _ _ _ (by decide), View.readCov_cons_toLoadRect]
  · rw [View.readCov_cons_toLoadRect]

end Cert.MlpIdeal.Block
-- ==== Proof.MlpRunA.lean ====
module

public import proofs.«01_k».proof.Proof.MlpBlock

@[expose] public section

set_option maxRecDepth 16384

noncomputable section

/-! What one run of the feed-forward and loss body leaves in every window and every resident weight, at the first grid point: the weights arrive, the accumulating windows start from zero. -/

namespace Cert.MlpIdeal.Block

open Cert.MlpIdeal Cert.MlpIdeal.Gen Idealize.ShloMosaic Idealize.ShloMosaic.TcCoe Idealize.SL.Sem

variable {F : FTy → Type} [FloatOps F]

/-- What the first grid point works on: its blocks and the weights as they lie in memory. -/
def inOf (c : Dev nD) (x0 : Vec F S256x1024 .f32) (x1 : Vec F S256x256 .f32) (x2 : Vec F S256x1024 .f32) (x3 x4 x5 : Vec F S1x1024 .f32)
    (fh0 : HbBuf0 (F := F) c hbM0_0) (fh1 : HbBuf0 (F := F) c hbM0_1) (fh2 : HbBuf0 (F := F) c hbM0_2) (fh3 : HbBuf0 (F := F) c hbM0_3) : In F :=
  ⟨x0, x1, x2, x3, x4, x5, View.read (Elt F) (Memref.whole main_v3).view fh0, View.read (Elt F) (Memref.whole main_v5).view fh1,
    View.read (Elt F) (Memref.whole main_v7).view fh2, View.read (Elt F) (Memref.whole main_v9).view fh3⟩

/-- What a point leaves in its windows `M`, from what the accumulators held: `L` are the pieces stored. -/
structure Leaves (b : In F) (a14 : Vec F S1x1 .f32) (a15 a16 a17 : Vec F S1x1024 .f32)
    (M11 : Memref sig .tc .vmem S256x1024 .f32) (L11 : List (View.Piece (Elt F) S256x1024 .f32))
    (M12 : Memref sig .tc .vmem S256x1024 .bf16) (L12 : List (View.Piece (Elt F) S256x1024 .bf16))
    (M13 : Memref sig .tc .vmem S256x4096 .bf16) (L13 : List (View.Piece (Elt F) S256x4096 .bf16))
    (M14 : Memref sig .tc .vmem S256x4096 .bf16) (L14 : List (View.Piece (Elt F) S256x4096 .bf16))
    (M15 : Memref sig .tc .vmem S256x1024 .bf16) (L15 : List (View.Piece (Elt F) S256x1024 .bf16))
    (M16 : Memref sig .tc .vmem S256x1024 .bf16) (L16 : List (View.Piece (Elt F) S256x1024 .bf16))
    (M17 : Memref sig .tc .vmem S256x1024 .bf16) (L17 : List (View.Piece (Elt F) S256x1024 .bf16))
    (M18 : Memref sig .tc .vmem S256x1024 .bf16) (L18 : List (View.Piece (Elt F) S256x1024 .bf16))
    (M19 : Memref sig .tc .vmem S1x1 .f32) (L19 : List (View.Piece (Elt F) S1x1 .f32))
    (M20 : Memref sig .tc .vmem S1x1024 .f32) (L20 : List (View.Piece (Elt F) S1x1024 .f32))
    (M21 : Memref sig .tc .vmem S1x1024 .f32) (L21 : List (View.Piece (Elt F) S1x1024 .f32))
    (M22 : Memref sig .tc .vmem S1x1024 .f32) (L22 : List (View.Piece (Elt F) S1x1024 .f32)) : Prop where
  dx1 : ∀ f, M11.view.read (Elt F) (M11.view.writes (Elt F) f L11) = b.dx1
  h : ∀ f, M12.view.read (Elt F) (M12.view.writes (Elt F) f L12) = b.h
  du : ∀ f, M13.view.read (Elt F) (M13.view.writes (Elt F) f L13) = View.canon b.duL
  a : ∀ f, M14.view.read (Elt F) (M14.view.writes (Elt F) f L14) = View.canon b.aL
  df : ∀ f, M15.view.read (Elt F) (M15.view.writes (Elt F) f L15) = b.df
  h3 : ∀ f, M16.view.read (Elt F) (M16.view.writes (Elt F) f L16) = b.h3
  ds : ∀ f, M17.view.read (Elt F) (M17.view.writes (Elt F) f L17) = b.ds
  dpp : ∀ f, M18.view.read (Elt F) (M18.view.writes (Elt F) f L18) = b.dpp
  loss : ∀ f, M19.view.read (Elt F) (M19.view.writes (Elt F) f L19) = b.loss a14
  dg1 : ∀ f, M20.view.read (Elt F) (M20.view.writes (Elt F) f L20) = b.dg1 a15
  dg2 : ∀ f, M21.view.read (Elt F) (M21.view.writes (Elt F) f L21) = b.dg2 a16
  dg3 : ∀ f, M22.view.read (Elt F) (M22.view.writes (Elt F) f L22) = b.dg3 a17

variable (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg11 : Memref sig .tc .vmem S256x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1024x4096 .bf16) (harg23 : arg23.IsWhole) (arg24 : Memref sig .tc .vmem S4096x1024 .bf16) (harg24 : arg24.IsWhole) (arg25 : Memref sig .tc .vmem S1024x1024 .bf16) (harg25 : arg25.IsWhole) (arg26 : Memref sig .tc .vmem S256x1024 .bf16) (harg26 : arg26.IsWhole) (arg27 : Memref sig .tc .vmem S256x4096 .f32) (harg27 : arg27.IsWhole) (hc0 : cond0_0 i) (hc1 : cond0_1 i)
  (x0 : Vec F S256x1024 .f32) (x1 : Vec F S256x256 .f32) (x2 : Vec F S256x1024 .f32) (x3 : Vec F S1x1024 .f32) (x4 : Vec F S1x1024 .f32) (x5 : Vec F S1x1024 .f32) (fh0 : HbBuf0 (F := F) c hbM0_0) (fh1 : HbBuf0 (F := F) c hbM0_1) (fh2 : HbBuf0 (F := F) c hbM0_2) (fh3 : HbBuf0 (F := F) c hbM0_3)

set_option maxHeartbeats 16000000 in
/-- The first grid point. -/
theorem out_A :
    let k := kernelRun0_A c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 fh0 fh1 fh2 fh3
    Leaves (inOf c x0 x1 x2 x3 x4 x5 fh0 fh1 fh2 fh3) k0_pay1 k0_pay2 k0_pay3 k0_pay4
      arg11 k.1 arg12 k.2.1 arg13 k.2.2.1 arg14 k.2.2.2.1 arg15 k.2.2.2.2.1 arg16 k.2.2.2.2.2.1 arg17 k.2.2.2.2.2.2.1 arg18 k.2.2.2.2.2.2.2.1 arg19 k.2.2.2.2.2.2.2.2.1 arg20 k.2.2.2.2.2.2.2.2.2.1 arg21 k.2.2.2.2.2.2.2.2.2.2.1 arg22 k.2.2.2.2.2.2.2.2.2.2.2.1
      ∧ (∀ f, arg23.view.read (Elt F) (arg23.view.writes (Elt F) f k.2.2.2.2.2.2.2.2.2.2.2.2.1) = (inOf c x0 x1 x2 x3 x4 x5 fh0 fh1 fh2 fh3).wu)
      ∧ (∀ f, arg24.view.read (Elt F) (arg24.view.writes (Elt F) f k.2.2.2.2.2.2.2.2.2.2.2.2.2.1) = (inOf c x0 x1 x2 x3 x4 x5 fh0 fh1 fh2 fh3).wd)
      ∧ (∀ f, arg25.view.read (Elt F) (arg25.view.writes (Elt F) f k.2.2.2.2.2.2.2.2.2.2.2.2.2.2.1) = (inOf c x0 x1 x2 x3 x4 x5 fh0 fh1 fh2 fh3).wg)
      ∧ (∀ f, arg26.view.read (Elt F) (arg26.view.writes (Elt F) f k.2.2.2.2.2.2.2.2.2.2.2.2.2.2.2.1) = (inOf c x0 x1 x2 x3 x4 x5 fh0 fh1 fh2 fh3).we) := by
  unfold kernelRun0_A
  dsimp only
  sl_unfold_words
  have hw0 : ∀ r : Rect S1024x4096, arg23.view.readCov (Val := Elt F) [⟨Rect.whole S1024x4096, ReadAs.same.apply (View.read (Elt F) (Memref.whole main_v3).view fh0)⟩] r.toLoadRect = View.ld (inOf c x0 x1 x2 x3 x4 x5 fh0 fh1 fh2 fh3).wu r := fun r => View.readCov_fill (off := fun _ => 0) _ _ _ [] r (fun _ => rfl)
  have hw1 : ∀ r : Rect S4096x1024, arg24.view.readCov (Val := Elt F) [⟨Rect.whole S4096x1024, ReadAs.same.apply (View.read (Elt F) (Memref.whole main_v5).view fh1)⟩] r.toLoadRect = View.ld (inOf c x0 x1 x2 x3 x4 x5 fh0 fh1 fh2 fh3).wd r := fun r => View.readCov_fill (off := fun _ => 0) _ _ _ [] r (fun _ => rfl)
  have hw2 : ∀ r : Rect S1024x1024, arg25.view.readCov (Val := Elt F) [⟨Rect.whole S1024x1024, ReadAs.same.apply (View.read (Elt F) (Memref.whole main_v7).view fh2)⟩] r.toLoadRect = View.ld (inOf c x0 x1 x2 x3 x4 x5 fh0 fh1 fh2 fh3).wg r := fun r => View.readCov_fill (off := fun _ => 0) _ _ _ [] r (fun _ => rfl)
  have hw3 : ∀ r : Rect S256x1024, arg26.view.readCov (Val := Elt F) [⟨Rect.whole S256x1024, ReadAs.same.apply (View.read (Elt F) (Memref.whole main_v9).view fh3)⟩] r.toLoadRect = View.ld (inOf c x0 x1 x2 x3 x4 x5 fh0 fh1 fh2 fh3).we r := fun r => View.readCov_fill (off := fun _ => 0) _ _ _ [] r (fun _ => rfl)
  refine ⟨?_, fun _ => View.read_writes_whole _ _ _, fun _ => View.read_writes_whole _ _ _, fun _ => View.read_writes_whole _ _ _, fun _ => View.read_writes_whole _ _ _⟩
  refine ⟨fun f => (View.read_writes_eq_canon (Val := Elt F) _ _ _ (View.cover_of_tiledL (Val := Elt F) (s := S256x1024) _ S256x1024.size (by sl_kernel_rfl))).trans ?_,
    fun f => (View.read_writes_eq_canon (Val := Elt F) _ _ _ (View.cover_of_tiledL (Val := Elt F) (s := S256x1024) _ S256x1024.size (by sl_kernel_rfl))).trans ?_,
    fun f => (View.read_writes_eq_canon (Val := Elt F) _ _ _ (View.cover_of_tiledL (Val := Elt F) (s := S256x4096) _ S256x1024.size (by sl_kernel_rfl))).trans ?_,
    fun f => (View.read_writes_eq_canon (Val := Elt F) _ _ _ (View.cover_of_tiledL (Val := Elt F) (s := S256x4096) _ S256x1024.size (by sl_kernel_rfl))).trans ?_,
    fun f => (View.read_writes_eq_canon (Val := Elt F) _ _ _ (View.cover_of_tiledL (Val := Elt F) (s := S256x1024) _ S256x1024.size (by sl_kernel_rfl))).trans ?_,
    fun f => (View.read_writes_eq_canon (Val := Elt F) _ _ _ (View.cover_of_tiledL (Val := Elt F) (s := S256x1024) _ S256x1024.size (by sl_kernel_rfl))).trans ?_,
    fun f => (View.read_writes_eq_canon (Val := Elt F) _ _ _ (View.cover_of_tiledL (Val := Elt F) (s := S256x1024) _ S256x1024.size (by sl_kernel_rfl))).trans ?_,
    fun f => (View.read_writes_eq_canon (Val := Elt F) _ _ _ (View.cover_of_tiledL (Val := Elt F) (s := S256x1024) _ S256x1024.size (by sl_kernel_rfl))).trans ?_,
    fun f => (View.read_writes_eq_canon (Val := Elt F) _ _ _ (View.cover_of_tiledL (Val := Elt F) (s := S1x1) _ S1x1.size (by sl_kernel_rfl))).trans ?_,
    fun f => (View.read_writes_eq_canon (Val := Elt F) _ _ _ (View.cover_of_tiledL (Val := Elt F) (s := S1x1024) _ S1x1024.size (by sl_kernel_rfl))).trans ?_,
    fun f => (View.read_writes_eq_canon (Val := Elt F) _ _ _ (View.cover_of_tiledL (Val := Elt F) (s := S1x1024) _ S1x1024.size (by sl_kernel_rfl))).trans ?_,
    fun f => (View.read_writes_eq_canon (Val := Elt F) _ _ _ (View.cover_of_tiledL (Val := Elt F) (s := S1x1024) _ S1x1024.size (by sl_kernel_rfl))).trans ?_⟩
  all_goals
    simp only [hw0, hw1, hw2, hw3, View.canon_unit_zero (S := S256x1024) hz, View.canon_cons_unit_zero (S := S1x1) hz, View.canon_cons_unit_zero (S := S1x1024) hz, View.readCov_unit_zero (S := S1x1) _ hz, View.readCov_unit_zero (S := S1x1024) _ hz, View.readAt_eq_ld, harg1.read_unread, harg2.read_unread, harg3.read_unread, harg4.read_unread, harg5.read_unread, harg6.read_unread,
      View.ld_unit_zero (S := S256x1024) hz, View.ld_unit_zero (S := S256x256) hz, View.ld_unit_zero (S := S1x1024) hz, View.ld_unit_zero (S := S1x1) hz, View.ld_unit_zero (S := S1024x1024) hz]
    try simp only [View.ld_unit_zero (S := S1024x1024) hz, View.ld_unit_zero (S := S256x1024) hz]
    try simp only [(read_u arg27.view _ _ _ _).1, (read_u arg27.view _ _ _ _).2.1, (read_u arg27.view _ _ _ _).2.2.1, (read_u arg27.view _ _ _ _).2.2.2]
    rfl

end Cert.MlpIdeal.Block
-- ==== Proof.MlpRunB.lean ====
module

public import proofs.«01_k».proof.Proof.MlpRunA

@[expose] public section

set_option maxRecDepth 16384

noncomputable section

/-! What one run of the feed-forward and loss body leaves in every window and every resident weight, at a later grid point: the weights stay, the accumulating windows add to what they held. -/

namespace Cert.MlpIdeal.Block

open Cert.MlpIdeal Cert.MlpIdeal.Gen Idealize.ShloMosaic Idealize.ShloMosaic.TcCoe Idealize.SL.Sem

variable {F : FTy → Type} [FloatOps F]

variable (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg11 : Memref sig .tc .vmem S256x1024 .f32) (harg11 : arg11.IsWhole) (arg12 : Memref sig .tc .vmem S256x1024 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S1x1 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1024x4096 .bf16) (harg23 : arg23.IsWhole) (arg24 : Memref sig .tc .vmem S4096x1024 .bf16) (harg24 : arg24.IsWhole) (arg25 : Memref sig .tc .vmem S1024x1024 .bf16) (harg25 : arg25.IsWhole) (arg26 : Memref sig .tc .vmem S256x1024 .bf16) (harg26 : arg26.IsWhole) (arg27 : Memref sig .tc .vmem S256x4096 .f32) (harg27 : arg27.IsWhole) (hc0 : ¬cond0_0 i) (hc1 : ¬cond0_1 i)
  (x0 : Vec F S256x1024 .f32) (x1 : Vec F S256x256 .f32) (x2 : Vec F S256x1024 .f32) (x3 : Vec F S1x1024 .f32) (x4 : Vec F S1x1024 .f32) (x5 : Vec F S1x1024 .f32) (xo14 : Vec F S1x1 .f32) (xo15 : Vec F S1x1024 .f32) (xo16 : Vec F S1x1024 .f32) (xo17 : Vec F S1x1024 .f32) (xs0 : Vec F S1024x4096 .bf16) (xs1 : Vec F S4096x1024 .bf16) (xs2 : Vec F S1024x1024 .bf16) (xs3 : Vec F S256x1024 .bf16) (fh0 : HbBuf0 (F := F) c hbM0_0) (fh1 : HbBuf0 (F := F) c hbM0_1) (fh2 : HbBuf0 (F := F) c hbM0_2) (fh3 : HbBuf0 (F := F) c hbM0_3)

set_option maxHeartbeats 16000000 in
/-- A later grid point. -/
theorem out_B :
    let k := kernelRun0_B c i arg1 harg1 arg2 harg2 arg3 harg3 arg4 harg4 arg5 harg5 arg6 harg6 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 xo14 xo15 xo16 xo17 xs0 xs1 xs2 xs3 fh0 fh1 fh2 fh3
    Leaves (In.mk x0 x1 x2 x3 x4 x5 xs0 xs1 xs2 xs3) xo14 xo15 xo16 xo17
      arg11 k.1 arg12 k.2.1 arg13 k.2.2.1 arg14 k.2.2.2.1 arg15 k.2.2.2.2.1 arg16 k.2.2.2.2.2.1 arg17 k.2.2.2.2.2.2.1 arg18 k.2.2.2.2.2.2.2.1 arg19 k.2.2.2.2.2.2.2.2.1 arg20 k.2.2.2.2.2.2.2.2.2.1 arg21 k.2.2.2.2.2.2.2.2.2.2.1 arg22 k.2.2.2.2.2.2.2.2.2.2.2.1 := by
  unfold kernelRun0_B
  dsimp only
  sl_unfold_words
  refine ⟨fun f => (View.read_writes_eq_canon (Val := Elt F) _ _ _ (View.cover_of_tiledL (Val := Elt F) (s := S256x1024) _ S256x1024.size (by sl_kernel_rfl))).trans ?_,
    fun f => (View.read_writes_eq_canon (Val := Elt F) _ _ _ (View.cover_of_tiledL (Val := Elt F) (s := S256x1024) _ S256x1024.size (by sl_kernel_rfl))).trans ?_,
    fun f => (View.read_writes_eq_canon (Val := Elt F) _ _ _ (View.cover_of_tiledL (Val := Elt F) (s := S256x4096) _ S256x1024.size (by sl_kernel_rfl))).trans ?_,
    fun f => (View.read_writes_eq_canon (Val := Elt F) _ _ _ (View.cover_of_tiledL (Val := Elt F) (s := S256x4096) _ S256x1024.size (by sl_kernel_rfl))).trans ?_,
    fun f => (View.read_writes_eq_canon (Val := Elt F) _ _ _ (View.cover_of_tiledL (Val := Elt F) (s := S256x1024) _ S256x1024.size (by sl_kernel_rfl))).trans ?_,
    fun f => (View.read_writes_eq_canon (Val := Elt F) _ _ _ (View.cover_of_tiledL (Val := Elt F) (s := S256x1024) _ S256x1024.size (by sl_kernel_rfl))).trans ?_,
    fun f => (View.read_writes_eq_canon (Val := Elt F) _ _ _ (View.cover_of_tiledL (Val := Elt F) (s := S256x1024) _ S256x1024.size (by sl_kernel_rfl))).trans ?_,
    fun f => (View.read_writes_eq_canon (Val := Elt F) _ _ _ (View.cover_of_tiledL (Val := Elt F) (s := S256x1024) _ S256x1024.size (by sl_kernel_rfl))).trans ?_,
    fun f => (View.read_writes_eq_canon (Val := Elt F) _ _ _ (View.cover_of_tiledL (Val := Elt F) (s := S1x1) _ S1x1.size (by sl_kernel_rfl))).trans ?_,
    fun f => (View.read_writes_eq_canon (Val := Elt F) _ _ _ (View.cover_of_tiledL (Val := Elt F) (s := S1x1024) _ S1x1024.size (by sl_kernel_rfl))).trans ?_,
    fun f => (View.read_writes_eq_canon (Val := Elt F) _ _ _ (View.cover_of_tiledL (Val := Elt F) (s := S1x1024) _ S1x1024.size (by sl_kernel_rfl))).trans ?_,
    fun f => (View.read_writes_eq_canon (Val := Elt F) _ _ _ (View.cover_of_tiledL (Val := Elt F) (s := S1x1024) _ S1x1024.size (by sl_kernel_rfl))).trans ?_⟩
  all_goals
    simp only [View.canon_unit_zero (S := S256x1024) hz, View.canon_unit_zero (S := S1x1) hz, View.canon_unit_zero (S := S1x1024) hz, View.readAt_eq_ld, harg1.read_unread, harg2.read_unread, harg3.read_unread, harg4.read_unread, harg5.read_unread, harg6.read_unread, harg19.read_unread, harg20.read_unread, harg21.read_unread, harg22.read_unread, harg23.read_unread, harg24.read_unread, harg25.read_unread, harg26.read_unread,
      View.ld_unit_zero (S := S256x1024) hz, View.ld_unit_zero (S := S256x256) hz, View.ld_unit_zero (S := S1x1024) hz, View.ld_unit_zero (S := S1x1) hz, View.ld_unit_zero (S := S1024x1024) hz]
    try simp only [(read_u arg27.view _ _ _ _).1, (read_u arg27.view _ _ _ _).2.1, (read_u arg27.view _ _ _ _).2.2.1, (read_u arg27.view _ _ _ _).2.2.2]
    rfl

end Cert.MlpIdeal.Block
-- ==== Proof.MlpFrame.lean ====
module

public import proofs.«01_k».proof.Proof.MlpRunA
public import proofs.«01_k».proof.Proof.MlpRunB
public import Idealize.ShloMosaic.Lib.Claim

@[expose] public section

set_option maxRecDepth 16384

noncomputable section

/-! The launch of the feed-forward and loss call: thirty-two grid points over blocks of 256 rows. The loss and the gains'
    gradients are kept from point to point, the weights from the first (`ptAt`); the eight arrays of rows are written a block
    at a time. `frame` is the claim that the program ends, with its arguments unchanged and every counter at zero. -/

namespace Cert.MlpIdeal.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal Cert.MlpIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A grid point: what its body works on, and what the accumulating windows held before. -/
structure Pt (F : FTy → Type) where
  b : In F
  l : Vec F S1x1 .f32
  d1 : Vec F S1x1024 .f32
  d2 : Vec F S1x1024 .f32
  d3 : Vec F S1x1024 .f32

namespace Pt
variable (p : Pt F)
/-- What it leaves in the two wide windows and in the four accumulating ones. -/
def du : Vec F S256x4096 .bf16 := View.canon p.b.duL
def a : Vec F S256x4096 .bf16 := View.canon p.b.aL
def loss : Vec F S1x1 .f32 := p.b.loss p.l
def dg1 : Vec F S1x1024 .f32 := p.b.dg1 p.d1
def dg2 : Vec F S1x1024 .f32 := p.b.dg2 p.d2
def dg3 : Vec F S1x1024 .f32 := p.b.dg3 p.d3
end Pt

/-- The first grid point. -/
def ptFirst (c : Dev nD) (t : Fin cfg0.N) : Pt F :=
  ⟨inOf c (iblk m c 0 t) (iblk m c 1 t) (iblk m c 2 t) (iblk m c 3 t) (iblk m c 4 t) (iblk m c 5 t)
      (V m c main_v3) (V m c main_v5) (V m c main_v7) (V m c main_v9), k0_pay1, k0_pay2, k0_pay3, k0_pay4⟩

/-- A grid point after the point `p`. -/
def ptNext (c : Dev nD) (t : Fin cfg0.N) (p : Pt F) : Pt F :=
  ⟨⟨iblk m c 0 t, iblk m c 1 t, iblk m c 2 t, iblk m c 3 t, iblk m c 4 t, iblk m c 5 t, p.b.wu, p.b.wd, p.b.wg, p.b.we⟩,
    p.loss, p.dg1, p.dg2, p.dg3⟩

/-- Grid point `n`. -/
def ptAt (c : Dev nD) : (n : ℕ) → n < cfg0.N → Pt F
  | 0, h => ptFirst m c ⟨0, h⟩
  | n + 1, h => ptNext m c ⟨n + 1, h⟩ (ptAt c n (Nat.lt_of_succ_lt h))

theorem ptAt_A (c : Dev nD) (t : Fin cfg0.N) (h0 : t.val % 32 = 0) : ptAt m c t.val t.isLt = ptFirst m c t := by
  obtain ⟨n, hn⟩ := t
  cases n with
  | zero => rfl
  | succ n => exfalso; have hN : n + 1 < 32 := lt_of_lt_of_eq hn (show cfg0.N = 32 from N_0); dsimp only at h0; omega

theorem ptAt_B (c : Dev nD) (t : Fin cfg0.N) (h0 : ¬t.val % 32 = 0) :
    ptAt m c t.val t.isLt = ptNext m c t (ptAt m c (t.val - 1) (Nat.lt_of_le_of_lt (Nat.sub_le _ _) t.isLt)) := by
  obtain ⟨n, hn⟩ := t
  cases n with
  | zero => exact absurd (Nat.zero_mod _) h0
  | succ n => rfl

/-- What is held between points. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((ptAt m c n hn).b.wu) ∗ owns (c : Thread nD τ) scM0_1 fullShare ((ptAt m c n hn).b.wd) ∗ owns (c : Thread nD τ) scM0_2 fullShare ((ptAt m c n hn).b.wg) ∗ owns (c : Thread nD τ) scM0_3 fullShare ((ptAt m c n hn).b.we) ∗ (∃ d, owns (c : Thread nD τ) scM0_4 fullShare d)) ∗ (∃ r, prngReg c r) ∗ iprop(semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(hbPt0 c hbM0_0 (V m c main_v3) ∗ hbPt0 c hbM0_1 (V m c main_v5) ∗ hbPt0 c hbM0_2 (V m c main_v7) ∗ hbPt0 c hbM0_3 (V m c main_v9)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((ptAt m c n hn).b.wu) ∗ owns (c : Thread nD τ) scM0_1 fullShare ((ptAt m c n hn).b.wd) ∗ owns (c : Thread nD τ) scM0_2 fullShare ((ptAt m c n hn).b.wg) ∗ owns (c : Thread nD τ) scM0_3 fullShare ((ptAt m c n hn).b.we) ∗ (∃ d, owns (c : Thread nD τ) scM0_4 fullShare d)) ∗ (∃ r, prngReg c r) ∗ iprop(semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(hbPt0 c hbM0_0 (V m c main_v3) ∗ hbPt0 c hbM0_1 (V m c main_v5) ∗ hbPt0 c hbM0_2 (V m c main_v7) ∗ hbPt0 c hbM0_3 (V m c main_v9))) := rfl

theorem PhiS_pos (c : Dev nD) (n : ℕ) (h : n ≤ cfg0.N) (hz : n ≠ 0) :
    PhiS m c n h = iprop(iprop(owns (c : Thread nD τ) scM0_0 fullShare ((ptAt m c (n - 1) (by omega)).b.wu) ∗ owns (c : Thread nD τ) scM0_1 fullShare ((ptAt m c (n - 1) (by omega)).b.wd) ∗ owns (c : Thread nD τ) scM0_2 fullShare ((ptAt m c (n - 1) (by omega)).b.wg) ∗ owns (c : Thread nD τ) scM0_3 fullShare ((ptAt m c (n - 1) (by omega)).b.we) ∗ (∃ d, owns (c : Thread nD τ) scM0_4 fullShare d)) ∗ (∃ r, prngReg c r) ∗ iprop(semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(hbPt0 c hbM0_0 (V m c main_v3) ∗ hbPt0 c hbM0_1 (V m c main_v5) ∗ hbPt0 c hbM0_2 (V m c main_v7) ∗ hbPt0 c hbM0_3 (V m c main_v9))) := by
  cases n with
  | zero => exact absurd rfl hz
  | succ n => rfl

/-- The proof data: inputs stay, the outputs' blocks are the point's. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (ptAt m c t.val t.isLt).b.dx1
    | ⟨7, _⟩ => (ptAt m c t.val t.isLt).b.h
    | ⟨8, _⟩ => (ptAt m c t.val t.isLt).du
    | ⟨9, _⟩ => (ptAt m c t.val t.isLt).a
    | ⟨10, _⟩ => (ptAt m c t.val t.isLt).b.df
    | ⟨11, _⟩ => (ptAt m c t.val t.isLt).b.h3
    | ⟨12, _⟩ => (ptAt m c t.val t.isLt).b.ds
    | ⟨13, _⟩ => (ptAt m c t.val t.isLt).b.dpp
    | ⟨14, _⟩ => (ptAt m c t.val t.isLt).loss
    | ⟨15, _⟩ => (ptAt m c t.val t.isLt).dg1
    | ⟨16, _⟩ => (ptAt m c t.val t.isLt).dg2
    | ⟨17, _⟩ => (ptAt m c t.val t.isLt).dg3
    | ⟨_ + 18, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (ptAt m c t.val t.isLt).b.dx1 := by dsimp only [dats]
theorem after0_7 (c : Dev nD) (t : Fin cfg0.N) : (dats m 0 c).after 7 t = (ptAt m c t.val t.isLt).b.h := by dsimp only [dats]
theorem after0_8 (c : Dev nD) (t : Fin cfg0.N) : (dats m 0 c).after 8 t = (ptAt m c t.val t.isLt).du := by dsimp only [dats]
theorem after0_9 (c : Dev nD) (t : Fin cfg0.N) : (dats m 0 c).after 9 t = (ptAt m c t.val t.isLt).a := by dsimp only [dats]
theorem after0_10 (c : Dev nD) (t : Fin cfg0.N) : (dats m 0 c).after 10 t = (ptAt m c t.val t.isLt).b.df := by dsimp only [dats]
theorem after0_11 (c : Dev nD) (t : Fin cfg0.N) : (dats m 0 c).after 11 t = (ptAt m c t.val t.isLt).b.h3 := by dsimp only [dats]
theorem after0_12 (c : Dev nD) (t : Fin cfg0.N) : (dats m 0 c).after 12 t = (ptAt m c t.val t.isLt).b.ds := by dsimp only [dats]
theorem after0_13 (c : Dev nD) (t : Fin cfg0.N) : (dats m 0 c).after 13 t = (ptAt m c t.val t.isLt).b.dpp := by dsimp only [dats]
theorem after0_14 (c : Dev nD) (t : Fin cfg0.N) : (dats m 0 c).after 14 t = (ptAt m c t.val t.isLt).loss := by dsimp only [dats]
theorem after0_15 (c : Dev nD) (t : Fin cfg0.N) : (dats m 0 c).after 15 t = (ptAt m c t.val t.isLt).dg1 := by dsimp only [dats]
theorem after0_16 (c : Dev nD) (t : Fin cfg0.N) : (dats m 0 c).after 16 t = (ptAt m c t.val t.isLt).dg2 := by dsimp only [dats]
theorem after0_17 (c : Dev nD) (t : Fin cfg0.N) : (dats m 0 c).after 17 t = (ptAt m c t.val t.isLt).dg3 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- There are thirty-two grid points. -/
theorem lt_points (t : Fin cfg0.N) : t.val < 32 := lt_of_lt_of_eq t.isLt (show cfg0.N = 32 from N_0)

theorem before0_14_B (c : Dev nD) (t : Fin cfg0.N) (h0 : ¬t.val % 32 = 0) (h1 : ¬t.val % 32 = 0) (d) :
    (dats m 0 c).before 14 t d = (ptAt m c (t.val - 1) (Nat.lt_of_le_of_lt (Nat.sub_le _ _) t.isLt)).loss := by
  have hN := lt_points t
  rw [Dat.before_out_kept _ 14 rfl t (by omega) (Bool.eq_false_iff.mpr fun h => by have := (flush0_14 _).mp h; dsimp only at this; omega)
    (fun _ => rfl) (fun _ _ => rfl)]
  dsimp only [dats]
theorem before0_15_B (c : Dev nD) (t : Fin cfg0.N) (h0 : ¬t.val % 32 = 0) (h1 : ¬t.val % 32 = 0) (d) :
    (dats m 0 c).before 15 t d = (ptAt m c (t.val - 1) (Nat.lt_of_le_of_lt (Nat.sub_le _ _) t.isLt)).dg1 := by
  have hN := lt_points t
  rw [Dat.before_out_kept _ 15 rfl t (by omega) (Bool.eq_false_iff.mpr fun h => by have := (flush0_15 _).mp h; dsimp only at this; omega)
    (fun _ => rfl) (fun _ _ => rfl)]
  dsimp only [dats]
theorem before0_16_B (c : Dev nD) (t : Fin cfg0.N) (h0 : ¬t.val % 32 = 0) (h1 : ¬t.val % 32 = 0) (d) :
    (dats m 0 c).before 16 t d = (ptAt m c (t.val - 1) (Nat.lt_of_le_of_lt (Nat.sub_le _ _) t.isLt)).dg2 := by
  have hN := lt_points t
  rw [Dat.before_out_kept _ 16 rfl t (by omega) (Bool.eq_false_iff.mpr fun h => by have := (flush0_16 _).mp h; dsimp only at this; omega)
    (fun _ => rfl) (fun _ _ => rfl)]
  dsimp only [dats]
theorem before0_17_B (c : Dev nD) (t : Fin cfg0.N) (h0 : ¬t.val % 32 = 0) (h1 : ¬t.val % 32 = 0) (d) :
    (dats m 0 c).before 17 t d = (ptAt m c (t.val - 1) (Nat.lt_of_le_of_lt (Nat.sub_le _ _) t.isLt)).dg3 := by
  have hN := lt_points t
  rw [Dat.before_out_kept _ 17 rfl t (by omega) (Bool.eq_false_iff.mpr fun h => by have := (flush0_17 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 16000000 in
/-- The body at a grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14, after0_15, after0_16, after0_17]
  unfold Dat.owesAt Pipeline.owesWithin
  rw [show (dats m 0 c).owed t.castSucc = 0 from rfl, show (dats m 0 c).owed t.succ = 0 from rfl]
  have hN := lt_points t
  by_cases h0 : t.val % 32 = 0
  · by_cases h1 : t.val % 32 = 0
    · by_cases hz : t.val = 0
      · rw [PhiS_castSucc m c t, PhiS_zero m c _ _ hz, PhiD0_eq]
        rw [ptAt_A m c t h0]
        try dsimp only
        iintro ⟨⟨⟨HS0, HS1, HS2, HS3, HS4⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (V m c main_v3) (V m c main_v5) (V m c main_v7) (V m c main_v9)).2.2.2.2.2.2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        isplitl [HS0]; · iexact HS0
        isplitl [HS1]; · iexact HS1
        isplitl [HS2]; · iexact HS2
        isplitl [HS3]; · iexact HS3
        isplitl [HS4]; · iexact HS4
        isplitl [Hq0]; · iexact Hq0
        isplitl [Hq1]; · iexact Hq1
        isplitl [Hq2]; · iexact Hq2
        isplitl [Hq3]; · iexact Hq3
        isplitl [Hh0]; · iexact Hh0
        isplitl [Hh1]; · iexact Hh1
        isplitl [Hh2]; · iexact Hh2
        isplitl [Hh3]; · iexact Hh3
        isplitl [HW]; · iexact HW
        iintro ⟨H0, H1, H2, H3, H4, H5, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%es0, HS0⟩, ⟨%es1, HS1⟩, ⟨%es2, HS2⟩, ⟨%es3, HS3⟩, ⟨%fT4, HS4⟩, Hq0, Hq1, Hq2, Hq3, Hh0, Hh1, Hh2, Hh3, ⟨%W', HW'⟩⟩
        isplitl [HS0 HS1 HS2 HS3 HS4 Hg Hq0 Hq1 Hq2 Hq3 Hh0 Hh1 Hh2 Hh3]
        · isplitl [HS0 HS1 HS2 HS3 HS4]
          · isplitl [HS0]
            · unfold owns; iexists _; isplitr
              swap; · iexact HS0
              ipureintro; exact (out_A ..).2.1 _
            isplitl [HS1]
            · unfold owns; iexists _; isplitr
              swap; · iexact HS1
              ipureintro; exact (out_A ..).2.2.1 _
            isplitl [HS2]
            · unfold owns; iexists _; isplitr
              swap; · iexact HS2
              ipureintro; exact (out_A ..).2.2.2.1 _
            isplitl [HS3]
            · unfold owns; iexists _; isplitr
              swap; · iexact HS3
              ipureintro; exact (out_A ..).2.2.2.2 _
            iexists _; unfold owns; iexists _; isplitr
            swap; · iexact HS4
            ipureintro; rfl
          isplitl [Hg]
          · iexact Hg
          isplitl [Hq0 Hq1 Hq2 Hq3]
          · isplitl [Hq0]; · iexact Hq0
            isplitl [Hq1]; · iexact Hq1
            isplitl [Hq2]; · iexact Hq2
            iexact Hq3
          isplitl [Hh0]; · iexact Hh0
          isplitl [Hh1]; · iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact (out_A ..).1.dx1 _
        isplitl [H7]
        · unfold owns; iexists _; isplitr
          swap; · iexact H7
          ipureintro; exact (out_A ..).1.h _
        isplitl [H8]
        · unfold owns; iexists _; isplitr
          swap; · iexact H8
          ipureintro; exact (out_A ..).1.du _
        isplitl [H9]
        · unfold owns; iexists _; isplitr
          swap; · iexact H9
          ipureintro; exact (out_A ..).1.a _
        isplitl [H10]
        · unfold owns; iexists _; isplitr
          swap; · iexact H10
          ipureintro; exact (out_A ..).1.df _
        isplitl [H11]
        · unfold owns; iexists _; isplitr
          swap; · iexact H11
          ipureintro; exact (out_A ..).1.h3 _
        isplitl [H12]
        · unfold owns; iexists _; isplitr
          swap; · iexact H12
          ipureintro; exact (out_A ..).1.ds _
        isplitl [H13]
        · unfold owns; iexists _; isplitr
          swap; · iexact H13
          ipureintro; exact (out_A ..).1.dpp _
        isplitl [H14]
        · unfold owns; iexists _; isplitr
          swap; · iexact H14
          ipureintro; exact (out_A ..).1.loss _
        isplitl [H15]
        · unfold owns; iexists _; isplitr
          swap; · iexact H15
          ipureintro; exact (out_A ..).1.dg1 _
        isplitl [H16]
        · unfold owns; iexists _; isplitr
          swap; · iexact H16
          ipureintro; exact (out_A ..).1.dg2 _
        unfold owns; iexists _; isplitr
        swap; · iexact H17
        ipureintro; exact (out_A ..).1.dg3 _
      · exfalso; have hN := lt_points t; omega
    · exfalso; omega
  · by_cases h1 : t.val % 32 = 0
    · exfalso; omega
    · by_cases hz : t.val = 0
      · exfalso; have hN := lt_points t; omega
      · rw [PhiS_castSucc m c t, PhiS_pos m c _ _ hz]
        rw [ptAt_B m c t h0]
        simp only [before0_14_B m c t h0 h1, before0_15_B m c t h0 h1, before0_16_B m c t h0 h1, before0_17_B m c t h0 h1]
        try dsimp only
        iintro ⟨⟨⟨HS0, HS1, HS2, HS3, HS4⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((kernelRun0_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _ _ _ _ _ _ (V m c main_v3) (V m c main_v5) (V m c main_v7) (V m c main_v9)).2.2.2.2.2.2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexact H14
        isplitl [H15]; · iexact H15
        isplitl [H16]; · iexact H16
        isplitl [H17]; · iexact H17
        isplitl [HS0]; · iexact HS0
        isplitl [HS1]; · iexact HS1
        isplitl [HS2]; · iexact HS2
        isplitl [HS3]; · iexact HS3
        isplitl [HS4]; · iexact HS4
        isplitl [Hq0]; · iexact Hq0
        isplitl [Hq1]; · iexact Hq1
        isplitl [Hq2]; · iexact Hq2
        isplitl [Hq3]; · iexact Hq3
        isplitl [Hh0]; · iexact Hh0
        isplitl [Hh1]; · iexact Hh1
        isplitl [Hh2]; · iexact Hh2
        isplitl [Hh3]; · iexact Hh3
        isplitl [HW]; · iexact HW
        iintro ⟨H0, H1, H2, H3, H4, H5, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, HS0, HS1, HS2, HS3, ⟨%fT4, HS4⟩, Hq0, Hq1, Hq2, Hq3, Hh0, Hh1, Hh2, Hh3, ⟨%W', HW'⟩⟩
        isplitl [HS0 HS1 HS2 HS3 HS4 Hg Hq0 Hq1 Hq2 Hq3 Hh0 Hh1 Hh2 Hh3]
        · isplitl [HS0 HS1 HS2 HS3 HS4]
          · isplitl [HS0]; · iexact HS0
            isplitl [HS1]; · iexact HS1
            isplitl [HS2]; · iexact HS2
            isplitl [HS3]; · iexact HS3
            iexists _; unfold owns; iexists _; isplitr
            swap; · iexact HS4
            ipureintro; rfl
          isplitl [Hg]
          · iexact Hg
          isplitl [Hq0 Hq1 Hq2 Hq3]
          · isplitl [Hq0]; · iexact Hq0
            isplitl [Hq1]; · iexact Hq1
            isplitl [Hq2]; · iexact Hq2
            iexact Hq3
          isplitl [Hh0]; · iexact Hh0
          isplitl [Hh1]; · iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact (out_B ..).dx1 _
        isplitl [H7]
        · unfold owns; iexists _; isplitr
          swap; · iexact H7
          ipureintro; exact (out_B ..).h _
        isplitl [H8]
        · unfold owns; iexists _; isplitr
          swap; · iexact H8
          ipureintro; exact (out_B ..).du _
        isplitl [H9]
        · unfold owns; iexists _; isplitr
          swap; · iexact H9
          ipureintro; exact (out_B ..).a _
        isplitl [H10]
        · unfold owns; iexists _; isplitr
          swap; · iexact H10
          ipureintro; exact (out_B ..).df _
        isplitl [H11]
        · unfold owns; iexists _; isplitr
          swap; · iexact H11
          ipureintro; exact (out_B ..).h3 _
        isplitl [H12]
        · unfold owns; iexists _; isplitr
          swap; · iexact H12
          ipureintro; exact (out_B ..).ds _
        isplitl [H13]
        · unfold owns; iexists _; isplitr
          swap; · iexact H13
          ipureintro; exact (out_B ..).dpp _
        isplitl [H14]
        · unfold owns; iexists _; isplitr
          swap; · iexact H14
          ipureintro; exact (out_B ..).loss _
        isplitl [H15]
        · unfold owns; iexists _; isplitr
          swap; · iexact H15
          ipureintro; exact (out_B ..).dg1 _
        isplitl [H16]
        · unfold owns; iexists _; isplitr
          swap; · iexact H16
          ipureintro; exact (out_B ..).dg2 _
        unfold owns; iexists _; isplitr
        swap; · iexact H17
        ipureintro; exact (out_B ..).dg3 _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4⟩, Hg, ⟨Hq0, Hq1, Hq2, Hq3⟩, ⟨Hh0, Hh1, Hh2, Hh3⟩⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexact HS4
  isplitl [Hg]; · iexact Hg
  isplitl [Hq0 Hq1 Hq2 Hq3]
  · isplitl [Hq0]; · iexact Hq0
    isplitl [Hq1]; · iexact Hq1
    isplitl [Hq2]; · iexact Hq2
    iexact Hq3
  isplitl [Hh0]; · iexact Hh0
  isplitl [Hh1]; · iexact Hh1
  isplitl [Hh2]; · iexact Hh2
  iexact Hh3

theorem hout (c : Dev nD) : (dats m 0 c).Φ (Fin.last cfg0.N) ⊢ Pipeline.ΦD osem0 spec0 H0 (V m) c :=
  Phi_out m c _ (by rw [Fin.val_last]; have : cfg0.N = 32 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.MlpIdeal.Block
-- ==== Proof.MlpRow.lean ====
module

public import proofs.«01_k».proof.Proof.RowNorm

@[expose] public section

noncomputable section

/-! One row of the feed-forward block, the per-layer embedding and the loss, and of their gradient, as pure arithmetic of
    extended reals: no program here. `x` is the mixed row, `p` its embedding row, `t` its target, `g1 g2 g3` the three gains,
    `wu wd wg we` the four weights. -/

namespace Cert.MlpRow

open Idealize.ShloMosaic Cert.RowNorm

/-- A row times its scale. -/
def hat (x : Fin 1024 → EReal) (k : Fin 1024) : EReal := x k * scale x

/-- The row and everything it is multiplied by. -/
structure Row where
  x : Fin 1024 → EReal
  p : Fin 256 → EReal
  t : Fin 1024 → EReal
  g1 : Fin 1024 → EReal
  g2 : Fin 1024 → EReal
  g3 : Fin 1024 → EReal
  wu : Fin 1024 → Fin 4096 → EReal
  wd : Fin 4096 → Fin 1024 → EReal
  wg : Fin 1024 → Fin 1024 → EReal
  we : Fin 256 → Fin 1024 → EReal

namespace Row
variable (r : Row)

/-- The normed row into the feed-forward block. -/
def h2 (k : Fin 1024) : EReal := hat r.x k * r.g1 k
/-- The hidden row. -/
def u (c : Fin 4096) : EReal := ∑ k, r.h2 k * r.wu k c
/-- The hidden row, rectified. -/
def pos (c : Fin 4096) : EReal := max (r.u c) 0
/-- The squared rectifier. -/
def a (c : Fin 4096) : EReal := r.pos c * r.pos c
/-- The block's output. -/
def f (j : Fin 1024) : EReal := ∑ c, r.a c * r.wd c j
/-- The row after the block. -/
def x2 (j : Fin 1024) : EReal := r.x j + hat r.f j * r.g2 j
/-- The normed row into the gate. -/
def h3 (k : Fin 1024) : EReal := hat r.x2 k * r.g3 k
/-- The gate before its sigmoid. -/
def s (j : Fin 1024) : EReal := ∑ k, r.h3 k * r.wg k j
/-- The gate. -/
def pg (j : Fin 1024) : EReal := Ideal.div 1 (1 + Ideal.exp (-(r.s j)))
/-- The embedding. -/
def e (j : Fin 1024) : EReal := ∑ q, r.p q * r.we q j
/-- The error. -/
def diff (j : Fin 1024) : EReal := r.x2 j + r.pg j * r.e j - r.t j
/-- The row's mean squared error. -/
def err : EReal := Ideal.div (∑ j, r.diff j * r.diff j) (Ideal.ofBits .f32 0x44800000#32)
/-- The gradient of the row's output. -/
def dy (j : Fin 1024) : EReal := r.diff j * Ideal.ofBits .f32 0x3A800000#32
/-- The gradient of the embedding. -/
def de (j : Fin 1024) : EReal := r.dy j * r.pg j
/-- The gradient of the gate before its sigmoid. -/
def ds (j : Fin 1024) : EReal := r.dy j * r.e j * r.pg j * (1 - r.pg j)
/-- The gradient of the normed row into the gate. -/
def dh3 (k : Fin 1024) : EReal := ∑ j, r.ds j * r.wg k j
/-- The gradient of the row after the block. -/
def dx2 (j : Fin 1024) : EReal := r.dy j + grad r.x2 (fun k => r.dh3 k * r.g3 k) j
/-- The gradient of the block's output. -/
def df (j : Fin 1024) : EReal := grad r.f (fun k => r.dx2 k * r.g2 k) j
/-- The gradient of the hidden row. -/
def du (c : Fin 4096) : EReal := (∑ j, r.df j * r.wd c j) * (2 * r.pos c)
/-- The gradient of the normed row into the block. -/
def dh2 (k : Fin 1024) : EReal := ∑ c, r.du c * r.wu k c
/-- The gradient of the mixed row. -/
def dx1 (j : Fin 1024) : EReal := r.dx2 j + grad r.x (fun k => r.dh2 k * r.g1 k) j

end Row

/-- A sum over 4096 columns taken in four runs of 1024. -/
theorem sum_four (f : Fin 4096 → EReal) :
    (∑ c, f c) = (∑ k : Fin 1024, f ⟨k.val, by omega⟩) + (∑ k : Fin 1024, f ⟨1024 + k.val, by omega⟩)
      + (∑ k : Fin 1024, f ⟨2048 + k.val, by omega⟩) + ∑ k : Fin 1024, f ⟨3072 + k.val, by omega⟩ := by
  have h (g : ℕ → EReal) : (∑ c : Fin 4096, g c.val) = (∑ k : Fin 1024, g k.val) + (∑ k : Fin 1024, g (1024 + k.val))
      + (∑ k : Fin 1024, g (2048 + k.val)) + ∑ k : Fin 1024, g (3072 + k.val) := by
    simp only [Fin.sum_univ_eq_sum_range, ← Finset.sum_range (f := g), ← Finset.sum_range (f := fun k => g (1024 + k)),
      ← Finset.sum_range (f := fun k => g (2048 + k)), ← Finset.sum_range (f := fun k => g (3072 + k))]
    rw [show 4096 = 1024 + 1024 + 1024 + 1024 from rfl, Finset.sum_range_add, Finset.sum_range_add, Finset.sum_range_add]
  have := h fun n => if hn : n < 4096 then f ⟨n, hn⟩ else 0
  refine (Finset.sum_congr rfl fun c _ => by rw [dif_pos c.isLt]).trans (this.trans ?_)
  refine congrArg₂ _ (congrArg₂ _ (congrArg₂ _ ?_ ?_) ?_) ?_ <;>
    exact Finset.sum_congr rfl fun k _ => by rw [dif_pos (by have := k.isLt; omega)]

end Cert.MlpRow
-- ==== Proof.MlpRead.lean ====
module

public import proofs.«01_k».proof.Proof.MlpBlock
public import proofs.«01_k».proof.Proof.MlpRow
public import Idealize.ShloMosaic.Lib.Pointwise
public import Idealize.ShloMosaic.Lib.Pipeline.ValueKit.Tiles

@[expose] public section

set_option maxRecDepth 16384

noncomputable section

/-! The feed-forward and loss body's values at one row of its block: the row's own arithmetic. -/

namespace Cert.MlpIdeal.Block

open Cert.MlpIdeal Cert.MlpIdeal.Gen Idealize.ShloMosaic Idealize.ShloMosaic.TcCoe Idealize.SL.Sem
open Cert.MlpRow

theorem chU0_apply (w : Vec Ideal S1024x4096 .bf16) (k c : Fin 1024) : chU0 w (ix2 k c) = w (ix2 k ⟨c.val, by omega⟩) :=
  View.ld_unit_apply_of _ _ _ _ _ _ fun a => by match a with | ⟨0, _⟩ => exact (Nat.zero_add _).symm | ⟨1, _⟩ => exact (Nat.zero_add _).symm
theorem chU1_apply (w : Vec Ideal S1024x4096 .bf16) (k c : Fin 1024) : chU1 w (ix2 k c) = w (ix2 k ⟨1024 + c.val, by omega⟩) :=
  View.ld_unit_apply_of _ _ _ _ _ _ fun a => by match a with | ⟨0, _⟩ => exact (Nat.zero_add _).symm | ⟨1, _⟩ => rfl
theorem chU2_apply (w : Vec Ideal S1024x4096 .bf16) (k c : Fin 1024) : chU2 w (ix2 k c) = w (ix2 k ⟨2048 + c.val, by omega⟩) :=
  View.ld_unit_apply_of _ _ _ _ _ _ fun a => by match a with | ⟨0, _⟩ => exact (Nat.zero_add _).symm | ⟨1, _⟩ => rfl
theorem chU3_apply (w : Vec Ideal S1024x4096 .bf16) (k c : Fin 1024) : chU3 w (ix2 k c) = w (ix2 k ⟨3072 + c.val, by omega⟩) :=
  View.ld_unit_apply_of _ _ _ _ _ _ fun a => by match a with | ⟨0, _⟩ => exact (Nat.zero_add _).symm | ⟨1, _⟩ => rfl
theorem chD0_apply (w : Vec Ideal S4096x1024 .bf16) (k c : Fin 1024) : chD0 w (ix2 k c) = w (ix2 ⟨k.val, by omega⟩ c) :=
  View.ld_unit_apply_of _ _ _ _ _ _ fun a => by match a with | ⟨0, _⟩ => exact (Nat.zero_add _).symm | ⟨1, _⟩ => exact (Nat.zero_add _).symm
theorem chD1_apply (w : Vec Ideal S4096x1024 .bf16) (k c : Fin 1024) : chD1 w (ix2 k c) = w (ix2 ⟨1024 + k.val, by omega⟩ c) :=
  View.ld_unit_apply_of _ _ _ _ _ _ fun a => by match a with | ⟨0, _⟩ => rfl | ⟨1, _⟩ => exact (Nat.zero_add _).symm
theorem chD2_apply (w : Vec Ideal S4096x1024 .bf16) (k c : Fin 1024) : chD2 w (ix2 k c) = w (ix2 ⟨2048 + k.val, by omega⟩ c) :=
  View.ld_unit_apply_of _ _ _ _ _ _ fun a => by match a with | ⟨0, _⟩ => rfl | ⟨1, _⟩ => exact (Nat.zero_add _).symm
theorem chD3_apply (w : Vec Ideal S4096x1024 .bf16) (k c : Fin 1024) : chD3 w (ix2 k c) = w (ix2 ⟨3072 + k.val, by omega⟩ c) :=
  View.ld_unit_apply_of _ _ _ _ _ _ fun a => by match a with | ⟨0, _⟩ => rfl | ⟨1, _⟩ => exact (Nat.zero_add _).symm

theorem lit_two : Ideal.ofBits .f32 0x40000000#32 = 2 := by
  have e : Ideal.ofBits .f32 0x40000000#32 = ((2 : ℝ) : EReal) := by simp [Ideal.ofBits, Ideal.ieee, -EReal.coe_mul]; norm_num
  rw [e]; rfl

/-- A row of a window written in four column ranges. -/
theorem four (w0 w1 w2 w3 : Vec Ideal S256x1024 .bf16) (g : Fin 4096 → EReal) (i : Fin 256) (h0 : ∀ c : Fin 1024, w0 (ix2 i c) = g ⟨c.val, by omega⟩)
    (h1 : ∀ c : Fin 1024, w1 (ix2 i c) = g ⟨1024 + c.val, by omega⟩) (h2 : ∀ c : Fin 1024, w2 (ix2 i c) = g ⟨2048 + c.val, by omega⟩)
    (h3 : ∀ c : Fin 1024, w3 (ix2 i c) = g ⟨3072 + c.val, by omega⟩) (c : Fin 4096) :
    View.canon (Val := Elt Ideal) (s := S256x4096) (e := .bf16)
      [⟨Rect.unit ![0, 3072] S256x1024.size inb_S256x4096_S256x1024_0_3072, w3⟩, ⟨Rect.unit ![0, 2048] S256x1024.size inb_S256x4096_S256x1024_0_2048, w2⟩,
        ⟨Rect.unit ![0, 1024] S256x1024.size inb_S256x4096_S256x1024_0_1024, w1⟩, ⟨Rect.unit ![0, 0] S256x1024.size inb_S256x4096_S256x1024_0_0, w0⟩]
      (ix2 i c) = g c := by
  have key (o : ℕ) (w : Vec Ideal S256x1024 .bf16) (h : ∀ (d : Fin 1024) (hd : o + d.val < 4096), w (ix2 i d) = g ⟨o + d.val, hd⟩) :
      View.TileAt (Val := Elt Ideal) (S := S256x4096) (e := .bf16) (ix2 i c) ![0, o] S256x1024.size w (g c) := by
    intro x hx
    have hx0 : i.val = 0 + (x 0).val := hx 0
    have hx1 : c.val = o + (x 1).val := hx 1
    have e : x = (ix2 i (x 1) : S256x1024.Idx) := by
      funext a
      match a with
      | ⟨0, _⟩ => exact Fin.ext (by show (x 0).val = i.val; omega)
      | ⟨1, _⟩ => rfl
    rw [e]
    exact (h (x 1) (by rw [← hx1]; exact c.isLt)).trans (congrArg g (Fin.ext hx1.symm))
  refine View.canon_eq_of_allAt _ _ _ (View.cover_of_tiledL (Val := Elt Ideal) (s := S256x4096) _ S256x1024.size (by sl_kernel_rfl) _) ?_
  refine View.allAt_cons_unit _ _ _ _ _ (key 3072 w3 fun d hd => h3 d) (View.allAt_cons_unit _ _ _ _ _ (key 2048 w2 fun d hd => h2 d)
    (View.allAt_cons_unit _ _ _ _ _ (key 1024 w1 fun d hd => h1 d) (View.allAt_cons_unit _ _ _ _ _ (key 0 w0 fun d hd => ?_) (View.allAt_nil _ _))))
  exact (h0 d).trans (congrArg g (Fin.ext (Nat.zero_add _).symm))

namespace In
variable (b : In Ideal) (i : Fin 256)

/-- Row `i` of the block, and what it is multiplied by. -/
def row : Row where
  x k := b.x (ix2 i k)
  p q := b.p (ix2 i q)
  t j := b.t (ix2 i j)
  g1 k := b.g1 (ix2 0 k)
  g2 k := b.g2 (ix2 0 k)
  g3 k := b.g3 (ix2 0 k)
  wu k c := b.wu (ix2 k c)
  wd c j := b.wd (ix2 c j)
  wg k j := b.wg (ix2 k j)
  we q j := b.we (ix2 q j)

theorem h_apply (k : Fin 1024) : b.h (ix2 i k) = (b.row i).h2 k := by
  unfold In.h
  pointwise [k0_pay7, k0_pay6, k0_pay5]
  rfl
theorem u0_apply (c : Fin 1024) : b.u0 (ix2 i c) = (b.row i).u ⟨c.val, by omega⟩ := by
  have e : b.u0 (ix2 i c) = ∑ k, b.h (ix2 i k) * chU0 b.wu (ix2 k c) := by
    unfold In.u0 In.h
    generalize chU0 b.wu = w
    pointwise [k0_pay10, k0_pay9]
  simp only [e, h_apply, chU0_apply]; rfl
theorem u1_apply (c : Fin 1024) : b.u1 (ix2 i c) = (b.row i).u ⟨1024 + c.val, by omega⟩ := by
  have e : b.u1 (ix2 i c) = ∑ k, b.h (ix2 i k) * chU1 b.wu (ix2 k c) := by
    unfold In.u1
    pointwise [k0_pay13, k0_pay12]
  simp only [e, h_apply, chU1_apply]; rfl
theorem u2_apply (c : Fin 1024) : b.u2 (ix2 i c) = (b.row i).u ⟨2048 + c.val, by omega⟩ := by
  have e : b.u2 (ix2 i c) = ∑ k, b.h (ix2 i k) * chU2 b.wu (ix2 k c) := by
    unfold In.u2
    pointwise [k0_pay16, k0_pay15]
  simp only [e, h_apply, chU2_apply]; rfl
theorem u3_apply (c : Fin 1024) : b.u3 (ix2 i c) = (b.row i).u ⟨3072 + c.val, by omega⟩ := by
  have e : b.u3 (ix2 i c) = ∑ k, b.h (ix2 i k) * chU3 b.wu (ix2 k c) := by
    unfold In.u3
    pointwise [k0_pay20, k0_pay19]
  simp only [e, h_apply, chU3_apply]; rfl
theorem a0_apply (c : Fin 1024) : b.a0 (ix2 i c) = (b.row i).a ⟨c.val, by omega⟩ := by
  have e : b.a0 (ix2 i c) = max (b.u0 (ix2 i c)) 0 * max (b.u0 (ix2 i c)) 0 := by
    unfold In.a0 In.u0
    pointwise [k0_pay11, k0_pay10]
  rw [e, u0_apply]; rfl
theorem a1_apply (c : Fin 1024) : b.a1 (ix2 i c) = (b.row i).a ⟨1024 + c.val, by omega⟩ := by
  have e : b.a1 (ix2 i c) = max (b.u1 (ix2 i c)) 0 * max (b.u1 (ix2 i c)) 0 := by
    unfold In.a1 In.u1
    pointwise [k0_pay14, k0_pay13]
  rw [e, u1_apply]; rfl
theorem a2_apply (c : Fin 1024) : b.a2 (ix2 i c) = (b.row i).a ⟨2048 + c.val, by omega⟩ := by
  have e : b.a2 (ix2 i c) = max (b.u2 (ix2 i c)) 0 * max (b.u2 (ix2 i c)) 0 := by
    unfold In.a2 In.u2
    pointwise [k0_pay17, k0_pay16]
  rw [e, u2_apply]; rfl
theorem a3_apply (c : Fin 1024) : b.a3 (ix2 i c) = (b.row i).a ⟨3072 + c.val, by omega⟩ := by
  have e : b.a3 (ix2 i c) = max (b.u3 (ix2 i c)) 0 * max (b.u3 (ix2 i c)) 0 := by
    unfold In.a3 In.u3
    pointwise [k0_pay21, k0_pay20]
  rw [e, u3_apply]; rfl

/-- The block's output, in four parts. -/
theorem f_apply (j : Fin 1024) : k0_pay22 b.h b.fs (chU3 b.wu) (chD3 b.wd) (ix2 i j) = (b.row i).f j := by
  have e : k0_pay22 b.h b.fs (chU3 b.wu) (chD3 b.wd) (ix2 i j) = (∑ k, b.a0 (ix2 i k) * chD0 b.wd (ix2 k j)) + (∑ k, b.a1 (ix2 i k) * chD1 b.wd (ix2 k j))
      + (∑ k, b.a2 (ix2 i k) * chD2 b.wd (ix2 k j)) + ∑ k, b.a3 (ix2 i k) * chD3 b.wd (ix2 k j) := by
    unfold In.fs In.a1 In.a2 In.a3
    pointwise [k0_pay22, k0_pay18, k0_pay8]
  simp only [e, a0_apply, a1_apply, a2_apply, a3_apply, chD0_apply, chD1_apply, chD2_apply, chD3_apply]
  exact (sum_four fun c => (b.row i).a c * b.wd (ix2 c j)).symm
theorem rf_apply : b.rf (ix2 i 0) = RowNorm.scale (b.row i).f := by
  unfold In.rf
  pointwise [k0_pay23]
  simp only [f_apply]; rfl
theorem fh_apply (j : Fin 1024) : b.fh (ix2 i j) = hat (b.row i).f j := by
  have e : b.fh (ix2 i j) = k0_pay22 b.h b.fs (chU3 b.wu) (chD3 b.wd) (ix2 i j) * b.rf (ix2 i 0) := by
    unfold In.fh In.rf
    pointwise [k0_pay24]
  rw [e, f_apply, rf_apply]; rfl
theorem x2_apply (j : Fin 1024) : b.x2 (ix2 i j) = (b.row i).x2 j := by
  have e : b.x2 (ix2 i j) = b.x (ix2 i j) + b.fh (ix2 i j) * b.g2 (ix2 0 j) := by
    unfold In.x2 In.fh
    pointwise [k0_pay25]
  rw [e, fh_apply]; rfl
theorem r3_apply : b.r3 (ix2 i 0) = RowNorm.scale (b.row i).x2 := by
  have e : b.r3 (ix2 i 0) = RowNorm.scale fun k => b.x2 (ix2 i k) := by
    unfold In.r3 In.x2
    pointwise [k0_pay26]
    rfl
  simp only [e, x2_apply]
theorem x2h_apply (j : Fin 1024) : b.x2h (ix2 i j) = hat (b.row i).x2 j := by
  have e : b.x2h (ix2 i j) = b.x2 (ix2 i j) * b.r3 (ix2 i 0) := by
    unfold In.x2h In.x2 In.r3
    pointwise [k0_pay27]
  rw [e, x2_apply, r3_apply]; rfl
theorem h3_apply (k : Fin 1024) : b.h3 (ix2 i k) = (b.row i).h3 k := by
  have e : b.h3 (ix2 i k) = b.x2h (ix2 i k) * b.g3 (ix2 0 k) := by
    unfold In.h3
    pointwise [k0_pay28]
  rw [e, x2h_apply]; rfl
theorem pg_apply (j : Fin 1024) : b.pg (ix2 i j) = (b.row i).pg j := by
  have e : b.pg (ix2 i j) = Ideal.div 1 (1 + Ideal.exp (-(∑ k, b.h3 (ix2 i k) * b.wg (ix2 k j)))) := by
    unfold In.pg In.h3
    pointwise [k0_pay29]
    rw [zero_sub]
  simp only [e, h3_apply]; rfl
theorem pp_apply (j : Fin 1024) : b.pp (ix2 i j) = (b.row i).e j := by
  unfold In.pp
  pointwise [k0_pay30]
  rfl
theorem diff_apply (j : Fin 1024) : b.diff (ix2 i j) = (b.row i).diff j := by
  have e : b.diff (ix2 i j) = b.x2 (ix2 i j) + b.pg (ix2 i j) * b.pp (ix2 i j) - b.t (ix2 i j) := by
    unfold In.diff In.pg In.pp
    pointwise [k0_pay31]
  rw [e, x2_apply, pg_apply, pp_apply]; rfl
theorem dpp_apply (j : Fin 1024) : b.dpp (ix2 i j) = (b.row i).de j := by
  unfold In.dpp
  pointwise [k0_pay34, k0_pay33]
  rw [diff_apply, pg_apply]; rfl
theorem ds_apply (j : Fin 1024) : b.ds (ix2 i j) = (b.row i).ds j := by
  have e : b.ds (ix2 i j) = b.diff (ix2 i j) * Ideal.ofBits .f32 0x3A800000#32 * b.pp (ix2 i j) * b.pg (ix2 i j) * (1 - b.pg (ix2 i j)) := by
    unfold In.ds
    pointwise [k0_pay35, k0_pay33]
  rw [e, diff_apply, pg_apply, pp_apply]; rfl
theorem dh3_apply (k : Fin 1024) : k0_pay36 b.pg b.pp b.diff b.wg (ix2 i k) = (b.row i).dh3 k := by
  have e : k0_pay36 b.pg b.pp b.diff b.wg (ix2 i k) = ∑ j, b.ds (ix2 i j) * b.wg (ix2 k j) := by
    unfold In.ds
    pointwise [k0_pay36]
  simp only [e, ds_apply]; rfl
theorem dx2_apply (j : Fin 1024) : b.dx2 (ix2 i j) = (b.row i).dx2 j := by
  unfold In.dx2
  pointwise [k0_pay38, k0_pay33]
  simp only [dh3_apply, diff_apply, x2h_apply, r3_apply]; rfl
theorem df_apply (j : Fin 1024) : b.df (ix2 i j) = (b.row i).df j := by
  unfold In.df
  pointwise [k0_pay40]
  simp only [fh_apply, dx2_apply, rf_apply]; rfl

theorem du0_apply (c : Fin 1024) : b.du0 (ix2 i c) = (b.row i).du ⟨c.val, by omega⟩ := by
  have e : b.du0 (ix2 i c) = (∑ j, b.df (ix2 i j) * chD0 b.wd (ix2 c j)) * (2 * max (b.u0 (ix2 i c)) 0) := by
    rw [← lit_two]
    unfold In.du0 In.df
    pointwise [k0_pay41]
  simp only [e, df_apply, u0_apply, chD0_apply]; rfl
theorem du1_apply (c : Fin 1024) : b.du1 (ix2 i c) = (b.row i).du ⟨1024 + c.val, by omega⟩ := by
  have e : b.du1 (ix2 i c) = (∑ j, b.df (ix2 i j) * chD1 b.wd (ix2 c j)) * (2 * max (b.u1 (ix2 i c)) 0) := by
    rw [← lit_two]
    unfold In.du1
    pointwise [k0_pay43]
  simp only [e, df_apply, u1_apply, chD1_apply]; rfl
theorem du2_apply (c : Fin 1024) : b.du2 (ix2 i c) = (b.row i).du ⟨2048 + c.val, by omega⟩ := by
  have e : b.du2 (ix2 i c) = (∑ j, b.df (ix2 i j) * chD2 b.wd (ix2 c j)) * (2 * max (b.u2 (ix2 i c)) 0) := by
    rw [← lit_two]
    unfold In.du2
    pointwise [k0_pay44]
  simp only [e, df_apply, u2_apply, chD2_apply]; rfl
theorem du3_apply (c : Fin 1024) : b.du3 (ix2 i c) = (b.row i).du ⟨3072 + c.val, by omega⟩ := by
  have e : b.du3 (ix2 i c) = (∑ j, b.df (ix2 i j) * chD3 b.wd (ix2 c j)) * (2 * max (b.u3 (ix2 i c)) 0) := by
    rw [← lit_two]
    unfold In.du3 In.da3
    pointwise [k0_pay47, k0_pay46]
  simp only [e, df_apply, u3_apply, chD3_apply]; rfl

/-- The normed row's gradient, in four parts. -/
theorem dh2_apply (k : Fin 1024) : k0_pay48 b.hs b.da3 b.u3 (chU3 b.wu) (ix2 i k) = (b.row i).dh2 k := by
  have e : k0_pay48 b.hs b.da3 b.u3 (chU3 b.wu) (ix2 i k) = (∑ c, b.du0 (ix2 i c) * chU0 b.wu (ix2 k c)) + (∑ c, b.du1 (ix2 i c) * chU1 b.wu (ix2 k c))
      + (∑ c, b.du2 (ix2 i c) * chU2 b.wu (ix2 k c)) + ∑ c, b.du3 (ix2 i c) * chU3 b.wu (ix2 k c) := by
    unfold In.hs In.hs0 In.du0 In.du1 In.du2 In.du3
    pointwise [k0_pay48, k0_pay45, k0_pay42]
  simp only [e, du0_apply, du1_apply, du2_apply, du3_apply, chU0_apply, chU1_apply, chU2_apply, chU3_apply]
  exact (sum_four fun c => (b.row i).du c * b.wu (ix2 k c)).symm
theorem dx1_apply (j : Fin 1024) : b.dx1 (ix2 i j) = (b.row i).dx1 j := by
  unfold In.dx1
  pointwise [k0_pay50, k0_pay6, k0_pay5]
  simp only [dh2_apply, dx2_apply]; rfl

/-- The gains' gradients and the loss after a block: what was there and the block's rows. -/
theorem dg1_apply (acc : Vec Ideal S1x1024 .f32) (j : Fin 1024) :
    b.dg1 acc (ix2 0 j) = acc (ix2 0 j) + ∑ i, (b.row i).dh2 j * hat (b.row i).x j := by
  unfold In.dg1
  pointwise [k0_pay49, k0_pay6, k0_pay5]
  simp only [dh2_apply]; rfl
theorem dg2_apply (acc : Vec Ideal S1x1024 .f32) (j : Fin 1024) :
    b.dg2 acc (ix2 0 j) = acc (ix2 0 j) + ∑ i, (b.row i).dx2 j * hat (b.row i).f j := by
  unfold In.dg2
  pointwise [k0_pay39]
  simp only [dx2_apply, fh_apply]
theorem dg3_apply (acc : Vec Ideal S1x1024 .f32) (j : Fin 1024) :
    b.dg3 acc (ix2 0 j) = acc (ix2 0 j) + ∑ i, (b.row i).dh3 j * hat (b.row i).x2 j := by
  unfold In.dg3
  pointwise [k0_pay37]
  simp only [dh3_apply, x2h_apply]
theorem loss_apply (acc : Vec Ideal S1x1 .f32) :
    b.loss acc (ix2 0 0) = acc (ix2 0 0) + Ideal.ofBits .f32 0x3F000000#32 * ∑ i, (b.row i).err := by
  have e : b.loss acc (ix2 0 0) = acc (ix2 0 0) + Ideal.ofBits .f32 0x3F000000#32 * ∑ i : Fin 256,
      Ideal.div (∑ j, b.diff (ix2 i j) * b.diff (ix2 i j)) (Ideal.ofBits .f32 0x44800000#32) := by
    unfold In.loss In.diff
    pointwise [k0_pay32]
  simp only [e, diff_apply]; rfl

/-- The two wide windows. -/
theorem a_apply (c : Fin 4096) : View.canon b.aL (ix2 i c) = (b.row i).a c :=
  four _ _ _ _ _ i (b.a0_apply i) (b.a1_apply i) (b.a2_apply i) (b.a3_apply i) c
theorem du_apply (c : Fin 4096) : View.canon b.duL (ix2 i c) = (b.row i).du c :=
  four _ _ _ _ _ i (b.du0_apply i) (b.du1_apply i) (b.du2_apply i) (b.du3_apply i) c

end In

/-- The accumulating windows start from zero. -/
theorem zero1_apply : k0_pay1 (F := Ideal) (ix2 0 0) = 0 := by pointwise [k0_pay1]
theorem zero2_apply (j : Fin 1024) : k0_pay2 (F := Ideal) (ix2 0 j) = 0 := by pointwise [k0_pay2]
theorem zero3_apply (j : Fin 1024) : k0_pay3 (F := Ideal) (ix2 0 j) = 0 := by pointwise [k0_pay3]
theorem zero4_apply (j : Fin 1024) : k0_pay4 (F := Ideal) (ix2 0 j) = 0 := by pointwise [k0_pay4]

end Cert.MlpIdeal.Block
-- ==== Proof.MlpArray.lean ====
module

public import proofs.«01_k».proof.Proof.MlpFrame
public import proofs.«01_k».proof.Proof.MlpRead

@[expose] public section

set_option maxRecDepth 16384

noncomputable section

/-! What the feed-forward and loss call's grid points read, by rows and columns of the call's arguments. -/

namespace Cert.MlpIdeal.Block

open Cert.MlpIdeal Cert.MlpIdeal.Gen Idealize.ShloMosaic Idealize.ShloMosaic.TcCoe Idealize.SL.Sem
open Cert.MlpRow

variable (m : (ℓ : Loc nD τ sig) → Buf (Elt Ideal) ℓ) (c : Dev nD)

/-! The arrays the host prepares: a reshape, and for the weights a cast. -/

theorem v0_apply (i : Fin 8192) (j : Fin 256) : (V m c main_v0 : Vec Ideal S8192x256 .f32) (ix2 i j) = m ((c : Thread nD τ).loc main_arg1) (ix4 0 0 i j) := by
  have : (V m c main_v0 : Vec Ideal S8192x256 .f32) = shapeCast S8192x256 (m ((c : Thread nD τ).loc main_arg1)) shapeCasts_S1x1x8192x256_S8192x256 := by
    show StableHlo.after hostOps0 (fun b => m (c, b)) main_v0 = _
    after_results_simp
    rfl
  rw [this]
  have key (y : Vec Ideal S1x1x8192x256 .f32) : shapeCast S8192x256 y shapeCasts_S1x1x8192x256_S8192x256 (ix2 i j) = y (ix4 0 0 i j) := by
    pointwise []
  exact key _

theorem v1_apply (i : Fin 8192) (j : Fin 1024) : (V m c main_v1 : Vec Ideal S8192x1024 .f32) (ix2 i j) = m ((c : Thread nD τ).loc main_arg2) (ix3 0 i j) := by
  have : (V m c main_v1 : Vec Ideal S8192x1024 .f32) = shapeCast S8192x1024 (m ((c : Thread nD τ).loc main_arg2)) shapeCasts_S1x8192x1024_S8192x1024 := by
    show StableHlo.after hostOps0 (fun b => m (c, b)) main_v1 = _
    after_results_simp
    rfl
  rw [this]
  have key (y : Vec Ideal S1x8192x1024 .f32) : shapeCast S8192x1024 y shapeCasts_S1x8192x1024_S8192x1024 (ix2 i j) = y (ix3 0 i j) := by
    pointwise []
  exact key _

theorem v3_apply (i : Fin 1024) (j : Fin 4096) : (V m c main_v3 : Vec Ideal S1024x4096 .bf16) (ix2 i j) = m ((c : Thread nD τ).loc main_arg6) (ix3 0 i j) := by
  have : (V m c main_v3 : Vec Ideal S1024x4096 .bf16) = truncf (F := Ideal) (s := S1024x4096) (φ := .f32) .bf16 (shapeCast S1024x4096 (m ((c : Thread nD τ).loc main_arg6)) shapeCasts_S1x1024x4096_S1024x4096) bitsLt_bf16_f32 := by
    show StableHlo.after hostOps0 (fun b => m (c, b)) main_v3 = _
    after_results_simp
    rfl
  rw [this]
  have key (y : Vec Ideal S1x1024x4096 .f32) : truncf (F := Ideal) (φ := .f32) .bf16 (shapeCast S1024x4096 y shapeCasts_S1x1024x4096_S1024x4096) bitsLt_bf16_f32 (ix2 i j) = y (ix3 0 i j) := by
    pointwise []
  exact key _

theorem v5_apply (i : Fin 4096) (j : Fin 1024) : (V m c main_v5 : Vec Ideal S4096x1024 .bf16) (ix2 i j) = m ((c : Thread nD τ).loc main_arg7) (ix3 0 i j) := by
  have : (V m c main_v5 : Vec Ideal S4096x1024 .bf16) = truncf (F := Ideal) (s := S4096x1024) (φ := .f32) .bf16 (shapeCast S4096x1024 (m ((c : Thread nD τ).loc main_arg7)) shapeCasts_S1x4096x1024_S4096x1024) bitsLt_bf16_f32 := by
    show StableHlo.after hostOps0 (fun b => m (c, b)) main_v5 = _
    after_results_simp
    rfl
  rw [this]
  have key (y : Vec Ideal S1x4096x1024 .f32) : truncf (F := Ideal) (φ := .f32) .bf16 (shapeCast S4096x1024 y shapeCasts_S1x4096x1024_S4096x1024) bitsLt_bf16_f32 (ix2 i j) = y (ix3 0 i j) := by
    pointwise []
  exact key _

theorem v7_apply (i : Fin 1024) (j : Fin 1024) : (V m c main_v7 : Vec Ideal S1024x1024 .bf16) (ix2 i j) = m ((c : Thread nD τ).loc main_arg8) (ix3 0 i j) := by
  have : (V m c main_v7 : Vec Ideal S1024x1024 .bf16) = truncf (F := Ideal) (s := S1024x1024) (φ := .f32) .bf16 (shapeCast S1024x1024 (m ((c : Thread nD τ).loc main_arg8)) shapeCasts_S1x1024x1024_S1024x1024) bitsLt_bf16_f32 := by
    show StableHlo.after hostOps0 (fun b => m (c, b)) main_v7 = _
    after_results_simp
    rfl
  rw [this]
  have key (y : Vec Ideal S1x1024x1024 .f32) : truncf (F := Ideal) (φ := .f32) .bf16 (shapeCast S1024x1024 y shapeCasts_S1x1024x1024_S1024x1024) bitsLt_bf16_f32 (ix2 i j) = y (ix3 0 i j) := by
    pointwise []
  exact key _

theorem v9_apply (i : Fin 256) (j : Fin 1024) : (V m c main_v9 : Vec Ideal S256x1024 .bf16) (ix2 i j) = m ((c : Thread nD τ).loc main_arg9) (ix3 0 i j) := by
  have : (V m c main_v9 : Vec Ideal S256x1024 .bf16) = truncf (F := Ideal) (s := S256x1024) (φ := .f32) .bf16 (shapeCast S256x1024 (m ((c : Thread nD τ).loc main_arg9)) shapeCasts_S1x256x1024_S256x1024) bitsLt_bf16_f32 := by
    show StableHlo.after hostOps0 (fun b => m (c, b)) main_v9 = _
    after_results_simp
    rfl
  rw [this]
  have key (y : Vec Ideal S1x256x1024 .f32) : truncf (F := Ideal) (φ := .f32) .bf16 (shapeCast S256x1024 y shapeCasts_S1x256x1024_S256x1024) bitsLt_bf16_f32 (ix2 i j) = y (ix3 0 i j) := by
    pointwise []
  exact key _

/-- The block indices of the windows of rows. -/
theorem index_rows : ∀ t : Fin grid0.N, (win0_0.index t 0 = t.val ∧ win0_0.index t 1 = 0) ∧ (win0_1.index t 0 = t.val ∧ win0_1.index t 1 = 0) ∧ (win0_2.index t 0 = t.val ∧ win0_2.index t 1 = 0) ∧ (win0_6.index t 0 = t.val ∧ win0_6.index t 1 = 0) ∧ (win0_7.index t 0 = t.val ∧ win0_7.index t 1 = 0) ∧ (win0_8.index t 0 = t.val ∧ win0_8.index t 1 = 0) ∧ (win0_9.index t 0 = t.val ∧ win0_9.index t 1 = 0) ∧ (win0_10.index t 0 = t.val ∧ win0_10.index t 1 = 0) ∧ (win0_11.index t 0 = t.val ∧ win0_11.index t 1 = 0) ∧ (win0_12.index t 0 = t.val ∧ win0_12.index t 1 = 0) ∧ (win0_13.index t 0 = t.val ∧ win0_13.index t 1 = 0) := by decide +kernel

/-- The windows that stay. -/
theorem index_stay : ∀ t : Fin grid0.N, (win0_3.index t 0 = 0 ∧ win0_3.index t 1 = 0) ∧ (win0_4.index t 0 = 0 ∧ win0_4.index t 1 = 0) ∧ (win0_5.index t 0 = 0 ∧ win0_5.index t 1 = 0) ∧ (win0_14.index t 0 = 0 ∧ win0_14.index t 1 = 0) ∧ (win0_15.index t 0 = 0 ∧ win0_15.index t 1 = 0) ∧ (win0_16.index t 0 = 0 ∧ win0_16.index t 1 = 0) ∧ (win0_17.index t 0 = 0 ∧ win0_17.index t 1 = 0) := by decide +kernel

/-- Row `i` of block `t`. -/
def rowOf (t : Fin cfg0.N) (i : Fin 256) : Fin 8192 := ⟨t.val * 256 + i.val, by have := t.isLt; have : cfg0.N = 32 := rfl; omega⟩

theorem iblk0_apply (t : Fin cfg0.N) (i : Fin 256) (j : Fin 1024) :
    (iblk m c 0 t : Vec Ideal S256x1024 .f32) (ix2 i j) = m ((c : Thread nD τ).loc main_arg0) (ix2 (rowOf t i) j) := by
  unfold iblk
  rw [View.read_apply]
  show V m c main_arg0 _ = m ((c : Thread nD τ).loc main_arg0) _
  rw [V_main_arg0 m c]
  congr 1
  funext a
  apply Fin.ext
  match a with
  | ⟨0, _⟩ => show win0_0.index t 0 * 256 + 1 * i.val = t.val * 256 + i.val; rw [(index_rows t).1.1]; omega
  | ⟨1, _⟩ => show win0_0.index t 1 * 1024 + 1 * j.val = j.val; rw [(index_rows t).1.2]; omega

theorem iblk1_apply (t : Fin cfg0.N) (i : Fin 256) (j : Fin 256) :
    (iblk m c 1 t : Vec Ideal S256x256 .f32) (ix2 i j) = m ((c : Thread nD τ).loc main_arg1) (ix4 0 0 (rowOf t i) j) := by
  rw [← v0_apply m c]
  unfold iblk
  rw [View.read_apply]
  show V m c main_v0 _ = V m c main_v0 _
  congr 1
  funext a
  apply Fin.ext
  match a with
  | ⟨0, _⟩ => show win0_1.index t 0 * 256 + 1 * i.val = t.val * 256 + i.val; rw [(index_rows t).2.1.1]; omega
  | ⟨1, _⟩ => show win0_1.index t 1 * 256 + 1 * j.val = j.val; rw [(index_rows t).2.1.2]; omega

theorem iblk2_apply (t : Fin cfg0.N) (i : Fin 256) (j : Fin 1024) :
    (iblk m c 2 t : Vec Ideal S256x1024 .f32) (ix2 i j) = m ((c : Thread nD τ).loc main_arg2) (ix3 0 (rowOf t i) j) := by
  rw [← v1_apply m c]
  unfold iblk
  rw [View.read_apply]
  show V m c main_v1 _ = V m c main_v1 _
  congr 1
  funext a
  apply Fin.ext
  match a with
  | ⟨0, _⟩ => show win0_2.index t 0 * 256 + 1 * i.val = t.val * 256 + i.val; rw [(index_rows t).2.2.1.1]; omega
  | ⟨1, _⟩ => show win0_2.index t 1 * 1024 + 1 * j.val = j.val; rw [(index_rows t).2.2.1.2]; omega

theorem iblk3_apply (t : Fin cfg0.N) (j : Fin 1024) :
    (iblk m c 3 t : Vec Ideal S1x1024 .f32) (ix2 0 j) = m ((c : Thread nD τ).loc main_arg3) (ix2 0 j) := by
  unfold iblk
  rw [View.read_apply]
  show V m c main_arg3 _ = m ((c : Thread nD τ).loc main_arg3) _
  rw [V_main_arg3 m c]
  congr 1
  funext a
  apply Fin.ext
  match a with
  | ⟨0, _⟩ => show win0_3.index t 0 * 1 + 1 * 0 = 0; rw [(index_stay t).1.1]
  | ⟨1, _⟩ => show win0_3.index t 1 * 1024 + 1 * j.val = j.val; rw [(index_stay t).1.2]; omega

theorem iblk4_apply (t : Fin cfg0.N) (j : Fin 1024) :
    (iblk m c 4 t : Vec Ideal S1x1024 .f32) (ix2 0 j) = m ((c : Thread nD τ).loc main_arg4) (ix2 0 j) := by
  unfold iblk
  rw [View.read_apply]
  show V m c main_arg4 _ = m ((c : Thread nD τ).loc main_arg4) _
  rw [V_main_arg4 m c]
  congr 1
  funext a
  apply Fin.ext
  match a with
  | ⟨0, _⟩ => show win0_4.index t 0 * 1 + 1 * 0 = 0; rw [(index_stay t).2.1.1]
  | ⟨1, _⟩ => show win0_4.index t 1 * 1024 + 1 * j.val = j.val; rw [(index_stay t).2.1.2]; omega

theorem iblk5_apply (t : Fin cfg0.N) (j : Fin 1024) :
    (iblk m c 5 t : Vec Ideal S1x1024 .f32) (ix2 0 j) = m ((c : Thread nD τ).loc main_arg5) (ix2 0 j) := by
  unfold iblk
  rw [View.read_apply]
  show V m c main_arg5 _ = m ((c : Thread nD τ).loc main_arg5) _
  rw [V_main_arg5 m c]
  congr 1
  funext a
  apply Fin.ext
  match a with
  | ⟨0, _⟩ => show win0_5.index t 0 * 1 + 1 * 0 = 0; rw [(index_stay t).2.2.1.1]
  | ⟨1, _⟩ => show win0_5.index t 1 * 1024 + 1 * j.val = j.val; rw [(index_stay t).2.2.1.2]; omega

/-- Row `i` of the call's arguments, and what it is multiplied by. -/
def rowAt (i : Fin 8192) : Row where
  x k := m ((c : Thread nD τ).loc main_arg0) (ix2 i k)
  p q := m ((c : Thread nD τ).loc main_arg1) (ix4 0 0 i q)
  t j := m ((c : Thread nD τ).loc main_arg2) (ix3 0 i j)
  g1 k := m ((c : Thread nD τ).loc main_arg3) (ix2 0 k)
  g2 k := m ((c : Thread nD τ).loc main_arg4) (ix2 0 k)
  g3 k := m ((c : Thread nD τ).loc main_arg5) (ix2 0 k)
  wu k c' := m ((c : Thread nD τ).loc main_arg6) (ix3 0 k c')
  wd c' j := m ((c : Thread nD τ).loc main_arg7) (ix3 0 c' j)
  wg k j := m ((c : Thread nD τ).loc main_arg8) (ix3 0 k j)
  we q j := m ((c : Thread nD τ).loc main_arg9) (ix3 0 q j)

/-- The weights stay. -/
theorem weights (n : ℕ) (h : n < cfg0.N) : (ptAt m c n h).b =
    ⟨iblk m c 0 ⟨n, h⟩, iblk m c 1 ⟨n, h⟩, iblk m c 2 ⟨n, h⟩, iblk m c 3 ⟨n, h⟩, iblk m c 4 ⟨n, h⟩, iblk m c 5 ⟨n, h⟩,
      V m c main_v3, V m c main_v5, V m c main_v7, V m c main_v9⟩ := by
  induction n with
  | zero => rfl
  | succ n ih =>
    show (⟨_, _, _, _, _, _, (ptAt m c n _).b.wu, (ptAt m c n _).b.wd, (ptAt m c n _).b.wg, (ptAt m c n _).b.we⟩ : In Ideal) = _
    rw [ih]

/-- A grid point's rows are rows of the arguments. -/
theorem row_at (t : Fin cfg0.N) (i : Fin 256) : (ptAt m c t.val t.isLt).b.row i = rowAt m c (rowOf t i) := by
  rw [weights m c t.val t.isLt]
  unfold In.row rowAt
  rw [Row.mk.injEq]
  exact ⟨funext fun k => iblk0_apply m c t i k, funext fun q => iblk1_apply m c t i q, funext fun j => iblk2_apply m c t i j,
    funext fun k => iblk3_apply m c t k, funext fun k => iblk4_apply m c t k, funext fun k => iblk5_apply m c t k,
    funext fun k => funext fun j => v3_apply m c k j, funext fun k => funext fun j => v5_apply m c k j,
    funext fun k => funext fun j => v7_apply m c k j, funext fun k => funext fun j => v9_apply m c k j⟩

end Cert.MlpIdeal.Block
-- ==== Proof.MlpFinal.lean ====
module

public import proofs.«01_k».proof.Proof.MlpArray
public import Idealize.ShloMosaic.Lib.Pipeline.ValueKit.Acc
public import Idealize.ShloMosaic.Lib.Pipeline.Value

@[expose] public section

set_option maxRecDepth 16384

noncomputable section

/-! The twelve output arrays of the feed-forward and loss call at the end of its sweep, by rows of its arguments. -/

namespace Cert.MlpIdeal.Block

open Cert.MlpIdeal Cert.MlpIdeal.Gen Idealize.ShloMosaic Idealize.ShloMosaic.TcCoe Idealize.SL.Sem
open Cert.MlpRow

variable (m : (ℓ : Loc nD τ sig) → Buf (Elt Ideal) ℓ) (c : Dev nD)

theorem cut8 (t : Fin cfg0.N) (X : Vec Ideal S256x4096 .bf16) (a : Fin 256) (j : Fin 4096) :
    ((cfg0.win 8).cut (grid0.coords t) X : Vec Ideal S256x4096 .bf16) (ix2 a j) = X (ix2 a j) := rfl
theorem cut9 (t : Fin cfg0.N) (X : Vec Ideal S256x4096 .bf16) (a : Fin 256) (j : Fin 4096) :
    ((cfg0.win 9).cut (grid0.coords t) X : Vec Ideal S256x4096 .bf16) (ix2 a j) = X (ix2 a j) := rfl
theorem pt_du (p : Pt Ideal) (a : Fin 256) (j : Fin 4096) : p.du (ix2 a j) = (p.b.row a).du j := p.b.du_apply a j
theorem pt_a (p : Pt Ideal) (a : Fin 256) (j : Fin 4096) : p.a (ix2 a j) = (p.b.row a).a j := p.b.a_apply a j

theorem lit_half : Ideal.ofBits .f32 0x3F000000#32 = ((1 / 2 : ℝ) : EReal) := by
  simp [Ideal.ofBits, Ideal.ieee, -EReal.coe_mul]; norm_num

/-- Every row lies in some block. -/
theorem row_of (i : Fin 8192) : ∃ (t : Fin cfg0.N) (a : Fin 256), i = rowOf t a :=
    ⟨⟨i.val / 256, by have := i.isLt; show i.val / 256 < 32; omega⟩, ⟨i.val % 256, by omega⟩, Fin.ext (by show i.val = i.val / 256 * 256 + i.val % 256; omega)⟩

/-- The last grid point. -/
theorem last_point : ∃ t : Fin cfg0.N, t.val = 31 := ⟨⟨31, by decide⟩, rfl⟩

theorem dx1_final (i : Fin 8192) (j : Fin 1024) :
    ((dats m 0 c).arrAt 6 cfg0.N : Vec Ideal S8192x1024 .f32) (ix2 i j) = (rowAt m c i).dx1 j := by
  obtain ⟨t, a, rfl⟩ := row_of i
  have e := (dats m 0 c).arrAt_emb_eq_flushed 6 (fun t t' _ _ hne => (cfg0.win 6).disjoint_blk fun h => hne (Fin.ext
    ((index_rows t).2.2.2.1.1.symm.trans ((congrFun h 0).trans (index_rows t').2.2.2.1.1)))) t (flush0_6 t) (ix2 a j)
  have hi : ((cfg0.win 6).blk t).view.emb (ix2 a j) = (ix2 (rowOf t a) j : S8192x1024.Idx) := by
    funext k
    apply Fin.ext
    match k with
    | ⟨0, _⟩ => show win0_6.index t 0 * 256 + 1 * a.val = t.val * 256 + a.val; rw [(index_rows t).2.2.2.1.1]; omega
    | ⟨1, _⟩ => show win0_6.index t 1 * 1024 + 1 * j.val = j.val; rw [(index_rows t).2.2.2.1.2]; omega
  rw [hi] at e
  exact e.trans (((ptAt m c t.val t.isLt).b.dx1_apply a j).trans (by rw [row_at]))

theorem h2_final (i : Fin 8192) (j : Fin 1024) :
    ((dats m 0 c).arrAt 7 cfg0.N : Vec Ideal S8192x1024 .bf16) (ix2 i j) = (rowAt m c i).h2 j := by
  obtain ⟨t, a, rfl⟩ := row_of i
  have e := (dats m 0 c).arrAt_emb_eq_flushed 7 (fun t t' _ _ hne => (cfg0.win 7).disjoint_blk fun h => hne (Fin.ext
    ((index_rows t).2.2.2.2.1.1.symm.trans ((congrFun h 0).trans (index_rows t').2.2.2.2.1.1)))) t (flush0_7 t) (ix2 a j)
  have hi : ((cfg0.win 7).blk t).view.emb (ix2 a j) = (ix2 (rowOf t a) j : S8192x1024.Idx) := by
    funext k
    apply Fin.ext
    match k with
    | ⟨0, _⟩ => show win0_7.index t 0 * 256 + 1 * a.val = t.val * 256 + a.val; rw [(index_rows t).2.2.2.2.1.1]; omega
    | ⟨1, _⟩ => show win0_7.index t 1 * 1024 + 1 * j.val = j.val; rw [(index_rows t).2.2.2.2.1.2]; omega
  rw [hi] at e
  exact e.trans (((ptAt m c t.val t.isLt).b.h_apply a j).trans (by rw [row_at]))

theorem du_final (i : Fin 8192) (j : Fin 4096) :
    ((dats m 0 c).arrAt 8 cfg0.N : Vec Ideal S8192x4096 .bf16) (ix2 i j) = (rowAt m c i).du j := by
  obtain ⟨t, a, rfl⟩ := row_of i
  have e := (dats m 0 c).arrAt_emb_eq_flushed 8 (fun t t' _ _ hne => (cfg0.win 8).disjoint_blk fun h => hne (Fin.ext
    ((index_rows t).2.2.2.2.2.1.1.symm.trans ((congrFun h 0).trans (index_rows t').2.2.2.2.2.1.1)))) t (flush0_8 t) (ix2 a j)
  have hi : ((cfg0.win 8).blk t).view.emb (ix2 a j) = (ix2 (rowOf t a) j : S8192x4096.Idx) := by
    funext k
    apply Fin.ext
    match k with
    | ⟨0, _⟩ => show win0_8.index t 0 * 256 + 1 * a.val = t.val * 256 + a.val; rw [(index_rows t).2.2.2.2.2.1.1]; omega
    | ⟨1, _⟩ => show win0_8.index t 1 * 4096 + 1 * j.val = j.val; rw [(index_rows t).2.2.2.2.2.1.2]; omega
  rw [hi] at e
  exact e.trans ((congrFun (congrArg ((cfg0.win 8).cut (grid0.coords t)) (after0_8 m c t)) _).trans <| (cut8 t _ a j).trans <| (pt_du (ptAt m c t.val t.isLt) a j).trans (by rw [row_at]))

theorem a_final (i : Fin 8192) (j : Fin 4096) :
    ((dats m 0 c).arrAt 9 cfg0.N : Vec Ideal S8192x4096 .bf16) (ix2 i j) = (rowAt m c i).a j := by
  obtain ⟨t, a, rfl⟩ := row_of i
  have e := (dats m 0 c).arrAt_emb_eq_flushed 9 (fun t t' _ _ hne => (cfg0.win 9).disjoint_blk fun h => hne (Fin.ext
    ((index_rows t).2.2.2.2.2.2.1.1.symm.trans ((congrFun h 0).trans (index_rows t').2.2.2.2.2.2.1.1)))) t (flush0_9 t) (ix2 a j)
  have hi : ((cfg0.win 9).blk t).view.emb (ix2 a j) = (ix2 (rowOf t a) j : S8192x4096.Idx) := by
    funext k
    apply Fin.ext
    match k with
    | ⟨0, _⟩ => show win0_9.index t 0 * 256 + 1 * a.val = t.val * 256 + a.val; rw [(index_rows t).2.2.2.2.2.2.1.1]; omega
    | ⟨1, _⟩ => show win0_9.index t 1 * 4096 + 1 * j.val = j.val; rw [(index_rows t).2.2.2.2.2.2.1.2]; omega
  rw [hi] at e
  exact e.trans ((congrFun (congrArg ((cfg0.win 9).cut (grid0.coords t)) (after0_9 m c t)) _).trans <| (cut9 t _ a j).trans <| (pt_a (ptAt m c t.val t.isLt) a j).trans (by rw [row_at]))

theorem df_final (i : Fin 8192) (j : Fin 1024) :
    ((dats m 0 c).arrAt 10 cfg0.N : Vec Ideal S8192x1024 .bf16) (ix2 i j) = (rowAt m c i).df j := by
  obtain ⟨t, a, rfl⟩ := row_of i
  have e := (dats m 0 c).arrAt_emb_eq_flushed 10 (fun t t' _ _ hne => (cfg0.win 10).disjoint_blk fun h => hne (Fin.ext
    ((index_rows t).2.2.2.2.2.2.2.1.1.symm.trans ((congrFun h 0).trans (index_rows t').2.2.2.2.2.2.2.1.1)))) t (flush0_10 t) (ix2 a j)
  have hi : ((cfg0.win 10).blk t).view.emb (ix2 a j) = (ix2 (rowOf t a) j : S8192x1024.Idx) := by
    funext k
    apply Fin.ext
    match k with
    | ⟨0, _⟩ => show win0_10.index t 0 * 256 + 1 * a.val = t.val * 256 + a.val; rw [(index_rows t).2.2.2.2.2.2.2.1.1]; omega
    | ⟨1, _⟩ => show win0_10.index t 1 * 1024 + 1 * j.val = j.val; rw [(index_rows t).2.2.2.2.2.2.2.1.2]; omega
  rw [hi] at e
  exact e.trans (((ptAt m c t.val t.isLt).b.df_apply a j).trans (by rw [row_at]))

theorem h3_final (i : Fin 8192) (j : Fin 1024) :
    ((dats m 0 c).arrAt 11 cfg0.N : Vec Ideal S8192x1024 .bf16) (ix2 i j) = (rowAt m c i).h3 j := by
  obtain ⟨t, a, rfl⟩ := row_of i
  have e := (dats m 0 c).arrAt_emb_eq_flushed 11 (fun t t' _ _ hne => (cfg0.win 11).disjoint_blk fun h => hne (Fin.ext
    ((index_rows t).2.2.2.2.2.2.2.2.1.1.symm.trans ((congrFun h 0).trans (index_rows t').2.2.2.2.2.2.2.2.1.1)))) t (flush0_11 t) (ix2 a j)
  have hi : ((cfg0.win 11).blk t).view.emb (ix2 a j) = (ix2 (rowOf t a) j : S8192x1024.Idx) := by
    funext k
    apply Fin.ext
    match k with
    | ⟨0, _⟩ => show win0_11.index t 0 * 256 + 1 * a.val = t.val * 256 + a.val; rw [(index_rows t).2.2.2.2.2.2.2.2.1.1]; omega
    | ⟨1, _⟩ => show win0_11.index t 1 * 1024 + 1 * j.val = j.val; rw [(index_rows t).2.2.2.2.2.2.2.2.1.2]; omega
  rw [hi] at e
  exact e.trans (((ptAt m c t.val t.isLt).b.h3_apply a j).trans (by rw [row_at]))

theorem ds_final (i : Fin 8192) (j : Fin 1024) :
    ((dats m 0 c).arrAt 12 cfg0.N : Vec Ideal S8192x1024 .bf16) (ix2 i j) = (rowAt m c i).ds j := by
  obtain ⟨t, a, rfl⟩ := row_of i
  have e := (dats m 0 c).arrAt_emb_eq_flushed 12 (fun t t' _ _ hne => (cfg0.win 12).disjoint_blk fun h => hne (Fin.ext
    ((index_rows t).2.2.2.2.2.2.2.2.2.1.1.symm.trans ((congrFun h 0).trans (index_rows t').2.2.2.2.2.2.2.2.2.1.1)))) t (flush0_12 t) (ix2 a j)
  have hi : ((cfg0.win 12).blk t).view.emb (ix2 a j) = (ix2 (rowOf t a) j : S8192x1024.Idx) := by
    funext k
    apply Fin.ext
    match k with
    | ⟨0, _⟩ => show win0_12.index t 0 * 256 + 1 * a.val = t.val * 256 + a.val; rw [(index_rows t).2.2.2.2.2.2.2.2.2.1.1]; omega
    | ⟨1, _⟩ => show win0_12.index t 1 * 1024 + 1 * j.val = j.val; rw [(index_rows t).2.2.2.2.2.2.2.2.2.1.2]; omega
  rw [hi] at e
  exact e.trans (((ptAt m c t.val t.isLt).b.ds_apply a j).trans (by rw [row_at]))

theorem de_final (i : Fin 8192) (j : Fin 1024) :
    ((dats m 0 c).arrAt 13 cfg0.N : Vec Ideal S8192x1024 .bf16) (ix2 i j) = (rowAt m c i).de j := by
  obtain ⟨t, a, rfl⟩ := row_of i
  have e := (dats m 0 c).arrAt_emb_eq_flushed 13 (fun t t' _ _ hne => (cfg0.win 13).disjoint_blk fun h => hne (Fin.ext
    ((index_rows t).2.2.2.2.2.2.2.2.2.2.1.symm.trans ((congrFun h 0).trans (index_rows t').2.2.2.2.2.2.2.2.2.2.1)))) t (flush0_13 t) (ix2 a j)
  have hi : ((cfg0.win 13).blk t).view.emb (ix2 a j) = (ix2 (rowOf t a) j : S8192x1024.Idx) := by
    funext k
    apply Fin.ext
    match k with
    | ⟨0, _⟩ => show win0_13.index t 0 * 256 + 1 * a.val = t.val * 256 + a.val; rw [(index_rows t).2.2.2.2.2.2.2.2.2.2.1]; omega
    | ⟨1, _⟩ => show win0_13.index t 1 * 1024 + 1 * j.val = j.val; rw [(index_rows t).2.2.2.2.2.2.2.2.2.2.2]; omega
  rw [hi] at e
  exact e.trans (((ptAt m c t.val t.isLt).b.dpp_apply a j).trans (by rw [row_at]))

/-- The gains' gradients and the loss kept after point `n`: the sums over the blocks so far. -/
theorem kept (n : ℕ) (h : n < cfg0.N) :
    (∀ j : Fin 1024, (ptAt m c n h).dg1 (ix2 0 j) = ∑ s : Fin (n + 1), ∑ i : Fin 256,
        (rowAt m c (rowOf ⟨s.val, by omega⟩ i)).dh2 j * hat (rowAt m c (rowOf ⟨s.val, by omega⟩ i)).x j) ∧
    (∀ j : Fin 1024, (ptAt m c n h).dg2 (ix2 0 j) = ∑ s : Fin (n + 1), ∑ i : Fin 256,
        (rowAt m c (rowOf ⟨s.val, by omega⟩ i)).dx2 j * hat (rowAt m c (rowOf ⟨s.val, by omega⟩ i)).f j) ∧
    (∀ j : Fin 1024, (ptAt m c n h).dg3 (ix2 0 j) = ∑ s : Fin (n + 1), ∑ i : Fin 256,
        (rowAt m c (rowOf ⟨s.val, by omega⟩ i)).dh3 j * hat (rowAt m c (rowOf ⟨s.val, by omega⟩ i)).x2 j) ∧
    ((ptAt m c n h).loss (ix2 0 0) = ∑ s : Fin (n + 1), Ideal.ofBits .f32 0x3F000000#32 * ∑ i : Fin 256, (rowAt m c (rowOf ⟨s.val, by omega⟩ i)).err) := by
  induction n with
  | zero =>
    have e := row_at m c ⟨0, h⟩
    refine ⟨fun j => ?_, fun j => ?_, fun j => ?_, ?_⟩ <;> rw [Fin.sum_univ_one]
    · exact ((ptAt m c 0 h).b.dg1_apply _ j).trans (by simp only [e]; exact (congrArg (· + _) (zero2_apply j)).trans (zero_add _))
    · exact ((ptAt m c 0 h).b.dg2_apply _ j).trans (by simp only [e]; exact (congrArg (· + _) (zero3_apply j)).trans (zero_add _))
    · exact ((ptAt m c 0 h).b.dg3_apply _ j).trans (by simp only [e]; exact (congrArg (· + _) (zero4_apply j)).trans (zero_add _))
    · exact ((ptAt m c 0 h).b.loss_apply _).trans (by simp only [e]; exact (congrArg (· + _) zero1_apply).trans (zero_add _))
  | succ n ih =>
    have e := row_at m c ⟨n + 1, h⟩
    obtain ⟨h1, h2, h3, h4⟩ := ih (Nat.lt_of_succ_lt h)
    refine ⟨fun j => ?_, fun j => ?_, fun j => ?_, ?_⟩ <;> rw [Fin.sum_univ_castSucc (n := n + 1)]
    · exact ((ptAt m c (n + 1) h).b.dg1_apply _ j).trans (by simp only [e]; exact congrArg (· + _) (h1 j))
    · exact ((ptAt m c (n + 1) h).b.dg2_apply _ j).trans (by simp only [e]; exact congrArg (· + _) (h2 j))
    · exact ((ptAt m c (n + 1) h).b.dg3_apply _ j).trans (by simp only [e]; exact congrArg (· + _) (h3 j))
    · exact ((ptAt m c (n + 1) h).b.loss_apply _).trans (by simp only [e]; exact congrArg (· + _) h4)

theorem loss_final : ((dats m 0 c).arrAt 14 cfg0.N : Vec Ideal S1x1 .f32) (ix2 0 0) = Ideal.ofBits .f32 0x3F000000#32 * ∑ i : Fin 8192, (rowAt m c i).err := by
  have hN : cfg0.N = 32 := rfl
  obtain ⟨t, ht⟩ := last_point
  have e := (dats m 0 c).arrAt_emb_eq_flushed 14 (fun t t' h h' hne => absurd (Fin.ext (by have := (flush0_14 t).mp h; have := (flush0_14 t').mp h'; have := t.isLt; have := t'.isLt; omega)) hne)
    t ((flush0_14 _).mpr (by rw [ht])) (ix2 0 0)
  have hi : ((cfg0.win 14).blk t).view.emb (ix2 0 0) = ((ix2 0 0) : S1x1.Idx) := by
    funext k
    apply Fin.ext
    match k with
    | ⟨0, _⟩ => show win0_14.index t 0 * 1 + 1 * 0 = 0; rw [(index_stay t).2.2.2.1.1]
    | ⟨1, _⟩ => show win0_14.index t 1 * 1 + 1 * 0 = 0; rw [(index_stay t).2.2.2.1.2]
  rw [hi] at e
  refine e.trans (((kept m c t.val t.isLt).2.2.2).trans ?_)
  obtain rfl : t = ⟨31, by decide⟩ := Fin.ext ht
  rw [lit_half, ← RowNorm.coe_mul_sum (by norm_num)]
  exact congrArg _ (Fin.sum_mul_add_fin 32 256 (fun i : Fin 8192 => (rowAt m c i).err))

theorem dg1_final (j : Fin 1024) : ((dats m 0 c).arrAt 15 cfg0.N : Vec Ideal S1x1024 .f32) (ix2 0 j) = ∑ i : Fin 8192, (rowAt m c i).dh2 j * hat (rowAt m c i).x j := by
  have hN : cfg0.N = 32 := rfl
  obtain ⟨t, ht⟩ := last_point
  have e := (dats m 0 c).arrAt_emb_eq_flushed 15 (fun t t' h h' hne => absurd (Fin.ext (by have := (flush0_15 t).mp h; have := (flush0_15 t').mp h'; have := t.isLt; have := t'.isLt; omega)) hne)
    t ((flush0_15 _).mpr (by rw [ht])) (ix2 0 j)
  have hi : ((cfg0.win 15).blk t).view.emb (ix2 0 j) = ((ix2 0 j) : S1x1024.Idx) := by
    funext k
    apply Fin.ext
    match k with
    | ⟨0, _⟩ => show win0_15.index t 0 * 1 + 1 * 0 = 0; rw [(index_stay t).2.2.2.2.1.1]
    | ⟨1, _⟩ => show win0_15.index t 1 * 1024 + 1 * j.val = j.val; rw [(index_stay t).2.2.2.2.1.2]; omega
  rw [hi] at e
  refine e.trans (((kept m c t.val t.isLt).1 j).trans ?_)
  obtain rfl : t = ⟨31, by decide⟩ := Fin.ext ht
  exact Fin.sum_mul_add_fin 32 256 (fun i : Fin 8192 => (rowAt m c i).dh2 j * hat (rowAt m c i).x j)

theorem dg2_final (j : Fin 1024) : ((dats m 0 c).arrAt 16 cfg0.N : Vec Ideal S1x1024 .f32) (ix2 0 j) = ∑ i : Fin 8192, (rowAt m c i).dx2 j * hat (rowAt m c i).f j := by
  have hN : cfg0.N = 32 := rfl
  obtain ⟨t, ht⟩ := last_point
  have e := (dats m 0 c).arrAt_emb_eq_flushed 16 (fun t t' h h' hne => absurd (Fin.ext (by have := (flush0_16 t).mp h; have := (flush0_16 t').mp h'; have := t.isLt; have := t'.isLt; omega)) hne)
    t ((flush0_16 _).mpr (by rw [ht])) (ix2 0 j)
  have hi : ((cfg0.win 16).blk t).view.emb (ix2 0 j) = ((ix2 0 j) : S1x1024.Idx) := by
    funext k
    apply Fin.ext
    match k with
    | ⟨0, _⟩ => show win0_16.index t 0 * 1 + 1 * 0 = 0; rw [(index_stay t).2.2.2.2.2.1.1]
    | ⟨1, _⟩ => show win0_16.index t 1 * 1024 + 1 * j.val = j.val; rw [(index_stay t).2.2.2.2.2.1.2]; omega
  rw [hi] at e
  refine e.trans (((kept m c t.val t.isLt).2.1 j).trans ?_)
  obtain rfl : t = ⟨31, by decide⟩ := Fin.ext ht
  exact Fin.sum_mul_add_fin 32 256 (fun i : Fin 8192 => (rowAt m c i).dx2 j * hat (rowAt m c i).f j)

theorem dg3_final (j : Fin 1024) : ((dats m 0 c).arrAt 17 cfg0.N : Vec Ideal S1x1024 .f32) (ix2 0 j) = ∑ i : Fin 8192, (rowAt m c i).dh3 j * hat (rowAt m c i).x2 j := by
  have hN : cfg0.N = 32 := rfl
  obtain ⟨t, ht⟩ := last_point
  have e := (dats m 0 c).arrAt_emb_eq_flushed 17 (fun t t' h h' hne => absurd (Fin.ext (by have := (flush0_17 t).mp h; have := (flush0_17 t').mp h'; have := t.isLt; have := t'.isLt; omega)) hne)
    t ((flush0_17 _).mpr (by rw [ht])) (ix2 0 j)
  have hi : ((cfg0.win 17).blk t).view.emb (ix2 0 j) = ((ix2 0 j) : S1x1024.Idx) := by
    funext k
    apply Fin.ext
    match k with
    | ⟨0, _⟩ => show win0_17.index t 0 * 1 + 1 * 0 = 0; rw [(index_stay t).2.2.2.2.2.2.1]
    | ⟨1, _⟩ => show win0_17.index t 1 * 1024 + 1 * j.val = j.val; rw [(index_stay t).2.2.2.2.2.2.2]; omega
  rw [hi] at e
  refine e.trans (((kept m c t.val t.isLt).2.2.1 j).trans ?_)
  obtain rfl : t = ⟨31, by decide⟩ := Fin.ext ht
  exact Fin.sum_mul_add_fin 32 256 (fun i : Fin 8192 => (rowAt m c i).dh3 j * hat (rowAt m c i).x2 j)

/-! The run, with every output array as it ends and every argument kept. -/

section
variable {F : FTy → Type} [FloatOps F] (m : (ℓ : Loc nD τ sig) → Buf (Elt F) ℓ) (ρ : Dev nD → PrngReg)

theorem post6 (r : PUnit × MemSt nD τ sig (Elt F)) (h : Pipeline.FramePost cfgs (dats m) 0 (V m) r) (c : Dev nD) :
    r.2.mem ((c : Thread nD τ).loc main_v10_0) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v10_1) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v10_2) = (dats m 0 c).arrAt 8 cfg0.N :=
  (h c).1 8

theorem post9 (r : PUnit × MemSt nD τ sig (Elt F)) (h : Pipeline.FramePost cfgs (dats m) 0 (V m) r) (c : Dev nD) :
    r.2.mem ((c : Thread nD τ).loc main_v10_3) = (dats m 0 c).arrAt 9 cfg0.N :=
  (h c).1 9

theorem post10 (r : PUnit × MemSt nD τ sig (Elt F)) (h : Pipeline.FramePost cfgs (dats m) 0 (V m) r) (c : Dev nD) :
    r.2.mem ((c : Thread nD τ).loc main_v10_4) = (dats m 0 c).arrAt 10 cfg0.N :=
  (h c).1 10

theorem post11 (r : PUnit × MemSt nD τ sig (Elt F)) (h : Pipeline.FramePost cfgs (dats m) 0 (V m) r) (c : Dev nD) :
    r.2.mem ((c : Thread nD τ).loc main_v10_5) = (dats m 0 c).arrAt 11 cfg0.N :=
  (h c).1 11

theorem post12 (r : PUnit × MemSt nD τ sig (Elt F)) (h : Pipeline.FramePost cfgs (dats m) 0 (V m) r) (c : Dev nD) :
    r.2.mem ((c : Thread nD τ).loc main_v10_6) = (dats m 0 c).arrAt 12 cfg0.N :=
  (h c).1 12

theorem post13 (r : PUnit × MemSt nD τ sig (Elt F)) (h : Pipeline.FramePost cfgs (dats m) 0 (V m) r) (c : Dev nD) :
    r.2.mem ((c : Thread nD τ).loc main_v10_7) = (dats m 0 c).arrAt 13 cfg0.N :=
  (h c).1 13

theorem post14 (r : PUnit × MemSt nD τ sig (Elt F)) (h : Pipeline.FramePost cfgs (dats m) 0 (V m) r) (c : Dev nD) :
    r.2.mem ((c : Thread nD τ).loc main_v10_8) = (dats m 0 c).arrAt 14 cfg0.N :=
  (h c).1 14

theorem post15 (r : PUnit × MemSt nD τ sig (Elt F)) (h : Pipeline.FramePost cfgs (dats m) 0 (V m) r) (c : Dev nD) :
    r.2.mem ((c : Thread nD τ).loc main_v10_9) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v10_10) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v10_11) = (dats m 0 c).arrAt 17 cfg0.N :=
  (h c).1 17

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The run. -/
theorem run_blocks : θ_run defs (onTc (τ := τ) (main (F := F))) ⟨m, fun _ => 0, ρ⟩ fun r => ∀ c : Dev nD,
      r.2.mem ((c : Thread nD τ).loc main_v10_0) = (dats m 0 c).arrAt 6 cfg0.N
      ∧ r.2.mem ((c : Thread nD τ).loc main_v10_1) = (dats m 0 c).arrAt 7 cfg0.N
      ∧ r.2.mem ((c : Thread nD τ).loc main_v10_2) = (dats m 0 c).arrAt 8 cfg0.N
      ∧ r.2.mem ((c : Thread nD τ).loc main_v10_3) = (dats m 0 c).arrAt 9 cfg0.N
      ∧ r.2.mem ((c : Thread nD τ).loc main_v10_4) = (dats m 0 c).arrAt 10 cfg0.N
      ∧ r.2.mem ((c : Thread nD τ).loc main_v10_5) = (dats m 0 c).arrAt 11 cfg0.N
      ∧ r.2.mem ((c : Thread nD τ).loc main_v10_6) = (dats m 0 c).arrAt 12 cfg0.N
      ∧ r.2.mem ((c : Thread nD τ).loc main_v10_7) = (dats m 0 c).arrAt 13 cfg0.N
      ∧ r.2.mem ((c : Thread nD τ).loc main_v10_8) = (dats m 0 c).arrAt 14 cfg0.N
      ∧ r.2.mem ((c : Thread nD τ).loc main_v10_9) = (dats m 0 c).arrAt 15 cfg0.N
      ∧ r.2.mem ((c : Thread nD τ).loc main_v10_10) = (dats m 0 c).arrAt 16 cfg0.N
      ∧ r.2.mem ((c : Thread nD τ).loc main_v10_11) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post6 m r h c,
      post7 m r h c,
      post8 m r h c,
      post9 m r h c,
      post10 m r h c,
      post11 m r h c,
      post12 m r h c,
      post13 m r h c,
      post14 m r h c,
      post15 m r h c,
      post16 m r h c,
      post17 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end

end Cert.MlpIdeal.Block
-- ==== Proof.MlpRef.lean ====
module

public import proofs.«01_k».proof.Proof.Gen.MlpRefIdeal.Read
public import proofs.«01_k».proof.Proof.MlpRow
public import Idealize.ShloMosaic.Lib.Pointwise

@[expose] public section

set_option maxRecDepth 16384

noncomputable section

/-! The reference of the feed-forward and loss call (reverse-mode differentiation of the forward lines), read row by row. -/

namespace Cert.MlpRefIdeal.Block

open Cert.MlpRefIdeal Cert.MlpRefIdeal.Gen Idealize.ShloMosaic Idealize.ShloMosaic.TcCoe Idealize.SL.Sem
open Cert.MlpRefIdeal.Read Cert.MlpRow

/-- The reference's ten arguments. -/
structure Args where
  x0 : Vec Ideal S8192x1024 .f32
  x1 : Vec Ideal S1x1x8192x256 .f32
  x2 : Vec Ideal S1x8192x1024 .f32
  x3 : Vec Ideal S1x1024 .f32
  x4 : Vec Ideal S1x1024 .f32
  x5 : Vec Ideal S1x1024 .f32
  x6 : Vec Ideal S1x1024x4096 .f32
  x7 : Vec Ideal S1x4096x1024 .f32
  x8 : Vec Ideal S1x1024x1024 .f32
  x9 : Vec Ideal S1x256x1024 .f32

/-- Row `i`, and what it is multiplied by. -/
def Args.row (a : Args) (i : Fin 8192) : Row where
  x k := a.x0 (ix2 i k)
  p q := a.x1 (ix4 0 0 i q)
  t j := a.x2 (ix3 0 i j)
  g1 k := a.x3 (ix2 0 k)
  g2 k := a.x4 (ix2 0 k)
  g3 k := a.x5 (ix2 0 k)
  wu k c := a.x6 (ix3 0 k c)
  wd c j := a.x7 (ix3 0 c j)
  wg k j := a.x8 (ix3 0 k j)
  we q j := a.x9 (ix3 0 q j)

theorem dy_eq (d : EReal) : Ideal.div (Ideal.ofBits .f32 0x3F000000#32) (Ideal.ofBits .f32 0x44800000#32) * (Ideal.ofBits .f32 0x40000000#32 * d) =
    d * Ideal.ofBits .f32 0x3A800000#32 := by
  have h1 : Ideal.ofBits .f32 0x3F000000#32 = ((1 / 2 : ℝ) : EReal) := by simp [Ideal.ofBits, Ideal.ieee, -EReal.coe_mul]; norm_num
  have h2 : Ideal.ofBits .f32 0x40000000#32 = ((2 : ℝ) : EReal) := by simp [Ideal.ofBits, Ideal.ieee, -EReal.coe_mul]; norm_num
  have h3 : Ideal.ofBits .f32 0x3A800000#32 = ((1 / 1024 : ℝ) : EReal) := by simp [Ideal.ofBits, Ideal.ieee, -EReal.coe_mul]; norm_num
  have h4 : Ideal.div ((1 / 2 : ℝ) : EReal) ((1024 : ℝ) : EReal) = ((1 / 2048 : ℝ) : EReal) := by
    rw [Ideal.div_coe (by norm_num), ← EReal.coe_mul]; congr 1; norm_num
  rw [h1, h2, h3, RowNorm.lit_1024, h4, ← mul_assoc, ← EReal.coe_mul, mul_comm d]
  congr 2
  norm_num

/-- The rectifier's gradient at a point where it is flat is zero: so is twice its value. -/
theorem du_eq (u s : EReal) : (if 0 < u then s * (Ideal.ofBits .f32 0x40000000#32 * max u 0) else 0) = s * (2 * max u 0) := by
  have h2 : Ideal.ofBits .f32 0x40000000#32 = ((2 : ℝ) : EReal) := by simp [Ideal.ofBits, Ideal.ieee, -EReal.coe_mul]; norm_num
  rw [h2]
  split
  · rfl
  · next h => rw [max_eq_right (not_lt.mp h), mul_zero, mul_zero]

variable (a : Args) (i : Fin 8192)

/-- The normed row. -/
theorem h2_apply (j : Fin 1024): val_main_v24 (F := Ideal) a.x0 a.x3 (ix2 i j) = (a.row i).h2 j := by
  pointwise [val_main_cst_1, val_main_cst_2, val_main_cst_3, val_main_v8, val_main_v9, val_main_v10, val_main_v11, val_main_v12, val_main_v13, val_main_v14, val_main_v15, val_main_v16, val_main_v20, val_main_v21, val_main_v22, val_main_v23, val_main_v24]
  try simp only [Finset.univ_unique, Finset.sum_const, Finset.card_singleton, one_smul]
  rfl

/-- The hidden row: nothing is added to the product. -/
theorem u_apply (j : Fin 4096): val_main_v26 (F := Ideal) a.x0 a.x3 a.x6 (ix2 i j) = (a.row i).u j := by
  pointwise [val_main_cst, val_main_v2, val_main_v6, val_main_v25, val_main_v26]
  try simp only [h2_apply, Finset.univ_unique, Finset.sum_const, Finset.card_singleton, one_smul]
  rfl

theorem pos_apply (j : Fin 4096): val_main_v27 (F := Ideal) a.x0 a.x3 a.x6 (ix2 i j) = (a.row i).pos j := by
  pointwise [val_main_call0_cst, val_main_call0_v0, val_main_v27]
  try simp only [u_apply, Finset.univ_unique, Finset.sum_const, Finset.card_singleton, one_smul]
  rfl

theorem a_apply (j : Fin 4096): val_main_v31 (F := Ideal) a.x0 a.x3 a.x6 (ix2 i j) = (a.row i).a j := by
  pointwise [val_main_v31]
  try simp only [pos_apply, Finset.univ_unique, Finset.sum_const, Finset.card_singleton, one_smul]
  rfl

/-- The block and the row after it. -/
theorem f_apply (j : Fin 1024): val_main_v35 (F := Ideal) a.x0 a.x3 a.x6 a.x7 (ix2 i j) = (a.row i).f j := by
  pointwise [val_main_cst_0, val_main_v3, val_main_v7, val_main_v34, val_main_v35]
  try simp only [a_apply, Finset.univ_unique, Finset.sum_const, Finset.card_singleton, one_smul]
  rfl

theorem rf_apply (x : Fin 1): val_main_v44 (F := Ideal) a.x0 a.x3 a.x6 a.x7 (ix2 i x) = RowNorm.scale (a.row i).f := by
  pointwise [val_main_cst_10, val_main_cst_8, val_main_cst_9, val_main_v37, val_main_v38, val_main_v39, val_main_v40, val_main_v41, val_main_v42, val_main_v43, val_main_v44]
  try simp only [f_apply, Finset.univ_unique, Finset.sum_const, Finset.card_singleton, one_smul]
  obtain rfl : x = 0 := Subsingleton.elim _ _
  rfl

theorem fh_apply (j : Fin 1024): val_main_v49 (F := Ideal) a.x0 a.x3 a.x6 a.x7 (ix2 i j) = hat (a.row i).f j := by
  pointwise [val_main_v48, val_main_v49]
  try simp only [f_apply, rf_apply, Finset.univ_unique, Finset.sum_const, Finset.card_singleton, one_smul]
  rfl

theorem x2_apply (j : Fin 1024): val_main_v53 (F := Ideal) a.x0 a.x3 a.x4 a.x6 a.x7 (ix2 i j) = (a.row i).x2 j := by
  pointwise [val_main_v36, val_main_v50, val_main_v51, val_main_v52, val_main_v53]
  try simp only [fh_apply, Finset.univ_unique, Finset.sum_const, Finset.card_singleton, one_smul]
  rfl

theorem r3_apply (x : Fin 1): val_main_v62 (F := Ideal) a.x0 a.x3 a.x4 a.x6 a.x7 (ix2 i x) = RowNorm.scale (a.row i).x2 := by
  pointwise [val_main_cst_12, val_main_cst_13, val_main_cst_14, val_main_v55, val_main_v56, val_main_v57, val_main_v58, val_main_v59, val_main_v60, val_main_v61, val_main_v62]
  try simp only [x2_apply, Finset.univ_unique, Finset.sum_const, Finset.card_singleton, one_smul]
  obtain rfl : x = 0 := Subsingleton.elim _ _
  rfl

theorem x2h_apply (j : Fin 1024): val_main_v67 (F := Ideal) a.x0 a.x3 a.x4 a.x6 a.x7 (ix2 i j) = hat (a.row i).x2 j := by
  pointwise [val_main_v66, val_main_v67]
  try simp only [x2_apply, r3_apply, Finset.univ_unique, Finset.sum_const, Finset.card_singleton, one_smul]
  rfl

theorem h3_apply (j : Fin 1024): val_main_v70 (F := Ideal) a.x0 a.x3 a.x4 a.x5 a.x6 a.x7 (ix2 i j) = (a.row i).h3 j := by
  pointwise [val_main_v54, val_main_v68, val_main_v69, val_main_v70]
  try simp only [x2h_apply, Finset.univ_unique, Finset.sum_const, Finset.card_singleton, one_smul]
  rfl

/-- The gate, the embedding, the error. -/
theorem pg_apply (j : Fin 1024): val_main_v78 (F := Ideal) a.x0 a.x3 a.x4 a.x5 a.x6 a.x7 a.x8 (ix2 i j) = (a.row i).pg j := by
  pointwise [val_main_cst_0, val_main_cst_16, val_main_cst_17, val_main_v4, val_main_v7, val_main_v71, val_main_v72, val_main_v73, val_main_v74, val_main_v75, val_main_v76, val_main_v77, val_main_v78]
  try simp only [h3_apply, Finset.univ_unique, Finset.sum_const, Finset.card_singleton, one_smul]
  rfl

theorem e_apply (j : Fin 1024): val_main_v83 (F := Ideal) a.x1 a.x9 (ix2 i j) = (a.row i).e j := by
  pointwise [val_main_cst_0, val_main_v0, val_main_v5, val_main_v7, val_main_v82, val_main_v83]
  try simp only [Finset.univ_unique, Finset.sum_const, Finset.card_singleton, one_smul]
  rfl

theorem diff_apply (j : Fin 1024): val_main_v86 (F := Ideal) a.x0 a.x1 a.x2 a.x3 a.x4 a.x5 a.x6 a.x7 a.x8 a.x9 (ix2 i j) = (a.row i).diff j := by
  pointwise [val_main_v1, val_main_v84, val_main_v85, val_main_v86]
  try simp only [x2_apply, pg_apply, e_apply, Finset.univ_unique, Finset.sum_const, Finset.card_singleton, one_smul]
  rfl

/-- The gradients. -/
theorem dy_apply (j : Fin 1024): val_main_v100 (F := Ideal) a.x0 a.x1 a.x2 a.x3 a.x4 a.x5 a.x6 a.x7 a.x8 a.x9 (ix2 i j) = (a.row i).dy j := by
  pointwise [val_main_cst_19, val_main_cst_24, val_main_cst_25, val_main_cst_26, val_main_v88, val_main_v89, val_main_v95, val_main_v96, val_main_v97, val_main_v98, val_main_v99, val_main_v100]
  try simp only [diff_apply, Finset.univ_unique, Finset.sum_const, Finset.card_singleton, one_smul]
  exact dy_eq _

theorem de_apply (j : Fin 1024): val_main_v101 (F := Ideal) a.x0 a.x1 a.x2 a.x3 a.x4 a.x5 a.x6 a.x7 a.x8 a.x9 (ix2 i j) = (a.row i).de j := by
  pointwise [val_main_v101]
  try simp only [pg_apply, dy_apply, Finset.univ_unique, Finset.sum_const, Finset.card_singleton, one_smul]
  exact mul_comm _ _

theorem ds_apply (j : Fin 1024): val_main_v103 (F := Ideal) a.x0 a.x1 a.x2 a.x3 a.x4 a.x5 a.x6 a.x7 a.x8 a.x9 (ix2 i j) = (a.row i).ds j := by
  pointwise [val_main_cst_18, val_main_v79, val_main_v80, val_main_v81, val_main_v102, val_main_v103]
  try simp only [pg_apply, e_apply, dy_apply, Finset.univ_unique, Finset.sum_const, Finset.card_singleton, one_smul]
  unfold Row.ds; ac_rfl

theorem dh3_apply (j : Fin 1024): val_main_v104 (F := Ideal) a.x0 a.x1 a.x2 a.x3 a.x4 a.x5 a.x6 a.x7 a.x8 a.x9 (ix2 i j) = (a.row i).dh3 j := by
  pointwise [val_main_v4, val_main_v104]
  try simp only [ds_apply, Finset.univ_unique, Finset.sum_const, Finset.card_singleton, one_smul]
  rfl

theorem dx2_apply (j : Fin 1024): val_main_v125 (F := Ideal) a.x0 a.x1 a.x2 a.x3 a.x4 a.x5 a.x6 a.x7 a.x8 a.x9 (ix2 i j) = (a.row i).dx2 j := by
  pointwise [val_main_cst_12, val_main_cst_13, val_main_cst_14, val_main_cst_15, val_main_cst_29, val_main_cst_30, val_main_cst_31, val_main_v54, val_main_v55, val_main_v56, val_main_v57, val_main_v58, val_main_v59, val_main_v60, val_main_v61, val_main_v63, val_main_v64, val_main_v65, val_main_v68, val_main_v108, val_main_v109, val_main_v111, val_main_v112, val_main_v113, val_main_v114, val_main_v115, val_main_v116, val_main_v117, val_main_v118, val_main_v119, val_main_v120, val_main_v121, val_main_v122, val_main_v123, val_main_v124, val_main_v125]
  try simp only [x2_apply, r3_apply, dy_apply, dh3_apply, Finset.univ_unique, Finset.sum_const, Finset.card_singleton, one_smul]
  exact (RowNorm.grad_eq (a.row i).x2 (fun k => (a.row i).dh3 k * (a.row i).g3 k) ((a.row i).dy j) j).symm

theorem df_apply (j : Fin 1024): val_main_v146 (F := Ideal) a.x0 a.x1 a.x2 a.x3 a.x4 a.x5 a.x6 a.x7 a.x8 a.x9 (ix2 i j) = (a.row i).df j := by
  pointwise [val_main_cst_10, val_main_cst_11, val_main_cst_34, val_main_cst_35, val_main_cst_36, val_main_cst_8, val_main_cst_9, val_main_v36, val_main_v37, val_main_v38, val_main_v39, val_main_v40, val_main_v41, val_main_v42, val_main_v43, val_main_v45, val_main_v46, val_main_v47, val_main_v50, val_main_v130, val_main_v131, val_main_v133, val_main_v134, val_main_v135, val_main_v136, val_main_v137, val_main_v138, val_main_v139, val_main_v140, val_main_v141, val_main_v142, val_main_v143, val_main_v144, val_main_v145, val_main_v146]
  try simp only [f_apply, rf_apply, dx2_apply, Finset.univ_unique, Finset.sum_const, Finset.card_singleton, one_smul]
  have e := RowNorm.grad_eq (a.row i).f (fun k => (a.row i).dx2 k * (a.row i).g2 k) 0 j
  rw [zero_add, zero_add] at e
  exact e.symm

theorem du_apply (j : Fin 4096): val_main_v151 (F := Ideal) a.x0 a.x1 a.x2 a.x3 a.x4 a.x5 a.x6 a.x7 a.x8 a.x9 (ix2 i j) = (a.row i).du j := by
  pointwise [val_main_cst_37, val_main_cst_5, val_main_cst_7, val_main_v3, val_main_v28, val_main_v29, val_main_v32, val_main_v33, val_main_v148, val_main_v149, val_main_v150, val_main_v151]
  try simp only [u_apply, pos_apply, df_apply, Finset.univ_unique, Finset.sum_const, Finset.card_singleton, one_smul]
  exact du_eq _ _

theorem dh2_apply (j : Fin 1024): val_main_v152 (F := Ideal) a.x0 a.x1 a.x2 a.x3 a.x4 a.x5 a.x6 a.x7 a.x8 a.x9 (ix2 i j) = (a.row i).dh2 j := by
  pointwise [val_main_v2, val_main_v152]
  try simp only [du_apply, Finset.univ_unique, Finset.sum_const, Finset.card_singleton, one_smul]
  rfl

theorem dx1_apply (j : Fin 1024): val_main_v173 (F := Ideal) a.x0 a.x1 a.x2 a.x3 a.x4 a.x5 a.x6 a.x7 a.x8 a.x9 (ix2 i j) = (a.row i).dx1 j := by
  pointwise [val_main_cst_1, val_main_cst_2, val_main_cst_3, val_main_cst_4, val_main_cst_40, val_main_cst_41, val_main_cst_42, val_main_v8, val_main_v9, val_main_v10, val_main_v11, val_main_v12, val_main_v13, val_main_v14, val_main_v15, val_main_v16, val_main_v17, val_main_v18, val_main_v19, val_main_v22, val_main_v156, val_main_v157, val_main_v159, val_main_v160, val_main_v161, val_main_v162, val_main_v163, val_main_v164, val_main_v165, val_main_v166, val_main_v167, val_main_v168, val_main_v169, val_main_v170, val_main_v171, val_main_v172, val_main_v173]
  try simp only [dx2_apply, dh2_apply, Finset.univ_unique, Finset.sum_const, Finset.card_singleton, one_smul]
  exact (RowNorm.grad_eq (a.row i).x (fun k => (a.row i).dh2 k * (a.row i).g1 k) ((a.row i).dx2 j) j).symm

/-- The gains' gradients and the loss: sums over all rows. -/
theorem dg1_apply (j : Fin 1024): val_main_v174 (F := Ideal) a.x0 a.x1 a.x2 a.x3 a.x4 a.x5 a.x6 a.x7 a.x8 a.x9 (ix2 0 j) = ∑ i, (a.row i).dh2 j * hat (a.row i).x j := by
  pointwise [val_main_cst_1, val_main_cst_2, val_main_cst_3, val_main_cst_38, val_main_cst_39, val_main_v9, val_main_v10, val_main_v11, val_main_v12, val_main_v13, val_main_v14, val_main_v15, val_main_v16, val_main_v20, val_main_v21, val_main_v153, val_main_v154, val_main_v155, val_main_v158, val_main_v174]
  try simp only [dh2_apply, Finset.univ_unique, Finset.sum_const, Finset.card_singleton, one_smul]
  exact Finset.sum_congr rfl fun i _ => mul_comm _ _

theorem dg2_apply (j : Fin 1024): val_main_v147 (F := Ideal) a.x0 a.x1 a.x2 a.x3 a.x4 a.x5 a.x6 a.x7 a.x8 a.x9 (ix2 0 j) = ∑ i, (a.row i).dx2 j * hat (a.row i).f j := by
  pointwise [val_main_cst_32, val_main_cst_33, val_main_v127, val_main_v128, val_main_v129, val_main_v132, val_main_v147]
  try simp only [fh_apply, dx2_apply, Finset.univ_unique, Finset.sum_const, Finset.card_singleton, one_smul]
  exact Finset.sum_congr rfl fun i _ => mul_comm _ _

theorem dg3_apply (j : Fin 1024): val_main_v126 (F := Ideal) a.x0 a.x1 a.x2 a.x3 a.x4 a.x5 a.x6 a.x7 a.x8 a.x9 (ix2 0 j) = ∑ i, (a.row i).dh3 j * hat (a.row i).x2 j := by
  pointwise [val_main_cst_27, val_main_cst_28, val_main_v105, val_main_v106, val_main_v107, val_main_v110, val_main_v126]
  try simp only [x2h_apply, dh3_apply, Finset.univ_unique, Finset.sum_const, Finset.card_singleton, one_smul]
  exact Finset.sum_congr rfl fun i _ => mul_comm _ _

theorem loss_apply : val_main_v182 (F := Ideal) a.x0 a.x1 a.x2 a.x3 a.x4 a.x5 a.x6 a.x7 a.x8 a.x9 (ix2 0 0) = Ideal.ofBits .f32 0x3F000000#32 * ∑ i, (a.row i).err := by
  pointwise [val_main_cst_20, val_main_cst_21, val_main_cst_22, val_main_cst_23, val_main_v87, val_main_v90, val_main_v91, val_main_v92, val_main_v93, val_main_v94, val_main_v182]
  try simp only [diff_apply, Finset.univ_unique, Finset.sum_const, Finset.card_singleton, one_smul]
  rfl

/-- The rows as they are returned. -/
theorem h2_out (j : Fin 1024): val_main_v175 (F := Ideal) a.x0 a.x3 (ix2 i j) = (a.row i).h2 j := by
  pointwise [val_main_v175]
  try simp only [h2_apply, Finset.univ_unique, Finset.sum_const, Finset.card_singleton, one_smul]

theorem du_out (j : Fin 4096): val_main_v176 (F := Ideal) a.x0 a.x1 a.x2 a.x3 a.x4 a.x5 a.x6 a.x7 a.x8 a.x9 (ix2 i j) = (a.row i).du j := by
  pointwise [val_main_v176]
  try simp only [du_apply, Finset.univ_unique, Finset.sum_const, Finset.card_singleton, one_smul]

theorem a_out (j : Fin 4096): val_main_v177 (F := Ideal) a.x0 a.x3 a.x6 (ix2 i j) = (a.row i).a j := by
  pointwise [val_main_v177]
  try simp only [a_apply, Finset.univ_unique, Finset.sum_const, Finset.card_singleton, one_smul]

theorem df_out (j : Fin 1024): val_main_v178 (F := Ideal) a.x0 a.x1 a.x2 a.x3 a.x4 a.x5 a.x6 a.x7 a.x8 a.x9 (ix2 i j) = (a.row i).df j := by
  pointwise [val_main_v178]
  try simp only [df_apply, Finset.univ_unique, Finset.sum_const, Finset.card_singleton, one_smul]

theorem h3_out (j : Fin 1024): val_main_v179 (F := Ideal) a.x0 a.x3 a.x4 a.x5 a.x6 a.x7 (ix2 i j) = (a.row i).h3 j := by
  pointwise [val_main_v179]
  try simp only [h3_apply, Finset.univ_unique, Finset.sum_const, Finset.card_singleton, one_smul]

theorem ds_out (j : Fin 1024): val_main_v180 (F := Ideal) a.x0 a.x1 a.x2 a.x3 a.x4 a.x5 a.x6 a.x7 a.x8 a.x9 (ix2 i j) = (a.row i).ds j := by
  pointwise [val_main_v180]
  try simp only [ds_apply, Finset.univ_unique, Finset.sum_const, Finset.card_singleton, one_smul]

theorem de_out (j : Fin 1024): val_main_v181 (F := Ideal) a.x0 a.x1 a.x2 a.x3 a.x4 a.x5 a.x6 a.x7 a.x8 a.x9 (ix2 i j) = (a.row i).de j := by
  pointwise [val_main_v181]
  try simp only [de_apply, Finset.univ_unique, Finset.sum_const, Finset.card_singleton, one_smul]

end Cert.MlpRefIdeal.Block
-- ==== Proof.MlpSame.lean ====
module

public import proofs.«01_k».proof.Proof.Gen.Mlp
public import proofs.«01_k».proof.Proof.MlpFrame

@[expose] public section

set_option maxRecDepth 100000

noncomputable section

/-! The feed-forward and loss call as printed and its ideal form are one text, so the frame proved of the one, at every
number type, is the frame of the other. -/

namespace Cert.MlpSame

open Idealize.ShloMosaic Idealize.ShloMosaic.TcCoe Idealize.SL.Sem

variable {F : FTy → Type} [FloatOps F] [Cert.Mlp.Facts] [Cert.MlpIdeal.Facts]

set_option maxHeartbeats 4000000 in
/-- The kernel's body at a grid point. -/
theorem body (t : Fin Cert.MlpIdeal.grid0.N) (s : (w : Fin 18) → Fin (Cert.MlpIdeal.win0 w).nbuf) :
    Cert.Mlp.defs₀ (F := F) .tc (0 : Fin 1) (t, s) = Cert.MlpIdeal.defs₀ (F := F) .tc (0 : Fin 1) (t, s) := rfl

/-- The only label is the body's. -/
theorem label (l : Fin 1) (a : Cert.MlpIdeal.Λ₀.Args l) : Cert.Mlp.defs₀ (F := F) .tc l a = Cert.MlpIdeal.defs₀ (F := F) .tc l a :=
  match l, a with
  | 0, (t, s) => body t s
  | ⟨_ + 1, h⟩, _ => absurd h (Nat.not_lt.2 (Nat.le_add_left _ _))

set_option maxHeartbeats 2000000 in
/-- The definitions of the two programs. -/
theorem defs_eq : Cert.Mlp.defs (F := F) = Cert.MlpIdeal.defs (F := F) :=
  congrArg (Pipeline.defs Cert.MlpIdeal.pcfgs) (funext fun p => match p with
    | .tc => funext fun l => funext fun a => label l a
    | .scScalar _ => rfl
    | .scVector _ _ => rfl)

set_option maxHeartbeats 8000000 in
/-- Their main functions. -/
theorem main_eq : Cert.Mlp.main (F := F) = Cert.MlpIdeal.main (F := F) := rfl

end Cert.MlpSame
-- ==== Proof.MlpClaims.lean ====
module

public import proofs.«01_k».proof.Defs
public import proofs.«01_k».proof.Proof.Gen.MlpRefIdeal.Run
public import proofs.«01_k».proof.Proof.MlpFinal
public import proofs.«01_k».proof.Proof.MlpRef
public import proofs.«01_k».proof.Proof.MlpSame
public import Idealize.ShloMosaic.Lib.Quiescent

@[expose] public section

noncomputable section

/-! The claims about the feed-forward and loss call. -/

namespace Cert.MlpClaims

open Idealize.ShloMosaic Idealize.ShloMosaic.TcCoe Idealize.SL.Sem

/-- The frame of the kernel as printed, which has the text of its ideal form. -/
theorem frame : quiescent_Mlp := fun m ρ _ => by
  rw [MlpSame.defs_eq, MlpSame.main_eq]
  exact MlpIdeal.Block.frame (F := Bits) m ρ

/-- The reference's frame, read off its run. -/
theorem frame_ref : quiescent_MlpRefIdeal := fun m ρ _ =>
  (θ_run MlpRefIdeal.defs _ _).mono (fun r h => ⟨fun c => (h c).2.2.2.2.2.2.2.2.2.2.2.2, sem_eq_zero_of_no_sems (by decide) r.2⟩)
    (MlpRefIdeal.Value.run (F := Ideal) m ρ)

/-- The reference's arguments, read at the kernel's. -/
def args (m : (ℓ : Loc MlpIdeal.nD MlpIdeal.τ MlpIdeal.sig) → Buf (Elt Ideal) ℓ) (c : Dev MlpIdeal.nD) : MlpRefIdeal.Block.Args :=
  ⟨m ((c.tc : Thread MlpIdeal.nD MlpIdeal.τ).loc MlpIdeal.main_arg0), m ((c.tc : Thread MlpIdeal.nD MlpIdeal.τ).loc MlpIdeal.main_arg1), m ((c.tc : Thread MlpIdeal.nD MlpIdeal.τ).loc MlpIdeal.main_arg2), m ((c.tc : Thread MlpIdeal.nD MlpIdeal.τ).loc MlpIdeal.main_arg3), m ((c.tc : Thread MlpIdeal.nD MlpIdeal.τ).loc MlpIdeal.main_arg4), m ((c.tc : Thread MlpIdeal.nD MlpIdeal.τ).loc MlpIdeal.main_arg5), m ((c.tc : Thread MlpIdeal.nD MlpIdeal.τ).loc MlpIdeal.main_arg6), m ((c.tc : Thread MlpIdeal.nD MlpIdeal.τ).loc MlpIdeal.main_arg7), m ((c.tc : Thread MlpIdeal.nD MlpIdeal.τ).loc MlpIdeal.main_arg8), m ((c.tc : Thread MlpIdeal.nD MlpIdeal.τ).loc MlpIdeal.main_arg9)⟩

/-- The two programs have the same rows. -/
theorem args_row (m : (ℓ : Loc MlpIdeal.nD MlpIdeal.τ MlpIdeal.sig) → Buf (Elt Ideal) ℓ) (c : Dev MlpIdeal.nD) (i : Fin 8192) :
    (args m c).row i = MlpIdeal.Block.rowAt m c i := rfl

set_option maxHeartbeats 4000000 in
/-- The two programs compute one value. -/
theorem algebraic : algebraic_MlpIdeal_MlpRefIdeal := by
  intro m g m' g' _ hagree
  refine ⟨_, _, _, _, _, _, _, _, _, _, _, _, (θ_run MlpIdeal.defs _ _).mono (fun r h c => h c) (MlpIdeal.Block.run_blocks (F := Ideal) m g),
    (θ_run MlpRefIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩) (MlpRefIdeal.Value.run (F := Ideal) m' g')⟩
  all_goals
    have e0 : StableHlo.launchContents m' c (Proc.tc.devRef MlpRefIdeal.main_arg0) = m ((c.tc : Thread MlpIdeal.nD MlpIdeal.τ).loc MlpIdeal.main_arg0) := (hagree c).1
    have e1 : StableHlo.launchContents m' c (Proc.tc.devRef MlpRefIdeal.main_arg1) = m ((c.tc : Thread MlpIdeal.nD MlpIdeal.τ).loc MlpIdeal.main_arg1) := (hagree c).2.1
    have e2 : StableHlo.launchContents m' c (Proc.tc.devRef MlpRefIdeal.main_arg2) = m ((c.tc : Thread MlpIdeal.nD MlpIdeal.τ).loc MlpIdeal.main_arg2) := (hagree c).2.2.1
    have e3 : StableHlo.launchContents m' c (Proc.tc.devRef MlpRefIdeal.main_arg3) = m ((c.tc : Thread MlpIdeal.nD MlpIdeal.τ).loc MlpIdeal.main_arg3) := (hagree c).2.2.2.1
    have e4 : StableHlo.launchContents m' c (Proc.tc.devRef MlpRefIdeal.main_arg4) = m ((c.tc : Thread MlpIdeal.nD MlpIdeal.τ).loc MlpIdeal.main_arg4) := (hagree c).2.2.2.2.1
    have e5 : StableHlo.launchContents m' c (Proc.tc.devRef MlpRefIdeal.main_arg5) = m ((c.tc : Thread MlpIdeal.nD MlpIdeal.τ).loc MlpIdeal.main_arg5) := (hagree c).2.2.2.2.2.1
    have e6 : StableHlo.launchContents m' c (Proc.tc.devRef MlpRefIdeal.main_arg6) = m ((c.tc : Thread MlpIdeal.nD MlpIdeal.τ).loc MlpIdeal.main_arg6) := (hagree c).2.2.2.2.2.2.1
    have e7 : StableHlo.launchContents m' c (Proc.tc.devRef MlpRefIdeal.main_arg7) = m ((c.tc : Thread MlpIdeal.nD MlpIdeal.τ).loc MlpIdeal.main_arg7) := (hagree c).2.2.2.2.2.2.2.1
    have e8 : StableHlo.launchContents m' c (Proc.tc.devRef MlpRefIdeal.main_arg8) = m ((c.tc : Thread MlpIdeal.nD MlpIdeal.τ).loc MlpIdeal.main_arg8) := (hagree c).2.2.2.2.2.2.2.2.1
    have e9 : StableHlo.launchContents m' c (Proc.tc.devRef MlpRefIdeal.main_arg9) = m ((c.tc : Thread MlpIdeal.nD MlpIdeal.τ).loc MlpIdeal.main_arg9) := (hagree c).2.2.2.2.2.2.2.2.2
  · rw [MlpRefIdeal.Read.val_main_v173_eq, e0, e1, e2, e3, e4, e5, e6, e7, e8, e9]
    refine RowNorm.ext2 fun i j => ?_
    exact (MlpRefIdeal.Block.dx1_apply (args m c) i j).trans ((MlpIdeal.Block.dx1_final m c i j).trans rfl).symm
  · rw [MlpRefIdeal.Read.val_main_v175_eq, e0, e3]
    refine RowNorm.ext2 fun i j => ?_
    exact (MlpRefIdeal.Block.h2_out (args m c) i j).trans ((MlpIdeal.Block.h2_final m c i j).trans rfl).symm
  · rw [MlpRefIdeal.Read.val_main_v176_eq, e0, e1, e2, e3, e4, e5, e6, e7, e8, e9]
    refine RowNorm.ext2 fun i j => ?_
    exact (MlpRefIdeal.Block.du_out (args m c) i j).trans ((MlpIdeal.Block.du_final m c i j).trans rfl).symm
  · rw [MlpRefIdeal.Read.val_main_v177_eq, e0, e3, e6]
    refine RowNorm.ext2 fun i j => ?_
    exact (MlpRefIdeal.Block.a_out (args m c) i j).trans ((MlpIdeal.Block.a_final m c i j).trans rfl).symm
  · rw [MlpRefIdeal.Read.val_main_v178_eq, e0, e1, e2, e3, e4, e5, e6, e7, e8, e9]
    refine RowNorm.ext2 fun i j => ?_
    exact (MlpRefIdeal.Block.df_out (args m c) i j).trans ((MlpIdeal.Block.df_final m c i j).trans rfl).symm
  · rw [MlpRefIdeal.Read.val_main_v179_eq, e0, e3, e4, e5, e6, e7]
    refine RowNorm.ext2 fun i j => ?_
    exact (MlpRefIdeal.Block.h3_out (args m c) i j).trans ((MlpIdeal.Block.h3_final m c i j).trans rfl).symm
  · rw [MlpRefIdeal.Read.val_main_v180_eq, e0, e1, e2, e3, e4, e5, e6, e7, e8, e9]
    refine RowNorm.ext2 fun i j => ?_
    exact (MlpRefIdeal.Block.ds_out (args m c) i j).trans ((MlpIdeal.Block.ds_final m c i j).trans rfl).symm
  · rw [MlpRefIdeal.Read.val_main_v181_eq, e0, e1, e2, e3, e4, e5, e6, e7, e8, e9]
    refine RowNorm.ext2 fun i j => ?_
    exact (MlpRefIdeal.Block.de_out (args m c) i j).trans ((MlpIdeal.Block.de_final m c i j).trans rfl).symm
  · rw [MlpRefIdeal.Read.val_main_v182_eq, e0, e1, e2, e3, e4, e5, e6, e7, e8, e9]
    refine RowNorm.ext2 fun i j => ?_
    obtain rfl : i = 0 := Subsingleton.elim _ _
    obtain rfl : j = 0 := Subsingleton.elim _ _
    exact (MlpRefIdeal.Block.loss_apply (args m c)).trans (MlpIdeal.Block.loss_final m c).symm
  · rw [MlpRefIdeal.Read.val_main_v174_eq, e0, e1, e2, e3, e4, e5, e6, e7, e8, e9]
    refine RowNorm.ext2 fun i j => ?_
    obtain rfl : i = 0 := Subsingleton.elim _ _
    exact (MlpRefIdeal.Block.dg1_apply (args m c) j).trans (MlpIdeal.Block.dg1_final m c j).symm
  · rw [MlpRefIdeal.Read.val_main_v147_eq, e0, e1, e2, e3, e4, e5, e6, e7, e8, e9]
    refine RowNorm.ext2 fun i j => ?_
    obtain rfl : i = 0 := Subsingleton.elim _ _
    exact (MlpRefIdeal.Block.dg2_apply (args m c) j).trans (MlpIdeal.Block.dg2_final m c j).symm
  · rw [MlpRefIdeal.Read.val_main_v126_eq, e0, e1, e2, e3, e4, e5, e6, e7, e8, e9]
    refine RowNorm.ext2 fun i j => ?_
    obtain rfl : i = 0 := Subsingleton.elim _ _
    exact (MlpRefIdeal.Block.dg3_apply (args m c) j).trans (MlpIdeal.Block.dg3_final m c j).symm

end Cert.MlpClaims
-- ==== Proof.MixBlock.lean ====
module

public import proofs.«01_k».proof.Proof.Gen.MixIdeal.Frame.RunB
public import Idealize.ShloMosaic.Lib.Pipeline.ReadBack
public import Idealize.ShloMosaic.Lib.Tactic

@[expose] public section

noncomputable section

/-! What the mix's backward call leaves in its eight output windows, in its three resident weights and in the halo it
    carries at every grid point: written with the body's own payloads with no view left. -/

namespace Cert.MixIdeal.Block

open Cert.MixIdeal Cert.MixIdeal.Gen Idealize.ShloMosaic Idealize.ShloMosaic.TcCoe Idealize.SL.Sem

variable {F : FTy → Type} [FloatOps F]

/-- The literal offset of a whole rank-two window. -/
theorem hz : (![0, 0] : Fin 2 → Nat) = fun _ => 0 := funext fun a => by fin_cases a <;> rfl

/-- What one grid point reads: its position, its rows, the resident weights, the halo of the point before. -/
structure In (F : FTy → Type) where
  t : BitVec 32
  dx : Vec F S512x1024 .f32
  mixed : Vec F S512x1024 .f32
  o : Vec F S512x512 .bf16
  conv : Vec F S512x1536 .bf16
  prev : Vec F S16x1536 .bf16
  gate : Vec F S512x2048 .bf16
  wc : Vec F S3x512 .f32
  g : Vec F S1x1024 .f32
  wa : Vec F S512x1024 .bf16
  wcn : Vec F S512x1024 .bf16
  wo : Vec F S1024x1024 .bf16
  nxt : Vec F S8x512 .f32

namespace In
variable (b : In F)

def dmixed : FVec F S512x1024 .bf16 := k0_pay15 (k0_pay10 b.mixed) (k0_pay13 b.dx b.g) (k0_pay14 b.mixed b.dx b.g)
/-- The gradient of the two gated branches' sum. -/
def dmi : FVec F S512x1024 .f32 := k0_pay16 (k0_pay10 b.mixed) (k0_pay13 b.dx b.g) (k0_pay14 b.mixed b.dx b.g) b.wo
def ga : Vec F S512x1024 .bf16 := View.ld b.gate (Rect.unit ![0, 0] S512x1024.size inb_S512x2048_S512x1024_0_0)
def gc : Vec F S512x1024 .bf16 := View.ld b.gate (Rect.unit ![0, 1024] S512x1024.size inb_S512x2048_S512x1024_0_1024)
def cm : FVec F S512x512 .f32 := k0_pay21 b.conv
def cmPrev : FVec F S16x512 .f32 := k0_pay22 b.t b.prev
def cm1 : FVec F S512x512 .f32 := k0_pay23 b.t b.conv b.prev
def pos : IVec S512x512 32 := iota .tc S512x512 32 [0] iota_S512x512_d0_w32
def cm2 : FVec F S512x512 .f32 := k0_pay24 b.cm b.cmPrev pos
def cv : FVec F S512x512 .f32 := k0_pay25 (k0_pay17 b.wc) b.cm b.cmPrev b.cm1 pos
def dpa : FVec F S512x1024 .f32 := k0_pay28 b.dmi (k0_pay19 b.o) b.wa b.ga
def dpc : FVec F S512x1024 .f32 := k0_pay29 b.dmi (k0_pay17 b.wc) b.wcn (k0_pay20 b.conv) b.cm b.cmPrev b.cm1 pos b.gc
def dattn : FVec F S512x1024 .bf16 := k0_pay34 b.dmi (k0_pay26 b.ga)
def dconvout : FVec F S512x1024 .bf16 := k0_pay36 b.dmi (k0_pay27 b.gc)
def dout : FVec F S512x512 .bf16 := k0_pay35 b.dmi (k0_pay26 b.ga) b.wa
/-- The gradient of the convolution branch's input. -/
def dci : FVec F S512x512 .f32 := k0_pay37 b.dmi (k0_pay27 b.gc) b.wcn
/-- The gradient of the convolution's result. -/
def dcv : FVec F S512x512 .f32 := k0_pay39 (k0_pay20 b.conv) b.dci
def r0 : FVec F S512x512 .bf16 := k0_pay38 b.dmi b.cv (k0_pay27 b.gc) b.wcn
def r1 : FVec F S512x512 .bf16 := k0_pay41 (k0_pay17 b.wc) (k0_pay18 b.conv) (k0_pay20 b.conv) b.dci b.nxt
def r2 : FVec F S512x512 .bf16 := k0_pay42 (k0_pay17 b.wc) (k0_pay18 b.conv) (k0_pay20 b.conv) b.dci b.nxt
def r3 : FVec F S512x1024 .bf16 := k0_pay30 b.dmi (k0_pay19 b.o) b.wa b.ga
def r4 : FVec F S512x1024 .bf16 := k0_pay31 b.dpc
/-- The rest window, written in five column ranges. -/
def drest : Vec F S512x3584 .bf16 :=
  View.canon (Val := Elt F) (s := S512x3584) (e := .bf16)
    [⟨Rect.unit ![0, 1024] S512x512.size inb_S512x3584_S512x512_0_1024, b.r2⟩,
      ⟨Rect.unit ![0, 512] S512x512.size inb_S512x3584_S512x512_0_512, b.r1⟩,
      ⟨Rect.unit ![0, 0] S512x512.size inb_S512x3584_S512x512_0_0, b.r0⟩,
      ⟨Rect.unit ![0, 2560] S512x1024.size inb_S512x3584_S512x1024_0_2560, b.r4⟩,
      ⟨Rect.unit ![0, 1536] S512x1024.size inb_S512x3584_S512x1024_0_1536, b.r3⟩]
/-- The gain's gradient, from what the points before left. -/
def dg (acc : Vec F S1x1024 .f32) : FVec F S1x1024 .f32 := k0_pay12 b.mixed b.dx acc
def dbL (acc : Vec F S1x2048 .f32) : List (View.Piece (Elt F) S1x2048 .f32) :=
  [⟨Rect.unit ![0, 1024] S1x1024.size inb_S1x2048_S1x1024_0_1024,
      k0_pay33 b.dpc (View.ld acc (Rect.unit ![0, 1024] S1x1024.size inb_S1x2048_S1x1024_0_1024))⟩,
    ⟨Rect.unit ![0, 0] S1x1024.size inb_S1x2048_S1x1024_0_0,
      k0_pay32 b.dpa (View.ld acc (Rect.unit ![0, 0] S1x1024.size inb_S1x2048_S1x1024_0_0))⟩]
def dwL (acc : Vec F S3x512 .f32) : List (View.Piece (Elt F) S3x512 .f32) :=
  [⟨Rect.unit ![2, 0] S1x512.size inb_S3x512_S1x512_2_0,
      k0_pay3 b.cm b.dcv (View.ld acc (Rect.unit ![2, 0] S1x512.size inb_S3x512_S1x512_2_0))⟩,
    ⟨Rect.unit ![1, 0] S1x512.size inb_S3x512_S1x512_1_0,
      k0_pay2 b.cm1 b.dcv (View.ld acc (Rect.unit ![1, 0] S1x512.size inb_S3x512_S1x512_1_0))⟩,
    ⟨Rect.unit ![0, 0] S1x512.size inb_S3x512_S1x512_0_0,
      k0_pay1 b.cm2 b.dcv (View.ld acc (Rect.unit ![0, 0] S1x512.size inb_S3x512_S1x512_0_0))⟩]
/-- The bias's gradient and the taps' gradient, stored in pieces over what the points before left. -/
def db (acc : Vec F S1x2048 .f32) : Vec F S1x2048 .f32 := View.canon (Val := Elt F) (s := S1x2048) (e := .f32) (b.dbL acc)
def dw (acc : Vec F S3x512 .f32) : Vec F S3x512 .f32 := View.canon (Val := Elt F) (s := S3x512) (e := .f32) (b.dwL acc)
/-- The halo left to the next point. -/
def halo : FVec F S8x512 .f32 := k0_pay4 b.dcv
end In

/-- Pieces that cover the window hide whatever was stored before them. -/
theorem canon_append {S : Shape} {e : EltTy} (L L' : List (View.Piece (Elt F) S e)) (h : ∀ y, ∃ p ∈ L, y ∈ p.1.set) :
    View.canon (L ++ L') = View.canon L := by
  funext y
  have : ∀ L : List (View.Piece (Elt F) S e), (∃ p ∈ L, y ∈ p.1.set) → View.canon (L ++ L') y = View.canon L y := by
    intro L
    induction L with
    | nil => rintro ⟨p, hp, _⟩; exact absurd hp List.not_mem_nil
    | cons p L ih =>
      intro hc
      by_cases hm : y ∈ p.1.set
      · obtain ⟨x, rfl⟩ := p.1.exists_idx_of_mem hm
        rw [List.cons_append, show p.1.idx x = p.1.emb x from rfl, View.canon_cons_emb, View.canon_cons_emb]
      · rw [List.cons_append, View.canon_cons_of_not_mem _ _ hm, View.canon_cons_of_not_mem _ _ hm]
        obtain ⟨q, hq, hy⟩ := hc
        rcases List.mem_cons.mp hq with rfl | hq
        · exact absurd hy hm
        · exact ih ⟨q, hq, hy⟩
  exact this L (h y)

/-- A read of a window that was filled reads the fill. -/
theorem read_fill {S : Shape} {e : EltTy} (M : Memref sig .tc .vmem S e) (off : Fin S.rank → ℕ) (inb : ∀ a, off a + S.size a ≤ S.size a)
    (Z : S.Idx → Elt F e) (h : off = fun _ => 0) (r : Rect S) :
    M.view.readCov (Val := Elt F) [⟨Rect.unit off S.size inb, Z⟩] r.toLoadRect = View.ld Z r :=
  View.readCov_fill (Val := Elt F) M.view inb Z [] r fun a => congrFun h a

theorem mem_whole {S : Shape} {off : Fin S.rank → ℕ} (inb : ∀ a, off a + S.size a ≤ S.size a) (h : off = fun _ => 0) (y : S.Idx) :
    y ∈ (Rect.unit off S.size inb).set :=
  Rect.mem_set_unit.mpr fun a => by subst h; exact ⟨Nat.zero_le _, by rw [Nat.zero_add]; exact (y a).isLt⟩

/-- The five column ranges of the rest window, the two halves of the bias's, the three rows of the taps' cover theirs. -/
theorem cover_rest (w2 w1 w0 : Vec F S512x512 .bf16) (w4 w3 : Vec F S512x1024 .bf16) (y : S512x3584.Idx) :
    ∃ p ∈ ([⟨Rect.unit ![0, 1024] S512x512.size inb_S512x3584_S512x512_0_1024, w2⟩,
      ⟨Rect.unit ![0, 512] S512x512.size inb_S512x3584_S512x512_0_512, w1⟩,
      ⟨Rect.unit ![0, 0] S512x512.size inb_S512x3584_S512x512_0_0, w0⟩,
      ⟨Rect.unit ![0, 2560] S512x1024.size inb_S512x3584_S512x1024_0_2560, w4⟩,
      ⟨Rect.unit ![0, 1536] S512x1024.size inb_S512x3584_S512x1024_0_1536, w3⟩] : List (View.Piece (Elt F) S512x3584 .bf16)), y ∈ p.1.set := by
  have M (o n : ℕ) (inb : ∀ a, (![0, o] : Fin 2 → ℕ) a + (⟨2, ![512, n]⟩ : Shape).size a ≤ S512x3584.size a) (h : o ≤ (y 1).val ∧ (y 1).val < o + n) :
      y ∈ (Rect.unit (s := S512x3584) ![0, o] (⟨2, ![512, n]⟩ : Shape).size inb).set :=
    Rect.mem_set_unit.mpr (Fin.forall_fin_two.mpr ⟨⟨Nat.zero_le _, by have h0 : (y 0).val < 512 := (y 0).isLt; show (y 0).val < 0 + 512; omega⟩, h⟩)
  have h1 : (y 1).val < 3584 := (y 1).isLt
  by_cases a : (y 1).val < 512
  · exact ⟨_, .tail _ (.tail _ (.head _)), M 0 512 inb_S512x3584_S512x512_0_0 (by omega)⟩
  by_cases b : (y 1).val < 1024
  · exact ⟨_, .tail _ (.head _), M 512 512 inb_S512x3584_S512x512_0_512 (by omega)⟩
  by_cases c : (y 1).val < 1536
  · exact ⟨_, .head _, M 1024 512 inb_S512x3584_S512x512_0_1024 (by omega)⟩
  by_cases d : (y 1).val < 2560
  · exact ⟨_, .tail _ (.tail _ (.tail _ (.tail _ (.head _)))), M 1536 1024 inb_S512x3584_S512x1024_0_1536 (by omega)⟩
  · exact ⟨_, .tail _ (.tail _ (.tail _ (.head _))), M 2560 1024 inb_S512x3584_S512x1024_0_2560 (by omega)⟩
theorem In.cover_db (b : In F) (acc : Vec F S1x2048 .f32) (y : S1x2048.Idx) : ∃ p ∈ b.dbL acc, y ∈ p.1.set :=
  View.cover_of_tiledL (Val := Elt F) (s := S1x2048) _ S1x1024.size (by sl_kernel_rfl) y
theorem In.cover_dw (b : In F) (acc : Vec F S3x512 .f32) (y : S3x512.Idx) : ∃ p ∈ b.dwL acc, y ∈ p.1.set :=
  View.cover_of_tiledL (Val := Elt F) (s := S3x512) _ S1x512.size (by sl_kernel_rfl) y

end Cert.MixIdeal.Block
-- ==== Proof.MixRun.lean ====
module

public import proofs.«01_k».proof.Proof.MixBlock

@[expose] public section

set_option maxRecDepth 16384

noncomputable section

/-! What one run of the mix's backward body leaves in every window and every scratch: at the first grid point, where the
    weights arrive and the accumulators and the halo start from zero, and at a later one, where they go on from what they held. -/

namespace Cert.MixIdeal.Block

open Cert.MixIdeal Cert.MixIdeal.Gen Idealize.ShloMosaic Idealize.ShloMosaic.TcCoe Idealize.SL.Sem

variable {F : FTy → Type} [FloatOps F]

/-- What a point leaves in its windows and scratch `M`, from what the accumulators held: `L` are the pieces stored. -/
structure Leaves (b : In F) (a13 : Vec F S1x1024 .f32) (a14 : Vec F S1x2048 .f32) (a15 : Vec F S3x512 .f32)
    (M12 : Memref sig .tc .vmem S512x1024 .bf16) (L12 : List (View.Piece (Elt F) S512x1024 .bf16))
    (M13 : Memref sig .tc .vmem S512x1024 .bf16) (L13 : List (View.Piece (Elt F) S512x1024 .bf16))
    (M14 : Memref sig .tc .vmem S512x1024 .bf16) (L14 : List (View.Piece (Elt F) S512x1024 .bf16))
    (M15 : Memref sig .tc .vmem S512x512 .bf16) (L15 : List (View.Piece (Elt F) S512x512 .bf16))
    (M16 : Memref sig .tc .vmem S512x3584 .bf16) (L16 : List (View.Piece (Elt F) S512x3584 .bf16))
    (M17 : Memref sig .tc .vmem S1x1024 .f32) (L17 : List (View.Piece (Elt F) S1x1024 .f32))
    (M18 : Memref sig .tc .vmem S1x2048 .f32) (L18 : List (View.Piece (Elt F) S1x2048 .f32))
    (M19 : Memref sig .tc .vmem S3x512 .f32) (L19 : List (View.Piece (Elt F) S3x512 .f32))
    (M23 : Memref sig .tc .vmem S8x512 .f32) (L23 : List (View.Piece (Elt F) S8x512 .f32)) : Prop where
  dmixed : ∀ f, M12.view.read (Elt F) (M12.view.writes (Elt F) f L12) = b.dmixed
  dattn : ∀ f, M13.view.read (Elt F) (M13.view.writes (Elt F) f L13) = b.dattn
  dconvout : ∀ f, M14.view.read (Elt F) (M14.view.writes (Elt F) f L14) = b.dconvout
  dout : ∀ f, M15.view.read (Elt F) (M15.view.writes (Elt F) f L15) = b.dout
  drest : ∀ f, M16.view.read (Elt F) (M16.view.writes (Elt F) f L16) = b.drest
  dg : ∀ f, M17.view.read (Elt F) (M17.view.writes (Elt F) f L17) = b.dg a13
  db : ∀ f, M18.view.read (Elt F) (M18.view.writes (Elt F) f L18) = b.db a14
  dw : ∀ f, M19.view.read (Elt F) (M19.view.writes (Elt F) f L19) = b.dw a15
  halo : ∀ f, M23.view.read (Elt F) (M23.view.writes (Elt F) f L23) = b.halo

set_option maxHeartbeats 2000000 in
/-- The first grid point. -/
theorem run_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x512 .bf16) (harg3 : arg3.IsWhole) (arg4 : Memref sig .tc .vmem S512x1536 .bf16) (harg4 : arg4.IsWhole) (arg5 : Memref sig .tc .vmem S16x1536 .bf16) (harg5 : arg5.IsWhole) (arg6 : Memref sig .tc .vmem S512x2048 .bf16) (harg6 : arg6.IsWhole) (arg7 : Memref sig .tc .vmem S3x512 .f32) (harg7 : arg7.IsWhole) (arg8 : Memref sig .tc .vmem S1x1024 .f32) (harg8 : arg8.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x512 .bf16) (harg15 : arg15.IsWhole) (arg16 : Memref sig .tc .vmem S512x3584 .bf16) (harg16 : arg16.IsWhole) (arg17 : Memref sig .tc .vmem S1x1024 .f32) (harg17 : arg17.IsWhole) (arg18 : Memref sig .tc .vmem S1x2048 .f32) (harg18 : arg18.IsWhole) (arg19 : Memref sig .tc .vmem S3x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S1024x1024 .bf16) (harg22 : arg22.IsWhole) (arg23 : Memref sig .tc .vmem S8x512 .f32) (harg23 : arg23.IsWhole) (hc0 : cond0_0 i) (hc1 : cond0_1 i)
    (x0 : Vec F S512x1024 .f32) (x1 : Vec F S512x1024 .f32) (x2 : Vec F S512x512 .bf16) (x3 : Vec F S512x1536 .bf16) (x4 : Vec F S16x1536 .bf16) (x5 : Vec F S512x2048 .bf16) (x6 : Vec F S3x512 .f32) (x7 : Vec F S1x1024 .f32) (fh0 : HbBuf0 (F := F) c hbM0_0) (fh1 : HbBuf0 (F := F) c hbM0_1) (fh2 : HbBuf0 (F := F) c hbM0_2) :
    let k := kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 fh0 fh1 fh2
    Leaves (F := F) ⟨BitVec.ofNat 32 (i 0).val, x0, x1, x2, x3, x4, x5, x6, x7, View.read (Elt F) (Memref.whole main_v68).view fh0, View.read (Elt F) (Memref.whole main_v70).view fh1, View.read (Elt F) (Memref.whole main_v72).view fh2, k0_pay8⟩ k0_pay5 k0_pay6 k0_pay7 arg12 k.1 arg13 k.2.1 arg14 k.2.2.1 arg15 k.2.2.2.1 arg16 k.2.2.2.2.1 arg17 k.2.2.2.2.2.1 arg18 k.2.2.2.2.2.2.1 arg19 k.2.2.2.2.2.2.2.1 arg23 k.2.2.2.2.2.2.2.2.2.2.2.1
      ∧ (∀ f, arg20.view.read (Elt F) (arg20.view.writes (Elt F) f k.2.2.2.2.2.2.2.2.1) = View.read (Elt F) (Memref.whole main_v68).view fh0)
      ∧ (∀ f, arg21.view.read (Elt F) (arg21.view.writes (Elt F) f k.2.2.2.2.2.2.2.2.2.1) = View.read (Elt F) (Memref.whole main_v70).view fh1)
      ∧ (∀ f, arg22.view.read (Elt F) (arg22.view.writes (Elt F) f k.2.2.2.2.2.2.2.2.2.2.1) = View.read (Elt F) (Memref.whole main_v72).view fh2) := by
  unfold kernelRun0_A
  dsimp only
  sl_unfold_words
  have hw0 : ∀ r : Rect S512x1024, arg20.view.readCov (Val := Elt F) [⟨Rect.whole S512x1024, ReadAs.same.apply (View.read (Elt F) (Memref.whole main_v68).view fh0)⟩] r.toLoadRect = View.ld (View.read (Elt F) (Memref.whole main_v68).view fh0) r := fun r =>
    View.readCov_fill (off := fun _ => 0) _ _ (View.read (Elt F) (Memref.whole main_v68).view fh0) [] r (fun _ => rfl)
  have hw1 : ∀ r : Rect S512x1024, arg21.view.readCov (Val := Elt F) [⟨Rect.whole S512x1024, ReadAs.same.apply (View.read (Elt F) (Memref.whole main_v70).view fh1)⟩] r.toLoadRect = View.ld (View.read (Elt F) (Memref.whole main_v70).view fh1) r := fun r =>
    View.readCov_fill (off := fun _ => 0) _ _ (View.read (Elt F) (Memref.whole main_v70).view fh1) [] r (fun _ => rfl)
  have hw2 : ∀ r : Rect S1024x1024, arg22.view.readCov (Val := Elt F) [⟨Rect.whole S1024x1024, ReadAs.same.apply (View.read (Elt F) (Memref.whole main_v72).view fh2)⟩] r.toLoadRect = View.ld (View.read (Elt F) (Memref.whole main_v72).view fh2) r := fun r =>
    View.readCov_fill (off := fun _ => 0) _ _ (View.read (Elt F) (Memref.whole main_v72).view fh2) [] r (fun _ => rfl)
  have hf14 := read_fill (F := F) arg18 ![0, 0] inb_S1x2048_S1x2048_0_0 (k0_pay6 (F := F)) hz
  have hf15 := read_fill (F := F) arg19 ![0, 0] inb_S3x512_S3x512_0_0 (k0_pay7 (F := F)) hz
  refine ⟨?_, fun _ => View.read_writes_whole _ _ _, fun _ => View.read_writes_whole _ _ _, fun _ => View.read_writes_whole _ _ _⟩
  refine ⟨fun f => ?_, fun f => ?_, fun f => ?_, fun f => ?_, fun f => ?_, fun f => ?_, fun f => ?_, fun f => ?_, fun f => ?_⟩
  refine (View.read_writes_eq_canon (Val := Elt F) _ _ _ (fun y => View.cover_of_tiledL (Val := Elt F) (s := S512x1024) _ S512x1024.size (by sl_kernel_rfl) y)).trans ?_
  rw [View.canon_unit_zero (S := S512x1024) hz]
  rotate_left
  refine (View.read_writes_eq_canon (Val := Elt F) _ _ _ (fun y => View.cover_of_tiledL (Val := Elt F) (s := S512x1024) _ S512x1024.size (by sl_kernel_rfl) y)).trans ?_
  rw [View.canon_unit_zero (S := S512x1024) hz]
  rotate_left
  refine (View.read_writes_eq_canon (Val := Elt F) _ _ _ (fun y => View.cover_of_tiledL (Val := Elt F) (s := S512x1024) _ S512x1024.size (by sl_kernel_rfl) y)).trans ?_
  rw [View.canon_unit_zero (S := S512x1024) hz]
  rotate_left
  refine (View.read_writes_eq_canon (Val := Elt F) _ _ _ (fun y => View.cover_of_tiledL (Val := Elt F) (s := S512x512) _ S512x512.size (by sl_kernel_rfl) y)).trans ?_
  rw [View.canon_unit_zero (S := S512x512) hz]
  rotate_left
  refine (View.read_writes_eq_canon (Val := Elt F) _ _ _ (fun y => cover_rest _ _ _ _ _ y)).trans ?_
  rotate_left
  refine (View.read_writes_eq_canon (Val := Elt F) _ _ _ (fun y => View.cover_of_tiledL (Val := Elt F) (s := S1x1024) _ S1x1024.size (by sl_kernel_rfl) y)).trans ?_
  rw [View.canon_cons_unit_zero (S := S1x1024) hz]
  rotate_left
  · refine (View.read_writes_eq_canon (Val := Elt F) _ _ _ (fun y => ⟨_, .tail _ (.tail _ (.head _)), mem_whole inb_S1x2048_S1x2048_0_0 hz y⟩)).trans ?_
    simp only [View.readCov_unit_zero (S := S1x1024) _ hz, View.readCov_unit_zero (S := S8x512) _ hz, hw0, hw1, hw2, hf14, View.readAt_eq_ld, harg1.read_unread, harg2.read_unread, harg3.read_unread, harg4.read_unread, harg5.read_unread, harg6.read_unread, harg7.read_unread, harg8.read_unread, View.ld_unit_zero (S := S512x1024) hz, View.ld_unit_zero (S := S512x512) hz, View.ld_unit_zero (S := S512x1536) hz, View.ld_unit_zero (S := S16x1536) hz, View.ld_unit_zero (S := S3x512) hz, View.ld_unit_zero (S := S1x1024) hz, View.ld_unit_zero (S := S8x512) hz, View.ld_unit_zero (S := S1024x1024) hz]
    repeat first | rw [hf14] | rw [View.readCov_skip _ _ _ _ _ (by decide)]
    exact canon_append (In.dbL (F := F) ⟨BitVec.ofNat 32 (i 0).val, x0, x1, x2, x3, x4, x5, x6, x7, View.read (Elt F) (Memref.whole main_v68).view fh0, View.read (Elt F) (Memref.whole main_v70).view fh1, View.read (Elt F) (Memref.whole main_v72).view fh2, k0_pay8⟩ k0_pay6) _ (In.cover_db _ _)
  · refine (View.read_writes_eq_canon (Val := Elt F) _ _ _ (fun y => ⟨_, .tail _ (.tail _ (.tail _ (.head _))), mem_whole inb_S3x512_S3x512_0_0 hz y⟩)).trans ?_
    simp only [View.readCov_unit_zero (S := S1x1024) _ hz, View.readCov_unit_zero (S := S8x512) _ hz, hw0, hw1, hw2, hf15, View.readAt_eq_ld, harg1.read_unread, harg2.read_unread, harg3.read_unread, harg4.read_unread, harg5.read_unread, harg6.read_unread, harg7.read_unread, harg8.read_unread, View.ld_unit_zero (S := S512x1024) hz, View.ld_unit_zero (S := S512x512) hz, View.ld_unit_zero (S := S512x1536) hz, View.ld_unit_zero (S := S16x1536) hz, View.ld_unit_zero (S := S3x512) hz, View.ld_unit_zero (S := S1x1024) hz, View.ld_unit_zero (S := S8x512) hz, View.ld_unit_zero (S := S1024x1024) hz]
    repeat first | rw [hf15] | rw [View.readCov_skip _ _ _ _ _ (by decide)]
    exact canon_append (In.dwL (F := F) ⟨BitVec.ofNat 32 (i 0).val, x0, x1, x2, x3, x4, x5, x6, x7, View.read (Elt F) (Memref.whole main_v68).view fh0, View.read (Elt F) (Memref.whole main_v70).view fh1, View.read (Elt F) (Memref.whole main_v72).view fh2, k0_pay8⟩ k0_pay7) _ (In.cover_dw _ _)
  refine (View.read_writes_eq_canon (Val := Elt F) _ _ _ (fun y => View.cover_of_tiledL (Val := Elt F) (s := S8x512) _ S8x512.size (by sl_kernel_rfl) y)).trans ?_
  rw [View.canon_cons_unit_zero (S := S8x512) hz]
  rotate_left
  all_goals
    simp only [View.readCov_unit_zero (S := S1x1024) _ hz, View.readCov_unit_zero (S := S8x512) _ hz, hw0, hw1, hw2, View.readAt_eq_ld, harg1.read_unread, harg2.read_unread, harg3.read_unread, harg4.read_unread, harg5.read_unread, harg6.read_unread, harg7.read_unread, harg8.read_unread, View.ld_unit_zero (S := S512x1024) hz, View.ld_unit_zero (S := S512x512) hz, View.ld_unit_zero (S := S512x1536) hz, View.ld_unit_zero (S := S16x1536) hz, View.ld_unit_zero (S := S3x512) hz, View.ld_unit_zero (S := S1x1024) hz, View.ld_unit_zero (S := S8x512) hz, View.ld_unit_zero (S := S1024x1024) hz]
    dsimp only [In.dmixed, In.dmi, In.ga, In.gc, In.cm, In.cmPrev, In.cm1, In.pos, In.cm2, In.cv, In.dpa, In.dpc, In.dattn, In.dconvout, In.dout, In.dci, In.dcv, In.r0, In.r1, In.r2, In.r3, In.r4, In.drest, In.dg, In.db, In.dbL, In.dw, In.dwL, In.halo]
    try rfl

set_option maxHeartbeats 2000000 in
/-- A later grid point. -/
theorem run_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x512 .bf16) (harg3 : arg3.IsWhole) (arg4 : Memref sig .tc .vmem S512x1536 .bf16) (harg4 : arg4.IsWhole) (arg5 : Memref sig .tc .vmem S16x1536 .bf16) (harg5 : arg5.IsWhole) (arg6 : Memref sig .tc .vmem S512x2048 .bf16) (harg6 : arg6.IsWhole) (arg7 : Memref sig .tc .vmem S3x512 .f32) (harg7 : arg7.IsWhole) (arg8 : Memref sig .tc .vmem S1x1024 .f32) (harg8 : arg8.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x512 .bf16) (harg15 : arg15.IsWhole) (arg16 : Memref sig .tc .vmem S512x3584 .bf16) (harg16 : arg16.IsWhole) (arg17 : Memref sig .tc .vmem S1x1024 .f32) (harg17 : arg17.IsWhole) (arg18 : Memref sig .tc .vmem S1x2048 .f32) (harg18 : arg18.IsWhole) (arg19 : Memref sig .tc .vmem S3x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S1024x1024 .bf16) (harg22 : arg22.IsWhole) (arg23 : Memref sig .tc .vmem S8x512 .f32) (harg23 : arg23.IsWhole) (hc0 : ¬cond0_0 i) (hc1 : ¬cond0_1 i)
    (x0 : Vec F S512x1024 .f32) (x1 : Vec F S512x1024 .f32) (x2 : Vec F S512x512 .bf16) (x3 : Vec F S512x1536 .bf16) (x4 : Vec F S16x1536 .bf16) (x5 : Vec F S512x2048 .bf16) (x6 : Vec F S3x512 .f32) (x7 : Vec F S1x1024 .f32) (xo13 : Vec F S1x1024 .f32) (xo14 : Vec F S1x2048 .f32) (xo15 : Vec F S3x512 .f32) (xs0 : Vec F S512x1024 .bf16) (xs1 : Vec F S512x1024 .bf16) (xs2 : Vec F S1024x1024 .bf16) (xs3 : Vec F S8x512 .f32) (fh0 : HbBuf0 (F := F) c hbM0_0) (fh1 : HbBuf0 (F := F) c hbM0_1) (fh2 : HbBuf0 (F := F) c hbM0_2) :
    let k := kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xo13 xo14 xo15 xs0 xs1 xs2 xs3 fh0 fh1 fh2
    Leaves (F := F) ⟨BitVec.ofNat 32 (i 0).val, x0, x1, x2, x3, x4, x5, x6, x7, xs0, xs1, xs2, xs3⟩ xo13 xo14 xo15 arg12 k.1 arg13 k.2.1 arg14 k.2.2.1 arg15 k.2.2.2.1 arg16 k.2.2.2.2.1 arg17 k.2.2.2.2.2.1 arg18 k.2.2.2.2.2.2.1 arg19 k.2.2.2.2.2.2.2.1 arg23 k.2.2.2.2.2.2.2.2.2.2.2.1 := by
  unfold kernelRun0_B
  dsimp only
  sl_unfold_words
  refine ⟨fun f => ?_, fun f => ?_, fun f => ?_, fun f => ?_, fun f => ?_, fun f => ?_, fun f => ?_, fun f => ?_, fun f => ?_⟩
  refine (View.read_writes_eq_canon (Val := Elt F) _ _ _ (fun y => View.cover_of_tiledL (Val := Elt F) (s := S512x1024) _ S512x1024.size (by sl_kernel_rfl) y)).trans ?_
  rw [View.canon_unit_zero (S := S512x1024) hz]
  rotate_left
  refine (View.read_writes_eq_canon (Val := Elt F) _ _ _ (fun y => View.cover_of_tiledL (Val := Elt F) (s := S512x1024) _ S512x1024.size (by sl_kernel_rfl) y)).trans ?_
  rw [View.canon_unit_zero (S := S512x1024) hz]
  rotate_left
  refine (View.read_writes_eq_canon (Val := Elt F) _ _ _ (fun y => View.cover_of_tiledL (Val := Elt F) (s := S512x1024) _ S512x1024.size (by sl_kernel_rfl) y)).trans ?_
  rw [View.canon_unit_zero (S := S512x1024) hz]
  rotate_left
  refine (View.read_writes_eq_canon (Val := Elt F) _ _ _ (fun y => View.cover_of_tiledL (Val := Elt F) (s := S512x512) _ S512x512.size (by sl_kernel_rfl) y)).trans ?_
  rw [View.canon_unit_zero (S := S512x512) hz]
  rotate_left
  refine (View.read_writes_eq_canon (Val := Elt F) _ _ _ (fun y => cover_rest _ _ _ _ _ y)).trans ?_
  rotate_left
  refine (View.read_writes_eq_canon (Val := Elt F) _ _ _ (fun y => View.cover_of_tiledL (Val := Elt F) (s := S1x1024) _ S1x1024.size (by sl_kernel_rfl) y)).trans ?_
  rw [View.canon_unit_zero (S := S1x1024) hz]
  rotate_left
  refine (View.read_writes_eq_canon (Val := Elt F) _ _ _ (fun y => View.cover_of_tiledL (Val := Elt F) (s := S1x2048) _ S1x1024.size (by sl_kernel_rfl) y)).trans ?_
  rotate_left
  refine (View.read_writes_eq_canon (Val := Elt F) _ _ _ (fun y => View.cover_of_tiledL (Val := Elt F) (s := S3x512) _ S1x512.size (by sl_kernel_rfl) y)).trans ?_
  rotate_left
  refine (View.read_writes_eq_canon (Val := Elt F) _ _ _ (fun y => View.cover_of_tiledL (Val := Elt F) (s := S8x512) _ S8x512.size (by sl_kernel_rfl) y)).trans ?_
  rw [View.canon_unit_zero (S := S8x512) hz]
  rotate_left
  all_goals
    simp only [View.readAt_eq_ld, harg1.read_unread, harg2.read_unread, harg3.read_unread, harg4.read_unread, harg5.read_unread, harg6.read_unread, harg7.read_unread, harg8.read_unread, harg17.read_unread, harg18.read_unread, harg19.read_unread, harg20.read_unread, harg21.read_unread, harg22.read_unread, harg23.read_unread, View.ld_unit_zero (S := S512x1024) hz, View.ld_unit_zero (S := S512x512) hz, View.ld_unit_zero (S := S512x1536) hz, View.ld_unit_zero (S := S16x1536) hz, View.ld_unit_zero (S := S3x512) hz, View.ld_unit_zero (S := S1x1024) hz, View.ld_unit_zero (S := S8x512) hz, View.ld_unit_zero (S := S1024x1024) hz]
    dsimp only [In.dmixed, In.dmi, In.ga, In.gc, In.cm, In.cmPrev, In.cm1, In.pos, In.cm2, In.cv, In.dpa, In.dpc, In.dattn, In.dconvout, In.dout, In.dci, In.dcv, In.r0, In.r1, In.r2, In.r3, In.r4, In.drest, In.dg, In.db, In.dbL, In.dw, In.dwL, In.halo]
    try rfl

end Cert.MixIdeal.Block
-- ==== Proof.MixFrame.lean ====
module

public import proofs.«01_k».proof.Proof.MixRun
public import Idealize.ShloMosaic.Lib.Claim

@[expose] public section

set_option maxRecDepth 16384

noncomputable section

/-! The launch of the mix's backward call: sixteen grid points over blocks of 512 rows, the last rows first. The gradients of
    the gain, the bias and the taps are kept from point to point, the weights from the first, and each point hands eight rows
    of the convolution's gradient to the next (`ptAt`). `frame` is the claim that the program ends, with its arguments
    unchanged and every counter at zero. -/

namespace Cert.MixIdeal.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixIdeal Cert.MixIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A grid point: what its body works on, and what the accumulating windows held before. -/
structure Pt (F : FTy → Type) where
  b : In F
  a13 : Vec F S1x1024 .f32
  a14 : Vec F S1x2048 .f32
  a15 : Vec F S3x512 .f32

namespace Pt
variable (p : Pt F)
/-- What it leaves in the three accumulating windows. -/
def dg : Vec F S1x1024 .f32 := p.b.dg p.a13
def db : Vec F S1x2048 .f32 := p.b.db p.a14
def dw : Vec F S3x512 .f32 := p.b.dw p.a15
end Pt

/-- The first grid point. -/
def ptFirst (c : Dev nD) (t : Fin cfg0.N) : Pt F :=
  ⟨⟨BitVec.ofNat 32 (grid0.coords t 0).val, iblk m c 0 t, iblk m c 1 t, iblk m c 2 t, iblk m c 3 t, iblk m c 4 t, iblk m c 5 t, iblk m c 6 t, iblk m c 7 t,
    View.read (Elt F) (Memref.whole main_v68).view (V m c main_v68), View.read (Elt F) (Memref.whole main_v70).view (V m c main_v70),
    View.read (Elt F) (Memref.whole main_v72).view (V m c main_v72), k0_pay8⟩, k0_pay5, k0_pay6, k0_pay7⟩

/-- A grid point after the point `p`. -/
def ptNext (c : Dev nD) (t : Fin cfg0.N) (p : Pt F) : Pt F :=
  ⟨⟨BitVec.ofNat 32 (grid0.coords t 0).val, iblk m c 0 t, iblk m c 1 t, iblk m c 2 t, iblk m c 3 t, iblk m c 4 t, iblk m c 5 t, iblk m c 6 t, iblk m c 7 t,
    p.b.wa, p.b.wcn, p.b.wo, p.b.halo⟩, p.dg, p.db, p.dw⟩

/-- Grid point `n`. -/
def ptAt (c : Dev nD) : (n : ℕ) → n < cfg0.N → Pt F
  | 0, h => ptFirst m c ⟨0, h⟩
  | n + 1, h => ptNext m c ⟨n + 1, h⟩ (ptAt c n (Nat.lt_of_succ_lt h))

theorem ptAt_A (c : Dev nD) (t : Fin cfg0.N) (h0 : t.val % 16 = 0) : ptAt m c t.val t.isLt = ptFirst m c t := by
  obtain ⟨n, hn⟩ := t
  cases n with
  | zero => rfl
  | succ n => exfalso; have hN : n + 1 < 16 := lt_of_lt_of_eq hn (show cfg0.N = 16 from N_0); dsimp only at h0; omega

theorem ptAt_B (c : Dev nD) (t : Fin cfg0.N) (h0 : ¬t.val % 16 = 0) :
    ptAt m c t.val t.isLt = ptNext m c t (ptAt m c (t.val - 1) (Nat.lt_of_le_of_lt (Nat.sub_le _ _) t.isLt)) := by
  obtain ⟨n, hn⟩ := t
  cases n with
  | zero => exact absurd (Nat.zero_mod _) h0
  | succ n => rfl

/-- What is held between points. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((ptAt m c n hn).b.wa) ∗ owns (c : Thread nD τ) scM0_1 fullShare ((ptAt m c n hn).b.wcn) ∗ owns (c : Thread nD τ) scM0_2 fullShare ((ptAt m c n hn).b.wo) ∗ owns (c : Thread nD τ) scM0_3 fullShare ((ptAt m c n hn).b.halo)) ∗ (∃ r, prngReg c r) ∗ iprop(semVal ((c : Thread nD τ), SemLoc.dma 27) 0 ∗ semVal ((c : Thread nD τ), SemLoc.dma 28) 0 ∗ semVal ((c : Thread nD τ), SemLoc.dma 29) 0) ∗ iprop(hbPt0 c hbM0_0 (V m c main_v68) ∗ hbPt0 c hbM0_1 (V m c main_v70) ∗ hbPt0 c hbM0_2 (V m c main_v72)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((ptAt m c n hn).b.wa) ∗ owns (c : Thread nD τ) scM0_1 fullShare ((ptAt m c n hn).b.wcn) ∗ owns (c : Thread nD τ) scM0_2 fullShare ((ptAt m c n hn).b.wo) ∗ owns (c : Thread nD τ) scM0_3 fullShare ((ptAt m c n hn).b.halo)) ∗ (∃ r, prngReg c r) ∗ iprop(semVal ((c : Thread nD τ), SemLoc.dma 27) 0 ∗ semVal ((c : Thread nD τ), SemLoc.dma 28) 0 ∗ semVal ((c : Thread nD τ), SemLoc.dma 29) 0) ∗ iprop(hbPt0 c hbM0_0 (V m c main_v68) ∗ hbPt0 c hbM0_1 (V m c main_v70) ∗ hbPt0 c hbM0_2 (V m c main_v72))) := rfl

theorem PhiS_pos (c : Dev nD) (n : ℕ) (h : n ≤ cfg0.N) (hz : n ≠ 0) :
    PhiS m c n h = iprop(iprop(owns (c : Thread nD τ) scM0_0 fullShare ((ptAt m c (n - 1) (by omega)).b.wa) ∗ owns (c : Thread nD τ) scM0_1 fullShare ((ptAt m c (n - 1) (by omega)).b.wcn) ∗ owns (c : Thread nD τ) scM0_2 fullShare ((ptAt m c (n - 1) (by omega)).b.wo) ∗ owns (c : Thread nD τ) scM0_3 fullShare ((ptAt m c (n - 1) (by omega)).b.halo)) ∗ (∃ r, prngReg c r) ∗ iprop(semVal ((c : Thread nD τ), SemLoc.dma 27) 0 ∗ semVal ((c : Thread nD τ), SemLoc.dma 28) 0 ∗ semVal ((c : Thread nD τ), SemLoc.dma 29) 0) ∗ iprop(hbPt0 c hbM0_0 (V m c main_v68) ∗ hbPt0 c hbM0_1 (V m c main_v70) ∗ hbPt0 c hbM0_2 (V m c main_v72))) := by
  cases n with
  | zero => exact absurd rfl hz
  | succ n => rfl

/-- The proof data: inputs stay, the outputs' blocks are the point's. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (ptAt m c t.val t.isLt).b.dmixed
    | ⟨9, _⟩ => (ptAt m c t.val t.isLt).b.dattn
    | ⟨10, _⟩ => (ptAt m c t.val t.isLt).b.dconvout
    | ⟨11, _⟩ => (ptAt m c t.val t.isLt).b.dout
    | ⟨12, _⟩ => (ptAt m c t.val t.isLt).b.drest
    | ⟨13, _⟩ => (ptAt m c t.val t.isLt).dg
    | ⟨14, _⟩ => (ptAt m c t.val t.isLt).db
    | ⟨15, _⟩ => (ptAt m c t.val t.isLt).dw
    | ⟨_ + 16, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (ptAt m c t.val t.isLt).b.dmixed := by dsimp only [dats]
theorem after0_9 (c : Dev nD) (t : Fin cfg0.N) : (dats m 0 c).after 9 t = (ptAt m c t.val t.isLt).b.dattn := by dsimp only [dats]
theorem after0_10 (c : Dev nD) (t : Fin cfg0.N) : (dats m 0 c).after 10 t = (ptAt m c t.val t.isLt).b.dconvout := by dsimp only [dats]
theorem after0_11 (c : Dev nD) (t : Fin cfg0.N) : (dats m 0 c).after 11 t = (ptAt m c t.val t.isLt).b.dout := by dsimp only [dats]
theorem after0_12 (c : Dev nD) (t : Fin cfg0.N) : (dats m 0 c).after 12 t = (ptAt m c t.val t.isLt).b.drest := by dsimp only [dats]
theorem after0_13 (c : Dev nD) (t : Fin cfg0.N) : (dats m 0 c).after 13 t = (ptAt m c t.val t.isLt).dg := by dsimp only [dats]
theorem after0_14 (c : Dev nD) (t : Fin cfg0.N) : (dats m 0 c).after 14 t = (ptAt m c t.val t.isLt).db := by dsimp only [dats]
theorem after0_15 (c : Dev nD) (t : Fin cfg0.N) : (dats m 0 c).after 15 t = (ptAt m c t.val t.isLt).dw := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_13_B (c : Dev nD) (t : Fin cfg0.N) (h0 : ¬t.val % 16 = 0) (h1 : ¬t.val % 16 = 0) (d) :
    (dats m 0 c).before 13 t d = (ptAt m c (t.val - 1) (Nat.lt_of_le_of_lt (Nat.sub_le _ _) t.isLt)).dg := by
  have hN : t.val < 16 := lt_of_lt_of_eq t.isLt (show cfg0.N = 16 from N_0)
  rw [Dat.before_out_kept _ 13 rfl t (by omega) (Bool.eq_false_iff.mpr fun h => by have := (flush0_13 _).mp h; dsimp only at this; omega)
    (fun _ => rfl) (fun _ _ => rfl)]
  dsimp only [dats]
theorem before0_14_B (c : Dev nD) (t : Fin cfg0.N) (h0 : ¬t.val % 16 = 0) (h1 : ¬t.val % 16 = 0) (d) :
    (dats m 0 c).before 14 t d = (ptAt m c (t.val - 1) (Nat.lt_of_le_of_lt (Nat.sub_le _ _) t.isLt)).db := by
  have hN : t.val < 16 := lt_of_lt_of_eq t.isLt (show cfg0.N = 16 from N_0)
  rw [Dat.before_out_kept _ 14 rfl t (by omega) (Bool.eq_false_iff.mpr fun h => by have := (flush0_14 _).mp h; dsimp only at this; omega)
    (fun _ => rfl) (fun _ _ => rfl)]
  dsimp only [dats]
theorem before0_15_B (c : Dev nD) (t : Fin cfg0.N) (h0 : ¬t.val % 16 = 0) (h1 : ¬t.val % 16 = 0) (d) :
    (dats m 0 c).before 15 t d = (ptAt m c (t.val - 1) (Nat.lt_of_le_of_lt (Nat.sub_le _ _) t.isLt)).dw := by
  have hN : t.val < 16 := lt_of_lt_of_eq t.isLt (show cfg0.N = 16 from N_0)
  rw [Dat.before_out_kept _ 15 rfl t (by omega) (Bool.eq_false_iff.mpr fun h => by have := (flush0_15 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 16000000 in
/-- The body at a grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14, after0_15]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases h1 : t.val % 16 = 0
    · by_cases hz : t.val = 0
      · rw [PhiS_castSucc m c t, PhiS_zero m c _ _ hz, PhiD0_eq]
        rw [ptAt_A m c t h0]
        try dsimp only
        iintro ⟨⟨⟨HS0, HS1, HS2, HS3⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_A c (grid0.coords t) _ _ _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (V m c main_v68) (V m c main_v70) (V m c main_v72)).2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [HS0]; · iexact HS0
        isplitl [HS1]; · iexact HS1
        isplitl [HS2]; · iexact HS2
        isplitl [HS3]; · iexact HS3
        isplitl [Hq0]; · iexact Hq0
        isplitl [Hq1]; · iexact Hq1
        isplitl [Hq2]; · iexact Hq2
        isplitl [Hh0]; · iexact Hh0
        isplitl [Hh1]; · iexact Hh1
        isplitl [Hh2]; · iexact Hh2
        isplitl [HW]; · iexact HW
        iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩, ⟨%es0, HS0⟩, ⟨%es1, HS1⟩, ⟨%es2, HS2⟩, ⟨%es3, HS3⟩, Hq0, Hq1, Hq2, Hh0, Hh1, Hh2, ⟨%W', HW'⟩⟩
        isplitl [HS0 HS1 HS2 HS3 Hg Hq0 Hq1 Hq2 Hh0 Hh1 Hh2]
        · isplitl [HS0 HS1 HS2 HS3]
          · isplitl [HS0]
            · unfold owns; iexists _; isplitr
              swap; · iexact HS0
              ipureintro; exact (run_A ..).2.1 _
            isplitl [HS1]
            · unfold owns; iexists _; isplitr
              swap; · iexact HS1
              ipureintro; exact (run_A ..).2.2.1 _
            isplitl [HS2]
            · unfold owns; iexists _; isplitr
              swap; · iexact HS2
              ipureintro; exact (run_A ..).2.2.2 _
            unfold owns; iexists _; isplitr
            swap; · iexact HS3
            ipureintro; exact (run_A ..).1.halo _
          isplitl [Hg]
          · iexact Hg
          isplitl [Hq0 Hq1 Hq2]
          · isplitl [Hq0]; · iexact Hq0
            isplitl [Hq1]; · iexact Hq1
            iexact Hq2
          isplitl [Hh0]; · iexact Hh0
          isplitl [Hh1]; · iexact Hh1
          iexact Hh2
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact (run_A ..).1.dmixed _
        isplitl [H9]
        · unfold owns; iexists _; isplitr
          swap; · iexact H9
          ipureintro; exact (run_A ..).1.dattn _
        isplitl [H10]
        · unfold owns; iexists _; isplitr
          swap; · iexact H10
          ipureintro; exact (run_A ..).1.dconvout _
        isplitl [H11]
        · unfold owns; iexists _; isplitr
          swap; · iexact H11
          ipureintro; exact (run_A ..).1.dout _
        isplitl [H12]
        · unfold owns; iexists _; isplitr
          swap; · iexact H12
          ipureintro; exact (run_A ..).1.drest _
        isplitl [H13]
        · unfold owns; iexists _; isplitr
          swap; · iexact H13
          ipureintro; exact (run_A ..).1.dg _
        isplitl [H14]
        · unfold owns; iexists _; isplitr
          swap; · iexact H14
          ipureintro; exact (run_A ..).1.db _
        unfold owns; iexists _; isplitr
        swap; · iexact H15
        ipureintro; exact (run_A ..).1.dw _
      · exfalso; have hN : t.val < 16 := lt_of_lt_of_eq t.isLt (show cfg0.N = 16 from N_0); omega
    · exfalso; omega
  · by_cases h1 : t.val % 16 = 0
    · exfalso; omega
    · by_cases hz : t.val = 0
      · exfalso; have hN : t.val < 16 := lt_of_lt_of_eq t.isLt (show cfg0.N = 16 from N_0); omega
      · rw [PhiS_castSucc m c t, PhiS_pos m c _ _ hz]
        rw [ptAt_B m c t h0]
        simp only [before0_13_B m c t h0 h1, before0_14_B m c t h0 h1, before0_15_B m c t h0 h1]
        try dsimp only
        iintro ⟨⟨⟨HS0, HS1, HS2, HS3⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _ _ _ _ _ _ (V m c main_v68) (V m c main_v70) (V m c main_v72)).2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexact H13
        isplitl [H14]; · iexact H14
        isplitl [H15]; · iexact H15
        isplitl [HS0]; · iexact HS0
        isplitl [HS1]; · iexact HS1
        isplitl [HS2]; · iexact HS2
        isplitl [HS3]; · iexact HS3
        isplitl [Hq0]; · iexact Hq0
        isplitl [Hq1]; · iexact Hq1
        isplitl [Hq2]; · iexact Hq2
        isplitl [Hh0]; · iexact Hh0
        isplitl [Hh1]; · iexact Hh1
        isplitl [Hh2]; · iexact Hh2
        isplitl [HW]; · iexact HW
        iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩, HS0, HS1, HS2, ⟨%es3, HS3⟩, Hq0, Hq1, Hq2, Hh0, Hh1, Hh2, ⟨%W', HW'⟩⟩
        isplitl [HS0 HS1 HS2 HS3 Hg Hq0 Hq1 Hq2 Hh0 Hh1 Hh2]
        · isplitl [HS0 HS1 HS2 HS3]
          · isplitl [HS0]; · iexact HS0
            isplitl [HS1]; · iexact HS1
            isplitl [HS2]; · iexact HS2
            unfold owns; iexists _; isplitr
            swap; · iexact HS3
            ipureintro; exact (run_B ..).halo _
          isplitl [Hg]
          · iexact Hg
          isplitl [Hq0 Hq1 Hq2]
          · isplitl [Hq0]; · iexact Hq0
            isplitl [Hq1]; · iexact Hq1
            iexact Hq2
          isplitl [Hh0]; · iexact Hh0
          isplitl [Hh1]; · iexact Hh1
          iexact Hh2
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact (run_B ..).dmixed _
        isplitl [H9]
        · unfold owns; iexists _; isplitr
          swap; · iexact H9
          ipureintro; exact (run_B ..).dattn _
        isplitl [H10]
        · unfold owns; iexists _; isplitr
          swap; · iexact H10
          ipureintro; exact (run_B ..).dconvout _
        isplitl [H11]
        · unfold owns; iexists _; isplitr
          swap; · iexact H11
          ipureintro; exact (run_B ..).dout _
        isplitl [H12]
        · unfold owns; iexists _; isplitr
          swap; · iexact H12
          ipureintro; exact (run_B ..).drest _
        isplitl [H13]
        · unfold owns; iexists _; isplitr
          swap; · iexact H13
          ipureintro; exact (run_B ..).dg _
        isplitl [H14]
        · unfold owns; iexists _; isplitr
          swap; · iexact H14
          ipureintro; exact (run_B ..).db _
        unfold owns; iexists _; isplitr
        swap; · iexact H15
        ipureintro; exact (run_B ..).dw _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3⟩, Hg, ⟨Hq0, Hq1, Hq2⟩, ⟨Hh0, Hh1, Hh2⟩⟩
  isplitl [HS0 HS1 HS2 HS3]
  · isplitl [HS0]
    · iexists _; iexact HS0
    isplitl [HS1]
    · iexists _; iexact HS1
    isplitl [HS2]
    · iexists _; iexact HS2
    iexists _; iexact HS3
  isplitl [Hg]; · iexact Hg
  isplitl [Hq0 Hq1 Hq2]
  · isplitl [Hq0]; · iexact Hq0
    isplitl [Hq1]; · iexact Hq1
    iexact Hq2
  isplitl [Hh0]; · iexact Hh0
  isplitl [Hh1]; · iexact Hh1
  iexact Hh2

theorem hout (c : Dev nD) : (dats m 0 c).Φ (Fin.last cfg0.N) ⊢ Pipeline.ΦD osem0 spec0 H0 (V m) c :=
  Phi_out m c _ (by rw [Fin.val_last]; have : cfg0.N = 16 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.MixIdeal.Block
-- ==== Proof.MixRow.lean ====
module

public import proofs.«01_k».proof.Proof.RowNorm

@[expose] public section

noncomputable section

/-! The mix of the attention and convolution branches and its gradient over 8192 rows, as pure arithmetic: no program here. -/

namespace Cert.MixRow

open Idealize.ShloMosaic Cert.RowNorm

/-- A column moved `n` rows down, and `n` rows up; what comes in is zero. -/
def down (n : ℕ) (f : Fin 8192 → EReal) (i : Fin 8192) : EReal := if n ≤ i.val then f ⟨i.val - n, by omega⟩ else 0
def up (n : ℕ) (f : Fin 8192 → EReal) (i : Fin 8192) : EReal := if h : i.val + n < 8192 then f ⟨i.val + n, h⟩ else 0

/-- The rows, the gates, and what they are multiplied by. -/
structure Rows where
  dx : Fin 8192 → Fin 1024 → EReal
  o : Fin 8192 → Fin 512 → EReal
  conv : Fin 8192 → Fin 1536 → EReal
  gate : Fin 8192 → Fin 2048 → EReal
  wc : Fin 3 → Fin 512 → EReal
  g : Fin 1024 → EReal
  wa : Fin 512 → Fin 1024 → EReal
  wcn : Fin 512 → Fin 1024 → EReal
  wo : Fin 1024 → Fin 1024 → EReal

namespace Rows
variable (r : Rows)

/-- The two gates. -/
def ga (i : Fin 8192) (k : Fin 1024) : EReal := r.gate i ⟨k.val, by omega⟩
def gc (i : Fin 8192) (k : Fin 1024) : EReal := r.gate i ⟨1024 + k.val, by omega⟩
/-- The three parts of the convolution's input. -/
def cb (i : Fin 8192) (c : Fin 512) : EReal := r.conv i ⟨c.val, by omega⟩
def cc (i : Fin 8192) (c : Fin 512) : EReal := r.conv i ⟨512 + c.val, by omega⟩
def cu (i : Fin 8192) (c : Fin 512) : EReal := r.conv i ⟨1024 + c.val, by omega⟩
def cm (i : Fin 8192) (c : Fin 512) : EReal := r.cc i c * r.cu i c
def cm1 (i : Fin 8192) (c : Fin 512) : EReal := down 1 (fun i => r.cm i c) i
def cm2 (i : Fin 8192) (c : Fin 512) : EReal := down 2 (fun i => r.cm i c) i
/-- The convolution. -/
def cv (i : Fin 8192) (c : Fin 512) : EReal := r.wc 2 c * r.cm i c + r.wc 1 c * r.cm1 i c + r.wc 0 c * r.cm2 i c
/-- The branches. -/
def ya (i : Fin 8192) (k : Fin 1024) : EReal := ∑ c, r.o i c * r.wa c k
def yc (i : Fin 8192) (k : Fin 1024) : EReal := ∑ c, (r.cb i c * r.cv i c) * r.wcn c k
def mixed (i : Fin 8192) (j : Fin 1024) : EReal := ∑ k, (r.ga i k * r.ya i k + r.gc i k * r.yc i k) * r.wo k j
/-- The gradients. -/
def dmixed (i : Fin 8192) (j : Fin 1024) : EReal := grad (r.mixed i) (fun k => r.dx i k * r.g k) j
def dmi (i : Fin 8192) (k : Fin 1024) : EReal := ∑ j, r.dmixed i j * r.wo k j
def dpa (i : Fin 8192) (k : Fin 1024) : EReal := r.dmi i k * r.ya i k * r.ga i k * (1 - r.ga i k)
def dpc (i : Fin 8192) (k : Fin 1024) : EReal := r.dmi i k * r.yc i k * r.gc i k * (1 - r.gc i k)
def dattn (i : Fin 8192) (k : Fin 1024) : EReal := r.dmi i k * r.ga i k
def dconvout (i : Fin 8192) (k : Fin 1024) : EReal := r.dmi i k * r.gc i k
def dout (i : Fin 8192) (c : Fin 512) : EReal := ∑ k, r.dattn i k * r.wa c k
def dci (i : Fin 8192) (c : Fin 512) : EReal := ∑ k, r.dconvout i k * r.wcn c k
def dcv (i : Fin 8192) (c : Fin 512) : EReal := r.dci i c * r.cb i c
def dcm (i : Fin 8192) (c : Fin 512) : EReal :=
  r.wc 2 c * r.dcv i c + r.wc 1 c * up 1 (fun i => r.dcv i c) i + r.wc 0 c * up 2 (fun i => r.dcv i c) i
/-- The five column ranges of the gradient of the projection's rest. -/
def drest (i : Fin 8192) (q : Fin 3584) : EReal :=
  if h : q.val < 512 then r.dci i ⟨q.val, h⟩ * r.cv i ⟨q.val, h⟩
  else if h : q.val < 1024 then r.dcm i ⟨q.val - 512, by omega⟩ * r.cu i ⟨q.val - 512, by omega⟩
  else if h : q.val < 1536 then r.dcm i ⟨q.val - 1024, by omega⟩ * r.cc i ⟨q.val - 1024, by omega⟩
  else if h : q.val < 2560 then r.dpa i ⟨q.val - 1536, by omega⟩
  else r.dpc i ⟨q.val - 2560, by omega⟩
/-- A row's part of the gain's, the bias's and the taps' gradients. -/
def dg (i : Fin 8192) (j : Fin 1024) : EReal := r.dx i j * (r.mixed i j * scale (r.mixed i))
def db (i : Fin 8192) (q : Fin 2048) : EReal :=
  if h : q.val < 1024 then r.dpa i ⟨q.val, h⟩ else r.dpc i ⟨q.val - 1024, by omega⟩
def dw (i : Fin 8192) (p : Fin 3) (c : Fin 512) : EReal := r.dcv i c * down (2 - p.val) (fun i => r.cm i c) i

end Rows
end Cert.MixRow
-- ==== Proof.MixRead.lean ====
module

public import proofs.«01_k».proof.Proof.MixBlock
public import proofs.«01_k».proof.Proof.MixRow
public import Idealize.ShloMosaic.Lib.Pointwise
public import Idealize.ShloMosaic.Lib.Pipeline.ValueKit.Tiles

@[expose] public section

set_option maxRecDepth 16384

noncomputable section

/-! What a grid point of the mix's backward call writes, row by row, when it works on block `k` of the rows of `r`. -/

namespace Cert.MixIdeal.Block

open Cert.MixIdeal Cert.MixIdeal.Gen Idealize.ShloMosaic Idealize.ShloMosaic.TcCoe Idealize.SL.Sem
open Cert.MixRow Cert.RowNorm

/-- Row `a` of block `k`. -/
def rowK (k : Fin 16) (a : Fin 512) : Fin 8192 := ⟨k.val * 512 + a.val, by omega⟩

/-- The point `b` works on block `k` of the rows. -/
structure On (b : In Ideal) (r : Rows) (k : Fin 16) : Prop where
  first : b.t = BitVec.ofNat 32 (15 - k.val)
  dx (a : Fin 512) (j : Fin 1024) : b.dx (ix2 a j) = r.dx (rowK k a) j
  mixed (a : Fin 512) (j : Fin 1024) : b.mixed (ix2 a j) = r.mixed (rowK k a) j
  o (a : Fin 512) (j : Fin 512) : b.o (ix2 a j) = r.o (rowK k a) j
  conv (a : Fin 512) (j : Fin 1536) : b.conv (ix2 a j) = r.conv (rowK k a) j
  prev (a : Fin 16) (j : Fin 1536) (h : 16 ≤ k.val * 512 + a.val) : b.prev (ix2 a j) = r.conv ⟨k.val * 512 + a.val - 16, by omega⟩ j
  gate (a : Fin 512) (j : Fin 2048) : b.gate (ix2 a j) = r.gate (rowK k a) j
  wc (p : Fin 3) (j : Fin 512) : b.wc (ix2 p j) = r.wc p j
  g (j : Fin 1024) : b.g (ix2 0 j) = r.g j
  wa (i : Fin 512) (j : Fin 1024) : b.wa (ix2 i j) = r.wa i j
  wcn (i : Fin 512) (j : Fin 1024) : b.wcn (ix2 i j) = r.wcn i j
  wo (i : Fin 1024) (j : Fin 1024) : b.wo (ix2 i j) = r.wo i j
  nxt (a : Fin 8) (j : Fin 512) : b.nxt (ix2 a j) = if h : k.val * 512 + 512 + a.val < 8192 then r.dcv ⟨k.val * 512 + 512 + a.val, h⟩ j else 0

theorem sel (a : Fin 512) (n : ℕ) (hn : n < 512) (x y : EReal) :
    Scalar.select (IntOp.cmpi CmpIPredicate.eq (BitVec.ofNat 32 a.val) (BitVec.ofNat 32 n)) x y = if a.val = n then x else y := by
  have e : (BitVec.ofNat 32 a.val == BitVec.ofNat 32 n) = decide (a.val = n) := by
    rw [Bool.eq_iff_iff, beq_iff_eq, decide_eq_true_eq, ← BitVec.toNat_inj, BitVec.toNat_ofNat, BitVec.toNat_ofNat,
      Nat.mod_eq_of_lt (by omega), Nat.mod_eq_of_lt (by omega)]
  show Scalar.select (BitVec.ofBool (BitVec.ofNat 32 a.val == BitVec.ofNat 32 n)) x y = _
  rw [e, Scalar.select_decide]

theorem sel0 (a : Fin 512) (x y : EReal) : Scalar.select (IntOp.cmpi CmpIPredicate.eq (BitVec.ofNat 32 a.val) 0#32) x y = if a.val = 0 then x else y :=
  sel a 0 (by omega) x y
theorem sel1 (a : Fin 512) (x y : EReal) : Scalar.select (IntOp.cmpi CmpIPredicate.eq (BitVec.ofNat 32 a.val) 1#32) x y = if a.val = 1 then x else y :=
  sel a 1 (by omega) x y
theorem sel510 (a : Fin 512) (x y : EReal) : Scalar.select (IntOp.cmpi CmpIPredicate.eq (BitVec.ofNat 32 a.val) 510#32) x y = if a.val = 510 then x else y :=
  sel a 510 (by omega) x y
theorem sel511 (a : Fin 512) (x y : EReal) : Scalar.select (IntOp.cmpi CmpIPredicate.eq (BitVec.ofNat 32 a.val) 511#32) x y = if a.val = 511 then x else y :=
  sel a 511 (by omega) x y

theorem one_lit : Ideal.ofBits .f32 0x3F800000#32 = 1 := by
  have h : Ideal.ofBits .f32 0x3F800000#32 = ((1 : ℝ) : EReal) := by simp [Ideal.ofBits, Ideal.ieee, -EReal.coe_mul]; norm_num
  rw [h]; rfl

/-- A piece of columns from `o` on agrees with a row. -/
theorem cols {R n N o : ℕ} {e : EltTy} (i : Fin R) (c : Fin N) (w : Vec Ideal ⟨2, ![R, n]⟩ e) (g : Fin N → Elt Ideal e)
    (hw : ∀ (d : Fin n) (hd : o + d.val < N), w (ix2 i d) = g ⟨o + d.val, hd⟩) :
    View.TileAt (Val := Elt Ideal) (S := ⟨2, ![R, N]⟩) (e := e) (ix2 i c) ![0, o] (⟨2, ![R, n]⟩ : Shape).size w (g c) := by
  intro x hx
  have hx0 : i.val = 0 + (x 0).val := hx 0
  have hx1 : c.val = o + (x 1).val := hx 1
  have e : x = (ix2 i (x 1) : (⟨2, ![R, n]⟩ : Shape).Idx) := by
    funext a
    match a with
    | ⟨0, _⟩ => exact Fin.ext (by show (x 0).val = i.val; omega)
    | ⟨1, _⟩ => rfl
  rw [e]
  exact (hw (x 1) (by rw [← hx1]; exact c.isLt)).trans (congrArg g (Fin.ext hx1.symm))
/-- A piece of one row agrees with a column. -/
theorem line {n o : ℕ} (p : Fin 3) (c : Fin n) (w : Vec Ideal ⟨2, ![1, n]⟩ .f32) (z : EReal)
    (hw : p.val = o → w (ix2 0 c) = z) :
    View.TileAt (Val := Elt Ideal) (S := ⟨2, ![3, n]⟩) (e := .f32) (ix2 p c) ![o, 0] (⟨2, ![1, n]⟩ : Shape).size w z := by
  intro x hx
  have hx0 : p.val = o + (x 0).val := hx 0
  have hx1 : c.val = 0 + (x 1).val := hx 1
  have h1 : (x 0).val < 1 := (x 0).isLt
  have e : x = (ix2 0 c : (⟨2, ![1, n]⟩ : Shape).Idx) := by
    funext a
    match a with
    | ⟨0, _⟩ => exact Fin.ext (by show (x 0).val = 0; omega)
    | ⟨1, _⟩ => exact Fin.ext (by show (x 1).val = c.val; omega)
  rw [e]
  exact hw (by omega)

namespace On
variable {b : In Ideal} {r : Rows} {k : Fin 16} (h : On b r k) (a : Fin 512)
include h

theorem dmixed_apply (j : Fin 1024) : b.dmixed (ix2 a j) = r.dmixed (rowK k a) j := by
  pointwise [In.dmixed, k0_pay15, k0_pay10, k0_pay9, k0_pay13, k0_pay14, k0_pay11]
  simp only [h.mixed, h.dx, h.g]
  rfl

theorem dmi_apply (j : Fin 1024) : b.dmi (ix2 a j) = r.dmi (rowK k a) j := by
  have e : b.dmi = k0_pay16 (k0_pay10 b.mixed) (k0_pay13 b.dx b.g) (k0_pay14 b.mixed b.dx b.g) b.wo := rfl
  rw [e]
  pointwise [k0_pay16]
  have e' (j : Fin 1024) : k0_pay15 (k0_pay10 b.mixed) (k0_pay13 b.dx b.g) (k0_pay14 b.mixed b.dx b.g) (ix2 a j) = r.dmixed (rowK k a) j :=
    h.dmixed_apply a j
  simp only [e', h.wo]
  rfl

theorem ga_apply (j : Fin 1024) : b.ga (ix2 a j) = r.ga (rowK k a) j := by
  refine Eq.trans ?_ (h.gate a ⟨j.val, by omega⟩)
  exact View.ld_unit_apply_of _ _ _ _ _ _ fun x => by match x with | ⟨0, _⟩ => exact (Nat.zero_add _).symm | ⟨1, _⟩ => exact (Nat.zero_add _).symm
theorem gc_apply (j : Fin 1024) : b.gc (ix2 a j) = r.gc (rowK k a) j := by
  refine Eq.trans ?_ (h.gate a ⟨1024 + j.val, by omega⟩)
  exact View.ld_unit_apply_of _ _ _ _ _ _ fun x => by match x with | ⟨0, _⟩ => exact (Nat.zero_add _).symm | ⟨1, _⟩ => rfl

theorem cb_apply (c : Fin 512) : k0_pay20 b.conv (ix2 a c) = r.cb (rowK k a) c := by
  pointwise [k0_pay20, k0_pay18]
  simp only [h.conv]
  rfl
theorem cm_apply (c : Fin 512) : b.cm (ix2 a c) = r.cm (rowK k a) c := by
  pointwise [In.cm, k0_pay21, k0_pay18]
  simp only [h.conv]
  rfl
theorem cmPrev_apply (a : Fin 16) (c : Fin 512) :
    b.cmPrev (ix2 a c) = if p : 16 ≤ k.val * 512 + a.val then r.cm ⟨k.val * 512 + a.val - 16, by omega⟩ c else 0 := by
  pointwise [In.cmPrev, k0_pay22]
  by_cases k0 : k.val = 0
  · rw [dif_neg (by omega), h.first, k0]
    rfl
  · have hk := k.isLt
    have e : Scalar.cmpi CmpIPredicate.eq b.t 15#32 = 0#1 := by
      show BitVec.ofBool (b.t == 15#32) = _
      rw [h.first]
      have : (BitVec.ofNat 32 (15 - k.val) == 15#32) = false := by
        rw [beq_eq_false_iff_ne]
        intro e
        have := congrArg BitVec.toNat e
        rw [BitVec.toNat_ofNat, Nat.mod_eq_of_lt (by omega)] at this
        have e15 : (15#32).toNat = 15 := rfl
        omega
      rw [this]; rfl
    rw [e, dif_pos (by omega), h.prev a _ (by omega), h.prev a _ (by omega)]
    rfl
theorem cm1_apply (c : Fin 512) : b.cm1 (ix2 a c) = r.cm1 (rowK k a) c := by
  show k0_pay23 b.t b.conv b.prev _ = _
  pointwise [k0_pay23]
  have e1 := h.cmPrev_apply 15 c
  have e2 := fun a => h.cm_apply a c
  unfold In.cmPrev at e1
  unfold In.cm at e2
  rw [e1, e2, sel0]
  unfold Rows.cm1 down rowK
  dsimp only
  have h15 : (15 : Fin 16).val = 15 := rfl
  split
  · next e =>
    split
    · next q => rw [if_pos (by omega)]; congr 1; apply Fin.ext; dsimp only; omega
    · next q => rw [if_neg (by omega)]
  · next e => rw [if_pos (by omega)]; congr 1; apply Fin.ext; dsimp only; omega
theorem cm2_apply (c : Fin 512) : b.cm2 (ix2 a c) = r.cm2 (rowK k a) c := by
  pointwise [In.cm2, In.pos, k0_pay24]
  rw [h.cmPrev_apply, h.cmPrev_apply, h.cm_apply, sel0, sel1]
  unfold Rows.cm2 down rowK
  dsimp only
  have h15 : (15 : Fin 16).val = 15 := rfl
  have h14 : (14 : Fin 16).val = 14 := rfl
  split
  · next e =>
    split
    · next q => rw [if_pos (by omega)]; congr 1; apply Fin.ext; dsimp only; omega
    · next q => rw [if_neg (by omega)]
  · next e =>
    split
    · next e =>
      split
      · next q => rw [if_pos (by omega)]; congr 1; apply Fin.ext; dsimp only; omega
      · next q => rw [if_neg (by omega)]
    · next e' => rw [if_pos (by omega)]; congr 1; apply Fin.ext; dsimp only; omega
theorem wc_apply (p : Fin 3) (c : Fin 512) : k0_pay17 b.wc (ix2 p c) = r.wc p c := by
  pointwise [k0_pay17]
  exact h.wc p c
theorem cv_apply (c : Fin 512) : b.cv (ix2 a c) = r.cv (rowK k a) c := by
  show k0_pay25 (k0_pay17 b.wc) b.cm b.cmPrev b.cm1 In.pos _ = _
  pointwise [k0_pay25]
  have e : k0_pay24 b.cm b.cmPrev In.pos (ix2 a c) = r.cm2 (rowK k a) c := h.cm2_apply a c
  rw [e, h.wc_apply, h.wc_apply, h.wc_apply, h.cm_apply, h.cm1_apply]
  rfl
theorem dpa_apply (j : Fin 1024) : b.dpa (ix2 a j) = r.dpa (rowK k a) j := by
  show k0_pay28 b.dmi (k0_pay19 b.o) b.wa b.ga _ = _
  pointwise [k0_pay28, k0_pay19, k0_pay26]
  simp only [h.dmi_apply, h.o, h.wa, h.ga_apply]
  try rw [one_lit]
  rfl
theorem dpc_apply (j : Fin 1024) : b.dpc (ix2 a j) = r.dpc (rowK k a) j := by
  show k0_pay29 b.dmi (k0_pay17 b.wc) b.wcn (k0_pay20 b.conv) b.cm b.cmPrev b.cm1 In.pos b.gc _ = _
  pointwise [k0_pay29, k0_pay27]
  have e (c : Fin 512) : k0_pay25 (k0_pay17 b.wc) b.cm b.cmPrev b.cm1 In.pos (ix2 a c) = r.cv (rowK k a) c := h.cv_apply a c
  simp only [h.dmi_apply, h.cb_apply, e, h.wcn, h.gc_apply]
  try rw [one_lit]
  rfl
theorem dattn_apply (j : Fin 1024) : b.dattn (ix2 a j) = r.dattn (rowK k a) j := by
  show k0_pay34 b.dmi (k0_pay26 b.ga) _ = _
  pointwise [k0_pay34, k0_pay26]
  rw [h.dmi_apply, h.ga_apply]
  rfl
theorem dconvout_apply (j : Fin 1024) : b.dconvout (ix2 a j) = r.dconvout (rowK k a) j := by
  show k0_pay36 b.dmi (k0_pay27 b.gc) _ = _
  pointwise [k0_pay36, k0_pay27]
  rw [h.dmi_apply, h.gc_apply]
  rfl
theorem dout_apply (c : Fin 512) : b.dout (ix2 a c) = r.dout (rowK k a) c := by
  show k0_pay35 b.dmi (k0_pay26 b.ga) b.wa _ = _
  pointwise [k0_pay35]
  have e (j : Fin 1024) : k0_pay34 b.dmi (k0_pay26 b.ga) (ix2 a j) = r.dattn (rowK k a) j := h.dattn_apply a j
  simp only [e, h.wa]
  rfl
theorem dci_apply (c : Fin 512) : b.dci (ix2 a c) = r.dci (rowK k a) c := by
  show k0_pay37 b.dmi (k0_pay27 b.gc) b.wcn _ = _
  pointwise [k0_pay37]
  have e (j : Fin 1024) : k0_pay36 b.dmi (k0_pay27 b.gc) (ix2 a j) = r.dconvout (rowK k a) j := h.dconvout_apply a j
  simp only [e, h.wcn]
  rfl
theorem dcv_apply (c : Fin 512) : b.dcv (ix2 a c) = r.dcv (rowK k a) c := by
  show k0_pay39 (k0_pay20 b.conv) b.dci _ = _
  pointwise [k0_pay39]
  rw [h.dci_apply, h.cb_apply]
  rfl
theorem halo_apply (a : Fin 8) (c : Fin 512) : b.halo (ix2 a c) = r.dcv ⟨k.val * 512 + a.val, by omega⟩ c := by
  show k0_pay4 b.dcv _ = _
  pointwise [k0_pay4]
  rw [h.dcv_apply]
  rfl
theorem dcm_apply (c : Fin 512) : k0_pay40 (k0_pay17 b.wc) (k0_pay20 b.conv) b.dci b.nxt (ix2 a c) = r.dcm (rowK k a) c := by
  pointwise [k0_pay40]
  have e (a : Fin 512) : k0_pay39 (k0_pay20 b.conv) b.dci (ix2 a c) = r.dcv (rowK k a) c := h.dcv_apply a c
  rw [sel511, sel511, sel510, h.wc_apply, h.wc_apply, h.wc_apply, e, e, e, h.nxt, h.nxt]
  have h0 : (0 : Fin 8).val = 0 := rfl
  have h1 : (1 : Fin 8).val = 1 := rfl
  have ha := a.isLt
  have hk := k.isLt
  unfold Rows.dcm
  congr 2
  · congr 1
    unfold up rowK
    dsimp only
    split
    · next q =>
      split
      · next q' => rw [dif_pos (by omega)]; congr 1; apply Fin.ext; dsimp only; omega
      · next q' => rw [dif_neg (by omega)]
    · next q => rw [dif_pos (by omega)]; congr 1; apply Fin.ext; dsimp only; omega
  · unfold up rowK
    dsimp only
    split
    · next q =>
      split
      · next q' => rw [dif_pos (by omega)]; congr 1; apply Fin.ext; dsimp only; omega
      · next q' => rw [dif_neg (by omega)]
    · next q =>
      split
      · next q1 =>
        split
        · next q' => rw [dif_pos (by omega)]; congr 1; apply Fin.ext; dsimp only; omega
        · next q' => rw [dif_neg (by omega)]
      · next q1 => rw [dif_pos (by omega)]; congr 1; apply Fin.ext; dsimp only; omega

theorem r0_apply (c : Fin 512) : b.r0 (ix2 a c) = r.dci (rowK k a) c * r.cv (rowK k a) c := by
  show k0_pay38 b.dmi b.cv (k0_pay27 b.gc) b.wcn _ = _
  pointwise [k0_pay38]
  have e : k0_pay37 b.dmi (k0_pay27 b.gc) b.wcn (ix2 a c) = r.dci (rowK k a) c := h.dci_apply a c
  rw [e, h.cv_apply]
theorem r1_apply (c : Fin 512) : b.r1 (ix2 a c) = r.dcm (rowK k a) c * r.cu (rowK k a) c := by
  show k0_pay41 (k0_pay17 b.wc) (k0_pay18 b.conv) (k0_pay20 b.conv) b.dci b.nxt _ = _
  pointwise [k0_pay41, k0_pay18]
  rw [h.dcm_apply, h.conv]
  rfl
theorem r2_apply (c : Fin 512) : b.r2 (ix2 a c) = r.dcm (rowK k a) c * r.cc (rowK k a) c := by
  show k0_pay42 (k0_pay17 b.wc) (k0_pay18 b.conv) (k0_pay20 b.conv) b.dci b.nxt _ = _
  pointwise [k0_pay42, k0_pay18]
  rw [h.dcm_apply, h.conv]
  rfl
theorem r3_apply (j : Fin 1024) : b.r3 (ix2 a j) = r.dpa (rowK k a) j := by
  show k0_pay30 b.dmi (k0_pay19 b.o) b.wa b.ga _ = _
  pointwise [k0_pay30]
  exact h.dpa_apply a j
theorem r4_apply (j : Fin 1024) : b.r4 (ix2 a j) = r.dpc (rowK k a) j := by
  show k0_pay31 b.dpc _ = _
  pointwise [k0_pay31]
  exact h.dpc_apply a j
/-- The rest window. -/
theorem drest_apply (q : Fin 3584) : b.drest (ix2 a q) = r.drest (rowK k a) q := by
  have t2 := cols (N := 3584) (n := 512) (o := 1024) (e := .bf16) a q b.r2 (r.drest (rowK k a)) fun d hd => by
    refine (h.r2_apply a d).trans ?_
    have hd' : d.val < 512 := d.isLt
    unfold Rows.drest
    rw [dif_neg (by dsimp only; omega), dif_neg (by dsimp only; omega), dif_pos (by dsimp only; omega)]
    congr 2 <;> apply Fin.ext <;> dsimp only <;> omega
  have t1 := cols (N := 3584) (n := 512) (o := 512) (e := .bf16) a q b.r1 (r.drest (rowK k a)) fun d hd => by
    refine (h.r1_apply a d).trans ?_
    have hd' : d.val < 512 := d.isLt
    unfold Rows.drest
    rw [dif_neg (by dsimp only; omega), dif_pos (by dsimp only; omega)]
    congr 2 <;> apply Fin.ext <;> dsimp only <;> omega
  have t0 := cols (N := 3584) (n := 512) (o := 0) (e := .bf16) a q b.r0 (r.drest (rowK k a)) fun d hd => by
    refine (h.r0_apply a d).trans ?_
    have hd' : d.val < 512 := d.isLt
    unfold Rows.drest
    rw [dif_pos (by dsimp only; omega)]
    congr 2 <;> apply Fin.ext <;> dsimp only <;> omega
  have t4 := cols (N := 3584) (n := 1024) (o := 2560) (e := .bf16) a q b.r4 (r.drest (rowK k a)) fun d hd => by
    refine (h.r4_apply a d).trans ?_
    have hd' : d.val < 1024 := d.isLt
    unfold Rows.drest
    rw [dif_neg (by dsimp only; omega), dif_neg (by dsimp only; omega), dif_neg (by dsimp only; omega), dif_neg (by dsimp only; omega)]
    congr 1; apply Fin.ext; dsimp only; omega
  have t3 := cols (N := 3584) (n := 1024) (o := 1536) (e := .bf16) a q b.r3 (r.drest (rowK k a)) fun d hd => by
    refine (h.r3_apply a d).trans ?_
    have hd' : d.val < 1024 := d.isLt
    unfold Rows.drest
    rw [dif_neg (by dsimp only; omega), dif_neg (by dsimp only; omega), dif_neg (by dsimp only; omega), dif_pos (by dsimp only; omega)]
    congr 1; apply Fin.ext; dsimp only; omega
  refine View.canon_eq_of_allAt _ _ _ (cover_rest _ _ _ _ _ _) ?_
  exact View.allAt_cons_unit _ _ _ _ _ t2 (View.allAt_cons_unit _ _ _ _ _ t1 (View.allAt_cons_unit _ _ _ _ _ t0
    (View.allAt_cons_unit _ _ _ _ _ t4 (View.allAt_cons_unit _ _ _ _ _ t3 (View.allAt_nil _ _)))))
omit a in
theorem dg_apply (acc : Vec Ideal S1x1024 .f32) (j : Fin 1024) : b.dg acc (ix2 0 j) = acc (ix2 0 j) + ∑ a, r.dg (rowK k a) j := by
  show k0_pay12 b.mixed b.dx acc _ = _
  pointwise [k0_pay12, k0_pay11, k0_pay10, k0_pay9]
  simp only [h.mixed, h.dx]
  rfl
omit a in
theorem db_apply (acc : Vec Ideal S1x2048 .f32) (q : Fin 2048) : b.db acc (ix2 0 q) = acc (ix2 0 q) + ∑ a, r.db (rowK k a) q := by
  refine View.canon_eq_of_allAt _ _ _ (b.cover_db acc _) ?_
  refine View.allAt_cons_unit _ _ _ _ _ (cols 0 q _ (fun q => acc (ix2 0 q) + ∑ a, r.db (rowK k a) q) fun d hd => ?_)
    (View.allAt_cons_unit _ _ _ _ _ (cols 0 q _ (fun q => acc (ix2 0 q) + ∑ a, r.db (rowK k a) q) fun d hd => ?_) (View.allAt_nil _ _))
  · pointwise [k0_pay33]
    simp only [h.dpc_apply]
    congr 1
    refine Finset.sum_congr rfl fun a _ => ?_
    unfold Rows.db
    rw [dif_neg (by dsimp only; omega)]
    congr 1; apply Fin.ext; dsimp only; omega
  · pointwise [k0_pay32]
    simp only [h.dpa_apply]
    congr 1
    refine Finset.sum_congr rfl fun a _ => ?_
    have : d.val < 1024 := d.isLt
    unfold Rows.db
    rw [dif_pos (by dsimp only; omega)]
omit a in
theorem dw_apply (acc : Vec Ideal S3x512 .f32) (p : Fin 3) (c : Fin 512) : b.dw acc (ix2 p c) = acc (ix2 p c) + ∑ a, r.dw (rowK k a) p c := by
  refine View.canon_eq_of_allAt _ _ _ (b.cover_dw acc _) ?_
  refine View.allAt_cons_unit _ _ _ _ _ (line p c _ _ fun hp => ?_)
    (View.allAt_cons_unit _ _ _ _ _ (line p c _ _ fun hp => ?_) (View.allAt_cons_unit _ _ _ _ _ (line p c _ _ fun hp => ?_) (View.allAt_nil _ _)))
  · obtain rfl : p = 2 := Fin.ext hp
    pointwise [k0_pay3]
    simp only [h.dcv_apply, h.cm_apply]
    congr 1
  · obtain rfl : p = 1 := Fin.ext hp
    pointwise [k0_pay2]
    simp only [h.dcv_apply, h.cm1_apply]
    congr 1
  · obtain rfl : p = 0 := Fin.ext hp
    pointwise [k0_pay1]
    simp only [h.dcv_apply, h.cm2_apply]
    congr 1
end On
end Cert.MixIdeal.Block
-- ==== Proof.MixRef.lean ====
module

public import proofs.«01_k».proof.Proof.Gen.MixRefIdeal.Read
public import proofs.«01_k».proof.Proof.MixRow
public import Idealize.ShloMosaic.Lib.Pointwise

@[expose] public section

set_option maxRecDepth 16384

noncomputable section

/-! The reference of the mix's backward call (reverse-mode differentiation of the forward lines), read row by row. -/

namespace Cert.MixRefIdeal.Block

open Cert.MixRefIdeal Cert.MixRefIdeal.Gen Idealize.ShloMosaic Idealize.ShloMosaic.TcCoe Idealize.SL.Sem
open Cert.MixRefIdeal.Read Cert.MixRow

/-- The reference's ten arguments. -/
structure Args where
  x0 : Vec Ideal S8192x1024 .f32
  x1 : Vec Ideal S8192x512 .f32
  x2 : Vec Ideal S8192x1536 .f32
  x3 : Vec Ideal S8192x2048 .f32
  x4 : Vec Ideal S1x2048 .f32
  x5 : Vec Ideal S1x3x512 .f32
  x6 : Vec Ideal S1x1024 .f32
  x7 : Vec Ideal S1x512x1024 .f32
  x8 : Vec Ideal S1x512x1024 .f32
  x9 : Vec Ideal S1x1024x1024 .f32

/-- The rows, the gates, and what they are multiplied by. -/
def Args.rows (a : Args) : Rows where
  dx i j := a.x0 (ix2 i j)
  o i c := a.x1 (ix2 i c)
  conv i q := a.x2 (ix2 i q)
  gate i q := Ideal.div 1 (1 + Ideal.exp (-(a.x3 (ix2 i q) + a.x4 (ix2 0 q))))
  wc p c := a.x5 (ix3 0 p c)
  g j := a.x6 (ix2 0 j)
  wa c j := a.x7 (ix3 0 c j)
  wcn c j := a.x8 (ix3 0 c j)
  wo k j := a.x9 (ix3 0 k j)

theorem dgate (d y g : EReal) : d * y * (g * (1 - g)) = d * y * g * (1 - g) := (mul_assoc _ _ _).symm

variable (a : Args) (i : Fin 8192)

/-- The convolution's input, as it is and moved down. -/
theorem cm_apply (c : Fin 512): val_main_v13 (F := Ideal) a.x2 (ix2 i c) = a.rows.cm i c := by
  pointwise [val_main_v8, val_main_v9, val_main_v13]
  try simp only [Finset.univ_unique, Finset.sum_const, Finset.card_singleton, one_smul]
  rfl

theorem cm2_apply (c : Fin 512): val_main_v16 (F := Ideal) a.x2 (ix2 i c) = a.rows.cm2 i c := by
  pointwise [val_main_cst_0, val_main_v12, val_main_v14, val_main_v16]
  try simp only [cm_apply, Finset.univ_unique, Finset.sum_const, Finset.card_singleton, one_smul]
  unfold Rows.cm2 down
  split
  · next h => exact (if_neg (by omega)).symm
  · next h => exact (if_pos (by omega)).symm

theorem cm1_apply (c : Fin 512): val_main_v22 (F := Ideal) a.x2 (ix2 i c) = a.rows.cm1 i c := by
  pointwise [val_main_cst_0, val_main_v12, val_main_v14, val_main_v22]
  try simp only [cm_apply, Finset.univ_unique, Finset.sum_const, Finset.card_singleton, one_smul]
  unfold Rows.cm1 down
  split
  · next h => exact (if_neg (by omega)).symm
  · next h =>
    exact (congrArg (fun d : Fin 8192 => a.rows.cm d c) (Fin.ext (show 1 + i.val - 2 = i.val - 1 by omega))).trans (if_pos (by omega)).symm

theorem cm0_apply (c : Fin 512): val_main_v29 (F := Ideal) a.x2 (ix2 i c) = a.rows.cm i c := by
  pointwise [val_main_cst_0, val_main_v12, val_main_v14, val_main_v29]
  try simp only [cm_apply, Finset.univ_unique, Finset.sum_const, Finset.card_singleton, one_smul]

theorem w0_apply (c : Fin 512): val_main_v20 (F := Ideal) a.x5 (ix2 i c) = a.rows.wc 0 c := by
  pointwise [val_main_v5, val_main_v17, val_main_v18, val_main_v19, val_main_v20]
  try simp only [Finset.univ_unique, Finset.sum_const, Finset.card_singleton, one_smul]
  rfl

theorem w1_apply (c : Fin 512): val_main_v26 (F := Ideal) a.x5 (ix2 i c) = a.rows.wc 1 c := by
  pointwise [val_main_v5, val_main_v23, val_main_v24, val_main_v25, val_main_v26]
  try simp only [Finset.univ_unique, Finset.sum_const, Finset.card_singleton, one_smul]
  rfl

theorem w2_apply (c : Fin 512): val_main_v33 (F := Ideal) a.x5 (ix2 i c) = a.rows.wc 2 c := by
  pointwise [val_main_v5, val_main_v30, val_main_v31, val_main_v32, val_main_v33]
  try simp only [Finset.univ_unique, Finset.sum_const, Finset.card_singleton, one_smul]
  rfl

/-- The convolution. -/
theorem cv_apply (c : Fin 512): val_main_v35 (F := Ideal) a.x2 a.x5 (ix2 i c) = a.rows.cv i c := by
  pointwise [val_main_v21, val_main_v27, val_main_v28, val_main_v34, val_main_v35]
  try simp only [cm2_apply, cm1_apply, cm0_apply, w0_apply, w1_apply, w2_apply, Finset.univ_unique, Finset.sum_const, Finset.card_singleton, one_smul]
  unfold Rows.cv
  rw [mul_comm (a.rows.cm2 i c), mul_comm (a.rows.cm1 i c), mul_comm (a.rows.cm i c)]
  ac_rfl

/-- The two branches. -/
theorem ya_apply (j : Fin 1024): val_main_v11 (F := Ideal) a.x1 a.x7 (ix2 i j) = a.rows.ya i j := by
  pointwise [val_main_cst, val_main_v0, val_main_v3, val_main_v10, val_main_v11]
  try simp only [Finset.univ_unique, Finset.sum_const, Finset.card_singleton, one_smul]
  rfl

theorem yc_apply (j : Fin 1024): val_main_v38 (F := Ideal) a.x2 a.x5 a.x8 (ix2 i j) = a.rows.yc i j := by
  pointwise [val_main_cst, val_main_v1, val_main_v3, val_main_v7, val_main_v36, val_main_v37, val_main_v38]
  try simp only [cv_apply, Finset.univ_unique, Finset.sum_const, Finset.card_singleton, one_smul]
  rfl

/-- The gates. -/
theorem gate_apply (q : Fin 2048): val_main_v47 (F := Ideal) a.x3 a.x4 (ix2 i q) = a.rows.gate i q := by
  pointwise [val_main_cst_2, val_main_cst_3, val_main_v4, val_main_v39, val_main_v40, val_main_v41, val_main_v42, val_main_v43, val_main_v44, val_main_v45, val_main_v46, val_main_v47]
  try simp only [Finset.univ_unique, Finset.sum_const, Finset.card_singleton, one_smul]
  rfl

theorem ga_apply (j : Fin 1024): val_main_v51 (F := Ideal) a.x3 a.x4 (ix2 i j) = a.rows.ga i j := by
  pointwise [val_main_v51]
  try simp only [gate_apply, Finset.univ_unique, Finset.sum_const, Finset.card_singleton, one_smul]
  rfl

theorem gc_apply (j : Fin 1024): val_main_v52 (F := Ideal) a.x3 a.x4 (ix2 i j) = a.rows.gc i j := by
  pointwise [val_main_v52]
  try simp only [gate_apply, Finset.univ_unique, Finset.sum_const, Finset.card_singleton, one_smul]
  rfl

/-- The mixed row, its scale. -/
theorem mixed_apply (j : Fin 1024): val_main_v57 (F := Ideal) a.x1 a.x2 a.x3 a.x4 a.x5 a.x7 a.x8 a.x9 (ix2 i j) = a.rows.mixed i j := by
  pointwise [val_main_cst, val_main_v2, val_main_v3, val_main_v53, val_main_v54, val_main_v55, val_main_v56, val_main_v57]
  try simp only [ya_apply, yc_apply, ga_apply, gc_apply, Finset.univ_unique, Finset.sum_const, Finset.card_singleton, one_smul]
  rfl

theorem scale_apply (x : Fin 1): val_main_v65 (F := Ideal) a.x1 a.x2 a.x3 a.x4 a.x5 a.x7 a.x8 a.x9 (ix2 i x) = RowNorm.scale (a.rows.mixed i) := by
  pointwise [val_main_cst_5, val_main_cst_6, val_main_cst_7, val_main_v58, val_main_v59, val_main_v60, val_main_v61, val_main_v62, val_main_v63, val_main_v64, val_main_v65]
  try simp only [mixed_apply, Finset.univ_unique, Finset.sum_const, Finset.card_singleton, one_smul]
  obtain rfl : x = 0 := Subsingleton.elim _ _
  rfl

theorem hat_apply (j : Fin 1024): val_main_v70 (F := Ideal) a.x1 a.x2 a.x3 a.x4 a.x5 a.x7 a.x8 a.x9 (ix2 i j) = a.rows.mixed i j * RowNorm.scale (a.rows.mixed i) := by
  pointwise [val_main_v69, val_main_v70]
  try simp only [mixed_apply, scale_apply, Finset.univ_unique, Finset.sum_const, Finset.card_singleton, one_smul]

/-- The gradient of the mixed row. -/
theorem dmixed_apply (j : Fin 1024): val_main_v93 (F := Ideal) a.x0 a.x1 a.x2 a.x3 a.x4 a.x5 a.x6 a.x7 a.x8 a.x9 (ix2 i j) = a.rows.dmixed i j := by
  pointwise [val_main_cst_11, val_main_cst_12, val_main_cst_13, val_main_cst_5, val_main_cst_6, val_main_cst_7, val_main_cst_8, val_main_v6, val_main_v58, val_main_v59, val_main_v60, val_main_v61, val_main_v62, val_main_v63, val_main_v64, val_main_v66, val_main_v67, val_main_v68, val_main_v71, val_main_v77, val_main_v78, val_main_v80, val_main_v81, val_main_v82, val_main_v83, val_main_v84, val_main_v85, val_main_v86, val_main_v87, val_main_v88, val_main_v89, val_main_v90, val_main_v91, val_main_v92, val_main_v93]
  try simp only [mixed_apply, scale_apply, Finset.univ_unique, Finset.sum_const, Finset.card_singleton, one_smul]
  have e := RowNorm.grad_eq (a.rows.mixed i) (fun k => a.rows.dx i k * a.rows.g k) 0 j
  rw [zero_add, zero_add] at e
  exact e.symm

theorem dmi_apply (j : Fin 1024): val_main_v94 (F := Ideal) a.x0 a.x1 a.x2 a.x3 a.x4 a.x5 a.x6 a.x7 a.x8 a.x9 (ix2 i j) = a.rows.dmi i j := by
  pointwise [val_main_v2, val_main_v94]
  try simp only [dmixed_apply, Finset.univ_unique, Finset.sum_const, Finset.card_singleton, one_smul]
  rfl

theorem dconvout_apply (j : Fin 1024): val_main_v95 (F := Ideal) a.x0 a.x1 a.x2 a.x3 a.x4 a.x5 a.x6 a.x7 a.x8 a.x9 (ix2 i j) = a.rows.dconvout i j := by
  pointwise [val_main_v95]
  try simp only [gc_apply, dmi_apply, Finset.univ_unique, Finset.sum_const, Finset.card_singleton, one_smul]
  exact mul_comm _ _

theorem dattn_apply (j : Fin 1024): val_main_v97 (F := Ideal) a.x0 a.x1 a.x2 a.x3 a.x4 a.x5 a.x6 a.x7 a.x8 a.x9 (ix2 i j) = a.rows.dattn i j := by
  pointwise [val_main_v97]
  try simp only [ga_apply, dmi_apply, Finset.univ_unique, Finset.sum_const, Finset.card_singleton, one_smul]
  exact mul_comm _ _

/-- The gradient of the gates before their sigmoid. -/
theorem dpre_apply (q : Fin 2048): val_main_v100 (F := Ideal) a.x0 a.x1 a.x2 a.x3 a.x4 a.x5 a.x6 a.x7 a.x8 a.x9 (ix2 i q) = a.rows.db i q := by
  pointwise [val_main_cst_4, val_main_v48, val_main_v49, val_main_v50, val_main_v96, val_main_v98, val_main_v99, val_main_v100]
  try simp only [ya_apply, yc_apply, gate_apply, dmi_apply, Finset.univ_unique, Finset.sum_const, Finset.card_singleton, one_smul]
  unfold Rows.db
  split
  · next h => exact dgate _ _ _
  · next h => exact (dgate _ _ _).trans (congrArg (fun g : Fin 2048 => a.rows.dmi i ⟨q.val - 1024, by omega⟩ * a.rows.yc i ⟨q.val - 1024, by omega⟩ * a.rows.gate i g * (1 - a.rows.gate i g)) (Fin.ext (by dsimp only; omega)))

theorem dci_apply (c : Fin 512): val_main_v104 (F := Ideal) a.x0 a.x1 a.x2 a.x3 a.x4 a.x5 a.x6 a.x7 a.x8 a.x9 (ix2 i c) = a.rows.dci i c := by
  pointwise [val_main_v1, val_main_v104]
  try simp only [dconvout_apply, Finset.univ_unique, Finset.sum_const, Finset.card_singleton, one_smul]
  rfl

theorem dcv_apply (c : Fin 512): val_main_v105 (F := Ideal) a.x0 a.x1 a.x2 a.x3 a.x4 a.x5 a.x6 a.x7 a.x8 a.x9 (ix2 i c) = a.rows.dcv i c := by
  pointwise [val_main_v7, val_main_v105]
  try simp only [dci_apply, Finset.univ_unique, Finset.sum_const, Finset.card_singleton, one_smul]
  exact mul_comm _ _

theorem dout_apply (c : Fin 512): val_main_v142 (F := Ideal) a.x0 a.x1 a.x2 a.x3 a.x4 a.x5 a.x6 a.x7 a.x8 a.x9 (ix2 i c) = a.rows.dout i c := by
  pointwise [val_main_v0, val_main_v142]
  try simp only [dattn_apply, Finset.univ_unique, Finset.sum_const, Finset.card_singleton, one_smul]
  rfl

/-- The gradient of the convolution's input. -/
theorem dcm_apply (c : Fin 512): val_main_v139 (F := Ideal) a.x0 a.x1 a.x2 a.x3 a.x4 a.x5 a.x6 a.x7 a.x8 a.x9 (ix2 i c) = a.rows.dcm i c := by
  pointwise [val_main_cst_19, val_main_cst_23, val_main_cst_27, val_main_v5, val_main_v17, val_main_v18, val_main_v19, val_main_v23, val_main_v24, val_main_v25, val_main_v30, val_main_v31, val_main_v32, val_main_v110, val_main_v111, val_main_v115, val_main_v119, val_main_v120, val_main_v125, val_main_v126, val_main_v130, val_main_v131, val_main_v136, val_main_v137, val_main_v139]
  try simp only [dcv_apply, Finset.univ_unique, Finset.sum_const, Finset.card_singleton, one_smul]
  unfold Rows.dcm up
  refine congrArg₂ (· + ·) (congrArg₂ (· + ·) (mul_comm _ _) ?_) ?_
  · by_cases h : i.val + 1 < 8192
    · rw [dif_pos h]
      exact (dif_pos (by omega)).trans ((mul_comm _ _).trans (congrArg (a.rows.wc 1 c * ·)
        (congrArg (fun d : Fin 8192 => a.rows.dcv d c) (Fin.ext (show 2 + i.val - 1 = i.val + 1 by omega)))))
    · rw [dif_neg h]
      exact (dif_neg (by omega)).trans (mul_zero _).symm
  · by_cases h : i.val + 2 < 8192
    · rw [dif_pos h]
      exact (dif_pos (by omega)).trans ((mul_comm _ _).trans (congrArg (a.rows.wc 0 c * ·)
        (congrArg (fun d : Fin 8192 => a.rows.dcv d c) (Fin.ext (show 2 + i.val = i.val + 2 by omega)))))
    · rw [dif_neg h]
      exact (dif_neg (by omega)).trans (mul_zero _).symm

theorem drest_apply (q : Fin 3584): val_main_v144 (F := Ideal) a.x0 a.x1 a.x2 a.x3 a.x4 a.x5 a.x6 a.x7 a.x8 a.x9 (ix2 i q) = a.rows.drest i q := by
  pointwise [val_main_v8, val_main_v9, val_main_v106, val_main_v140, val_main_v141, val_main_v143, val_main_v144]
  try simp only [cv_apply, dpre_apply, dci_apply, dcm_apply, Finset.univ_unique, Finset.sum_const, Finset.card_singleton, one_smul]
  unfold Rows.drest
  by_cases h1 : q.val < 512
  · rw [dif_pos h1, dif_pos (show q.val < 1536 by omega), dif_pos h1]
  by_cases h2 : q.val < 1024
  · rw [dif_neg h1, dif_pos h2, dif_pos (show q.val < 1536 by omega), dif_neg h1]
    exact dif_pos (by omega)
  by_cases h3 : q.val < 1536
  · have e : (⟨q.val - 512 - 512, by omega⟩ : Fin 512) = ⟨q.val - 1024, by omega⟩ := Fin.ext (by dsimp only; omega)
    rw [dif_neg h1, dif_neg h2, dif_pos h3, dif_pos h3, dif_neg h1]
    exact (dif_neg (by omega)).trans ((mul_comm _ _).trans (congrArg (fun d : Fin 512 => a.rows.dcm i d * a.rows.cc i d) e))
  rw [dif_neg h1, dif_neg h2, dif_neg h3, dif_neg h3]
  unfold Rows.db
  by_cases h4 : q.val < 2560
  · rw [dif_pos h4]
    exact dif_pos (show q.val - 1536 < 1024 by omega)
  · rw [dif_neg h4]
    exact (dif_neg (show ¬q.val - 1536 < 1024 by omega)).trans (congrArg (a.rows.dpc i)
      (Fin.ext (show q.val - 1536 - 1024 = q.val - 2560 by omega)))

/-- The gradients summed over the rows. -/
theorem dg_apply (j : Fin 1024): val_main_v79 (F := Ideal) a.x0 a.x1 a.x2 a.x3 a.x4 a.x5 a.x7 a.x8 a.x9 (ix1 j) = ∑ i, a.rows.dg i j := by
  pointwise [val_main_cst_10, val_main_cst_9, val_main_v74, val_main_v75, val_main_v76, val_main_v79]
  try simp only [hat_apply, Finset.univ_unique, Finset.sum_const, Finset.card_singleton, one_smul]
  exact Finset.sum_congr rfl fun i _ => mul_comm _ _

theorem db_apply (q : Fin 2048): val_main_v103 (F := Ideal) a.x0 a.x1 a.x2 a.x3 a.x4 a.x5 a.x6 a.x7 a.x8 a.x9 (ix1 q) = ∑ i, a.rows.db i q := by
  pointwise [val_main_cst_14, val_main_cst_15, val_main_v101, val_main_v102, val_main_v103]
  try simp only [dpre_apply, Finset.univ_unique, Finset.sum_const, Finset.card_singleton, one_smul]

theorem dw2_apply (c : Fin 512): val_main_v112 (F := Ideal) a.x0 a.x1 a.x2 a.x3 a.x4 a.x5 a.x6 a.x7 a.x8 a.x9 (ix1 c) = ∑ i, a.rows.dcv i c * a.rows.cm i c := by
  pointwise [val_main_cst_16, val_main_cst_17, val_main_v107, val_main_v108, val_main_v109, val_main_v112]
  try simp only [cm0_apply, dcv_apply, Finset.univ_unique, Finset.sum_const, Finset.card_singleton, one_smul]
  exact Finset.sum_congr rfl fun i _ => mul_comm _ _

theorem dw1_apply (c : Fin 512): val_main_v121 (F := Ideal) a.x0 a.x1 a.x2 a.x3 a.x4 a.x5 a.x6 a.x7 a.x8 a.x9 (ix1 c) = ∑ i, a.rows.dcv i c * a.rows.cm1 i c := by
  pointwise [val_main_cst_20, val_main_cst_21, val_main_v116, val_main_v117, val_main_v118, val_main_v121]
  try simp only [cm1_apply, dcv_apply, Finset.univ_unique, Finset.sum_const, Finset.card_singleton, one_smul]
  exact Finset.sum_congr rfl fun i _ => mul_comm _ _

theorem dw0_apply (c : Fin 512): val_main_v132 (F := Ideal) a.x0 a.x1 a.x2 a.x3 a.x4 a.x5 a.x6 a.x7 a.x8 a.x9 (ix1 c) = ∑ i, a.rows.dcv i c * a.rows.cm2 i c := by
  pointwise [val_main_cst_24, val_main_cst_25, val_main_v127, val_main_v128, val_main_v129, val_main_v132]
  try simp only [cm2_apply, dcv_apply, Finset.univ_unique, Finset.sum_const, Finset.card_singleton, one_smul]
  exact Finset.sum_congr rfl fun i _ => mul_comm _ _

/-- The results. -/
theorem dw_out (p : Fin 3) (c : Fin 512): val_main_v135 (F := Ideal) a.x0 a.x1 a.x2 a.x3 a.x4 a.x5 a.x6 a.x7 a.x8 a.x9 (ix2 p c) = ∑ i, a.rows.dw i p c := by
  pointwise [val_main_cst_18, val_main_cst_22, val_main_cst_26, val_main_v113, val_main_v114, val_main_v122, val_main_v123, val_main_v124, val_main_v133, val_main_v134, val_main_v135]
  try simp only [dw2_apply, dw1_apply, dw0_apply, Finset.univ_unique, Finset.sum_const, Finset.card_singleton, one_smul]
  match p with
  | ⟨0, _⟩ =>
    exact (congrArg₂ (· + ·) (congrArg₂ (· + ·) (dif_neg (by simp)) (dif_neg (by simp))) (dif_pos (by simp))).trans
      ((congrArg₂ (· + ·) (add_zero _) rfl).trans (zero_add _))
  | ⟨1, _⟩ =>
    exact (congrArg₂ (· + ·) (congrArg₂ (· + ·) (dif_neg (by simp)) (dif_pos (by simp))) (dif_neg (by simp))).trans
      ((add_zero _).trans (zero_add _))
  | ⟨2, _⟩ =>
    exact (congrArg₂ (· + ·) (congrArg₂ (· + ·) (dif_pos (by simp)) (dif_neg (by simp))) (dif_neg (by simp))).trans
      ((add_zero _).trans ((add_zero _).trans (Finset.sum_congr rfl fun i _ => congrArg (a.rows.dcv i c * ·) (if_pos (Nat.zero_le _)).symm)))

theorem dmixed_out (j : Fin 1024): val_main_v145 (F := Ideal) a.x0 a.x1 a.x2 a.x3 a.x4 a.x5 a.x6 a.x7 a.x8 a.x9 (ix2 i j) = a.rows.dmixed i j := by
  pointwise [val_main_v145]
  try simp only [dmixed_apply, Finset.univ_unique, Finset.sum_const, Finset.card_singleton, one_smul]

theorem dattn_out (j : Fin 1024): val_main_v146 (F := Ideal) a.x0 a.x1 a.x2 a.x3 a.x4 a.x5 a.x6 a.x7 a.x8 a.x9 (ix2 i j) = a.rows.dattn i j := by
  pointwise [val_main_v146]
  try simp only [dattn_apply, Finset.univ_unique, Finset.sum_const, Finset.card_singleton, one_smul]

theorem dconvout_out (j : Fin 1024): val_main_v147 (F := Ideal) a.x0 a.x1 a.x2 a.x3 a.x4 a.x5 a.x6 a.x7 a.x8 a.x9 (ix2 i j) = a.rows.dconvout i j := by
  pointwise [val_main_v147]
  try simp only [dconvout_apply, Finset.univ_unique, Finset.sum_const, Finset.card_singleton, one_smul]

theorem dout_out (c : Fin 512): val_main_v148 (F := Ideal) a.x0 a.x1 a.x2 a.x3 a.x4 a.x5 a.x6 a.x7 a.x8 a.x9 (ix2 i c) = a.rows.dout i c := by
  pointwise [val_main_v148]
  try simp only [dout_apply, Finset.univ_unique, Finset.sum_const, Finset.card_singleton, one_smul]

theorem drest_out (q : Fin 3584): val_main_v149 (F := Ideal) a.x0 a.x1 a.x2 a.x3 a.x4 a.x5 a.x6 a.x7 a.x8 a.x9 (ix2 i q) = a.rows.drest i q := by
  pointwise [val_main_v149]
  try simp only [drest_apply, Finset.univ_unique, Finset.sum_const, Finset.card_singleton, one_smul]

theorem dg_out (j : Fin 1024): val_main_v150 (F := Ideal) a.x0 a.x1 a.x2 a.x3 a.x4 a.x5 a.x7 a.x8 a.x9 (ix2 0 j) = ∑ i, a.rows.dg i j := by
  pointwise [val_main_v150]
  try simp only [dg_apply, Finset.univ_unique, Finset.sum_const, Finset.card_singleton, one_smul]

theorem db_out (q : Fin 2048): val_main_v151 (F := Ideal) a.x0 a.x1 a.x2 a.x3 a.x4 a.x5 a.x6 a.x7 a.x8 a.x9 (ix2 0 q) = ∑ i, a.rows.db i q := by
  pointwise [val_main_v151]
  try simp only [db_apply, Finset.univ_unique, Finset.sum_const, Finset.card_singleton, one_smul]

end Cert.MixRefIdeal.Block
-- ==== Proof.MixArray.lean ====
module

public import proofs.«01_k».proof.Proof.MixFrame
public import proofs.«01_k».proof.Proof.MixRead
public import proofs.«01_k».proof.Proof.MixRef

@[expose] public section

set_option maxRecDepth 16384

noncomputable section

/-! What the grid points of the mix's backward call read, by rows of the call's arguments. -/

namespace Cert.MixIdeal.Block

open Cert.MixIdeal Cert.MixIdeal.Gen Idealize.ShloMosaic Idealize.ShloMosaic.TcCoe Idealize.SL.Sem
open Cert.MixRow

variable (m : (ℓ : Loc nD τ sig) → Buf (Elt Ideal) ℓ) (c : Dev nD)

/-- The call's arguments, read as the reference's. -/
def args : Cert.MixRefIdeal.Block.Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9)⟩

/-- The rows of the arguments. -/
def rows : Rows := (args m c).rows

/-! The arrays the host prepares: the mixed rows, the gates, and reshapes and casts of the arguments. -/

set_option maxHeartbeats 2000000 in
theorem v52_eq : (V m c main_v52 : Vec Ideal S8192x1024 .f32) =
    Cert.MixRefIdeal.Read.val_main_v57 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) := by
  show StableHlo.after hostOps0 (fun b => m (c, b)) main_v52 = _
  after_results_simp
  rfl

theorem v52_apply (i : Fin 8192) (j : Fin 1024) : (V m c main_v52 : Vec Ideal S8192x1024 .f32) (ix2 i j) = (rows m c).mixed i j :=
  (congrFun (v52_eq m c) _).trans (Cert.MixRefIdeal.Block.mixed_apply (args m c) i j)

set_option maxHeartbeats 2000000 in
theorem v63_eq : (V m c main_v63 : Vec Ideal S8192x2048 .bf16) =
    truncf (F := Ideal) (s := S8192x2048) (φ := .f32) .bf16 (Cert.MixRefIdeal.Read.val_main_v47 (F := Ideal) (m ((c : Thread nD τ).loc main_arg3)) (m ((c : Thread nD τ).loc main_arg4))) bitsLt_bf16_f32 := by
  show StableHlo.after hostOps0 (fun b => m (c, b)) main_v63 = _
  after_results_simp
  rfl

theorem v63_apply (i : Fin 8192) (q : Fin 2048) : (V m c main_v63 : Vec Ideal S8192x2048 .bf16) (ix2 i q) = (rows m c).gate i q :=
  (congrFun (v63_eq m c) _).trans (Cert.MixRefIdeal.Block.gate_apply (args m c) i q)

set_option maxHeartbeats 2000000 in
theorem v64_apply (i : Fin 8192) (j : Fin 512) : (V m c main_v64 : Vec Ideal S8192x512 .bf16) (ix2 i j) = (rows m c).o i j := by
  have : (V m c main_v64 : Vec Ideal S8192x512 .bf16) = truncf (F := Ideal) (s := S8192x512) (φ := .f32) .bf16 (m ((c : Thread nD τ).loc main_arg1)) bitsLt_bf16_f32 := by
    show StableHlo.after hostOps0 (fun b => m (c, b)) main_v64 = _
    after_results_simp
  exact congrFun this _

set_option maxHeartbeats 2000000 in
theorem v65_apply (i : Fin 8192) (j : Fin 1536) : (V m c main_v65 : Vec Ideal S8192x1536 .bf16) (ix2 i j) = (rows m c).conv i j := by
  have : (V m c main_v65 : Vec Ideal S8192x1536 .bf16) = truncf (F := Ideal) (s := S8192x1536) (φ := .f32) .bf16 (m ((c : Thread nD τ).loc main_arg2)) bitsLt_bf16_f32 := by
    show StableHlo.after hostOps0 (fun b => m (c, b)) main_v65 = _
    after_results_simp
  exact congrFun this _

set_option maxHeartbeats 2000000 in
theorem v66_apply (i : Fin 3) (j : Fin 512) : (V m c main_v66 : Vec Ideal S3x512 .f32) (ix2 i j) = (rows m c).wc i j := by
  have : (V m c main_v66 : Vec Ideal S3x512 .f32) = shapeCast S3x512 (m ((c : Thread nD τ).loc main_arg5)) shapeCasts_S1x3x512_S3x512 := by
    show StableHlo.after hostOps0 (fun b => m (c, b)) main_v66 = _
    after_results_simp
    rfl
  rw [this]
  have key (y : Vec Ideal S1x3x512 .f32) : shapeCast S3x512 y shapeCasts_S1x3x512_S3x512 (ix2 i j) = y (ix3 0 i j) := by
    pointwise []
  exact key _

set_option maxHeartbeats 2000000 in
theorem v68_apply (i : Fin 512) (j : Fin 1024) : (V m c main_v68 : Vec Ideal S512x1024 .bf16) (ix2 i j) = (rows m c).wa i j := by
  have : (V m c main_v68 : Vec Ideal S512x1024 .bf16) = truncf (F := Ideal) (s := S512x1024) (φ := .f32) .bf16 (shapeCast S512x1024 (m ((c : Thread nD τ).loc main_arg7)) shapeCasts_S1x512x1024_S512x1024) bitsLt_bf16_f32 := by
    show StableHlo.after hostOps0 (fun b => m (c, b)) main_v68 = _
    after_results_simp
    rfl
  rw [this]
  have key (y : Vec Ideal S1x512x1024 .f32) : truncf (F := Ideal) (s := S512x1024) (φ := .f32) .bf16 (shapeCast S512x1024 y shapeCasts_S1x512x1024_S512x1024) bitsLt_bf16_f32 (ix2 i j) = y (ix3 0 i j) := by
    pointwise []
  exact key _

set_option maxHeartbeats 2000000 in
theorem v70_apply (i : Fin 512) (j : Fin 1024) : (V m c main_v70 : Vec Ideal S512x1024 .bf16) (ix2 i j) = (rows m c).wcn i j := by
  have : (V m c main_v70 : Vec Ideal S512x1024 .bf16) = truncf (F := Ideal) (s := S512x1024) (φ := .f32) .bf16 (shapeCast S512x1024 (m ((c : Thread nD τ).loc main_arg8)) shapeCasts_S1x512x1024_S512x1024) bitsLt_bf16_f32 := by
    show StableHlo.after hostOps0 (fun b => m (c, b)) main_v70 = _
    after_results_simp
    rfl
  rw [this]
  have key (y : Vec Ideal S1x512x1024 .f32) : truncf (F := Ideal) (s := S512x1024) (φ := .f32) .bf16 (shapeCast S512x1024 y shapeCasts_S1x512x1024_S512x1024) bitsLt_bf16_f32 (ix2 i j) = y (ix3 0 i j) := by
    pointwise []
  exact key _

set_option maxHeartbeats 2000000 in
theorem v72_apply (i : Fin 1024) (j : Fin 1024) : (V m c main_v72 : Vec Ideal S1024x1024 .bf16) (ix2 i j) = (rows m c).wo i j := by
  have : (V m c main_v72 : Vec Ideal S1024x1024 .bf16) = truncf (F := Ideal) (s := S1024x1024) (φ := .f32) .bf16 (shapeCast S1024x1024 (m ((c : Thread nD τ).loc main_arg9)) shapeCasts_S1x1024x1024_S1024x1024) bitsLt_bf16_f32 := by
    show StableHlo.after hostOps0 (fun b => m (c, b)) main_v72 = _
    after_results_simp
    rfl
  rw [this]
  have key (y : Vec Ideal S1x1024x1024 .f32) : truncf (F := Ideal) (s := S1024x1024) (φ := .f32) .bf16 (shapeCast S1024x1024 y shapeCasts_S1x1024x1024_S1024x1024) bitsLt_bf16_f32 (ix2 i j) = y (ix3 0 i j) := by
    pointwise []
  exact key _

/-! The block indices. -/

theorem ix_0 : ∀ t : Fin grid0.N, win0_0.index t 0 = 15 - t.val ∧ win0_0.index t 1 = 0 := by decide
theorem ix_1 : ∀ t : Fin grid0.N, win0_1.index t 0 = 15 - t.val ∧ win0_1.index t 1 = 0 := by decide
theorem ix_2 : ∀ t : Fin grid0.N, win0_2.index t 0 = 15 - t.val ∧ win0_2.index t 1 = 0 := by decide
theorem ix_3 : ∀ t : Fin grid0.N, win0_3.index t 0 = 15 - t.val ∧ win0_3.index t 1 = 0 := by decide
theorem ix_5 : ∀ t : Fin grid0.N, win0_5.index t 0 = 15 - t.val ∧ win0_5.index t 1 = 0 := by decide
theorem ix_8 : ∀ t : Fin grid0.N, win0_8.index t 0 = 15 - t.val ∧ win0_8.index t 1 = 0 := by decide
theorem ix_9 : ∀ t : Fin grid0.N, win0_9.index t 0 = 15 - t.val ∧ win0_9.index t 1 = 0 := by decide
theorem ix_10 : ∀ t : Fin grid0.N, win0_10.index t 0 = 15 - t.val ∧ win0_10.index t 1 = 0 := by decide
theorem ix_11 : ∀ t : Fin grid0.N, win0_11.index t 0 = 15 - t.val ∧ win0_11.index t 1 = 0 := by decide
theorem ix_12 : ∀ t : Fin grid0.N, win0_12.index t 0 = 15 - t.val ∧ win0_12.index t 1 = 0 := by decide
theorem ix_6 : ∀ t : Fin grid0.N, win0_6.index t 0 = 0 ∧ win0_6.index t 1 = 0 := by decide
theorem ix_7 : ∀ t : Fin grid0.N, win0_7.index t 0 = 0 ∧ win0_7.index t 1 = 0 := by decide
theorem ix_13 : ∀ t : Fin grid0.N, win0_13.index t 0 = 0 ∧ win0_13.index t 1 = 0 := by decide
theorem ix_14 : ∀ t : Fin grid0.N, win0_14.index t 0 = 0 ∧ win0_14.index t 1 = 0 := by decide
theorem ix_15 : ∀ t : Fin grid0.N, win0_15.index t 0 = 0 ∧ win0_15.index t 1 = 0 := by decide
theorem ix_4 : ∀ t : Fin grid0.N, win0_4.index t 0 = (15 - t.val) * 32 - 1 ∧ win0_4.index t 1 = 0 := by decide
theorem crd : ∀ t : Fin grid0.N, (grid0.coords t 0).val = t.val := by decide

/-- The block of rows grid point `t` works on. -/
def blk (t : Fin cfg0.N) : Fin 16 := ⟨15 - t.val, by omega⟩

theorem iblk0_apply (t : Fin cfg0.N) (a : Fin 512) (j : Fin 1024) :
    (iblk m c 0 t : Vec Ideal S512x1024 .f32) (ix2 a j) = (rows m c).dx (rowK (blk t) a) j := by
  show _ = m ((c : Thread nD τ).loc main_arg0) (ix2 (rowK (blk t) a) j)
  rw [← V_main_arg0 m c]
  unfold iblk
  rw [View.read_apply]
  show V m c main_arg0 _ = V m c main_arg0 _
  congr 1
  funext x
  apply Fin.ext
  match x with
  | ⟨0, _⟩ => show win0_0.index t 0 * 512 + 1 * a.val = (15 - t.val) * 512 + a.val; rw [(ix_0 t).1]; omega
  | ⟨1, _⟩ => show win0_0.index t 1 * 1024 + 1 * j.val = j.val; rw [(ix_0 t).2]; omega

theorem iblk1_apply (t : Fin cfg0.N) (a : Fin 512) (j : Fin 1024) :
    (iblk m c 1 t : Vec Ideal S512x1024 .f32) (ix2 a j) = (rows m c).mixed (rowK (blk t) a) j := by
  rw [← v52_apply m c]
  unfold iblk
  rw [View.read_apply]
  show V m c main_v52 _ = V m c main_v52 _
  congr 1
  funext x
  apply Fin.ext
  match x with
  | ⟨0, _⟩ => show win0_1.index t 0 * 512 + 1 * a.val = (15 - t.val) * 512 + a.val; rw [(ix_1 t).1]; omega
  | ⟨1, _⟩ => show win0_1.index t 1 * 1024 + 1 * j.val = j.val; rw [(ix_1 t).2]; omega

theorem iblk2_apply (t : Fin cfg0.N) (a : Fin 512) (j : Fin 512) :
    (iblk m c 2 t : Vec Ideal S512x512 .bf16) (ix2 a j) = (rows m c).o (rowK (blk t) a) j := by
  rw [← v64_apply m c]
  unfold iblk
  rw [View.read_apply]
  show V m c main_v64 _ = V m c main_v64 _
  congr 1
  funext x
  apply Fin.ext
  match x with
  | ⟨0, _⟩ => show win0_2.index t 0 * 512 + 1 * a.val = (15 - t.val) * 512 + a.val; rw [(ix_2 t).1]; omega
  | ⟨1, _⟩ => show win0_2.index t 1 * 512 + 1 * j.val = j.val; rw [(ix_2 t).2]; omega

theorem iblk3_apply (t : Fin cfg0.N) (a : Fin 512) (j : Fin 1536) :
    (iblk m c 3 t : Vec Ideal S512x1536 .bf16) (ix2 a j) = (rows m c).conv (rowK (blk t) a) j := by
  rw [← v65_apply m c]
  unfold iblk
  rw [View.read_apply]
  show V m c main_v65 _ = V m c main_v65 _
  congr 1
  funext x
  apply Fin.ext
  match x with
  | ⟨0, _⟩ => show win0_3.index t 0 * 512 + 1 * a.val = (15 - t.val) * 512 + a.val; rw [(ix_3 t).1]; omega
  | ⟨1, _⟩ => show win0_3.index t 1 * 1536 + 1 * j.val = j.val; rw [(ix_3 t).2]; omega

theorem iblk5_apply (t : Fin cfg0.N) (a : Fin 512) (j : Fin 2048) :
    (iblk m c 5 t : Vec Ideal S512x2048 .bf16) (ix2 a j) = (rows m c).gate (rowK (blk t) a) j := by
  rw [← v63_apply m c]
  unfold iblk
  rw [View.read_apply]
  show V m c main_v63 _ = V m c main_v63 _
  congr 1
  funext x
  apply Fin.ext
  match x with
  | ⟨0, _⟩ => show win0_5.index t 0 * 512 + 1 * a.val = (15 - t.val) * 512 + a.val; rw [(ix_5 t).1]; omega
  | ⟨1, _⟩ => show win0_5.index t 1 * 2048 + 1 * j.val = j.val; rw [(ix_5 t).2]; omega

theorem iblk4_apply (t : Fin cfg0.N) (a : Fin 16) (j : Fin 1536) (h : 16 ≤ (blk t).val * 512 + a.val) :
    (iblk m c 4 t : Vec Ideal S16x1536 .bf16) (ix2 a j) = (rows m c).conv ⟨(blk t).val * 512 + a.val - 16, by omega⟩ j := by
  rw [← v65_apply m c]
  unfold iblk
  rw [View.read_apply]
  show V m c main_v65 _ = V m c main_v65 _
  congr 1
  funext x
  apply Fin.ext
  match x with
  | ⟨0, _⟩ =>
    show win0_4.index t 0 * 16 + 1 * a.val = (15 - t.val) * 512 + a.val - 16
    have h' : 16 ≤ (15 - t.val) * 512 + a.val := h
    rw [(ix_4 t).1]; omega
  | ⟨1, _⟩ => show win0_4.index t 1 * 1536 + 1 * j.val = j.val; rw [(ix_4 t).2]; omega

theorem iblk6_apply (t : Fin cfg0.N) (p : Fin 3) (j : Fin 512) :
    (iblk m c 6 t : Vec Ideal S3x512 .f32) (ix2 p j) = (rows m c).wc p j := by
  rw [← v66_apply m c]
  unfold iblk
  rw [View.read_apply]
  show V m c main_v66 _ = V m c main_v66 _
  congr 1
  funext x
  apply Fin.ext
  match x with
  | ⟨0, _⟩ => show win0_6.index t 0 * 3 + 1 * p.val = p.val; rw [(ix_6 t).1]; omega
  | ⟨1, _⟩ => show win0_6.index t 1 * 512 + 1 * j.val = j.val; rw [(ix_6 t).2]; omega

theorem iblk7_apply (t : Fin cfg0.N) (j : Fin 1024) :
    (iblk m c 7 t : Vec Ideal S1x1024 .f32) (ix2 0 j) = (rows m c).g j := by
  show _ = m ((c : Thread nD τ).loc main_arg6) (ix2 0 j)
  rw [← V_main_arg6 m c]
  unfold iblk
  rw [View.read_apply]
  show V m c main_arg6 _ = V m c main_arg6 _
  congr 1
  funext x
  apply Fin.ext
  match x with
  | ⟨0, _⟩ => show win0_7.index t 0 * 1 + 1 * 0 = 0; rw [(ix_7 t).1]
  | ⟨1, _⟩ => show win0_7.index t 1 * 1024 + 1 * j.val = j.val; rw [(ix_7 t).2]; omega

theorem zero5 (j : Fin 1024) : k0_pay5 (F := Ideal) (ix2 0 j) = 0 := by pointwise [k0_pay5]
theorem zero6 (j : Fin 2048) : k0_pay6 (F := Ideal) (ix2 0 j) = 0 := by pointwise [k0_pay6]
theorem zero7 (p : Fin 3) (j : Fin 512) : k0_pay7 (F := Ideal) (ix2 p j) = 0 := by pointwise [k0_pay7]
theorem zero8 (a : Fin 8) (j : Fin 512) : k0_pay8 (F := Ideal) (ix2 a j) = 0 := by pointwise [k0_pay8]

theorem pos (t : Fin cfg0.N) : BitVec.ofNat 32 (grid0.coords t 0).val = BitVec.ofNat 32 (15 - (blk t).val) := by
  have h : t.val < 16 := t.isLt
  rw [crd t]
  exact congrArg (BitVec.ofNat 32) (show t.val = 15 - (15 - t.val) by omega)

theorem read68 (i : Fin 512) (j : Fin 1024) : View.read (Elt Ideal) (Memref.whole main_v68).view (V m c main_v68) (ix2 i j) = (rows m c).wa i j :=
  (View.read_apply _ _).trans (v68_apply m c i j)
theorem read70 (i : Fin 512) (j : Fin 1024) : View.read (Elt Ideal) (Memref.whole main_v70).view (V m c main_v70) (ix2 i j) = (rows m c).wcn i j :=
  (View.read_apply _ _).trans (v70_apply m c i j)
theorem read72 (i : Fin 1024) (j : Fin 1024) : View.read (Elt Ideal) (Memref.whole main_v72).view (V m c main_v72) (ix2 i j) = (rows m c).wo i j :=
  (View.read_apply _ _).trans (v72_apply m c i j)

theorem on_of {r : Rows} {k : Fin 16} {t : BitVec 32} {dx mixed : Vec Ideal S512x1024 .f32} {o : Vec Ideal S512x512 .bf16} {conv : Vec Ideal S512x1536 .bf16}
    {prev : Vec Ideal S16x1536 .bf16} {gate : Vec Ideal S512x2048 .bf16} {wc : Vec Ideal S3x512 .f32} {g : Vec Ideal S1x1024 .f32}
    {wa wcn : Vec Ideal S512x1024 .bf16} {wo : Vec Ideal S1024x1024 .bf16} {nxt : Vec Ideal S8x512 .f32}
    (h0 : t = BitVec.ofNat 32 (15 - k.val))
    (h1 : ∀ (a : Fin 512) (j : Fin 1024), dx (ix2 a j) = r.dx (rowK k a) j)
    (h2 : ∀ (a : Fin 512) (j : Fin 1024), mixed (ix2 a j) = r.mixed (rowK k a) j)
    (h3 : ∀ (a : Fin 512) (j : Fin 512), o (ix2 a j) = r.o (rowK k a) j)
    (h4 : ∀ (a : Fin 512) (j : Fin 1536), conv (ix2 a j) = r.conv (rowK k a) j)
    (h5 : ∀ (a : Fin 16) (j : Fin 1536) (h : 16 ≤ k.val * 512 + a.val), prev (ix2 a j) = r.conv ⟨k.val * 512 + a.val - 16, by omega⟩ j)
    (h6 : ∀ (a : Fin 512) (j : Fin 2048), gate (ix2 a j) = r.gate (rowK k a) j)
    (h7 : ∀ (p : Fin 3) (j : Fin 512), wc (ix2 p j) = r.wc p j)
    (h8 : ∀ j : Fin 1024, g (ix2 0 j) = r.g j)
    (h9 : ∀ (i : Fin 512) (j : Fin 1024), wa (ix2 i j) = r.wa i j)
    (h10 : ∀ (i : Fin 512) (j : Fin 1024), wcn (ix2 i j) = r.wcn i j)
    (h11 : ∀ (i : Fin 1024) (j : Fin 1024), wo (ix2 i j) = r.wo i j)
    (h12 : ∀ (a : Fin 8) (j : Fin 512), nxt (ix2 a j) = if h : k.val * 512 + 512 + a.val < 8192 then r.dcv ⟨k.val * 512 + 512 + a.val, h⟩ j else 0) :
    On ⟨t, dx, mixed, o, conv, prev, gate, wc, g, wa, wcn, wo, nxt⟩ r k :=
  ⟨h0, h1, h2, h3, h4, h5, h6, h7, h8, h9, h10, h11, h12⟩

theorem on_first (t : Fin cfg0.N) (h : t.val = 0) : On (ptFirst m c t).b (rows m c) (blk t) := by
  unfold ptFirst
  refine on_of (pos t) (iblk0_apply m c t) (iblk1_apply m c t) (iblk2_apply m c t) (iblk3_apply m c t) (iblk4_apply m c t) (iblk5_apply m c t)
    (iblk6_apply m c t) (iblk7_apply m c t) ?_ ?_ ?_ ?_
  · exact read68 m c
  · exact read70 m c
  · exact read72 m c
  · intro a j
    have hn : ¬(blk t).val * 512 + 512 + a.val < 8192 := show ¬(15 - t.val) * 512 + 512 + a.val < 8192 by omega
    rw [dif_neg hn]
    exact zero8 a j

theorem on_next (t t' : Fin cfg0.N) (ht : t.val = t'.val + 1) (p : Pt Ideal) (i : On p.b (rows m c) (blk t')) :
    On (ptNext m c t p).b (rows m c) (blk t) := by
  have hn : t.val < 16 := t.isLt
  unfold ptNext
  refine on_of (pos t) (iblk0_apply m c t) (iblk1_apply m c t) (iblk2_apply m c t) (iblk3_apply m c t) (iblk4_apply m c t) (iblk5_apply m c t)
    (iblk6_apply m c t) (iblk7_apply m c t) ?_ ?_ ?_ ?_
  · exact i.wa
  · exact i.wcn
  · exact i.wo
  · intro a j
    refine (i.halo_apply a j).trans (Eq.trans ?_ (dif_pos (show (15 - t.val) * 512 + 512 + a.val < 8192 by omega)).symm)
    exact congrArg (fun d : Fin 8192 => (rows m c).dcv d j) (Fin.ext (show (15 - t'.val) * 512 + a.val = (15 - t.val) * 512 + 512 + a.val by omega))

/-- Grid point `n` works on block `15 - n`. -/
theorem on_at (n : ℕ) (h : n < cfg0.N) : On (ptAt m c n h).b (rows m c) (blk ⟨n, h⟩) := by
  induction n with
  | zero =>
    exact on_first m c ⟨0, h⟩ rfl
  | succ n ih =>
    have i := ih (Nat.lt_of_succ_lt h)
    have hn : n + 1 < 16 := h
    exact on_next m c ⟨n + 1, h⟩ ⟨n, Nat.lt_of_succ_lt h⟩ rfl _ i

end Cert.MixIdeal.Block
-- ==== Proof.MixFinal.lean ====
module

public import proofs.«01_k».proof.Proof.MixArray
public import Idealize.ShloMosaic.Lib.Pipeline.ValueKit.Acc
public import Idealize.ShloMosaic.Lib.Pipeline.Value

@[expose] public section

set_option maxRecDepth 16384

noncomputable section

/-! The eight output arrays of the mix's backward call at the end of its sweep, by rows of its arguments. -/

namespace Cert.MixIdeal.Block

open Cert.MixIdeal Cert.MixIdeal.Gen Idealize.ShloMosaic Idealize.ShloMosaic.TcCoe Idealize.SL.Sem
open Cert.MixRow

variable (m : (ℓ : Loc nD τ sig) → Buf (Elt Ideal) ℓ) (c : Dev nD)

/-- A row is row `a` of the block of some grid point. -/
theorem row_of (i : Fin 8192) : ∃ (t : Fin cfg0.N) (a : Fin 512), i = rowK (blk t) a :=
  ⟨⟨15 - i.val / 512, by show 15 - i.val / 512 < 16; omega⟩, ⟨i.val % 512, by omega⟩,
    Fin.ext (by show i.val = (15 - (15 - i.val / 512)) * 512 + i.val % 512; have := i.isLt; omega)⟩

/-- Two grid points with one block are one. -/
theorem blk_inj {t t' : Fin cfg0.N} (h : 15 - t.val = 15 - t'.val) : t = t' :=
  Fin.ext (by have h1 : t.val < 16 := t.isLt; have h2 : t'.val < 16 := t'.isLt; omega)

theorem dmixed_final (i : Fin 8192) (j : Fin 1024) :
    ((dats m 0 c).arrAt 8 cfg0.N : Vec Ideal S8192x1024 .bf16) (ix2 i j) = (rows m c).dmixed i j := by
  obtain ⟨t, a, rfl⟩ := row_of i
  have e := (dats m 0 c).arrAt_emb_eq_flushed 8 (fun t t' _ _ hne => (cfg0.win 8).disjoint_blk fun h => hne (blk_inj
    ((ix_8 t).1.symm.trans ((congrFun h 0).trans (ix_8 t').1)))) t (flush0_8 t) (ix2 a j)
  have hi : ((cfg0.win 8).blk t).view.emb (ix2 a j) = (ix2 (rowK (blk t) a) j : S8192x1024.Idx) := by
    funext k
    apply Fin.ext
    match k with
    | ⟨0, _⟩ => show win0_8.index t 0 * 512 + 1 * a.val = (15 - t.val) * 512 + a.val; rw [(ix_8 t).1]; omega
    | ⟨1, _⟩ => show win0_8.index t 1 * 1024 + 1 * j.val = j.val; rw [(ix_8 t).2]; omega
  rw [hi] at e
  exact e.trans ((on_at m c t.val t.isLt).dmixed_apply a j)

theorem dattn_final (i : Fin 8192) (j : Fin 1024) :
    ((dats m 0 c).arrAt 9 cfg0.N : Vec Ideal S8192x1024 .bf16) (ix2 i j) = (rows m c).dattn i j := by
  obtain ⟨t, a, rfl⟩ := row_of i
  have e := (dats m 0 c).arrAt_emb_eq_flushed 9 (fun t t' _ _ hne => (cfg0.win 9).disjoint_blk fun h => hne (blk_inj
    ((ix_9 t).1.symm.trans ((congrFun h 0).trans (ix_9 t').1)))) t (flush0_9 t) (ix2 a j)
  have hi : ((cfg0.win 9).blk t).view.emb (ix2 a j) = (ix2 (rowK (blk t) a) j : S8192x1024.Idx) := by
    funext k
    apply Fin.ext
    match k with
    | ⟨0, _⟩ => show win0_9.index t 0 * 512 + 1 * a.val = (15 - t.val) * 512 + a.val; rw [(ix_9 t).1]; omega
    | ⟨1, _⟩ => show win0_9.index t 1 * 1024 + 1 * j.val = j.val; rw [(ix_9 t).2]; omega
  rw [hi] at e
  exact e.trans ((on_at m c t.val t.isLt).dattn_apply a j)

theorem dconvout_final (i : Fin 8192) (j : Fin 1024) :
    ((dats m 0 c).arrAt 10 cfg0.N : Vec Ideal S8192x1024 .bf16) (ix2 i j) = (rows m c).dconvout i j := by
  obtain ⟨t, a, rfl⟩ := row_of i
  have e := (dats m 0 c).arrAt_emb_eq_flushed 10 (fun t t' _ _ hne => (cfg0.win 10).disjoint_blk fun h => hne (blk_inj
    ((ix_10 t).1.symm.trans ((congrFun h 0).trans (ix_10 t').1)))) t (flush0_10 t) (ix2 a j)
  have hi : ((cfg0.win 10).blk t).view.emb (ix2 a j) = (ix2 (rowK (blk t) a) j : S8192x1024.Idx) := by
    funext k
    apply Fin.ext
    match k with
    | ⟨0, _⟩ => show win0_10.index t 0 * 512 + 1 * a.val = (15 - t.val) * 512 + a.val; rw [(ix_10 t).1]; omega
    | ⟨1, _⟩ => show win0_10.index t 1 * 1024 + 1 * j.val = j.val; rw [(ix_10 t).2]; omega
  rw [hi] at e
  exact e.trans ((on_at m c t.val t.isLt).dconvout_apply a j)

theorem dout_final (i : Fin 8192) (j : Fin 512) :
    ((dats m 0 c).arrAt 11 cfg0.N : Vec Ideal S8192x512 .bf16) (ix2 i j) = (rows m c).dout i j := by
  obtain ⟨t, a, rfl⟩ := row_of i
  have e := (dats m 0 c).arrAt_emb_eq_flushed 11 (fun t t' _ _ hne => (cfg0.win 11).disjoint_blk fun h => hne (blk_inj
    ((ix_11 t).1.symm.trans ((congrFun h 0).trans (ix_11 t').1)))) t (flush0_11 t) (ix2 a j)
  have hi : ((cfg0.win 11).blk t).view.emb (ix2 a j) = (ix2 (rowK (blk t) a) j : S8192x512.Idx) := by
    funext k
    apply Fin.ext
    match k with
    | ⟨0, _⟩ => show win0_11.index t 0 * 512 + 1 * a.val = (15 - t.val) * 512 + a.val; rw [(ix_11 t).1]; omega
    | ⟨1, _⟩ => show win0_11.index t 1 * 512 + 1 * j.val = j.val; rw [(ix_11 t).2]; omega
  rw [hi] at e
  exact e.trans ((on_at m c t.val t.isLt).dout_apply a j)

theorem cut12 (t : Fin cfg0.N) (X : Vec Ideal S512x3584 .bf16) (a : Fin 512) (j : Fin 3584) :
    ((cfg0.win 12).cut (grid0.coords t) X : Vec Ideal S512x3584 .bf16) (ix2 a j) = X (ix2 a j) := rfl

theorem drest_final (i : Fin 8192) (j : Fin 3584) :
    ((dats m 0 c).arrAt 12 cfg0.N : Vec Ideal S8192x3584 .bf16) (ix2 i j) = (rows m c).drest i j := by
  obtain ⟨t, a, rfl⟩ := row_of i
  have e := (dats m 0 c).arrAt_emb_eq_flushed 12 (fun t t' _ _ hne => (cfg0.win 12).disjoint_blk fun h => hne (blk_inj
    ((ix_12 t).1.symm.trans ((congrFun h 0).trans (ix_12 t').1)))) t (flush0_12 t) (ix2 a j)
  have hi : ((cfg0.win 12).blk t).view.emb (ix2 a j) = (ix2 (rowK (blk t) a) j : S8192x3584.Idx) := by
    funext k
    apply Fin.ext
    match k with
    | ⟨0, _⟩ => show win0_12.index t 0 * 512 + 1 * a.val = (15 - t.val) * 512 + a.val; rw [(ix_12 t).1]; omega
    | ⟨1, _⟩ => show win0_12.index t 1 * 3584 + 1 * j.val = j.val; rw [(ix_12 t).2]; omega
  rw [hi] at e
  exact e.trans ((congrFun (congrArg ((cfg0.win 12).cut (grid0.coords t)) (after0_12 m c t)) _).trans <| (cut12 t _ a j).trans <|
    (on_at m c t.val t.isLt).drest_apply a j)

theorem next_dg (t : Fin cfg0.N) (p : Pt Ideal) : (ptNext m c t p).a13 = p.dg := by unfold ptNext; dsimp only

/-- What point `n` leaves in the window: the sum over the blocks so far. -/
theorem kept_dg (j : Fin 1024) (n : ℕ) (h : n < cfg0.N) : (ptAt m c n h).dg (ix2 0 j) = ∑ s : Fin (n + 1), ∑ a : Fin 512, (rows m c).dg (rowK (blk ⟨s.val, by omega⟩) a) j := by
  induction n with
  | zero =>
    rw [Fin.sum_univ_one]
    show (ptAt m c 0 h).b.dg (ptAt m c 0 h).a13 (ix2 0 j) = _
    refine ((on_at m c 0 h).dg_apply (ptAt m c 0 h).a13 j).trans ?_
    have e : (ptAt m c 0 h).a13 (ix2 0 j) = 0 := zero5 j
    rw [e, zero_add]
    rfl
  | succ n ih =>
    rw [Fin.sum_univ_castSucc (n := n + 1)]
    show (ptAt m c (n + 1) h).b.dg (ptAt m c (n + 1) h).a13 (ix2 0 j) = _
    refine ((on_at m c (n + 1) h).dg_apply (ptAt m c (n + 1) h).a13 j).trans ?_
    have e : (ptAt m c (n + 1) h).a13 (ix2 0 j) = _ := (congrFun (next_dg m c ⟨n + 1, h⟩ (ptAt m c n (Nat.lt_of_succ_lt h))) _).trans (ih (Nat.lt_of_succ_lt h))
    rw [e]
    rfl

theorem next_db (t : Fin cfg0.N) (p : Pt Ideal) : (ptNext m c t p).a14 = p.db := by unfold ptNext; dsimp only

/-- What point `n` leaves in the window: the sum over the blocks so far. -/
theorem kept_db (q : Fin 2048) (n : ℕ) (h : n < cfg0.N) : (ptAt m c n h).db (ix2 0 q) = ∑ s : Fin (n + 1), ∑ a : Fin 512, (rows m c).db (rowK (blk ⟨s.val, by omega⟩) a) q := by
  induction n with
  | zero =>
    rw [Fin.sum_univ_one]
    show (ptAt m c 0 h).b.db (ptAt m c 0 h).a14 (ix2 0 q) = _
    refine ((on_at m c 0 h).db_apply (ptAt m c 0 h).a14 q).trans ?_
    have e : (ptAt m c 0 h).a14 (ix2 0 q) = 0 := zero6 q
    rw [e, zero_add]
    rfl
  | succ n ih =>
    rw [Fin.sum_univ_castSucc (n := n + 1)]
    show (ptAt m c (n + 1) h).b.db (ptAt m c (n + 1) h).a14 (ix2 0 q) = _
    refine ((on_at m c (n + 1) h).db_apply (ptAt m c (n + 1) h).a14 q).trans ?_
    have e : (ptAt m c (n + 1) h).a14 (ix2 0 q) = _ := (congrFun (next_db m c ⟨n + 1, h⟩ (ptAt m c n (Nat.lt_of_succ_lt h))) _).trans (ih (Nat.lt_of_succ_lt h))
    rw [e]
    rfl

theorem next_dw (t : Fin cfg0.N) (p : Pt Ideal) : (ptNext m c t p).a15 = p.dw := by unfold ptNext; dsimp only

/-- What point `n` leaves in the window: the sum over the blocks so far. -/
theorem kept_dw (p : Fin 3) (j : Fin 512) (n : ℕ) (h : n < cfg0.N) : (ptAt m c n h).dw (ix2 p j) = ∑ s : Fin (n + 1), ∑ a : Fin 512, (rows m c).dw (rowK (blk ⟨s.val, by omega⟩) a) p j := by
  induction n with
  | zero =>
    rw [Fin.sum_univ_one]
    show (ptAt m c 0 h).b.dw (ptAt m c 0 h).a15 (ix2 p j) = _
    refine ((on_at m c 0 h).dw_apply (ptAt m c 0 h).a15 p j).trans ?_
    have e : (ptAt m c 0 h).a15 (ix2 p j) = 0 := zero7 p j
    rw [e, zero_add]
    rfl
  | succ n ih =>
    rw [Fin.sum_univ_castSucc (n := n + 1)]
    show (ptAt m c (n + 1) h).b.dw (ptAt m c (n + 1) h).a15 (ix2 p j) = _
    refine ((on_at m c (n + 1) h).dw_apply (ptAt m c (n + 1) h).a15 p j).trans ?_
    have e : (ptAt m c (n + 1) h).a15 (ix2 p j) = _ := (congrFun (next_dw m c ⟨n + 1, h⟩ (ptAt m c n (Nat.lt_of_succ_lt h))) _).trans (ih (Nat.lt_of_succ_lt h))
    rw [e]
    rfl

/-- The blocks run from the last to the first; their sum is the sum over all rows. -/
theorem sum_blocks (f : Fin 8192 → EReal) :
    ∑ s : Fin (15 + 1), ∑ a : Fin 512, f (rowK (blk ⟨s.val, s.isLt⟩) a) = ∑ i, f i := by
  refine Eq.trans ?_ (Fin.sum_mul_add_fin 16 512 f)
  refine Eq.trans ?_ (Equiv.sum_comp Fin.revPerm (fun k : Fin 16 => ∑ a : Fin 512, f (rowK k a)))
  refine Finset.sum_congr rfl fun s _ => ?_
  have hs : blk ⟨s.val, s.isLt⟩ = Fin.revPerm s := Fin.ext (by show 15 - s.val = 16 - (s.val + 1); omega)
  rw [hs]

theorem cut13 (t : Fin cfg0.N) (X : Vec Ideal S1x1024 .f32) (p : Fin 1) (j : Fin 1024) :
    ((cfg0.win 13).cut (grid0.coords t) X : Vec Ideal S1x1024 .f32) (ix2 p j) = X (ix2 p j) := rfl

theorem dg_final (j : Fin 1024) : ((dats m 0 c).arrAt 13 cfg0.N : Vec Ideal S1x1024 .f32) (ix2 0 j) = ∑ i, (rows m c).dg i j := by
  have last : ∀ t : Fin cfg0.N, (cfg0.win 13).flush t = true → t = ⟨15, by decide⟩ := fun t h =>
    Fin.ext (by have := (flush0_13 t).mp h; have h1 : t.val < 16 := t.isLt; show t.val = 15; omega)
  obtain ⟨t, ht⟩ : ∃ t : Fin cfg0.N, t.val = 15 := ⟨⟨15, by decide⟩, rfl⟩
  have e := (dats m 0 c).arrAt_emb_eq_flushed 13 (fun t t' h h' hne => absurd ((last t h).trans (last t' h').symm) hne)
    t ((flush0_13 _).mpr (by rw [ht])) (ix2 0 j)
  have hi : ((cfg0.win 13).blk t).view.emb (ix2 0 j) = ((ix2 0 j) : S1x1024.Idx) := by
    funext k
    apply Fin.ext
    match k with
    | ⟨0, _⟩ => show win0_13.index t 0 * 1 + 1 * 0 = 0; rw [(ix_13 t).1]
    | ⟨1, _⟩ => show win0_13.index t 1 * 1024 + 1 * j.val = j.val; rw [(ix_13 t).2]; omega
  rw [hi] at e
  refine e.trans ((congrFun (congrArg ((cfg0.win 13).cut (grid0.coords t)) (after0_13 m c t)) _).trans <| (cut13 t _ _ _).trans <|
    (kept_dg m c j t.val t.isLt).trans ?_)
  obtain rfl : t = ⟨15, by decide⟩ := Fin.ext ht
  exact sum_blocks fun i => (rows m c).dg i j

theorem cut14 (t : Fin cfg0.N) (X : Vec Ideal S1x2048 .f32) (p : Fin 1) (j : Fin 2048) :
    ((cfg0.win 14).cut (grid0.coords t) X : Vec Ideal S1x2048 .f32) (ix2 p j) = X (ix2 p j) := rfl

theorem db_final (j : Fin 2048) : ((dats m 0 c).arrAt 14 cfg0.N : Vec Ideal S1x2048 .f32) (ix2 0 j) = ∑ i, (rows m c).db i j := by
  have last : ∀ t : Fin cfg0.N, (cfg0.win 14).flush t = true → t = ⟨15, by decide⟩ := fun t h =>
    Fin.ext (by have := (flush0_14 t).mp h; have h1 : t.val < 16 := t.isLt; show t.val = 15; omega)
  obtain ⟨t, ht⟩ : ∃ t : Fin cfg0.N, t.val = 15 := ⟨⟨15, by decide⟩, rfl⟩
  have e := (dats m 0 c).arrAt_emb_eq_flushed 14 (fun t t' h h' hne => absurd ((last t h).trans (last t' h').symm) hne)
    t ((flush0_14 _).mpr (by rw [ht])) (ix2 0 j)
  have hi : ((cfg0.win 14).blk t).view.emb (ix2 0 j) = ((ix2 0 j) : S1x2048.Idx) := by
    funext k
    apply Fin.ext
    match k with
    | ⟨0, _⟩ => show win0_14.index t 0 * 1 + 1 * 0 = 0; rw [(ix_14 t).1]
    | ⟨1, _⟩ => show win0_14.index t 1 * 2048 + 1 * j.val = j.val; rw [(ix_14 t).2]; omega
  rw [hi] at e
  refine e.trans ((congrFun (congrArg ((cfg0.win 14).cut (grid0.coords t)) (after0_14 m c t)) _).trans <| (cut14 t _ _ _).trans <|
    (kept_db m c j t.val t.isLt).trans ?_)
  obtain rfl : t = ⟨15, by decide⟩ := Fin.ext ht
  exact sum_blocks fun i => (rows m c).db i j

theorem cut15 (t : Fin cfg0.N) (X : Vec Ideal S3x512 .f32) (p : Fin 3) (j : Fin 512) :
    ((cfg0.win 15).cut (grid0.coords t) X : Vec Ideal S3x512 .f32) (ix2 p j) = X (ix2 p j) := rfl

theorem dw_final (p : Fin 3) (j : Fin 512) : ((dats m 0 c).arrAt 15 cfg0.N : Vec Ideal S3x512 .f32) (ix2 p j) = ∑ i, (rows m c).dw i p j := by
  have last : ∀ t : Fin cfg0.N, (cfg0.win 15).flush t = true → t = ⟨15, by decide⟩ := fun t h =>
    Fin.ext (by have := (flush0_15 t).mp h; have h1 : t.val < 16 := t.isLt; show t.val = 15; omega)
  obtain ⟨t, ht⟩ : ∃ t : Fin cfg0.N, t.val = 15 := ⟨⟨15, by decide⟩, rfl⟩
  have e := (dats m 0 c).arrAt_emb_eq_flushed 15 (fun t t' h h' hne => absurd ((last t h).trans (last t' h').symm) hne)
    t ((flush0_15 _).mpr (by rw [ht])) (ix2 p j)
  have hi : ((cfg0.win 15).blk t).view.emb (ix2 p j) = ((ix2 p j) : S3x512.Idx) := by
    funext k
    apply Fin.ext
    match k with
    | ⟨0, _⟩ => show win0_15.index t 0 * 3 + 1 * p.val = p.val; rw [(ix_15 t).1]; omega
    | ⟨1, _⟩ => show win0_15.index t 1 * 512 + 1 * j.val = j.val; rw [(ix_15 t).2]; omega
  rw [hi] at e
  refine e.trans ((congrFun (congrArg ((cfg0.win 15).cut (grid0.coords t)) (after0_15 m c t)) _).trans <| (cut15 t _ _ _).trans <|
    (kept_dw m c p j t.val t.isLt).trans ?_)
  obtain rfl : t = ⟨15, by decide⟩ := Fin.ext ht
  exact sum_blocks fun i => (rows m c).dw i p j

/-! The run, with every output array as it ends and every argument kept. -/

section
variable {F : FTy → Type} [FloatOps F] (m : (ℓ : Loc nD τ sig) → Buf (Elt F) ℓ) (ρ : Dev nD → PrngReg)

theorem post8 (r : PUnit × MemSt nD τ sig (Elt F)) (h : Pipeline.FramePost cfgs (dats m) 0 (V m) r) (c : Dev nD) :
    r.2.mem ((c : Thread nD τ).loc main_v73_0) = (dats m 0 c).arrAt 8 cfg0.N :=
  (h c).1 8

theorem post9 (r : PUnit × MemSt nD τ sig (Elt F)) (h : Pipeline.FramePost cfgs (dats m) 0 (V m) r) (c : Dev nD) :
    r.2.mem ((c : Thread nD τ).loc main_v73_1) = (dats m 0 c).arrAt 9 cfg0.N :=
  (h c).1 9

theorem post10 (r : PUnit × MemSt nD τ sig (Elt F)) (h : Pipeline.FramePost cfgs (dats m) 0 (V m) r) (c : Dev nD) :
    r.2.mem ((c : Thread nD τ).loc main_v73_2) = (dats m 0 c).arrAt 10 cfg0.N :=
  (h c).1 10

theorem post11 (r : PUnit × MemSt nD τ sig (Elt F)) (h : Pipeline.FramePost cfgs (dats m) 0 (V m) r) (c : Dev nD) :
    r.2.mem ((c : Thread nD τ).loc main_v73_3) = (dats m 0 c).arrAt 11 cfg0.N :=
  (h c).1 11

theorem post12 (r : PUnit × MemSt nD τ sig (Elt F)) (h : Pipeline.FramePost cfgs (dats m) 0 (V m) r) (c : Dev nD) :
    r.2.mem ((c : Thread nD τ).loc main_v73_4) = (dats m 0 c).arrAt 12 cfg0.N :=
  (h c).1 12

theorem post13 (r : PUnit × MemSt nD τ sig (Elt F)) (h : Pipeline.FramePost cfgs (dats m) 0 (V m) r) (c : Dev nD) :
    r.2.mem ((c : Thread nD τ).loc main_v73_5) = (dats m 0 c).arrAt 13 cfg0.N :=
  (h c).1 13

theorem post14 (r : PUnit × MemSt nD τ sig (Elt F)) (h : Pipeline.FramePost cfgs (dats m) 0 (V m) r) (c : Dev nD) :
    r.2.mem ((c : Thread nD τ).loc main_v73_6) = (dats m 0 c).arrAt 14 cfg0.N :=
  (h c).1 14

theorem post15 (r : PUnit × MemSt nD τ sig (Elt F)) (h : Pipeline.FramePost cfgs (dats m) 0 (V m) r) (c : Dev nD) :
    r.2.mem ((c : Thread nD τ).loc main_v73_7) = (dats m 0 c).arrAt 15 cfg0.N :=
  (h c).1 15

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 7).trans (((dats m 0 c).arrAt_in 7 rfl _).trans ((A_eq m c 7).trans (V_main_arg6 m c)))

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The run. -/
theorem run_blocks : θ_run defs (onTc (τ := τ) (main (F := F))) ⟨m, fun _ => 0, ρ⟩ fun r => ∀ c : Dev nD,
      r.2.mem ((c : Thread nD τ).loc main_v73_0) = (dats m 0 c).arrAt 8 cfg0.N
      ∧ r.2.mem ((c : Thread nD τ).loc main_v73_1) = (dats m 0 c).arrAt 9 cfg0.N
      ∧ r.2.mem ((c : Thread nD τ).loc main_v73_2) = (dats m 0 c).arrAt 10 cfg0.N
      ∧ r.2.mem ((c : Thread nD τ).loc main_v73_3) = (dats m 0 c).arrAt 11 cfg0.N
      ∧ r.2.mem ((c : Thread nD τ).loc main_v73_4) = (dats m 0 c).arrAt 12 cfg0.N
      ∧ r.2.mem ((c : Thread nD τ).loc main_v73_5) = (dats m 0 c).arrAt 13 cfg0.N
      ∧ r.2.mem ((c : Thread nD τ).loc main_v73_6) = (dats m 0 c).arrAt 14 cfg0.N
      ∧ r.2.mem ((c : Thread nD τ).loc main_v73_7) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c =>
    ⟨post8 m r h c,
      post9 m r h c,
      post10 m r h c,
      post11 m r h c,
      post12 m r h c,
      post13 m r h c,
      post14 m r h c,
      post15 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩) (run_main m ρ)

end

end Cert.MixIdeal.Block
-- ==== Proof.MixSame.lean ====
module

public import proofs.«01_k».proof.Proof.Gen.Mix
public import proofs.«01_k».proof.Proof.MixFrame

@[expose] public section

set_option maxRecDepth 100000

noncomputable section

/-! The mix's backward call as printed and its ideal form are one text, so the frame proved of the one, at every
number type, is the frame of the other. -/

namespace Cert.MixSame

open Idealize.ShloMosaic Idealize.ShloMosaic.TcCoe Idealize.SL.Sem

variable {F : FTy → Type} [FloatOps F] [Cert.Mix.Facts] [Cert.MixIdeal.Facts]

set_option maxHeartbeats 4000000 in
/-- The kernel's body at a grid point. -/
theorem body (t : Fin Cert.MixIdeal.grid0.N) (s : (w : Fin 16) → Fin (Cert.MixIdeal.win0 w).nbuf) :
    Cert.Mix.defs₀ (F := F) .tc (0 : Fin 1) (t, s) = Cert.MixIdeal.defs₀ (F := F) .tc (0 : Fin 1) (t, s) := rfl

set_option maxHeartbeats 4000000 in
/-- The only label is the body's. -/
theorem label (l : Fin 1) (a : Cert.MixIdeal.Λ₀.Args l) : Cert.Mix.defs₀ (F := F) .tc l a = Cert.MixIdeal.defs₀ (F := F) .tc l a :=
  match l, a with
  | 0, (t, s) => body t s
  | ⟨_ + 1, h⟩, _ => absurd h (Nat.not_lt.2 (Nat.le_add_left _ _))

set_option maxHeartbeats 2000000 in
/-- The definitions of the two programs. -/
theorem defs_eq : Cert.Mix.defs (F := F) = Cert.MixIdeal.defs (F := F) :=
  congrArg (Pipeline.defs Cert.MixIdeal.pcfgs) (funext fun p => match p with
    | .tc => funext fun l => funext fun a => label l a
    | .scScalar _ => rfl
    | .scVector _ _ => rfl)

set_option maxHeartbeats 8000000 in
/-- Their main functions. -/
theorem main_eq : Cert.Mix.main (F := F) = Cert.MixIdeal.main (F := F) := rfl

end Cert.MixSame
-- ==== Proof.MixClaims.lean ====
module

public import proofs.«01_k».proof.Defs
public import proofs.«01_k».proof.Proof.Gen.MixRefIdeal.Run
public import proofs.«01_k».proof.Proof.MixFinal
public import proofs.«01_k».proof.Proof.MixRef
public import proofs.«01_k».proof.Proof.MixSame
public import Idealize.ShloMosaic.Lib.Quiescent

@[expose] public section

noncomputable section

/-! The claims about the mix's backward call. -/

namespace Cert.MixClaims

open Idealize.ShloMosaic Idealize.ShloMosaic.TcCoe Idealize.SL.Sem

set_option maxHeartbeats 4000000 in
/-- The frame of the kernel as printed, which has the text of its ideal form. -/
theorem frame : quiescent_Mix := fun m ρ _ => by
  rw [MixSame.defs_eq, MixSame.main_eq]
  exact MixIdeal.Block.frame (F := Bits) m ρ

/-- The reference's frame, read off its run. -/
theorem frame_ref : quiescent_MixRefIdeal := fun m ρ _ =>
  (θ_run MixRefIdeal.defs _ _).mono (fun r h => ⟨fun c => (h c).2.2.2.2.2.2.2.2, sem_eq_zero_of_no_sems (by decide) r.2⟩)
    (MixRefIdeal.Value.run (F := Ideal) m ρ)

set_option maxHeartbeats 4000000 in
/-- The two programs compute one value. -/
theorem algebraic : algebraic_MixIdeal_MixRefIdeal := by
  intro m g m' g' _ hagree
  refine ⟨_, _, _, _, _, _, _, _, (θ_run MixIdeal.defs _ _).mono (fun r h c => h c) (MixIdeal.Block.run_blocks (F := Ideal) m g),
    (θ_run MixRefIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩) (MixRefIdeal.Value.run (F := Ideal) m' g')⟩
  all_goals
    have e0 : StableHlo.launchContents m' c (Proc.tc.devRef MixRefIdeal.main_arg0) = m ((c.tc : Thread MixIdeal.nD MixIdeal.τ).loc MixIdeal.main_arg0) := (hagree c).1
    have e1 : StableHlo.launchContents m' c (Proc.tc.devRef MixRefIdeal.main_arg1) = m ((c.tc : Thread MixIdeal.nD MixIdeal.τ).loc MixIdeal.main_arg1) := (hagree c).2.1
    have e2 : StableHlo.launchContents m' c (Proc.tc.devRef MixRefIdeal.main_arg2) = m ((c.tc : Thread MixIdeal.nD MixIdeal.τ).loc MixIdeal.main_arg2) := (hagree c).2.2.1
    have e3 : StableHlo.launchContents m' c (Proc.tc.devRef MixRefIdeal.main_arg3) = m ((c.tc : Thread MixIdeal.nD MixIdeal.τ).loc MixIdeal.main_arg3) := (hagree c).2.2.2.1
    have e4 : StableHlo.launchContents m' c (Proc.tc.devRef MixRefIdeal.main_arg4) = m ((c.tc : Thread MixIdeal.nD MixIdeal.τ).loc MixIdeal.main_arg4) := (hagree c).2.2.2.2.1
    have e5 : StableHlo.launchContents m' c (Proc.tc.devRef MixRefIdeal.main_arg5) = m ((c.tc : Thread MixIdeal.nD MixIdeal.τ).loc MixIdeal.main_arg5) := (hagree c).2.2.2.2.2.1
    have e6 : StableHlo.launchContents m' c (Proc.tc.devRef MixRefIdeal.main_arg6) = m ((c.tc : Thread MixIdeal.nD MixIdeal.τ).loc MixIdeal.main_arg6) := (hagree c).2.2.2.2.2.2.1
    have e7 : StableHlo.launchContents m' c (Proc.tc.devRef MixRefIdeal.main_arg7) = m ((c.tc : Thread MixIdeal.nD MixIdeal.τ).loc MixIdeal.main_arg7) := (hagree c).2.2.2.2.2.2.2.1
    have e8 : StableHlo.launchContents m' c (Proc.tc.devRef MixRefIdeal.main_arg8) = m ((c.tc : Thread MixIdeal.nD MixIdeal.τ).loc MixIdeal.main_arg8) := (hagree c).2.2.2.2.2.2.2.2.1
    have e9 : StableHlo.launchContents m' c (Proc.tc.devRef MixRefIdeal.main_arg9) = m ((c.tc : Thread MixIdeal.nD MixIdeal.τ).loc MixIdeal.main_arg9) := (hagree c).2.2.2.2.2.2.2.2.2
  · rw [MixRefIdeal.Read.val_main_v145_eq, e0, e1, e2, e3, e4, e5, e6, e7, e8, e9]
    refine RowNorm.ext2 fun i j => ?_
    exact (MixRefIdeal.Block.dmixed_out (MixIdeal.Block.args m c) i j).trans (MixIdeal.Block.dmixed_final m c i j).symm
  · rw [MixRefIdeal.Read.val_main_v146_eq, e0, e1, e2, e3, e4, e5, e6, e7, e8, e9]
    refine RowNorm.ext2 fun i j => ?_
    exact (MixRefIdeal.Block.dattn_out (MixIdeal.Block.args m c) i j).trans (MixIdeal.Block.dattn_final m c i j).symm
  · rw [MixRefIdeal.Read.val_main_v147_eq, e0, e1, e2, e3, e4, e5, e6, e7, e8, e9]
    refine RowNorm.ext2 fun i j => ?_
    exact (MixRefIdeal.Block.dconvout_out (MixIdeal.Block.args m c) i j).trans (MixIdeal.Block.dconvout_final m c i j).symm
  · rw [MixRefIdeal.Read.val_main_v148_eq, e0, e1, e2, e3, e4, e5, e6, e7, e8, e9]
    refine RowNorm.ext2 fun i j => ?_
    exact (MixRefIdeal.Block.dout_out (MixIdeal.Block.args m c) i j).trans (MixIdeal.Block.dout_final m c i j).symm
  · rw [MixRefIdeal.Read.val_main_v149_eq, e0, e1, e2, e3, e4, e5, e6, e7, e8, e9]
    refine RowNorm.ext2 fun i j => ?_
    exact (MixRefIdeal.Block.drest_out (MixIdeal.Block.args m c) i j).trans (MixIdeal.Block.drest_final m c i j).symm
  · rw [MixRefIdeal.Read.val_main_v150_eq, e0, e1, e2, e3, e4, e5, e7, e8, e9]
    refine RowNorm.ext2 fun i j => ?_
    obtain rfl : i = 0 := Subsingleton.elim _ _
    exact (MixRefIdeal.Block.dg_out (MixIdeal.Block.args m c) j).trans (MixIdeal.Block.dg_final m c j).symm
  · rw [MixRefIdeal.Read.val_main_v151_eq, e0, e1, e2, e3, e4, e5, e6, e7, e8, e9]
    refine RowNorm.ext2 fun i j => ?_
    obtain rfl : i = 0 := Subsingleton.elim _ _
    exact (MixRefIdeal.Block.db_out (MixIdeal.Block.args m c) j).trans (MixIdeal.Block.db_final m c j).symm
  · rw [MixRefIdeal.Read.val_main_v135_eq, e0, e1, e2, e3, e4, e5, e6, e7, e8, e9]
    refine RowNorm.ext2 fun i j => ?_
    exact (MixRefIdeal.Block.dw_out (MixIdeal.Block.args m c) i j).trans (MixIdeal.Block.dw_final m c i j).symm

end Cert.MixClaims
-- ==== Proof.lean ====
module

public import proofs.«01_k».proof.Defs
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Mlp
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame.RunB
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Mix
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame.RunB
public import proofs.«01_k».proof.Proof.Gen.MixRefIdeal
public import proofs.«01_k».proof.Proof.Gen.MixRefIdeal.Run
public import proofs.«01_k».proof.Proof.Gen.MixRefIdeal.Read
public import proofs.«01_k».proof.Proof.InProjClaims
public import proofs.«01_k».proof.Proof.AttnClaims
public import proofs.«01_k».proof.Proof.MlpClaims
public import proofs.«01_k».proof.Proof.MixClaims
public import Idealize.ShloMosaic.Adequacy
public import Idealize.ShloMosaic.Init

@[expose] public section

noncomputable section

namespace Cert.Proof

open Idealize.ShloMosaic Idealize.SL.Sem

/-- The conjuncts in the order of `Cert.Claim`: the frames of the input projection's call, of the attention's, of the feed-forward and loss call and of the mix's, and the values of each. -/
theorem claim : Cert.Claim := ⟨Cert.InProj.Gen.facts, Cert.InProjIdeal.Gen.facts, Cert.InProjRefIdeal.Gen.facts,
  Cert.Attn.Gen.facts, Cert.AttnIdeal.Gen.facts, Cert.AttnRefIdeal.Gen.facts,
  Cert.Mlp.Gen.facts, Cert.MlpIdeal.Gen.facts, Cert.MlpRefIdeal.Gen.facts,
  Cert.Mix.Gen.facts, Cert.MixIdeal.Gen.facts, Cert.MixRefIdeal.Gen.facts, Cert.Pre_attn_finite.facts,
  fun m ρ _ => Cert.InProj.Gen.frame m ρ, fun m ρ _ => Cert.InProjIdeal.Gen.frame m ρ, InProjClaims.frame_ref,
  fun m ρ _ => Cert.Attn.Block.frame m ρ, fun m ρ _ => Cert.AttnIdeal.Block.frame m ρ, fun m ρ _ => Cert.AttnIdeal.Block.frame m ρ,
  AttnClaims.frame_ref, fun m ρ _ => AttnClaims.frame_ref m ρ trivial,
  MlpClaims.frame, fun m ρ _ => Cert.MlpIdeal.Block.frame m ρ, MlpClaims.frame_ref,
  MixClaims.frame, fun m ρ _ => Cert.MixIdeal.Block.frame m ρ, MixClaims.frame_ref,
  trivial, InProjClaims.algebraic, AttnClaims.preserves,
  @AttnClaims.algebraic Cert.Pre_attn_finite.facts,
  trivial, MlpClaims.algebraic,
  trivial, MixClaims.algebraic⟩

end Cert.Proof

end
